-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_FfnDownDx (m : (ℓ : Loc Cert.FfnDownDx.nD Cert.FfnDownDx.τ Cert.FfnDownDx.sig) → Buf (Elt Bits) ℓ) : Prop :=
  True

def Pre_FfnDownDxIdeal (m : (ℓ : Loc Cert.FfnDownDxIdeal.nD Cert.FfnDownDxIdeal.τ Cert.FfnDownDxIdeal.sig) → Buf (Elt Ideal) ℓ) : Prop :=
  True

def Pre_FfnDownDxRefIdeal (m : (ℓ : Loc Cert.FfnDownDxRefIdeal.nD Cert.FfnDownDxRefIdeal.τ Cert.FfnDownDxRefIdeal.sig) → Buf (Elt Ideal) ℓ) : Prop :=
  True

def Pre_FfnDownDw (m : (ℓ : Loc Cert.FfnDownDw.nD Cert.FfnDownDw.τ Cert.FfnDownDw.sig) → Buf (Elt Bits) ℓ) : Prop :=
  True

def Pre_FfnDownDwIdeal (m : (ℓ : Loc Cert.FfnDownDwIdeal.nD Cert.FfnDownDwIdeal.τ Cert.FfnDownDwIdeal.sig) → Buf (Elt Ideal) ℓ) : Prop :=
  True

def Pre_FfnDownDwRefIdeal (m : (ℓ : Loc Cert.FfnDownDwRefIdeal.nD Cert.FfnDownDwRefIdeal.τ Cert.FfnDownDwRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpRefIdeal (m : (ℓ : Loc Cert.FfnUpRefIdeal.nD Cert.FfnUpRefIdeal.τ Cert.FfnUpRefIdeal.sig) → Buf (Elt Ideal) ℓ) : Prop :=
  True

def Pre_FfnUpDx (m : (ℓ : Loc Cert.FfnUpDx.nD Cert.FfnUpDx.τ Cert.FfnUpDx.sig) → Buf (Elt Bits) ℓ) : Prop :=
  True

def Pre_FfnUpDxIdeal (m : (ℓ : Loc Cert.FfnUpDxIdeal.nD Cert.FfnUpDxIdeal.τ Cert.FfnUpDxIdeal.sig) → Buf (Elt Ideal) ℓ) : Prop :=
  True

def Pre_FfnUpDxRefIdeal (m : (ℓ : Loc Cert.FfnUpDxRefIdeal.nD Cert.FfnUpDxRefIdeal.τ Cert.FfnUpDxRefIdeal.sig) → Buf (Elt Ideal) ℓ) : Prop :=
  True

def Pre_FfnUpDw (m : (ℓ : Loc Cert.FfnUpDw.nD Cert.FfnUpDw.τ Cert.FfnUpDw.sig) → Buf (Elt Bits) ℓ) : Prop :=
  True

def Pre_FfnUpDwIdeal (m : (ℓ : Loc Cert.FfnUpDwIdeal.nD Cert.FfnUpDwIdeal.τ Cert.FfnUpDwIdeal.sig) → Buf (Elt Ideal) ℓ) : Prop :=
  True

def Pre_FfnUpDwRefIdeal (m : (ℓ : Loc Cert.FfnUpDwRefIdeal.nD Cert.FfnUpDwRefIdeal.τ Cert.FfnUpDwRefIdeal.sig) → Buf (Elt Ideal) ℓ) : Prop :=
  True

def Pre_ProjIn (m : (ℓ : Loc Cert.ProjIn.nD Cert.ProjIn.τ Cert.ProjIn.sig) → Buf (Elt Bits) ℓ) : Prop :=
  True

def Pre_ProjInIdeal (m : (ℓ : Loc Cert.ProjInIdeal.nD Cert.ProjInIdeal.τ Cert.ProjInIdeal.sig) → Buf (Elt Ideal) ℓ) : Prop :=
  True

def Pre_ProjInRefIdeal (m : (ℓ : Loc Cert.ProjInRefIdeal.nD Cert.ProjInRefIdeal.τ Cert.ProjInRefIdeal.sig) → Buf (Elt Ideal) ℓ) : Prop :=
  True

def Pre_ProjInDx (m : (ℓ : Loc Cert.ProjInDx.nD Cert.ProjInDx.τ Cert.ProjInDx.sig) → Buf (Elt Bits) ℓ) : Prop :=
  True

def Pre_ProjInDxIdeal (m : (ℓ : Loc Cert.ProjInDxIdeal.nD Cert.ProjInDxIdeal.τ Cert.ProjInDxIdeal.sig) → Buf (Elt Ideal) ℓ) : Prop :=
  True

def Pre_ProjInDxRefIdeal (m : (ℓ : Loc Cert.ProjInDxRefIdeal.nD Cert.ProjInDxRefIdeal.τ Cert.ProjInDxRefIdeal.sig) → Buf (Elt Ideal) ℓ) : Prop :=
  True

def Pre_ProjInDw (m : (ℓ : Loc Cert.ProjInDw.nD Cert.ProjInDw.τ Cert.ProjInDw.sig) → Buf (Elt Bits) ℓ) : Prop :=
  True

def Pre_ProjInDwIdeal (m : (ℓ : Loc Cert.ProjInDwIdeal.nD Cert.ProjInDwIdeal.τ Cert.ProjInDwIdeal.sig) → Buf (Elt Ideal) ℓ) : Prop :=
  True

def Pre_ProjInDwRefIdeal (m : (ℓ : Loc Cert.ProjInDwRefIdeal.nD Cert.ProjInDwRefIdeal.τ Cert.ProjInDwRefIdeal.sig) → Buf (Elt Ideal) ℓ) : Prop :=
  True

def Pre_ProjOut (m : (ℓ : Loc Cert.ProjOut.nD Cert.ProjOut.τ Cert.ProjOut.sig) → Buf (Elt Bits) ℓ) : Prop :=
  True

def Pre_ProjOutIdeal (m : (ℓ : Loc Cert.ProjOutIdeal.nD Cert.ProjOutIdeal.τ Cert.ProjOutIdeal.sig) → Buf (Elt Ideal) ℓ) : Prop :=
  True

def Pre_ProjOutRefIdeal (m : (ℓ : Loc Cert.ProjOutRefIdeal.nD Cert.ProjOutRefIdeal.τ Cert.ProjOutRefIdeal.sig) → Buf (Elt Ideal) ℓ) : Prop :=
  True

def Pre_ProjOutDx (m : (ℓ : Loc Cert.ProjOutDx.nD Cert.ProjOutDx.τ Cert.ProjOutDx.sig) → Buf (Elt Bits) ℓ) : Prop :=
  True

def Pre_ProjOutDxIdeal (m : (ℓ : Loc Cert.ProjOutDxIdeal.nD Cert.ProjOutDxIdeal.τ Cert.ProjOutDxIdeal.sig) → Buf (Elt Ideal) ℓ) : Prop :=
  True

def Pre_ProjOutDxRefIdeal (m : (ℓ : Loc Cert.ProjOutDxRefIdeal.nD Cert.ProjOutDxRefIdeal.τ Cert.ProjOutDxRefIdeal.sig) → Buf (Elt Ideal) ℓ) : Prop :=
  True

def Pre_ProjOutDw (m : (ℓ : Loc Cert.ProjOutDw.nD Cert.ProjOutDw.τ Cert.ProjOutDw.sig) → Buf (Elt Bits) ℓ) : Prop :=
  True

def Pre_ProjOutDwIdeal (m : (ℓ : Loc Cert.ProjOutDwIdeal.nD Cert.ProjOutDwIdeal.τ Cert.ProjOutDwIdeal.sig) → Buf (Elt Ideal) ℓ) : Prop :=
  True

def Pre_ProjOutDwRefIdeal (m : (ℓ : Loc Cert.ProjOutDwRefIdeal.nD Cert.ProjOutDwRefIdeal.τ Cert.ProjOutDwRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1))
      ∧ r.2.sem = fun _ => 0)

def quiescent_FfnDownDx [hFfnDownDx : Cert.FfnDownDx.Facts] : Prop :=
  ∀ (m : (ℓ : Loc Cert.FfnDownDx.nD Cert.FfnDownDx.τ Cert.FfnDownDx.sig) → Buf (Elt Bits) ℓ) (g : Dev Cert.FfnDownDx.nD → PrngReg), Pre_FfnDownDx m →
    θ_run (Cert.FfnDownDx.defs (F := Bits)) (onTc (τ := Cert.FfnDownDx.τ) (Cert.FfnDownDx.main (F := Bits))) ⟨m, fun _ => 0, g⟩ (fun r => (∀ c : Dev Cert.FfnDownDx.nD,
      r.2.mem ((c.tc : Thread Cert.FfnDownDx.nD Cert.FfnDownDx.τ).loc Cert.FfnDownDx.main_arg0) = m ((c.tc : Thread Cert.FfnDownDx.nD Cert.FfnDownDx.τ).loc Cert.FfnDownDx.main_arg0)
      ∧ r.2.mem ((c.tc : Thread Cert.FfnDownDx.nD Cert.FfnDownDx.τ).loc Cert.FfnDownDx.main_arg1) = m ((c.tc : Thread Cert.FfnDownDx.nD Cert.FfnDownDx.τ).loc Cert.FfnDownDx.main_arg1))
      ∧ r.2.sem = fun _ => 0)

def quiescent_FfnDownDxIdeal [hFfnDownDxIdeal : Cert.FfnDownDxIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg), Pre_FfnDownDxIdeal m →
    θ_run (Cert.FfnDownDxIdeal.defs (F := Ideal)) (onTc (τ := Cert.FfnDownDxIdeal.τ) (Cert.FfnDownDxIdeal.main (F := Ideal))) ⟨m, fun _ => 0, g⟩ (fun r => (∀ c : Dev Cert.FfnDownDxIdeal.nD,
      r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
      ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ r.2.sem = fun _ => 0)

def quiescent_FfnDownDxRefIdeal [hFfnDownDxRefIdeal : Cert.FfnDownDxRefIdeal.Facts] : Prop :=
  ∀ (m : (ℓ : Loc Cert.FfnDownDxRefIdeal.nD Cert.FfnDownDxRefIdeal.τ Cert.FfnDownDxRefIdeal.sig) → Buf (Elt Ideal) ℓ) (g : Dev Cert.FfnDownDxRefIdeal.nD → PrngReg), Pre_FfnDownDxRefIdeal m →
    θ_run (Cert.FfnDownDxRefIdeal.defs (F := Ideal)) (onTc (τ := Cert.FfnDownDxRefIdeal.τ) (Cert.FfnDownDxRefIdeal.main (F := Ideal))) ⟨m, fun _ => 0, g⟩ (fun r => (∀ c : Dev Cert.FfnDownDxRefIdeal.nD,
      r.2.mem ((c.tc : Thread Cert.FfnDownDxRefIdeal.nD Cert.FfnDownDxRefIdeal.τ).loc Cert.FfnDownDxRefIdeal.main_arg0) = m ((c.tc : Thread Cert.FfnDownDxRefIdeal.nD Cert.FfnDownDxRefIdeal.τ).loc Cert.FfnDownDxRefIdeal.main_arg0)
      ∧ r.2.mem ((c.tc : Thread Cert.FfnDownDxRefIdeal.nD Cert.FfnDownDxRefIdeal.τ).loc Cert.FfnDownDxRefIdeal.main_arg1) = m ((c.tc : Thread Cert.FfnDownDxRefIdeal.nD Cert.FfnDownDxRefIdeal.τ).loc Cert.FfnDownDxRefIdeal.main_arg1))
      ∧ r.2.sem = fun _ => 0)

def quiescent_FfnDownDw [hFfnDownDw : Cert.FfnDownDw.Facts] : Prop :=
  ∀ (m : (ℓ : Loc Cert.FfnDownDw.nD Cert.FfnDownDw.τ Cert.FfnDownDw.sig) → Buf (Elt Bits) ℓ) (g : Dev Cert.FfnDownDw.nD → PrngReg), Pre_FfnDownDw m →
    θ_run (Cert.FfnDownDw.defs (F := Bits)) (onTc (τ := Cert.FfnDownDw.τ) (Cert.FfnDownDw.main (F := Bits))) ⟨m, fun _ => 0, g⟩ (fun r => (∀ c : Dev Cert.FfnDownDw.nD,
      r.2.mem ((c.tc : Thread Cert.FfnDownDw.nD Cert.FfnDownDw.τ).loc Cert.FfnDownDw.main_arg0) = m ((c.tc : Thread Cert.FfnDownDw.nD Cert.FfnDownDw.τ).loc Cert.FfnDownDw.main_arg0)
      ∧ r.2.mem ((c.tc : Thread Cert.FfnDownDw.nD Cert.FfnDownDw.τ).loc Cert.FfnDownDw.main_arg1) = m ((c.tc : Thread Cert.FfnDownDw.nD Cert.FfnDownDw.τ).loc Cert.FfnDownDw.main_arg1))
      ∧ r.2.sem = fun _ => 0)

def quiescent_FfnDownDwIdeal [hFfnDownDwIdeal : Cert.FfnDownDwIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg), Pre_FfnDownDwIdeal m →
    θ_run (Cert.FfnDownDwIdeal.defs (F := Ideal)) (onTc (τ := Cert.FfnDownDwIdeal.τ) (Cert.FfnDownDwIdeal.main (F := Ideal))) ⟨m, fun _ => 0, g⟩ (fun r => (∀ c : Dev Cert.FfnDownDwIdeal.nD,
      r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
      ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ r.2.sem = fun _ => 0)

def quiescent_FfnDownDwRefIdeal [hFfnDownDwRefIdeal : Cert.FfnDownDwRefIdeal.Facts] : Prop :=
  ∀ (m : (ℓ : Loc Cert.FfnDownDwRefIdeal.nD Cert.FfnDownDwRefIdeal.τ Cert.FfnDownDwRefIdeal.sig) → Buf (Elt Ideal) ℓ) (g : Dev Cert.FfnDownDwRefIdeal.nD → PrngReg), Pre_FfnDownDwRefIdeal m →
    θ_run (Cert.FfnDownDwRefIdeal.defs (F := Ideal)) (onTc (τ := Cert.FfnDownDwRefIdeal.τ) (Cert.FfnDownDwRefIdeal.main (F := Ideal))) ⟨m, fun _ => 0, g⟩ (fun r => (∀ c : Dev Cert.FfnDownDwRefIdeal.nD,
      r.2.mem ((c.tc : Thread Cert.FfnDownDwRefIdeal.nD Cert.FfnDownDwRefIdeal.τ).loc Cert.FfnDownDwRefIdeal.main_arg0) = m ((c.tc : Thread Cert.FfnDownDwRefIdeal.nD Cert.FfnDownDwRefIdeal.τ).loc Cert.FfnDownDwRefIdeal.main_arg0)
      ∧ r.2.mem ((c.tc : Thread Cert.FfnDownDwRefIdeal.nD Cert.FfnDownDwRefIdeal.τ).loc Cert.FfnDownDwRefIdeal.main_arg1) = m ((c.tc : Thread Cert.FfnDownDwRefIdeal.nD Cert.FfnDownDwRefIdeal.τ).loc Cert.FfnDownDwRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1))
      ∧ r.2.sem = fun _ => 0)

def quiescent_FfnUpDx [hFfnUpDx : Cert.FfnUpDx.Facts] : Prop :=
  ∀ (m : (ℓ : Loc Cert.FfnUpDx.nD Cert.FfnUpDx.τ Cert.FfnUpDx.sig) → Buf (Elt Bits) ℓ) (g : Dev Cert.FfnUpDx.nD → PrngReg), Pre_FfnUpDx m →
    θ_run (Cert.FfnUpDx.defs (F := Bits)) (onTc (τ := Cert.FfnUpDx.τ) (Cert.FfnUpDx.main (F := Bits))) ⟨m, fun _ => 0, g⟩ (fun r => (∀ c : Dev Cert.FfnUpDx.nD,
      r.2.mem ((c.tc : Thread Cert.FfnUpDx.nD Cert.FfnUpDx.τ).loc Cert.FfnUpDx.main_arg0) = m ((c.tc : Thread Cert.FfnUpDx.nD Cert.FfnUpDx.τ).loc Cert.FfnUpDx.main_arg0)
      ∧ r.2.mem ((c.tc : Thread Cert.FfnUpDx.nD Cert.FfnUpDx.τ).loc Cert.FfnUpDx.main_arg1) = m ((c.tc : Thread Cert.FfnUpDx.nD Cert.FfnUpDx.τ).loc Cert.FfnUpDx.main_arg1))
      ∧ r.2.sem = fun _ => 0)

def quiescent_FfnUpDxIdeal [hFfnUpDxIdeal : Cert.FfnUpDxIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg), Pre_FfnUpDxIdeal m →
    θ_run (Cert.FfnUpDxIdeal.defs (F := Ideal)) (onTc (τ := Cert.FfnUpDxIdeal.τ) (Cert.FfnUpDxIdeal.main (F := Ideal))) ⟨m, fun _ => 0, g⟩ (fun r => (∀ c : Dev Cert.FfnUpDxIdeal.nD,
      r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
      ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ r.2.sem = fun _ => 0)

def quiescent_FfnUpDxRefIdeal [hFfnUpDxRefIdeal : Cert.FfnUpDxRefIdeal.Facts] : Prop :=
  ∀ (m : (ℓ : Loc Cert.FfnUpDxRefIdeal.nD Cert.FfnUpDxRefIdeal.τ Cert.FfnUpDxRefIdeal.sig) → Buf (Elt Ideal) ℓ) (g : Dev Cert.FfnUpDxRefIdeal.nD → PrngReg), Pre_FfnUpDxRefIdeal m →
    θ_run (Cert.FfnUpDxRefIdeal.defs (F := Ideal)) (onTc (τ := Cert.FfnUpDxRefIdeal.τ) (Cert.FfnUpDxRefIdeal.main (F := Ideal))) ⟨m, fun _ => 0, g⟩ (fun r => (∀ c : Dev Cert.FfnUpDxRefIdeal.nD,
      r.2.mem ((c.tc : Thread Cert.FfnUpDxRefIdeal.nD Cert.FfnUpDxRefIdeal.τ).loc Cert.FfnUpDxRefIdeal.main_arg0) = m ((c.tc : Thread Cert.FfnUpDxRefIdeal.nD Cert.FfnUpDxRefIdeal.τ).loc Cert.FfnUpDxRefIdeal.main_arg0)
      ∧ r.2.mem ((c.tc : Thread Cert.FfnUpDxRefIdeal.nD Cert.FfnUpDxRefIdeal.τ).loc Cert.FfnUpDxRefIdeal.main_arg1) = m ((c.tc : Thread Cert.FfnUpDxRefIdeal.nD Cert.FfnUpDxRefIdeal.τ).loc Cert.FfnUpDxRefIdeal.main_arg1))
      ∧ r.2.sem = fun _ => 0)

def quiescent_FfnUpDw [hFfnUpDw : Cert.FfnUpDw.Facts] : Prop :=
  ∀ (m : (ℓ : Loc Cert.FfnUpDw.nD Cert.FfnUpDw.τ Cert.FfnUpDw.sig) → Buf (Elt Bits) ℓ) (g : Dev Cert.FfnUpDw.nD → PrngReg), Pre_FfnUpDw m →
    θ_run (Cert.FfnUpDw.defs (F := Bits)) (onTc (τ := Cert.FfnUpDw.τ) (Cert.FfnUpDw.main (F := Bits))) ⟨m, fun _ => 0, g⟩ (fun r => (∀ c : Dev Cert.FfnUpDw.nD,
      r.2.mem ((c.tc : Thread Cert.FfnUpDw.nD Cert.FfnUpDw.τ).loc Cert.FfnUpDw.main_arg0) = m ((c.tc : Thread Cert.FfnUpDw.nD Cert.FfnUpDw.τ).loc Cert.FfnUpDw.main_arg0)
      ∧ r.2.mem ((c.tc : Thread Cert.FfnUpDw.nD Cert.FfnUpDw.τ).loc Cert.FfnUpDw.main_arg1) = m ((c.tc : Thread Cert.FfnUpDw.nD Cert.FfnUpDw.τ).loc Cert.FfnUpDw.main_arg1))
      ∧ r.2.sem = fun _ => 0)

def quiescent_FfnUpDwIdeal [hFfnUpDwIdeal : Cert.FfnUpDwIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg), Pre_FfnUpDwIdeal m →
    θ_run (Cert.FfnUpDwIdeal.defs (F := Ideal)) (onTc (τ := Cert.FfnUpDwIdeal.τ) (Cert.FfnUpDwIdeal.main (F := Ideal))) ⟨m, fun _ => 0, g⟩ (fun r => (∀ c : Dev Cert.FfnUpDwIdeal.nD,
      r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
      ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ r.2.sem = fun _ => 0)

def quiescent_FfnUpDwRefIdeal [hFfnUpDwRefIdeal : Cert.FfnUpDwRefIdeal.Facts] : Prop :=
  ∀ (m : (ℓ : Loc Cert.FfnUpDwRefIdeal.nD Cert.FfnUpDwRefIdeal.τ Cert.FfnUpDwRefIdeal.sig) → Buf (Elt Ideal) ℓ) (g : Dev Cert.FfnUpDwRefIdeal.nD → PrngReg), Pre_FfnUpDwRefIdeal m →
    θ_run (Cert.FfnUpDwRefIdeal.defs (F := Ideal)) (onTc (τ := Cert.FfnUpDwRefIdeal.τ) (Cert.FfnUpDwRefIdeal.main (F := Ideal))) ⟨m, fun _ => 0, g⟩ (fun r => (∀ c : Dev Cert.FfnUpDwRefIdeal.nD,
      r.2.mem ((c.tc : Thread Cert.FfnUpDwRefIdeal.nD Cert.FfnUpDwRefIdeal.τ).loc Cert.FfnUpDwRefIdeal.main_arg0) = m ((c.tc : Thread Cert.FfnUpDwRefIdeal.nD Cert.FfnUpDwRefIdeal.τ).loc Cert.FfnUpDwRefIdeal.main_arg0)
      ∧ r.2.mem ((c.tc : Thread Cert.FfnUpDwRefIdeal.nD Cert.FfnUpDwRefIdeal.τ).loc Cert.FfnUpDwRefIdeal.main_arg1) = m ((c.tc : Thread Cert.FfnUpDwRefIdeal.nD Cert.FfnUpDwRefIdeal.τ).loc Cert.FfnUpDwRefIdeal.main_arg1))
      ∧ r.2.sem = fun _ => 0)

def quiescent_ProjIn [hProjIn : Cert.ProjIn.Facts] : Prop :=
  ∀ (m : (ℓ : Loc Cert.ProjIn.nD Cert.ProjIn.τ Cert.ProjIn.sig) → Buf (Elt Bits) ℓ) (g : Dev Cert.ProjIn.nD → PrngReg), Pre_ProjIn m →
    θ_run (Cert.ProjIn.defs (F := Bits)) (onTc (τ := Cert.ProjIn.τ) (Cert.ProjIn.main (F := Bits))) ⟨m, fun _ => 0, g⟩ (fun r => (∀ c : Dev Cert.ProjIn.nD,
      r.2.mem ((c.tc : Thread Cert.ProjIn.nD Cert.ProjIn.τ).loc Cert.ProjIn.main_arg0) = m ((c.tc : Thread Cert.ProjIn.nD Cert.ProjIn.τ).loc Cert.ProjIn.main_arg0)
      ∧ r.2.mem ((c.tc : Thread Cert.ProjIn.nD Cert.ProjIn.τ).loc Cert.ProjIn.main_arg1) = m ((c.tc : Thread Cert.ProjIn.nD Cert.ProjIn.τ).loc Cert.ProjIn.main_arg1))
      ∧ r.2.sem = fun _ => 0)

def quiescent_ProjInIdeal [hProjInIdeal : Cert.ProjInIdeal.Facts] : Prop :=
  ∀ (m : (ℓ : Loc Cert.ProjInIdeal.nD Cert.ProjInIdeal.τ Cert.ProjInIdeal.sig) → Buf (Elt Ideal) ℓ) (g : Dev Cert.ProjInIdeal.nD → PrngReg), Pre_ProjInIdeal m →
    θ_run (Cert.ProjInIdeal.defs (F := Ideal)) (onTc (τ := Cert.ProjInIdeal.τ) (Cert.ProjInIdeal.main (F := Ideal))) ⟨m, fun _ => 0, g⟩ (fun r => (∀ c : Dev Cert.ProjInIdeal.nD,
      r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
      ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ r.2.sem = fun _ => 0)

def quiescent_ProjInRefIdeal [hProjInRefIdeal : Cert.ProjInRefIdeal.Facts] : Prop :=
  ∀ (m : (ℓ : Loc Cert.ProjInRefIdeal.nD Cert.ProjInRefIdeal.τ Cert.ProjInRefIdeal.sig) → Buf (Elt Ideal) ℓ) (g : Dev Cert.ProjInRefIdeal.nD → PrngReg), Pre_ProjInRefIdeal m →
    θ_run (Cert.ProjInRefIdeal.defs (F := Ideal)) (onTc (τ := Cert.ProjInRefIdeal.τ) (Cert.ProjInRefIdeal.main (F := Ideal))) ⟨m, fun _ => 0, g⟩ (fun r => (∀ c : Dev Cert.ProjInRefIdeal.nD,
      r.2.mem ((c.tc : Thread Cert.ProjInRefIdeal.nD Cert.ProjInRefIdeal.τ).loc Cert.ProjInRefIdeal.main_arg0) = m ((c.tc : Thread Cert.ProjInRefIdeal.nD Cert.ProjInRefIdeal.τ).loc Cert.ProjInRefIdeal.main_arg0)
      ∧ r.2.mem ((c.tc : Thread Cert.ProjInRefIdeal.nD Cert.ProjInRefIdeal.τ).loc Cert.ProjInRefIdeal.main_arg1) = m ((c.tc : Thread Cert.ProjInRefIdeal.nD Cert.ProjInRefIdeal.τ).loc Cert.ProjInRefIdeal.main_arg1))
      ∧ r.2.sem = fun _ => 0)

def quiescent_ProjInDx [hProjInDx : Cert.ProjInDx.Facts] : Prop :=
  ∀ (m : (ℓ : Loc Cert.ProjInDx.nD Cert.ProjInDx.τ Cert.ProjInDx.sig) → Buf (Elt Bits) ℓ) (g : Dev Cert.ProjInDx.nD → PrngReg), Pre_ProjInDx m →
    θ_run (Cert.ProjInDx.defs (F := Bits)) (onTc (τ := Cert.ProjInDx.τ) (Cert.ProjInDx.main (F := Bits))) ⟨m, fun _ => 0, g⟩ (fun r => (∀ c : Dev Cert.ProjInDx.nD,
      r.2.mem ((c.tc : Thread Cert.ProjInDx.nD Cert.ProjInDx.τ).loc Cert.ProjInDx.main_arg0) = m ((c.tc : Thread Cert.ProjInDx.nD Cert.ProjInDx.τ).loc Cert.ProjInDx.main_arg0)
      ∧ r.2.mem ((c.tc : Thread Cert.ProjInDx.nD Cert.ProjInDx.τ).loc Cert.ProjInDx.main_arg1) = m ((c.tc : Thread Cert.ProjInDx.nD Cert.ProjInDx.τ).loc Cert.ProjInDx.main_arg1))
      ∧ r.2.sem = fun _ => 0)

def quiescent_ProjInDxIdeal [hProjInDxIdeal : Cert.ProjInDxIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg), Pre_ProjInDxIdeal m →
    θ_run (Cert.ProjInDxIdeal.defs (F := Ideal)) (onTc (τ := Cert.ProjInDxIdeal.τ) (Cert.ProjInDxIdeal.main (F := Ideal))) ⟨m, fun _ => 0, g⟩ (fun r => (∀ c : Dev Cert.ProjInDxIdeal.nD,
      r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
      ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ r.2.sem = fun _ => 0)

def quiescent_ProjInDxRefIdeal [hProjInDxRefIdeal : Cert.ProjInDxRefIdeal.Facts] : Prop :=
  ∀ (m : (ℓ : Loc Cert.ProjInDxRefIdeal.nD Cert.ProjInDxRefIdeal.τ Cert.ProjInDxRefIdeal.sig) → Buf (Elt Ideal) ℓ) (g : Dev Cert.ProjInDxRefIdeal.nD → PrngReg), Pre_ProjInDxRefIdeal m →
    θ_run (Cert.ProjInDxRefIdeal.defs (F := Ideal)) (onTc (τ := Cert.ProjInDxRefIdeal.τ) (Cert.ProjInDxRefIdeal.main (F := Ideal))) ⟨m, fun _ => 0, g⟩ (fun r => (∀ c : Dev Cert.ProjInDxRefIdeal.nD,
      r.2.mem ((c.tc : Thread Cert.ProjInDxRefIdeal.nD Cert.ProjInDxRefIdeal.τ).loc Cert.ProjInDxRefIdeal.main_arg0) = m ((c.tc : Thread Cert.ProjInDxRefIdeal.nD Cert.ProjInDxRefIdeal.τ).loc Cert.ProjInDxRefIdeal.main_arg0)
      ∧ r.2.mem ((c.tc : Thread Cert.ProjInDxRefIdeal.nD Cert.ProjInDxRefIdeal.τ).loc Cert.ProjInDxRefIdeal.main_arg1) = m ((c.tc : Thread Cert.ProjInDxRefIdeal.nD Cert.ProjInDxRefIdeal.τ).loc Cert.ProjInDxRefIdeal.main_arg1))
      ∧ r.2.sem = fun _ => 0)

def quiescent_ProjInDw [hProjInDw : Cert.ProjInDw.Facts] : Prop :=
  ∀ (m : (ℓ : Loc Cert.ProjInDw.nD Cert.ProjInDw.τ Cert.ProjInDw.sig) → Buf (Elt Bits) ℓ) (g : Dev Cert.ProjInDw.nD → PrngReg), Pre_ProjInDw m →
    θ_run (Cert.ProjInDw.defs (F := Bits)) (onTc (τ := Cert.ProjInDw.τ) (Cert.ProjInDw.main (F := Bits))) ⟨m, fun _ => 0, g⟩ (fun r => (∀ c : Dev Cert.ProjInDw.nD,
      r.2.mem ((c.tc : Thread Cert.ProjInDw.nD Cert.ProjInDw.τ).loc Cert.ProjInDw.main_arg0) = m ((c.tc : Thread Cert.ProjInDw.nD Cert.ProjInDw.τ).loc Cert.ProjInDw.main_arg0)
      ∧ r.2.mem ((c.tc : Thread Cert.ProjInDw.nD Cert.ProjInDw.τ).loc Cert.ProjInDw.main_arg1) = m ((c.tc : Thread Cert.ProjInDw.nD Cert.ProjInDw.τ).loc Cert.ProjInDw.main_arg1))
      ∧ r.2.sem = fun _ => 0)

def quiescent_ProjInDwIdeal [hProjInDwIdeal : Cert.ProjInDwIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg), Pre_ProjInDwIdeal m →
    θ_run (Cert.ProjInDwIdeal.defs (F := Ideal)) (onTc (τ := Cert.ProjInDwIdeal.τ) (Cert.ProjInDwIdeal.main (F := Ideal))) ⟨m, fun _ => 0, g⟩ (fun r => (∀ c : Dev Cert.ProjInDwIdeal.nD,
      r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
      ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ r.2.sem = fun _ => 0)

def quiescent_ProjInDwRefIdeal [hProjInDwRefIdeal : Cert.ProjInDwRefIdeal.Facts] : Prop :=
  ∀ (m : (ℓ : Loc Cert.ProjInDwRefIdeal.nD Cert.ProjInDwRefIdeal.τ Cert.ProjInDwRefIdeal.sig) → Buf (Elt Ideal) ℓ) (g : Dev Cert.ProjInDwRefIdeal.nD → PrngReg), Pre_ProjInDwRefIdeal m →
    θ_run (Cert.ProjInDwRefIdeal.defs (F := Ideal)) (onTc (τ := Cert.ProjInDwRefIdeal.τ) (Cert.ProjInDwRefIdeal.main (F := Ideal))) ⟨m, fun _ => 0, g⟩ (fun r => (∀ c : Dev Cert.ProjInDwRefIdeal.nD,
      r.2.mem ((c.tc : Thread Cert.ProjInDwRefIdeal.nD Cert.ProjInDwRefIdeal.τ).loc Cert.ProjInDwRefIdeal.main_arg0) = m ((c.tc : Thread Cert.ProjInDwRefIdeal.nD Cert.ProjInDwRefIdeal.τ).loc Cert.ProjInDwRefIdeal.main_arg0)
      ∧ r.2.mem ((c.tc : Thread Cert.ProjInDwRefIdeal.nD Cert.ProjInDwRefIdeal.τ).loc Cert.ProjInDwRefIdeal.main_arg1) = m ((c.tc : Thread Cert.ProjInDwRefIdeal.nD Cert.ProjInDwRefIdeal.τ).loc Cert.ProjInDwRefIdeal.main_arg1))
      ∧ r.2.sem = fun _ => 0)

def quiescent_ProjOut [hProjOut : Cert.ProjOut.Facts] : Prop :=
  ∀ (m : (ℓ : Loc Cert.ProjOut.nD Cert.ProjOut.τ Cert.ProjOut.sig) → Buf (Elt Bits) ℓ) (g : Dev Cert.ProjOut.nD → PrngReg), Pre_ProjOut m →
    θ_run (Cert.ProjOut.defs (F := Bits)) (onTc (τ := Cert.ProjOut.τ) (Cert.ProjOut.main (F := Bits))) ⟨m, fun _ => 0, g⟩ (fun r => (∀ c : Dev Cert.ProjOut.nD,
      r.2.mem ((c.tc : Thread Cert.ProjOut.nD Cert.ProjOut.τ).loc Cert.ProjOut.main_arg0) = m ((c.tc : Thread Cert.ProjOut.nD Cert.ProjOut.τ).loc Cert.ProjOut.main_arg0)
      ∧ r.2.mem ((c.tc : Thread Cert.ProjOut.nD Cert.ProjOut.τ).loc Cert.ProjOut.main_arg1) = m ((c.tc : Thread Cert.ProjOut.nD Cert.ProjOut.τ).loc Cert.ProjOut.main_arg1)
      ∧ r.2.mem ((c.tc : Thread Cert.ProjOut.nD Cert.ProjOut.τ).loc Cert.ProjOut.main_arg2) = m ((c.tc : Thread Cert.ProjOut.nD Cert.ProjOut.τ).loc Cert.ProjOut.main_arg2)
      ∧ r.2.mem ((c.tc : Thread Cert.ProjOut.nD Cert.ProjOut.τ).loc Cert.ProjOut.main_arg3) = m ((c.tc : Thread Cert.ProjOut.nD Cert.ProjOut.τ).loc Cert.ProjOut.main_arg3))
      ∧ r.2.sem = fun _ => 0)

def quiescent_ProjOutIdeal [hProjOutIdeal : Cert.ProjOutIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg), Pre_ProjOutIdeal m →
    θ_run (Cert.ProjOutIdeal.defs (F := Ideal)) (onTc (τ := Cert.ProjOutIdeal.τ) (Cert.ProjOutIdeal.main (F := Ideal))) ⟨m, fun _ => 0, g⟩ (fun r => (∀ c : Dev Cert.ProjOutIdeal.nD,
      r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
      ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
      ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
      ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ r.2.sem = fun _ => 0)

def quiescent_ProjOutRefIdeal [hProjOutRefIdeal : Cert.ProjOutRefIdeal.Facts] : Prop :=
  ∀ (m : (ℓ : Loc Cert.ProjOutRefIdeal.nD Cert.ProjOutRefIdeal.τ Cert.ProjOutRefIdeal.sig) → Buf (Elt Ideal) ℓ) (g : Dev Cert.ProjOutRefIdeal.nD → PrngReg), Pre_ProjOutRefIdeal m →
    θ_run (Cert.ProjOutRefIdeal.defs (F := Ideal)) (onTc (τ := Cert.ProjOutRefIdeal.τ) (Cert.ProjOutRefIdeal.main (F := Ideal))) ⟨m, fun _ => 0, g⟩ (fun r => (∀ c : Dev Cert.ProjOutRefIdeal.nD,
      r.2.mem ((c.tc : Thread Cert.ProjOutRefIdeal.nD Cert.ProjOutRefIdeal.τ).loc Cert.ProjOutRefIdeal.main_arg0) = m ((c.tc : Thread Cert.ProjOutRefIdeal.nD Cert.ProjOutRefIdeal.τ).loc Cert.ProjOutRefIdeal.main_arg0)
      ∧ r.2.mem ((c.tc : Thread Cert.ProjOutRefIdeal.nD Cert.ProjOutRefIdeal.τ).loc Cert.ProjOutRefIdeal.main_arg1) = m ((c.tc : Thread Cert.ProjOutRefIdeal.nD Cert.ProjOutRefIdeal.τ).loc Cert.ProjOutRefIdeal.main_arg1)
      ∧ r.2.mem ((c.tc : Thread Cert.ProjOutRefIdeal.nD Cert.ProjOutRefIdeal.τ).loc Cert.ProjOutRefIdeal.main_arg2) = m ((c.tc : Thread Cert.ProjOutRefIdeal.nD Cert.ProjOutRefIdeal.τ).loc Cert.ProjOutRefIdeal.main_arg2)
      ∧ r.2.mem ((c.tc : Thread Cert.ProjOutRefIdeal.nD Cert.ProjOutRefIdeal.τ).loc Cert.ProjOutRefIdeal.main_arg3) = m ((c.tc : Thread Cert.ProjOutRefIdeal.nD Cert.ProjOutRefIdeal.τ).loc Cert.ProjOutRefIdeal.main_arg3))
      ∧ r.2.sem = fun _ => 0)

def quiescent_ProjOutDx [hProjOutDx : Cert.ProjOutDx.Facts] : Prop :=
  ∀ (m : (ℓ : Loc Cert.ProjOutDx.nD Cert.ProjOutDx.τ Cert.ProjOutDx.sig) → Buf (Elt Bits) ℓ) (g : Dev Cert.ProjOutDx.nD → PrngReg), Pre_ProjOutDx m →
    θ_run (Cert.ProjOutDx.defs (F := Bits)) (onTc (τ := Cert.ProjOutDx.τ) (Cert.ProjOutDx.main (F := Bits))) ⟨m, fun _ => 0, g⟩ (fun r => (∀ c : Dev Cert.ProjOutDx.nD,
      r.2.mem ((c.tc : Thread Cert.ProjOutDx.nD Cert.ProjOutDx.τ).loc Cert.ProjOutDx.main_arg0) = m ((c.tc : Thread Cert.ProjOutDx.nD Cert.ProjOutDx.τ).loc Cert.ProjOutDx.main_arg0)
      ∧ r.2.mem ((c.tc : Thread Cert.ProjOutDx.nD Cert.ProjOutDx.τ).loc Cert.ProjOutDx.main_arg1) = m ((c.tc : Thread Cert.ProjOutDx.nD Cert.ProjOutDx.τ).loc Cert.ProjOutDx.main_arg1))
      ∧ r.2.sem = fun _ => 0)

def quiescent_ProjOutDxIdeal [hProjOutDxIdeal : Cert.ProjOutDxIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg), Pre_ProjOutDxIdeal m →
    θ_run (Cert.ProjOutDxIdeal.defs (F := Ideal)) (onTc (τ := Cert.ProjOutDxIdeal.τ) (Cert.ProjOutDxIdeal.main (F := Ideal))) ⟨m, fun _ => 0, g⟩ (fun r => (∀ c : Dev Cert.ProjOutDxIdeal.nD,
      r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
      ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1))
      ∧ r.2.sem = fun _ => 0)

def quiescent_ProjOutDxRefIdeal [hProjOutDxRefIdeal : Cert.ProjOutDxRefIdeal.Facts] : Prop :=
  ∀ (m : (ℓ : Loc Cert.ProjOutDxRefIdeal.nD Cert.ProjOutDxRefIdeal.τ Cert.ProjOutDxRefIdeal.sig) → Buf (Elt Ideal) ℓ) (g : Dev Cert.ProjOutDxRefIdeal.nD → PrngReg), Pre_ProjOutDxRefIdeal m →
    θ_run (Cert.ProjOutDxRefIdeal.defs (F := Ideal)) (onTc (τ := Cert.ProjOutDxRefIdeal.τ) (Cert.ProjOutDxRefIdeal.main (F := Ideal))) ⟨m, fun _ => 0, g⟩ (fun r => (∀ c : Dev Cert.ProjOutDxRefIdeal.nD,
      r.2.mem ((c.tc : Thread Cert.ProjOutDxRefIdeal.nD Cert.ProjOutDxRefIdeal.τ).loc Cert.ProjOutDxRefIdeal.main_arg0) = m ((c.tc : Thread Cert.ProjOutDxRefIdeal.nD Cert.ProjOutDxRefIdeal.τ).loc Cert.ProjOutDxRefIdeal.main_arg0)
      ∧ r.2.mem ((c.tc : Thread Cert.ProjOutDxRefIdeal.nD Cert.ProjOutDxRefIdeal.τ).loc Cert.ProjOutDxRefIdeal.main_arg1) = m ((c.tc : Thread Cert.ProjOutDxRefIdeal.nD Cert.ProjOutDxRefIdeal.τ).loc Cert.ProjOutDxRefIdeal.main_arg1))
      ∧ r.2.sem = fun _ => 0)

def quiescent_ProjOutDw [hProjOutDw : Cert.ProjOutDw.Facts] : Prop :=
  ∀ (m : (ℓ : Loc Cert.ProjOutDw.nD Cert.ProjOutDw.τ Cert.ProjOutDw.sig) → Buf (Elt Bits) ℓ) (g : Dev Cert.ProjOutDw.nD → PrngReg), Pre_ProjOutDw m →
    θ_run (Cert.ProjOutDw.defs (F := Bits)) (onTc (τ := Cert.ProjOutDw.τ) (Cert.ProjOutDw.main (F := Bits))) ⟨m, fun _ => 0, g⟩ (fun r => (∀ c : Dev Cert.ProjOutDw.nD,
      r.2.mem ((c.tc : Thread Cert.ProjOutDw.nD Cert.ProjOutDw.τ).loc Cert.ProjOutDw.main_arg0) = m ((c.tc : Thread Cert.ProjOutDw.nD Cert.ProjOutDw.τ).loc Cert.ProjOutDw.main_arg0)
      ∧ r.2.mem ((c.tc : Thread Cert.ProjOutDw.nD Cert.ProjOutDw.τ).loc Cert.ProjOutDw.main_arg1) = m ((c.tc : Thread Cert.ProjOutDw.nD Cert.ProjOutDw.τ).loc Cert.ProjOutDw.main_arg1))
      ∧ r.2.sem = fun _ => 0)

def quiescent_ProjOutDwIdeal [hProjOutDwIdeal : Cert.ProjOutDwIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg), Pre_ProjOutDwIdeal m →
    θ_run (Cert.ProjOutDwIdeal.defs (F := Ideal)) (onTc (τ := Cert.ProjOutDwIdeal.τ) (Cert.ProjOutDwIdeal.main (F := Ideal))) ⟨m, fun _ => 0, g⟩ (fun r => (∀ c : Dev Cert.ProjOutDwIdeal.nD,
      r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
      ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ r.2.sem = fun _ => 0)

def quiescent_ProjOutDwRefIdeal [hProjOutDwRefIdeal : Cert.ProjOutDwRefIdeal.Facts] : Prop :=
  ∀ (m : (ℓ : Loc Cert.ProjOutDwRefIdeal.nD Cert.ProjOutDwRefIdeal.τ Cert.ProjOutDwRefIdeal.sig) → Buf (Elt Ideal) ℓ) (g : Dev Cert.ProjOutDwRefIdeal.nD → PrngReg), Pre_ProjOutDwRefIdeal m →
    θ_run (Cert.ProjOutDwRefIdeal.defs (F := Ideal)) (onTc (τ := Cert.ProjOutDwRefIdeal.τ) (Cert.ProjOutDwRefIdeal.main (F := Ideal))) ⟨m, fun _ => 0, g⟩ (fun r => (∀ c : Dev Cert.ProjOutDwRefIdeal.nD,
      r.2.mem ((c.tc : Thread Cert.ProjOutDwRefIdeal.nD Cert.ProjOutDwRefIdeal.τ).loc Cert.ProjOutDwRefIdeal.main_arg0) = m ((c.tc : Thread Cert.ProjOutDwRefIdeal.nD Cert.ProjOutDwRefIdeal.τ).loc Cert.ProjOutDwRefIdeal.main_arg0)
      ∧ r.2.mem ((c.tc : Thread Cert.ProjOutDwRefIdeal.nD Cert.ProjOutDwRefIdeal.τ).loc Cert.ProjOutDwRefIdeal.main_arg1) = m ((c.tc : Thread Cert.ProjOutDwRefIdeal.nD Cert.ProjOutDwRefIdeal.τ).loc Cert.ProjOutDwRefIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v37_0)) (v1 : (c : Dev Cert.KernelIdeal.nD) → Buf (Elt Ideal) ((c.tc : Thread Cert.KernelIdeal.nD Cert.KernelIdeal.τ).loc Cert.KernelIdeal.main_v37_1)) (v2 : (c : Dev Cert.KernelIdeal.nD) → Buf (Elt Ideal) ((c.tc : Thread Cert.KernelIdeal.nD Cert.KernelIdeal.τ).loc Cert.KernelIdeal.main_v37_2)) (v3 : (c : Dev Cert.KernelIdeal.nD) → Buf (Elt Ideal) ((c.tc : Thread Cert.KernelIdeal.nD Cert.KernelIdeal.τ).loc Cert.KernelIdeal.main_v37_3)) (v4 : (c : Dev Cert.KernelIdeal.nD) → Buf (Elt Ideal) ((c.tc : Thread Cert.KernelIdeal.nD Cert.KernelIdeal.τ).loc Cert.KernelIdeal.main_v37_4)) (v5 : (c : Dev Cert.KernelIdeal.nD) → Buf (Elt Ideal) ((c.tc : Thread Cert.KernelIdeal.nD Cert.KernelIdeal.τ).loc Cert.KernelIdeal.main_v37_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37_0) = v0 c
          ∧ r.2.mem ((c.tc : Thread Cert.KernelIdeal.nD Cert.KernelIdeal.τ).loc Cert.KernelIdeal.main_v37_1) = v1 c
          ∧ r.2.mem ((c.tc : Thread Cert.KernelIdeal.nD Cert.KernelIdeal.τ).loc Cert.KernelIdeal.main_v37_2) = v2 c
          ∧ r.2.mem ((c.tc : Thread Cert.KernelIdeal.nD Cert.KernelIdeal.τ).loc Cert.KernelIdeal.main_v37_3) = v3 c
          ∧ r.2.mem ((c.tc : Thread Cert.KernelIdeal.nD Cert.KernelIdeal.τ).loc Cert.KernelIdeal.main_v37_4) = v4 c
          ∧ r.2.mem ((c.tc : Thread Cert.KernelIdeal.nD Cert.KernelIdeal.τ).loc Cert.KernelIdeal.main_v37_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v296) = v0 c
          ∧ r.2.mem ((c.tc : Thread Cert.ReferenceIdeal.nD Cert.ReferenceIdeal.τ).loc Cert.ReferenceIdeal.main_v294) = v1 c
          ∧ r.2.mem ((c.tc : Thread Cert.ReferenceIdeal.nD Cert.ReferenceIdeal.τ).loc Cert.ReferenceIdeal.main_v211) = v2 c
          ∧ r.2.mem ((c.tc : Thread Cert.ReferenceIdeal.nD Cert.ReferenceIdeal.τ).loc Cert.ReferenceIdeal.main_v295) = v3 c
          ∧ r.2.mem ((c.tc : Thread Cert.ReferenceIdeal.nD Cert.ReferenceIdeal.τ).loc Cert.ReferenceIdeal.main_v293) = v4 c
          ∧ r.2.mem ((c.tc : Thread Cert.ReferenceIdeal.nD Cert.ReferenceIdeal.τ).loc Cert.ReferenceIdeal.main_v210) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)) →
    ∃ (v0 : (c : Dev Cert.FfnDownIdeal.nD) → Buf (Elt Ideal) ((c.tc : Thread Cert.FfnDownIdeal.nD Cert.FfnDownIdeal.τ).loc Cert.FfnDownIdeal.main_v0)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0) = v0 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v2) = v0 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1))

def preserves_FfnDownDx_FfnDownDxIdeal : Prop :=
  True

def algebraic_FfnDownDxIdeal_FfnDownDxRefIdeal [hFfnDownDxIdeal : Cert.FfnDownDxIdeal.Facts] [hFfnDownDxRefIdeal : Cert.FfnDownDxRefIdeal.Facts] : Prop :=
  ∀ (m : (ℓ : Loc Cert.FfnDownDxIdeal.nD Cert.FfnDownDxIdeal.τ Cert.FfnDownDxIdeal.sig) → Buf (Elt Ideal) ℓ) (g : Dev Cert.FfnDownDxIdeal.nD → PrngReg)
    (m' : (ℓ : Loc Cert.FfnDownDxRefIdeal.nD Cert.FfnDownDxRefIdeal.τ Cert.FfnDownDxRefIdeal.sig) → Buf (Elt Ideal) ℓ) (g' : Dev Cert.FfnDownDxRefIdeal.nD → PrngReg), Pre_FfnDownDxIdeal m →
    (∀ c : Dev Cert.FfnDownDxIdeal.nD,
      m' ((c.tc : Thread Cert.FfnDownDxRefIdeal.nD Cert.FfnDownDxRefIdeal.τ).loc Cert.FfnDownDxRefIdeal.main_arg0) = m ((c.tc : Thread Cert.FfnDownDxIdeal.nD Cert.FfnDownDxIdeal.τ).loc Cert.FfnDownDxIdeal.main_arg0)
      ∧ m' ((c.tc : Thread Cert.FfnDownDxRefIdeal.nD Cert.FfnDownDxRefIdeal.τ).loc Cert.FfnDownDxRefIdeal.main_arg1) = m ((c.tc : Thread Cert.FfnDownDxIdeal.nD Cert.FfnDownDxIdeal.τ).loc Cert.FfnDownDxIdeal.main_arg1)) →
    ∃ (v0 : (c : Dev Cert.FfnDownDxIdeal.nD) → Buf (Elt Ideal) ((c.tc : Thread Cert.FfnDownDxIdeal.nD Cert.FfnDownDxIdeal.τ).loc Cert.FfnDownDxIdeal.main_v0)),
      θ_run (Cert.FfnDownDxIdeal.defs (F := Ideal)) (onTc (τ := Cert.FfnDownDxIdeal.τ) (Cert.FfnDownDxIdeal.main (F := Ideal))) ⟨m, fun _ => 0, g⟩ (fun r => ∀ c : Dev Cert.FfnDownDxIdeal.nD,
          r.2.mem ((c.tc : Thread Cert.FfnDownDxIdeal.nD Cert.FfnDownDxIdeal.τ).loc Cert.FfnDownDxIdeal.main_v0) = v0 c
          ∧ r.2.mem ((c.tc : Thread Cert.FfnDownDxIdeal.nD Cert.FfnDownDxIdeal.τ).loc Cert.FfnDownDxIdeal.main_arg0) = m ((c.tc : Thread Cert.FfnDownDxIdeal.nD Cert.FfnDownDxIdeal.τ).loc Cert.FfnDownDxIdeal.main_arg0)
          ∧ r.2.mem ((c.tc : Thread Cert.FfnDownDxIdeal.nD Cert.FfnDownDxIdeal.τ).loc Cert.FfnDownDxIdeal.main_arg1) = m ((c.tc : Thread Cert.FfnDownDxIdeal.nD Cert.FfnDownDxIdeal.τ).loc Cert.FfnDownDxIdeal.main_arg1))
      ∧ θ_run (Cert.FfnDownDxRefIdeal.defs (F := Ideal)) (onTc (τ := Cert.FfnDownDxRefIdeal.τ) (Cert.FfnDownDxRefIdeal.main (F := Ideal))) ⟨m', fun _ => 0, g'⟩ (fun r => ∀ c : Dev Cert.FfnDownDxRefIdeal.nD,
          r.2.mem ((c.tc : Thread Cert.FfnDownDxRefIdeal.nD Cert.FfnDownDxRefIdeal.τ).loc Cert.FfnDownDxRefIdeal.main_v2) = v0 c
          ∧ r.2.mem ((c.tc : Thread Cert.FfnDownDxRefIdeal.nD Cert.FfnDownDxRefIdeal.τ).loc Cert.FfnDownDxRefIdeal.main_arg0) = m' ((c.tc : Thread Cert.FfnDownDxRefIdeal.nD Cert.FfnDownDxRefIdeal.τ).loc Cert.FfnDownDxRefIdeal.main_arg0)
          ∧ r.2.mem ((c.tc : Thread Cert.FfnDownDxRefIdeal.nD Cert.FfnDownDxRefIdeal.τ).loc Cert.FfnDownDxRefIdeal.main_arg1) = m' ((c.tc : Thread Cert.FfnDownDxRefIdeal.nD Cert.FfnDownDxRefIdeal.τ).loc Cert.FfnDownDxRefIdeal.main_arg1))

def preserves_FfnDownDw_FfnDownDwIdeal : Prop :=
  True

def algebraic_FfnDownDwIdeal_FfnDownDwRefIdeal [hFfnDownDwIdeal : Cert.FfnDownDwIdeal.Facts] [hFfnDownDwRefIdeal : Cert.FfnDownDwRefIdeal.Facts] : Prop :=
  ∀ (m : (ℓ : Loc Cert.FfnDownDwIdeal.nD Cert.FfnDownDwIdeal.τ Cert.FfnDownDwIdeal.sig) → Buf (Elt Ideal) ℓ) (g : Dev Cert.FfnDownDwIdeal.nD → PrngReg)
    (m' : (ℓ : Loc Cert.FfnDownDwRefIdeal.nD Cert.FfnDownDwRefIdeal.τ Cert.FfnDownDwRefIdeal.sig) → Buf (Elt Ideal) ℓ) (g' : Dev Cert.FfnDownDwRefIdeal.nD → PrngReg), Pre_FfnDownDwIdeal m →
    (∀ c : Dev Cert.FfnDownDwIdeal.nD,
      m' ((c.tc : Thread Cert.FfnDownDwRefIdeal.nD Cert.FfnDownDwRefIdeal.τ).loc Cert.FfnDownDwRefIdeal.main_arg0) = m ((c.tc : Thread Cert.FfnDownDwIdeal.nD Cert.FfnDownDwIdeal.τ).loc Cert.FfnDownDwIdeal.main_arg0)
      ∧ m' ((c.tc : Thread Cert.FfnDownDwRefIdeal.nD Cert.FfnDownDwRefIdeal.τ).loc Cert.FfnDownDwRefIdeal.main_arg1) = m ((c.tc : Thread Cert.FfnDownDwIdeal.nD Cert.FfnDownDwIdeal.τ).loc Cert.FfnDownDwIdeal.main_arg1)) →
    ∃ (v0 : (c : Dev Cert.FfnDownDwIdeal.nD) → Buf (Elt Ideal) ((c.tc : Thread Cert.FfnDownDwIdeal.nD Cert.FfnDownDwIdeal.τ).loc Cert.FfnDownDwIdeal.main_v0)),
      θ_run (Cert.FfnDownDwIdeal.defs (F := Ideal)) (onTc (τ := Cert.FfnDownDwIdeal.τ) (Cert.FfnDownDwIdeal.main (F := Ideal))) ⟨m, fun _ => 0, g⟩ (fun r => ∀ c : Dev Cert.FfnDownDwIdeal.nD,
          r.2.mem ((c.tc : Thread Cert.FfnDownDwIdeal.nD Cert.FfnDownDwIdeal.τ).loc Cert.FfnDownDwIdeal.main_v0) = v0 c
          ∧ r.2.mem ((c.tc : Thread Cert.FfnDownDwIdeal.nD Cert.FfnDownDwIdeal.τ).loc Cert.FfnDownDwIdeal.main_arg0) = m ((c.tc : Thread Cert.FfnDownDwIdeal.nD Cert.FfnDownDwIdeal.τ).loc Cert.FfnDownDwIdeal.main_arg0)
          ∧ r.2.mem ((c.tc : Thread Cert.FfnDownDwIdeal.nD Cert.FfnDownDwIdeal.τ).loc Cert.FfnDownDwIdeal.main_arg1) = m ((c.tc : Thread Cert.FfnDownDwIdeal.nD Cert.FfnDownDwIdeal.τ).loc Cert.FfnDownDwIdeal.main_arg1))
      ∧ θ_run (Cert.FfnDownDwRefIdeal.defs (F := Ideal)) (onTc (τ := Cert.FfnDownDwRefIdeal.τ) (Cert.FfnDownDwRefIdeal.main (F := Ideal))) ⟨m', fun _ => 0, g'⟩ (fun r => ∀ c : Dev Cert.FfnDownDwRefIdeal.nD,
          r.2.mem ((c.tc : Thread Cert.FfnDownDwRefIdeal.nD Cert.FfnDownDwRefIdeal.τ).loc Cert.FfnDownDwRefIdeal.main_v5) = v0 c
          ∧ r.2.mem ((c.tc : Thread Cert.FfnDownDwRefIdeal.nD Cert.FfnDownDwRefIdeal.τ).loc Cert.FfnDownDwRefIdeal.main_arg0) = m' ((c.tc : Thread Cert.FfnDownDwRefIdeal.nD Cert.FfnDownDwRefIdeal.τ).loc Cert.FfnDownDwRefIdeal.main_arg0)
          ∧ r.2.mem ((c.tc : Thread Cert.FfnDownDwRefIdeal.nD Cert.FfnDownDwRefIdeal.τ).loc Cert.FfnDownDwRefIdeal.main_arg1) = m' ((c.tc : Thread Cert.FfnDownDwRefIdeal.nD Cert.FfnDownDwRefIdeal.τ).loc Cert.FfnDownDwRefIdeal.main_arg1))

def preserves_FfnUp_FfnUpIdeal : Prop :=
  True

def algebraic_FfnUpIdeal_FfnUpRefIdeal [hFfnUpIdeal : Cert.FfnUpIdeal.Facts] [hFfnUpRefIdeal : Cert.FfnUpRefIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)) →
    ∃ (v0 : (c : Dev Cert.FfnUpIdeal.nD) → Buf (Elt Ideal) ((c.tc : Thread Cert.FfnUpIdeal.nD Cert.FfnUpIdeal.τ).loc Cert.FfnUpIdeal.main_v0)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0) = v0 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v4) = v0 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1))

def preserves_FfnUpDx_FfnUpDxIdeal : Prop :=
  True

def algebraic_FfnUpDxIdeal_FfnUpDxRefIdeal [hFfnUpDxIdeal : Cert.FfnUpDxIdeal.Facts] [hFfnUpDxRefIdeal : Cert.FfnUpDxRefIdeal.Facts] : Prop :=
  ∀ (m : (ℓ : Loc Cert.FfnUpDxIdeal.nD Cert.FfnUpDxIdeal.τ Cert.FfnUpDxIdeal.sig) → Buf (Elt Ideal) ℓ) (g : Dev Cert.FfnUpDxIdeal.nD → PrngReg)
    (m' : (ℓ : Loc Cert.FfnUpDxRefIdeal.nD Cert.FfnUpDxRefIdeal.τ Cert.FfnUpDxRefIdeal.sig) → Buf (Elt Ideal) ℓ) (g' : Dev Cert.FfnUpDxRefIdeal.nD → PrngReg), Pre_FfnUpDxIdeal m →
    (∀ c : Dev Cert.FfnUpDxIdeal.nD,
      m' ((c.tc : Thread Cert.FfnUpDxRefIdeal.nD Cert.FfnUpDxRefIdeal.τ).loc Cert.FfnUpDxRefIdeal.main_arg0) = m ((c.tc : Thread Cert.FfnUpDxIdeal.nD Cert.FfnUpDxIdeal.τ).loc Cert.FfnUpDxIdeal.main_arg0)
      ∧ m' ((c.tc : Thread Cert.FfnUpDxRefIdeal.nD Cert.FfnUpDxRefIdeal.τ).loc Cert.FfnUpDxRefIdeal.main_arg1) = m ((c.tc : Thread Cert.FfnUpDxIdeal.nD Cert.FfnUpDxIdeal.τ).loc Cert.FfnUpDxIdeal.main_arg1)) →
    ∃ (v0 : (c : Dev Cert.FfnUpDxIdeal.nD) → Buf (Elt Ideal) ((c.tc : Thread Cert.FfnUpDxIdeal.nD Cert.FfnUpDxIdeal.τ).loc Cert.FfnUpDxIdeal.main_v0)),
      θ_run (Cert.FfnUpDxIdeal.defs (F := Ideal)) (onTc (τ := Cert.FfnUpDxIdeal.τ) (Cert.FfnUpDxIdeal.main (F := Ideal))) ⟨m, fun _ => 0, g⟩ (fun r => ∀ c : Dev Cert.FfnUpDxIdeal.nD,
          r.2.mem ((c.tc : Thread Cert.FfnUpDxIdeal.nD Cert.FfnUpDxIdeal.τ).loc Cert.FfnUpDxIdeal.main_v0) = v0 c
          ∧ r.2.mem ((c.tc : Thread Cert.FfnUpDxIdeal.nD Cert.FfnUpDxIdeal.τ).loc Cert.FfnUpDxIdeal.main_arg0) = m ((c.tc : Thread Cert.FfnUpDxIdeal.nD Cert.FfnUpDxIdeal.τ).loc Cert.FfnUpDxIdeal.main_arg0)
          ∧ r.2.mem ((c.tc : Thread Cert.FfnUpDxIdeal.nD Cert.FfnUpDxIdeal.τ).loc Cert.FfnUpDxIdeal.main_arg1) = m ((c.tc : Thread Cert.FfnUpDxIdeal.nD Cert.FfnUpDxIdeal.τ).loc Cert.FfnUpDxIdeal.main_arg1))
      ∧ θ_run (Cert.FfnUpDxRefIdeal.defs (F := Ideal)) (onTc (τ := Cert.FfnUpDxRefIdeal.τ) (Cert.FfnUpDxRefIdeal.main (F := Ideal))) ⟨m', fun _ => 0, g'⟩ (fun r => ∀ c : Dev Cert.FfnUpDxRefIdeal.nD,
          r.2.mem ((c.tc : Thread Cert.FfnUpDxRefIdeal.nD Cert.FfnUpDxRefIdeal.τ).loc Cert.FfnUpDxRefIdeal.main_v4) = v0 c
          ∧ r.2.mem ((c.tc : Thread Cert.FfnUpDxRefIdeal.nD Cert.FfnUpDxRefIdeal.τ).loc Cert.FfnUpDxRefIdeal.main_arg0) = m' ((c.tc : Thread Cert.FfnUpDxRefIdeal.nD Cert.FfnUpDxRefIdeal.τ).loc Cert.FfnUpDxRefIdeal.main_arg0)
          ∧ r.2.mem ((c.tc : Thread Cert.FfnUpDxRefIdeal.nD Cert.FfnUpDxRefIdeal.τ).loc Cert.FfnUpDxRefIdeal.main_arg1) = m' ((c.tc : Thread Cert.FfnUpDxRefIdeal.nD Cert.FfnUpDxRefIdeal.τ).loc Cert.FfnUpDxRefIdeal.main_arg1))

def preserves_FfnUpDw_FfnUpDwIdeal : Prop :=
  True

def algebraic_FfnUpDwIdeal_FfnUpDwRefIdeal [hFfnUpDwIdeal : Cert.FfnUpDwIdeal.Facts] [hFfnUpDwRefIdeal : Cert.FfnUpDwRefIdeal.Facts] : Prop :=
  ∀ (m : (ℓ : Loc Cert.FfnUpDwIdeal.nD Cert.FfnUpDwIdeal.τ Cert.FfnUpDwIdeal.sig) → Buf (Elt Ideal) ℓ) (g : Dev Cert.FfnUpDwIdeal.nD → PrngReg)
    (m' : (ℓ : Loc Cert.FfnUpDwRefIdeal.nD Cert.FfnUpDwRefIdeal.τ Cert.FfnUpDwRefIdeal.sig) → Buf (Elt Ideal) ℓ) (g' : Dev Cert.FfnUpDwRefIdeal.nD → PrngReg), Pre_FfnUpDwIdeal m →
    (∀ c : Dev Cert.FfnUpDwIdeal.nD,
      m' ((c.tc : Thread Cert.FfnUpDwRefIdeal.nD Cert.FfnUpDwRefIdeal.τ).loc Cert.FfnUpDwRefIdeal.main_arg0) = m ((c.tc : Thread Cert.FfnUpDwIdeal.nD Cert.FfnUpDwIdeal.τ).loc Cert.FfnUpDwIdeal.main_arg0)
      ∧ m' ((c.tc : Thread Cert.FfnUpDwRefIdeal.nD Cert.FfnUpDwRefIdeal.τ).loc Cert.FfnUpDwRefIdeal.main_arg1) = m ((c.tc : Thread Cert.FfnUpDwIdeal.nD Cert.FfnUpDwIdeal.τ).loc Cert.FfnUpDwIdeal.main_arg1)) →
    ∃ (v0 : (c : Dev Cert.FfnUpDwIdeal.nD) → Buf (Elt Ideal) ((c.tc : Thread Cert.FfnUpDwIdeal.nD Cert.FfnUpDwIdeal.τ).loc Cert.FfnUpDwIdeal.main_v0)),
      θ_run (Cert.FfnUpDwIdeal.defs (F := Ideal)) (onTc (τ := Cert.FfnUpDwIdeal.τ) (Cert.FfnUpDwIdeal.main (F := Ideal))) ⟨m, fun _ => 0, g⟩ (fun r => ∀ c : Dev Cert.FfnUpDwIdeal.nD,
          r.2.mem ((c.tc : Thread Cert.FfnUpDwIdeal.nD Cert.FfnUpDwIdeal.τ).loc Cert.FfnUpDwIdeal.main_v0) = v0 c
          ∧ r.2.mem ((c.tc : Thread Cert.FfnUpDwIdeal.nD Cert.FfnUpDwIdeal.τ).loc Cert.FfnUpDwIdeal.main_arg0) = m ((c.tc : Thread Cert.FfnUpDwIdeal.nD Cert.FfnUpDwIdeal.τ).loc Cert.FfnUpDwIdeal.main_arg0)
          ∧ r.2.mem ((c.tc : Thread Cert.FfnUpDwIdeal.nD Cert.FfnUpDwIdeal.τ).loc Cert.FfnUpDwIdeal.main_arg1) = m ((c.tc : Thread Cert.FfnUpDwIdeal.nD Cert.FfnUpDwIdeal.τ).loc Cert.FfnUpDwIdeal.main_arg1))
      ∧ θ_run (Cert.FfnUpDwRefIdeal.defs (F := Ideal)) (onTc (τ := Cert.FfnUpDwRefIdeal.τ) (Cert.FfnUpDwRefIdeal.main (F := Ideal))) ⟨m', fun _ => 0, g'⟩ (fun r => ∀ c : Dev Cert.FfnUpDwRefIdeal.nD,
          r.2.mem ((c.tc : Thread Cert.FfnUpDwRefIdeal.nD Cert.FfnUpDwRefIdeal.τ).loc Cert.FfnUpDwRefIdeal.main_v7) = v0 c
          ∧ r.2.mem ((c.tc : Thread Cert.FfnUpDwRefIdeal.nD Cert.FfnUpDwRefIdeal.τ).loc Cert.FfnUpDwRefIdeal.main_arg0) = m' ((c.tc : Thread Cert.FfnUpDwRefIdeal.nD Cert.FfnUpDwRefIdeal.τ).loc Cert.FfnUpDwRefIdeal.main_arg0)
          ∧ r.2.mem ((c.tc : Thread Cert.FfnUpDwRefIdeal.nD Cert.FfnUpDwRefIdeal.τ).loc Cert.FfnUpDwRefIdeal.main_arg1) = m' ((c.tc : Thread Cert.FfnUpDwRefIdeal.nD Cert.FfnUpDwRefIdeal.τ).loc Cert.FfnUpDwRefIdeal.main_arg1))

def preserves_ProjIn_ProjInIdeal : Prop :=
  True

def algebraic_ProjInIdeal_ProjInRefIdeal [hProjInIdeal : Cert.ProjInIdeal.Facts] [hProjInRefIdeal : Cert.ProjInRefIdeal.Facts] : Prop :=
  ∀ (m : (ℓ : Loc Cert.ProjInIdeal.nD Cert.ProjInIdeal.τ Cert.ProjInIdeal.sig) → Buf (Elt Ideal) ℓ) (g : Dev Cert.ProjInIdeal.nD → PrngReg)
    (m' : (ℓ : Loc Cert.ProjInRefIdeal.nD Cert.ProjInRefIdeal.τ Cert.ProjInRefIdeal.sig) → Buf (Elt Ideal) ℓ) (g' : Dev Cert.ProjInRefIdeal.nD → PrngReg), Pre_ProjInIdeal m →
    (∀ c : Dev Cert.ProjInIdeal.nD,
      m' ((c.tc : Thread Cert.ProjInRefIdeal.nD Cert.ProjInRefIdeal.τ).loc Cert.ProjInRefIdeal.main_arg0) = m ((c.tc : Thread Cert.ProjInIdeal.nD Cert.ProjInIdeal.τ).loc Cert.ProjInIdeal.main_arg0)
      ∧ m' ((c.tc : Thread Cert.ProjInRefIdeal.nD Cert.ProjInRefIdeal.τ).loc Cert.ProjInRefIdeal.main_arg1) = m ((c.tc : Thread Cert.ProjInIdeal.nD Cert.ProjInIdeal.τ).loc Cert.ProjInIdeal.main_arg1)) →
    ∃ (v0 : (c : Dev Cert.ProjInIdeal.nD) → Buf (Elt Ideal) ((c.tc : Thread Cert.ProjInIdeal.nD Cert.ProjInIdeal.τ).loc Cert.ProjInIdeal.main_v0)),
      θ_run (Cert.ProjInIdeal.defs (F := Ideal)) (onTc (τ := Cert.ProjInIdeal.τ) (Cert.ProjInIdeal.main (F := Ideal))) ⟨m, fun _ => 0, g⟩ (fun r => ∀ c : Dev Cert.ProjInIdeal.nD,
          r.2.mem ((c.tc : Thread Cert.ProjInIdeal.nD Cert.ProjInIdeal.τ).loc Cert.ProjInIdeal.main_v0) = v0 c
          ∧ r.2.mem ((c.tc : Thread Cert.ProjInIdeal.nD Cert.ProjInIdeal.τ).loc Cert.ProjInIdeal.main_arg0) = m ((c.tc : Thread Cert.ProjInIdeal.nD Cert.ProjInIdeal.τ).loc Cert.ProjInIdeal.main_arg0)
          ∧ r.2.mem ((c.tc : Thread Cert.ProjInIdeal.nD Cert.ProjInIdeal.τ).loc Cert.ProjInIdeal.main_arg1) = m ((c.tc : Thread Cert.ProjInIdeal.nD Cert.ProjInIdeal.τ).loc Cert.ProjInIdeal.main_arg1))
      ∧ θ_run (Cert.ProjInRefIdeal.defs (F := Ideal)) (onTc (τ := Cert.ProjInRefIdeal.τ) (Cert.ProjInRefIdeal.main (F := Ideal))) ⟨m', fun _ => 0, g'⟩ (fun r => ∀ c : Dev Cert.ProjInRefIdeal.nD,
          r.2.mem ((c.tc : Thread Cert.ProjInRefIdeal.nD Cert.ProjInRefIdeal.τ).loc Cert.ProjInRefIdeal.main_v2) = v0 c
          ∧ r.2.mem ((c.tc : Thread Cert.ProjInRefIdeal.nD Cert.ProjInRefIdeal.τ).loc Cert.ProjInRefIdeal.main_arg0) = m' ((c.tc : Thread Cert.ProjInRefIdeal.nD Cert.ProjInRefIdeal.τ).loc Cert.ProjInRefIdeal.main_arg0)
          ∧ r.2.mem ((c.tc : Thread Cert.ProjInRefIdeal.nD Cert.ProjInRefIdeal.τ).loc Cert.ProjInRefIdeal.main_arg1) = m' ((c.tc : Thread Cert.ProjInRefIdeal.nD Cert.ProjInRefIdeal.τ).loc Cert.ProjInRefIdeal.main_arg1))

def preserves_ProjInDx_ProjInDxIdeal : Prop :=
  True

def algebraic_ProjInDxIdeal_ProjInDxRefIdeal [hProjInDxIdeal : Cert.ProjInDxIdeal.Facts] [hProjInDxRefIdeal : Cert.ProjInDxRefIdeal.Facts] : Prop :=
  ∀ (m : (ℓ : Loc Cert.ProjInDxIdeal.nD Cert.ProjInDxIdeal.τ Cert.ProjInDxIdeal.sig) → Buf (Elt Ideal) ℓ) (g : Dev Cert.ProjInDxIdeal.nD → PrngReg)
    (m' : (ℓ : Loc Cert.ProjInDxRefIdeal.nD Cert.ProjInDxRefIdeal.τ Cert.ProjInDxRefIdeal.sig) → Buf (Elt Ideal) ℓ) (g' : Dev Cert.ProjInDxRefIdeal.nD → PrngReg), Pre_ProjInDxIdeal m →
    (∀ c : Dev Cert.ProjInDxIdeal.nD,
      m' ((c.tc : Thread Cert.ProjInDxRefIdeal.nD Cert.ProjInDxRefIdeal.τ).loc Cert.ProjInDxRefIdeal.main_arg0) = m ((c.tc : Thread Cert.ProjInDxIdeal.nD Cert.ProjInDxIdeal.τ).loc Cert.ProjInDxIdeal.main_arg0)
      ∧ m' ((c.tc : Thread Cert.ProjInDxRefIdeal.nD Cert.ProjInDxRefIdeal.τ).loc Cert.ProjInDxRefIdeal.main_arg1) = m ((c.tc : Thread Cert.ProjInDxIdeal.nD Cert.ProjInDxIdeal.τ).loc Cert.ProjInDxIdeal.main_arg1)) →
    ∃ (v0 : (c : Dev Cert.ProjInDxIdeal.nD) → Buf (Elt Ideal) ((c.tc : Thread Cert.ProjInDxIdeal.nD Cert.ProjInDxIdeal.τ).loc Cert.ProjInDxIdeal.main_v0)),
      θ_run (Cert.ProjInDxIdeal.defs (F := Ideal)) (onTc (τ := Cert.ProjInDxIdeal.τ) (Cert.ProjInDxIdeal.main (F := Ideal))) ⟨m, fun _ => 0, g⟩ (fun r => ∀ c : Dev Cert.ProjInDxIdeal.nD,
          r.2.mem ((c.tc : Thread Cert.ProjInDxIdeal.nD Cert.ProjInDxIdeal.τ).loc Cert.ProjInDxIdeal.main_v0) = v0 c
          ∧ r.2.mem ((c.tc : Thread Cert.ProjInDxIdeal.nD Cert.ProjInDxIdeal.τ).loc Cert.ProjInDxIdeal.main_arg0) = m ((c.tc : Thread Cert.ProjInDxIdeal.nD Cert.ProjInDxIdeal.τ).loc Cert.ProjInDxIdeal.main_arg0)
          ∧ r.2.mem ((c.tc : Thread Cert.ProjInDxIdeal.nD Cert.ProjInDxIdeal.τ).loc Cert.ProjInDxIdeal.main_arg1) = m ((c.tc : Thread Cert.ProjInDxIdeal.nD Cert.ProjInDxIdeal.τ).loc Cert.ProjInDxIdeal.main_arg1))
      ∧ θ_run (Cert.ProjInDxRefIdeal.defs (F := Ideal)) (onTc (τ := Cert.ProjInDxRefIdeal.τ) (Cert.ProjInDxRefIdeal.main (F := Ideal))) ⟨m', fun _ => 0, g'⟩ (fun r => ∀ c : Dev Cert.ProjInDxRefIdeal.nD,
          r.2.mem ((c.tc : Thread Cert.ProjInDxRefIdeal.nD Cert.ProjInDxRefIdeal.τ).loc Cert.ProjInDxRefIdeal.main_v2) = v0 c
          ∧ r.2.mem ((c.tc : Thread Cert.ProjInDxRefIdeal.nD Cert.ProjInDxRefIdeal.τ).loc Cert.ProjInDxRefIdeal.main_arg0) = m' ((c.tc : Thread Cert.ProjInDxRefIdeal.nD Cert.ProjInDxRefIdeal.τ).loc Cert.ProjInDxRefIdeal.main_arg0)
          ∧ r.2.mem ((c.tc : Thread Cert.ProjInDxRefIdeal.nD Cert.ProjInDxRefIdeal.τ).loc Cert.ProjInDxRefIdeal.main_arg1) = m' ((c.tc : Thread Cert.ProjInDxRefIdeal.nD Cert.ProjInDxRefIdeal.τ).loc Cert.ProjInDxRefIdeal.main_arg1))

def preserves_ProjInDw_ProjInDwIdeal : Prop :=
  True

def algebraic_ProjInDwIdeal_ProjInDwRefIdeal [hProjInDwIdeal : Cert.ProjInDwIdeal.Facts] [hProjInDwRefIdeal : Cert.ProjInDwRefIdeal.Facts] : Prop :=
  ∀ (m : (ℓ : Loc Cert.ProjInDwIdeal.nD Cert.ProjInDwIdeal.τ Cert.ProjInDwIdeal.sig) → Buf (Elt Ideal) ℓ) (g : Dev Cert.ProjInDwIdeal.nD → PrngReg)
    (m' : (ℓ : Loc Cert.ProjInDwRefIdeal.nD Cert.ProjInDwRefIdeal.τ Cert.ProjInDwRefIdeal.sig) → Buf (Elt Ideal) ℓ) (g' : Dev Cert.ProjInDwRefIdeal.nD → PrngReg), Pre_ProjInDwIdeal m →
    (∀ c : Dev Cert.ProjInDwIdeal.nD,
      m' ((c.tc : Thread Cert.ProjInDwRefIdeal.nD Cert.ProjInDwRefIdeal.τ).loc Cert.ProjInDwRefIdeal.main_arg0) = m ((c.tc : Thread Cert.ProjInDwIdeal.nD Cert.ProjInDwIdeal.τ).loc Cert.ProjInDwIdeal.main_arg0)
      ∧ m' ((c.tc : Thread Cert.ProjInDwRefIdeal.nD Cert.ProjInDwRefIdeal.τ).loc Cert.ProjInDwRefIdeal.main_arg1) = m ((c.tc : Thread Cert.ProjInDwIdeal.nD Cert.ProjInDwIdeal.τ).loc Cert.ProjInDwIdeal.main_arg1)) →
    ∃ (v0 : (c : Dev Cert.ProjInDwIdeal.nD) → Buf (Elt Ideal) ((c.tc : Thread Cert.ProjInDwIdeal.nD Cert.ProjInDwIdeal.τ).loc Cert.ProjInDwIdeal.main_v0)),
      θ_run (Cert.ProjInDwIdeal.defs (F := Ideal)) (onTc (τ := Cert.ProjInDwIdeal.τ) (Cert.ProjInDwIdeal.main (F := Ideal))) ⟨m, fun _ => 0, g⟩ (fun r => ∀ c : Dev Cert.ProjInDwIdeal.nD,
          r.2.mem ((c.tc : Thread Cert.ProjInDwIdeal.nD Cert.ProjInDwIdeal.τ).loc Cert.ProjInDwIdeal.main_v0) = v0 c
          ∧ r.2.mem ((c.tc : Thread Cert.ProjInDwIdeal.nD Cert.ProjInDwIdeal.τ).loc Cert.ProjInDwIdeal.main_arg0) = m ((c.tc : Thread Cert.ProjInDwIdeal.nD Cert.ProjInDwIdeal.τ).loc Cert.ProjInDwIdeal.main_arg0)
          ∧ r.2.mem ((c.tc : Thread Cert.ProjInDwIdeal.nD Cert.ProjInDwIdeal.τ).loc Cert.ProjInDwIdeal.main_arg1) = m ((c.tc : Thread Cert.ProjInDwIdeal.nD Cert.ProjInDwIdeal.τ).loc Cert.ProjInDwIdeal.main_arg1))
      ∧ θ_run (Cert.ProjInDwRefIdeal.defs (F := Ideal)) (onTc (τ := Cert.ProjInDwRefIdeal.τ) (Cert.ProjInDwRefIdeal.main (F := Ideal))) ⟨m', fun _ => 0, g'⟩ (fun r => ∀ c : Dev Cert.ProjInDwRefIdeal.nD,
          r.2.mem ((c.tc : Thread Cert.ProjInDwRefIdeal.nD Cert.ProjInDwRefIdeal.τ).loc Cert.ProjInDwRefIdeal.main_v7) = v0 c
          ∧ r.2.mem ((c.tc : Thread Cert.ProjInDwRefIdeal.nD Cert.ProjInDwRefIdeal.τ).loc Cert.ProjInDwRefIdeal.main_arg0) = m' ((c.tc : Thread Cert.ProjInDwRefIdeal.nD Cert.ProjInDwRefIdeal.τ).loc Cert.ProjInDwRefIdeal.main_arg0)
          ∧ r.2.mem ((c.tc : Thread Cert.ProjInDwRefIdeal.nD Cert.ProjInDwRefIdeal.τ).loc Cert.ProjInDwRefIdeal.main_arg1) = m' ((c.tc : Thread Cert.ProjInDwRefIdeal.nD Cert.ProjInDwRefIdeal.τ).loc Cert.ProjInDwRefIdeal.main_arg1))

def preserves_ProjOut_ProjOutIdeal : Prop :=
  True

def algebraic_ProjOutIdeal_ProjOutRefIdeal [hProjOutIdeal : Cert.ProjOutIdeal.Facts] [hProjOutRefIdeal : Cert.ProjOutRefIdeal.Facts] : Prop :=
  ∀ (m : (ℓ : Loc Cert.ProjOutIdeal.nD Cert.ProjOutIdeal.τ Cert.ProjOutIdeal.sig) → Buf (Elt Ideal) ℓ) (g : Dev Cert.ProjOutIdeal.nD → PrngReg)
    (m' : (ℓ : Loc Cert.ProjOutRefIdeal.nD Cert.ProjOutRefIdeal.τ Cert.ProjOutRefIdeal.sig) → Buf (Elt Ideal) ℓ) (g' : Dev Cert.ProjOutRefIdeal.nD → PrngReg), Pre_ProjOutIdeal m →
    (∀ c : Dev Cert.ProjOutIdeal.nD,
      m' ((c.tc : Thread Cert.ProjOutRefIdeal.nD Cert.ProjOutRefIdeal.τ).loc Cert.ProjOutRefIdeal.main_arg0) = m ((c.tc : Thread Cert.ProjOutIdeal.nD Cert.ProjOutIdeal.τ).loc Cert.ProjOutIdeal.main_arg0)
      ∧ m' ((c.tc : Thread Cert.ProjOutRefIdeal.nD Cert.ProjOutRefIdeal.τ).loc Cert.ProjOutRefIdeal.main_arg1) = m ((c.tc : Thread Cert.ProjOutIdeal.nD Cert.ProjOutIdeal.τ).loc Cert.ProjOutIdeal.main_arg1)
      ∧ m' ((c.tc : Thread Cert.ProjOutRefIdeal.nD Cert.ProjOutRefIdeal.τ).loc Cert.ProjOutRefIdeal.main_arg2) = m ((c.tc : Thread Cert.ProjOutIdeal.nD Cert.ProjOutIdeal.τ).loc Cert.ProjOutIdeal.main_arg2)
      ∧ m' ((c.tc : Thread Cert.ProjOutRefIdeal.nD Cert.ProjOutRefIdeal.τ).loc Cert.ProjOutRefIdeal.main_arg3) = m ((c.tc : Thread Cert.ProjOutIdeal.nD Cert.ProjOutIdeal.τ).loc Cert.ProjOutIdeal.main_arg3)) →
    ∃ (v0 : (c : Dev Cert.ProjOutIdeal.nD) → Buf (Elt Ideal) ((c.tc : Thread Cert.ProjOutIdeal.nD Cert.ProjOutIdeal.τ).loc Cert.ProjOutIdeal.main_v0)),
      θ_run (Cert.ProjOutIdeal.defs (F := Ideal)) (onTc (τ := Cert.ProjOutIdeal.τ) (Cert.ProjOutIdeal.main (F := Ideal))) ⟨m, fun _ => 0, g⟩ (fun r => ∀ c : Dev Cert.ProjOutIdeal.nD,
          r.2.mem ((c.tc : Thread Cert.ProjOutIdeal.nD Cert.ProjOutIdeal.τ).loc Cert.ProjOutIdeal.main_v0) = v0 c
          ∧ r.2.mem ((c.tc : Thread Cert.ProjOutIdeal.nD Cert.ProjOutIdeal.τ).loc Cert.ProjOutIdeal.main_arg0) = m ((c.tc : Thread Cert.ProjOutIdeal.nD Cert.ProjOutIdeal.τ).loc Cert.ProjOutIdeal.main_arg0)
          ∧ r.2.mem ((c.tc : Thread Cert.ProjOutIdeal.nD Cert.ProjOutIdeal.τ).loc Cert.ProjOutIdeal.main_arg1) = m ((c.tc : Thread Cert.ProjOutIdeal.nD Cert.ProjOutIdeal.τ).loc Cert.ProjOutIdeal.main_arg1)
          ∧ r.2.mem ((c.tc : Thread Cert.ProjOutIdeal.nD Cert.ProjOutIdeal.τ).loc Cert.ProjOutIdeal.main_arg2) = m ((c.tc : Thread Cert.ProjOutIdeal.nD Cert.ProjOutIdeal.τ).loc Cert.ProjOutIdeal.main_arg2)
          ∧ r.2.mem ((c.tc : Thread Cert.ProjOutIdeal.nD Cert.ProjOutIdeal.τ).loc Cert.ProjOutIdeal.main_arg3) = m ((c.tc : Thread Cert.ProjOutIdeal.nD Cert.ProjOutIdeal.τ).loc Cert.ProjOutIdeal.main_arg3))
      ∧ θ_run (Cert.ProjOutRefIdeal.defs (F := Ideal)) (onTc (τ := Cert.ProjOutRefIdeal.τ) (Cert.ProjOutRefIdeal.main (F := Ideal))) ⟨m', fun _ => 0, g'⟩ (fun r => ∀ c : Dev Cert.ProjOutRefIdeal.nD,
          r.2.mem ((c.tc : Thread Cert.ProjOutRefIdeal.nD Cert.ProjOutRefIdeal.τ).loc Cert.ProjOutRefIdeal.main_v3) = v0 c
          ∧ r.2.mem ((c.tc : Thread Cert.ProjOutRefIdeal.nD Cert.ProjOutRefIdeal.τ).loc Cert.ProjOutRefIdeal.main_arg0) = m' ((c.tc : Thread Cert.ProjOutRefIdeal.nD Cert.ProjOutRefIdeal.τ).loc Cert.ProjOutRefIdeal.main_arg0)
          ∧ r.2.mem ((c.tc : Thread Cert.ProjOutRefIdeal.nD Cert.ProjOutRefIdeal.τ).loc Cert.ProjOutRefIdeal.main_arg1) = m' ((c.tc : Thread Cert.ProjOutRefIdeal.nD Cert.ProjOutRefIdeal.τ).loc Cert.ProjOutRefIdeal.main_arg1)
          ∧ r.2.mem ((c.tc : Thread Cert.ProjOutRefIdeal.nD Cert.ProjOutRefIdeal.τ).loc Cert.ProjOutRefIdeal.main_arg2) = m' ((c.tc : Thread Cert.ProjOutRefIdeal.nD Cert.ProjOutRefIdeal.τ).loc Cert.ProjOutRefIdeal.main_arg2)
          ∧ r.2.mem ((c.tc : Thread Cert.ProjOutRefIdeal.nD Cert.ProjOutRefIdeal.τ).loc Cert.ProjOutRefIdeal.main_arg3) = m' ((c.tc : Thread Cert.ProjOutRefIdeal.nD Cert.ProjOutRefIdeal.τ).loc Cert.ProjOutRefIdeal.main_arg3))

def preserves_ProjOutDx_ProjOutDxIdeal : Prop :=
  True

def algebraic_ProjOutDxIdeal_ProjOutDxRefIdeal [hProjOutDxIdeal : Cert.ProjOutDxIdeal.Facts] [hProjOutDxRefIdeal : Cert.ProjOutDxRefIdeal.Facts] : Prop :=
  ∀ (m : (ℓ : Loc Cert.ProjOutDxIdeal.nD Cert.ProjOutDxIdeal.τ Cert.ProjOutDxIdeal.sig) → Buf (Elt Ideal) ℓ) (g : Dev Cert.ProjOutDxIdeal.nD → PrngReg)
    (m' : (ℓ : Loc Cert.ProjOutDxRefIdeal.nD Cert.ProjOutDxRefIdeal.τ Cert.ProjOutDxRefIdeal.sig) → Buf (Elt Ideal) ℓ) (g' : Dev Cert.ProjOutDxRefIdeal.nD → PrngReg), Pre_ProjOutDxIdeal m →
    (∀ c : Dev Cert.ProjOutDxIdeal.nD,
      m' ((c.tc : Thread Cert.ProjOutDxRefIdeal.nD Cert.ProjOutDxRefIdeal.τ).loc Cert.ProjOutDxRefIdeal.main_arg0) = m ((c.tc : Thread Cert.ProjOutDxIdeal.nD Cert.ProjOutDxIdeal.τ).loc Cert.ProjOutDxIdeal.main_arg0)
      ∧ m' ((c.tc : Thread Cert.ProjOutDxRefIdeal.nD Cert.ProjOutDxRefIdeal.τ).loc Cert.ProjOutDxRefIdeal.main_arg1) = m ((c.tc : Thread Cert.ProjOutDxIdeal.nD Cert.ProjOutDxIdeal.τ).loc Cert.ProjOutDxIdeal.main_arg1)) →
    ∃ (v0 : (c : Dev Cert.ProjOutDxIdeal.nD) → Buf (Elt Ideal) ((c.tc : Thread Cert.ProjOutDxIdeal.nD Cert.ProjOutDxIdeal.τ).loc Cert.ProjOutDxIdeal.main_v0)),
      θ_run (Cert.ProjOutDxIdeal.defs (F := Ideal)) (onTc (τ := Cert.ProjOutDxIdeal.τ) (Cert.ProjOutDxIdeal.main (F := Ideal))) ⟨m, fun _ => 0, g⟩ (fun r => ∀ c : Dev Cert.ProjOutDxIdeal.nD,
          r.2.mem ((c.tc : Thread Cert.ProjOutDxIdeal.nD Cert.ProjOutDxIdeal.τ).loc Cert.ProjOutDxIdeal.main_v0) = v0 c
          ∧ r.2.mem ((c.tc : Thread Cert.ProjOutDxIdeal.nD Cert.ProjOutDxIdeal.τ).loc Cert.ProjOutDxIdeal.main_arg0) = m ((c.tc : Thread Cert.ProjOutDxIdeal.nD Cert.ProjOutDxIdeal.τ).loc Cert.ProjOutDxIdeal.main_arg0)
          ∧ r.2.mem ((c.tc : Thread Cert.ProjOutDxIdeal.nD Cert.ProjOutDxIdeal.τ).loc Cert.ProjOutDxIdeal.main_arg1) = m ((c.tc : Thread Cert.ProjOutDxIdeal.nD Cert.ProjOutDxIdeal.τ).loc Cert.ProjOutDxIdeal.main_arg1))
      ∧ θ_run (Cert.ProjOutDxRefIdeal.defs (F := Ideal)) (onTc (τ := Cert.ProjOutDxRefIdeal.τ) (Cert.ProjOutDxRefIdeal.main (F := Ideal))) ⟨m', fun _ => 0, g'⟩ (fun r => ∀ c : Dev Cert.ProjOutDxRefIdeal.nD,
          r.2.mem ((c.tc : Thread Cert.ProjOutDxRefIdeal.nD Cert.ProjOutDxRefIdeal.τ).loc Cert.ProjOutDxRefIdeal.main_v2) = v0 c
          ∧ r.2.mem ((c.tc : Thread Cert.ProjOutDxRefIdeal.nD Cert.ProjOutDxRefIdeal.τ).loc Cert.ProjOutDxRefIdeal.main_arg0) = m' ((c.tc : Thread Cert.ProjOutDxRefIdeal.nD Cert.ProjOutDxRefIdeal.τ).loc Cert.ProjOutDxRefIdeal.main_arg0)
          ∧ r.2.mem ((c.tc : Thread Cert.ProjOutDxRefIdeal.nD Cert.ProjOutDxRefIdeal.τ).loc Cert.ProjOutDxRefIdeal.main_arg1) = m' ((c.tc : Thread Cert.ProjOutDxRefIdeal.nD Cert.ProjOutDxRefIdeal.τ).loc Cert.ProjOutDxRefIdeal.main_arg1))

def preserves_ProjOutDw_ProjOutDwIdeal : Prop :=
  True

def algebraic_ProjOutDwIdeal_ProjOutDwRefIdeal [hProjOutDwIdeal : Cert.ProjOutDwIdeal.Facts] [hProjOutDwRefIdeal : Cert.ProjOutDwRefIdeal.Facts] : Prop :=
  ∀ (m : (ℓ : Loc Cert.ProjOutDwIdeal.nD Cert.ProjOutDwIdeal.τ Cert.ProjOutDwIdeal.sig) → Buf (Elt Ideal) ℓ) (g : Dev Cert.ProjOutDwIdeal.nD → PrngReg)
    (m' : (ℓ : Loc Cert.ProjOutDwRefIdeal.nD Cert.ProjOutDwRefIdeal.τ Cert.ProjOutDwRefIdeal.sig) → Buf (Elt Ideal) ℓ) (g' : Dev Cert.ProjOutDwRefIdeal.nD → PrngReg), Pre_ProjOutDwIdeal m →
    (∀ c : Dev Cert.ProjOutDwIdeal.nD,
      m' ((c.tc : Thread Cert.ProjOutDwRefIdeal.nD Cert.ProjOutDwRefIdeal.τ).loc Cert.ProjOutDwRefIdeal.main_arg0) = m ((c.tc : Thread Cert.ProjOutDwIdeal.nD Cert.ProjOutDwIdeal.τ).loc Cert.ProjOutDwIdeal.main_arg0)
      ∧ m' ((c.tc : Thread Cert.ProjOutDwRefIdeal.nD Cert.ProjOutDwRefIdeal.τ).loc Cert.ProjOutDwRefIdeal.main_arg1) = m ((c.tc : Thread Cert.ProjOutDwIdeal.nD Cert.ProjOutDwIdeal.τ).loc Cert.ProjOutDwIdeal.main_arg1)) →
    ∃ (v0 : (c : Dev Cert.ProjOutDwIdeal.nD) → Buf (Elt Ideal) ((c.tc : Thread Cert.ProjOutDwIdeal.nD Cert.ProjOutDwIdeal.τ).loc Cert.ProjOutDwIdeal.main_v0)),
      θ_run (Cert.ProjOutDwIdeal.defs (F := Ideal)) (onTc (τ := Cert.ProjOutDwIdeal.τ) (Cert.ProjOutDwIdeal.main (F := Ideal))) ⟨m, fun _ => 0, g⟩ (fun r => ∀ c : Dev Cert.ProjOutDwIdeal.nD,
          r.2.mem ((c.tc : Thread Cert.ProjOutDwIdeal.nD Cert.ProjOutDwIdeal.τ).loc Cert.ProjOutDwIdeal.main_v0) = v0 c
          ∧ r.2.mem ((c.tc : Thread Cert.ProjOutDwIdeal.nD Cert.ProjOutDwIdeal.τ).loc Cert.ProjOutDwIdeal.main_arg0) = m ((c.tc : Thread Cert.ProjOutDwIdeal.nD Cert.ProjOutDwIdeal.τ).loc Cert.ProjOutDwIdeal.main_arg0)
          ∧ r.2.mem ((c.tc : Thread Cert.ProjOutDwIdeal.nD Cert.ProjOutDwIdeal.τ).loc Cert.ProjOutDwIdeal.main_arg1) = m ((c.tc : Thread Cert.ProjOutDwIdeal.nD Cert.ProjOutDwIdeal.τ).loc Cert.ProjOutDwIdeal.main_arg1))
      ∧ θ_run (Cert.ProjOutDwRefIdeal.defs (F := Ideal)) (onTc (τ := Cert.ProjOutDwRefIdeal.τ) (Cert.ProjOutDwRefIdeal.main (F := Ideal))) ⟨m', fun _ => 0, g'⟩ (fun r => ∀ c : Dev Cert.ProjOutDwRefIdeal.nD,
          r.2.mem ((c.tc : Thread Cert.ProjOutDwRefIdeal.nD Cert.ProjOutDwRefIdeal.τ).loc Cert.ProjOutDwRefIdeal.main_v5) = v0 c
          ∧ r.2.mem ((c.tc : Thread Cert.ProjOutDwRefIdeal.nD Cert.ProjOutDwRefIdeal.τ).loc Cert.ProjOutDwRefIdeal.main_arg0) = m' ((c.tc : Thread Cert.ProjOutDwRefIdeal.nD Cert.ProjOutDwRefIdeal.τ).loc Cert.ProjOutDwRefIdeal.main_arg0)
          ∧ r.2.mem ((c.tc : Thread Cert.ProjOutDwRefIdeal.nD Cert.ProjOutDwRefIdeal.τ).loc Cert.ProjOutDwRefIdeal.main_arg1) = m' ((c.tc : Thread Cert.ProjOutDwRefIdeal.nD Cert.ProjOutDwRefIdeal.τ).loc Cert.ProjOutDwRefIdeal.main_arg1))

def Claim : Prop :=
  ∃ (hKernel : Cert.Kernel.Facts) (hKernelIdeal : Cert.KernelIdeal.Facts) (hReferenceIdeal : Cert.ReferenceIdeal.Facts) (hFfnDown : Cert.FfnDown.Facts) (hFfnDownIdeal : Cert.FfnDownIdeal.Facts) (hFfnDownRefIdeal : Cert.FfnDownRefIdeal.Facts) (hFfnDownDx : Cert.FfnDownDx.Facts) (hFfnDownDxIdeal : Cert.FfnDownDxIdeal.Facts) (hFfnDownDxRefIdeal : Cert.FfnDownDxRefIdeal.Facts) (hFfnDownDw : Cert.FfnDownDw.Facts) (hFfnDownDwIdeal : Cert.FfnDownDwIdeal.Facts) (hFfnDownDwRefIdeal : Cert.FfnDownDwRefIdeal.Facts) (hFfnUp : Cert.FfnUp.Facts) (hFfnUpIdeal : Cert.FfnUpIdeal.Facts) (hFfnUpRefIdeal : Cert.FfnUpRefIdeal.Facts) (hFfnUpDx : Cert.FfnUpDx.Facts) (hFfnUpDxIdeal : Cert.FfnUpDxIdeal.Facts) (hFfnUpDxRefIdeal : Cert.FfnUpDxRefIdeal.Facts) (hFfnUpDw : Cert.FfnUpDw.Facts) (hFfnUpDwIdeal : Cert.FfnUpDwIdeal.Facts) (hFfnUpDwRefIdeal : Cert.FfnUpDwRefIdeal.Facts) (hProjIn : Cert.ProjIn.Facts) (hProjInIdeal : Cert.ProjInIdeal.Facts) (hProjInRefIdeal : Cert.ProjInRefIdeal.Facts) (hProjInDx : Cert.ProjInDx.Facts) (hProjInDxIdeal : Cert.ProjInDxIdeal.Facts) (hProjInDxRefIdeal : Cert.ProjInDxRefIdeal.Facts) (hProjInDw : Cert.ProjInDw.Facts) (hProjInDwIdeal : Cert.ProjInDwIdeal.Facts) (hProjInDwRefIdeal : Cert.ProjInDwRefIdeal.Facts) (hProjOut : Cert.ProjOut.Facts) (hProjOutIdeal : Cert.ProjOutIdeal.Facts) (hProjOutRefIdeal : Cert.ProjOutRefIdeal.Facts) (hProjOutDx : Cert.ProjOutDx.Facts) (hProjOutDxIdeal : Cert.ProjOutDxIdeal.Facts) (hProjOutDxRefIdeal : Cert.ProjOutDxRefIdeal.Facts) (hProjOutDw : Cert.ProjOutDw.Facts) (hProjOutDwIdeal : Cert.ProjOutDwIdeal.Facts) (hProjOutDwRefIdeal : Cert.ProjOutDwRefIdeal.Facts),
    quiescent_Kernel (hKernel := hKernel)
    ∧ quiescent_KernelIdeal (hKernelIdeal := hKernelIdeal)
    ∧ quiescent_ReferenceIdeal (hReferenceIdeal := hReferenceIdeal)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_FfnDownDx (hFfnDownDx := hFfnDownDx)
    ∧ quiescent_FfnDownDxIdeal (hFfnDownDxIdeal := hFfnDownDxIdeal)
    ∧ quiescent_FfnDownDxRefIdeal (hFfnDownDxRefIdeal := hFfnDownDxRefIdeal)
    ∧ quiescent_FfnDownDw (hFfnDownDw := hFfnDownDw)
    ∧ quiescent_FfnDownDwIdeal (hFfnDownDwIdeal := hFfnDownDwIdeal)
    ∧ quiescent_FfnDownDwRefIdeal (hFfnDownDwRefIdeal := hFfnDownDwRefIdeal)
    ∧ quiescent_FfnUp (hFfnUp := hFfnUp)
    ∧ quiescent_FfnUpIdeal (hFfnUpIdeal := hFfnUpIdeal)
    ∧ quiescent_FfnUpRefIdeal (hFfnUpRefIdeal := hFfnUpRefIdeal)
    ∧ quiescent_FfnUpDx (hFfnUpDx := hFfnUpDx)
    ∧ quiescent_FfnUpDxIdeal (hFfnUpDxIdeal := hFfnUpDxIdeal)
    ∧ quiescent_FfnUpDxRefIdeal (hFfnUpDxRefIdeal := hFfnUpDxRefIdeal)
    ∧ quiescent_FfnUpDw (hFfnUpDw := hFfnUpDw)
    ∧ quiescent_FfnUpDwIdeal (hFfnUpDwIdeal := hFfnUpDwIdeal)
    ∧ quiescent_FfnUpDwRefIdeal (hFfnUpDwRefIdeal := hFfnUpDwRefIdeal)
    ∧ quiescent_ProjIn (hProjIn := hProjIn)
    ∧ quiescent_ProjInIdeal (hProjInIdeal := hProjInIdeal)
    ∧ quiescent_ProjInRefIdeal (hProjInRefIdeal := hProjInRefIdeal)
    ∧ quiescent_ProjInDx (hProjInDx := hProjInDx)
    ∧ quiescent_ProjInDxIdeal (hProjInDxIdeal := hProjInDxIdeal)
    ∧ quiescent_ProjInDxRefIdeal (hProjInDxRefIdeal := hProjInDxRefIdeal)
    ∧ quiescent_ProjInDw (hProjInDw := hProjInDw)
    ∧ quiescent_ProjInDwIdeal (hProjInDwIdeal := hProjInDwIdeal)
    ∧ quiescent_ProjInDwRefIdeal (hProjInDwRefIdeal := hProjInDwRefIdeal)
    ∧ quiescent_ProjOut (hProjOut := hProjOut)
    ∧ quiescent_ProjOutIdeal (hProjOutIdeal := hProjOutIdeal)
    ∧ quiescent_ProjOutRefIdeal (hProjOutRefIdeal := hProjOutRefIdeal)
    ∧ quiescent_ProjOutDx (hProjOutDx := hProjOutDx)
    ∧ quiescent_ProjOutDxIdeal (hProjOutDxIdeal := hProjOutDxIdeal)
    ∧ quiescent_ProjOutDxRefIdeal (hProjOutDxRefIdeal := hProjOutDxRefIdeal)
    ∧ quiescent_ProjOutDw (hProjOutDw := hProjOutDw)
    ∧ quiescent_ProjOutDwIdeal (hProjOutDwIdeal := hProjOutDwIdeal)
    ∧ quiescent_ProjOutDwRefIdeal (hProjOutDwRefIdeal := hProjOutDwRefIdeal)
    ∧ preserves_Kernel_KernelIdeal
    ∧ algebraic_KernelIdeal_ReferenceIdeal (hKernelIdeal := hKernelIdeal) (hReferenceIdeal := hReferenceIdeal)
    ∧ preserves_FfnDown_FfnDownIdeal
    ∧ algebraic_FfnDownIdeal_FfnDownRefIdeal (hFfnDownIdeal := hFfnDownIdeal) (hFfnDownRefIdeal := hFfnDownRefIdeal)
    ∧ preserves_FfnDownDx_FfnDownDxIdeal
    ∧ algebraic_FfnDownDxIdeal_FfnDownDxRefIdeal (hFfnDownDxIdeal := hFfnDownDxIdeal) (hFfnDownDxRefIdeal := hFfnDownDxRefIdeal)
    ∧ preserves_FfnDownDw_FfnDownDwIdeal
    ∧ algebraic_FfnDownDwIdeal_FfnDownDwRefIdeal (hFfnDownDwIdeal := hFfnDownDwIdeal) (hFfnDownDwRefIdeal := hFfnDownDwRefIdeal)
    ∧ preserves_FfnUp_FfnUpIdeal
    ∧ algebraic_FfnUpIdeal_FfnUpRefIdeal (hFfnUpIdeal := hFfnUpIdeal) (hFfnUpRefIdeal := hFfnUpRefIdeal)
    ∧ preserves_FfnUpDx_FfnUpDxIdeal
    ∧ algebraic_FfnUpDxIdeal_FfnUpDxRefIdeal (hFfnUpDxIdeal := hFfnUpDxIdeal) (hFfnUpDxRefIdeal := hFfnUpDxRefIdeal)
    ∧ preserves_FfnUpDw_FfnUpDwIdeal
    ∧ algebraic_FfnUpDwIdeal_FfnUpDwRefIdeal (hFfnUpDwIdeal := hFfnUpDwIdeal) (hFfnUpDwRefIdeal := hFfnUpDwRefIdeal)
    ∧ preserves_ProjIn_ProjInIdeal
    ∧ algebraic_ProjInIdeal_ProjInRefIdeal (hProjInIdeal := hProjInIdeal) (hProjInRefIdeal := hProjInRefIdeal)
    ∧ preserves_ProjInDx_ProjInDxIdeal
    ∧ algebraic_ProjInDxIdeal_ProjInDxRefIdeal (hProjInDxIdeal := hProjInDxIdeal) (hProjInDxRefIdeal := hProjInDxRefIdeal)
    ∧ preserves_ProjInDw_ProjInDwIdeal
    ∧ algebraic_ProjInDwIdeal_ProjInDwRefIdeal (hProjInDwIdeal := hProjInDwIdeal) (hProjInDwRefIdeal := hProjInDwRefIdeal)
    ∧ preserves_ProjOut_ProjOutIdeal
    ∧ algebraic_ProjOutIdeal_ProjOutRefIdeal (hProjOutIdeal := hProjOutIdeal) (hProjOutRefIdeal := hProjOutRefIdeal)
    ∧ preserves_ProjOutDx_ProjOutDxIdeal
    ∧ algebraic_ProjOutDxIdeal_ProjOutDxRefIdeal (hProjOutDxIdeal := hProjOutDxIdeal) (hProjOutDxRefIdeal := hProjOutDxRefIdeal)
    ∧ preserves_ProjOutDw_ProjOutDwIdeal
    ∧ algebraic_ProjOutDwIdeal_ProjOutDwRefIdeal (hProjOutDwIdeal := hProjOutDwIdeal) (hProjOutDwRefIdeal := hProjOutDwRefIdeal)
-- ==== Kernel.lean ====
abbrev S4352x2048 : Shape := ⟨2, ![4352, 2048]⟩
abbrev S2x4 : Shape := ⟨2, ![2, 4]⟩
abbrev S2x4x34x128x256 : Shape := ⟨5, ![2, 4, 34, 128, 256]⟩
abbrev S4352x1024 : Shape := ⟨2, ![4352, 1024]⟩
abbrev S2x34 : Shape := ⟨2, ![2, 34]⟩
abbrev S4096 : Shape := ⟨1, ![4096]⟩
abbrev S_ : Shape := ⟨0, ![]⟩
abbrev S32 : Shape := ⟨1, ![32]⟩
abbrev S4096x1 : Shape := ⟨2, ![4096, 1]⟩
abbrev S1x32 : Shape := ⟨2, ![1, 32]⟩
abbrev S4096x32 : Shape := ⟨2, ![4096, 32]⟩
abbrev S4096x128 : Shape := ⟨2, ![4096, 128]⟩
abbrev S256x128 : Shape := ⟨2, ![256, 128]⟩
abbrev S4352x128 : Shape := ⟨2, ![4352, 128]⟩
abbrev S4352x512 : Shape := ⟨2, ![4352, 512]⟩
abbrev S2x4x8x128 : Shape := ⟨4, ![2, 4, 8, 128]⟩
abbrev S128x512 : Shape := ⟨2, ![128, 512]⟩
abbrev S1x1 : Shape := ⟨2, ![1, 1]⟩
abbrev S128x1024 : Shape := ⟨2, ![128, 1024]⟩
abbrev S128x128 : Shape := ⟨2, ![128, 128]⟩
abbrev S2x4x1x128x256 : Shape := ⟨5, ![2, 4, 1, 128, 256]⟩
abbrev S2x4x128x256 : Shape := ⟨4, ![2, 4, 128, 256]⟩
abbrev S128x1 : Shape := ⟨2, ![128, 1]⟩
abbrev S1x128 : Shape := ⟨2, ![1, 128]⟩
abbrev S1x1x1x128x256 : Shape := ⟨5, ![1, 1, 1, 128, 256]⟩
abbrev S128x256 : Shape := ⟨2, ![128, 256]⟩
abbrev S1x1x128x256 : Shape := ⟨4, ![1, 1, 128, 256]⟩
abbrev S128 : Shape := ⟨1, ![128]⟩
abbrev S1x128x256 : Shape := ⟨3, ![1, 128, 256]⟩
abbrev S1 : Shape := ⟨1, ![1]⟩
abbrev S1x1x1 : Shape := ⟨3, ![1, 1, 1]⟩
abbrev S1x128x128 : Shape := ⟨3, ![1, 128, 128]⟩
abbrev S1x1x8x128 : Shape := ⟨4, ![1, 1, 8, 128]⟩
abbrev S8x128 : Shape := ⟨2, ![8, 128]⟩

abbrev nBuf : Space → Nat
  | .hbm => 90
  | .vmem => 40
  | .smem => 2
  | _ => 0

abbrev bufTy : (tb : Table) → Fin (tcTables nBuf tb) → BufTy
  | .hbm, ⟨0, _⟩ => ⟨S4352x2048, .f32⟩
  | .hbm, ⟨1, _⟩ => ⟨S2x4, .f32⟩
  | .hbm, ⟨2, _⟩ => ⟨S2x4x34x128x256, .f32⟩
  | .hbm, ⟨3, _⟩ => ⟨S4352x1024, .f32⟩
  | .hbm, ⟨4, _⟩ => ⟨S4096, .i32⟩
  | .hbm, ⟨5, _⟩ => ⟨S_, .i32⟩
  | .hbm, ⟨6, _⟩ => ⟨S_, .i32⟩
  | .hbm, ⟨7, _⟩ => ⟨S4096, .i32⟩
  | .hbm, ⟨8, _⟩ => ⟨S4096, .i32⟩
  | .hbm, ⟨9, _⟩ => ⟨S4096, .i32⟩
  | .hbm, ⟨10, _⟩ => ⟨S_, .i32⟩
  | .hbm, ⟨11, _⟩ => ⟨S4096, .i32⟩
  | .hbm, ⟨12, _⟩ => ⟨S4096, .i1⟩
  | .hbm, ⟨13, _⟩ => ⟨S4096, .i32⟩
  | .hbm, ⟨14, _⟩ => ⟨S4096, .i32⟩
  | .hbm, ⟨15, _⟩ => ⟨S_, .i32⟩
  | .hbm, ⟨16, _⟩ => ⟨S4096, .i32⟩
  | .hbm, ⟨17, _⟩ => ⟨S4096, .i1⟩
  | .hbm, ⟨18, _⟩ => ⟨S4096, .i1⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .i32⟩
  | .hbm, ⟨23, _⟩ => ⟨S4096, .f32⟩
  | .hbm, ⟨24, _⟩ => ⟨S_, .i32⟩
  | .hbm, ⟨25, _⟩ => ⟨S_, .i32⟩
  | .hbm, ⟨26, _⟩ => ⟨S_, .i32⟩
  | .hbm, ⟨27, _⟩ => ⟨S_, .i1⟩
  | .hbm, ⟨28, _⟩ => ⟨S_, .i32⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S_, .i32⟩
  | .hbm, ⟨33, _⟩ => ⟨S4096, .i32⟩
  | .hbm, ⟨34, _⟩ => ⟨S4096, .i1⟩
  | .hbm, ⟨35, _⟩ => ⟨S_, .i32⟩
  | .hbm, ⟨36, _⟩ => ⟨S4096, .i32⟩
  | .hbm, ⟨37, _⟩ => ⟨S4096, .i1⟩
  | .hbm, ⟨38, _⟩ => ⟨S_, .i32⟩
  | .hbm, ⟨39, _⟩ => ⟨S_, .i1⟩
  | .hbm, ⟨40, _⟩ => ⟨S4096, .i1⟩
  | .hbm, ⟨41, _⟩ => ⟨S4096, .i1⟩
  | .hbm, ⟨42, _⟩ => ⟨S4096, .i1⟩
  | .hbm, ⟨43, _⟩ => ⟨S4096, .i32⟩
  | .hbm, ⟨44, _⟩ => ⟨S4096, .i32⟩
  | .hbm, ⟨45, _⟩ => ⟨S4096, .i32⟩
  | .hbm, ⟨46, _⟩ => ⟨S4096, .f32⟩
  | .hbm, ⟨47, _⟩ => ⟨S32, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S4096x1, .f32⟩
  | .hbm, ⟨56, _⟩ => ⟨S1x32, .f32⟩
  | .hbm, ⟨57, _⟩ => ⟨S4096x32, .f32⟩
  | .hbm, ⟨58, _⟩ => ⟨S4096x32, .f32⟩
  | .hbm, ⟨59, _⟩ => ⟨S4096x32, .f32⟩
  | .hbm, ⟨60, _⟩ => ⟨S4096x1, .f32⟩
  | .hbm, ⟨61, _⟩ => ⟨S1x32, .f32⟩
  | .hbm, ⟨62, _⟩ => ⟨S4096x32, .f32⟩
  | .hbm, ⟨63, _⟩ => ⟨S4096x32, .f32⟩
  | .hbm, ⟨64, _⟩ => ⟨S4096x32, .f32⟩
  | .hbm, ⟨65, _⟩ => ⟨S4096x32, .f32⟩
  | .hbm, ⟨66, _⟩ => ⟨S4096x32, .f32⟩
  | .hbm, ⟨67, _⟩ => ⟨S4096x32, .f32⟩
  | .hbm, ⟨68, _⟩ => ⟨S4096x32, .f32⟩
  | .hbm, ⟨69, _⟩ => ⟨S4096x128, .f32⟩
  | .hbm, ⟨70, _⟩ => ⟨S4096x32, .f32⟩
  | .hbm, ⟨71, _⟩ => ⟨S4096x32, .f32⟩
  | .hbm, ⟨72, _⟩ => ⟨S4096x32, .f32⟩
  | .hbm, ⟨73, _⟩ => ⟨S4096x32, .f32⟩
  | .hbm, ⟨74, _⟩ => ⟨S4096x32, .f32⟩
  | .hbm, ⟨75, _⟩ => ⟨S4096x32, .f32⟩
  | .hbm, ⟨76, _⟩ => ⟨S4096x128, .f32⟩
  | .hbm, ⟨77, _⟩ => ⟨S_, .f32⟩
  | .hbm, ⟨78, _⟩ => ⟨S256x128, .f32⟩
  | .hbm, ⟨79, _⟩ => ⟨S4352x128, .f32⟩
  | .hbm, ⟨80, _⟩ => ⟨S_, .f32⟩
  | .hbm, ⟨81, _⟩ => ⟨S256x128, .f32⟩
  | .hbm, ⟨82, _⟩ => ⟨S4352x128, .f32⟩
  | .hbm, ⟨83, _⟩ => ⟨S4352x512, .f32⟩
  | .hbm, ⟨84, _⟩ => ⟨S4352x512, .f32⟩
  | .hbm, ⟨85, _⟩ => ⟨S4352x1024, .f32⟩
  | .hbm, ⟨86, _⟩ => ⟨S4352x512, .f32⟩
  | .hbm, ⟨87, _⟩ => ⟨S4352x512, .f32⟩
  | .hbm, ⟨88, _⟩ => ⟨S4352x1024, .f32⟩
  | .hbm, ⟨89, _⟩ => ⟨S2x4x8x128, .f32⟩
  | .local _ .vmem, ⟨0, _⟩ => ⟨S128x512, .f32⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x1024, .f32⟩
  | .local _ .vmem, ⟨5, _⟩ => ⟨S128x1024, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x1024, .f32⟩
  | .local _ .vmem, ⟨11, _⟩ => ⟨S128x1024, .f32⟩
  | .local _ .vmem, ⟨12, _⟩ => ⟨S128x512, .f32⟩
  | .local _ .vmem, ⟨13, _⟩ => ⟨S128x512, .f32⟩
  | .local _ .vmem, ⟨14, _⟩ => ⟨S128x512, .f32⟩
  | .local _ .vmem, ⟨15, _⟩ => ⟨S128x512, .f32⟩
  | .local _ .vmem, ⟨16, _⟩ => ⟨S128x1024, .f32⟩
  | .local _ .vmem, ⟨17, _⟩ => ⟨S128x1024, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x1024, .f32⟩
  | .local _ .vmem, ⟨23, _⟩ => ⟨S128x1024, .f32⟩
  | .local _ .vmem, ⟨24, _⟩ => ⟨S2x4x1x128x256, .f32⟩
  | .local _ .vmem, ⟨25, _⟩ => ⟨S2x4x1x128x256, .f32⟩
  | .local _ .vmem, ⟨26, _⟩ => ⟨S128x512, .f32⟩
  | .local _ .vmem, ⟨27, _⟩ => ⟨S128x512, .f32⟩
  | .local _ .vmem, ⟨28, _⟩ => ⟨S128x512, .f32⟩
  | .local _ .vmem, ⟨29, _⟩ => ⟨S128x512, .f32⟩
  | .local _ .vmem, ⟨30, _⟩ => ⟨S128x1024, .f32⟩
  | .local _ .vmem, ⟨31, _⟩ => ⟨S128x1024, .f32⟩
  | .local _ .vmem, ⟨32, _⟩ => ⟨S128x512, .f32⟩
  | .local _ .vmem, ⟨33, _⟩ => ⟨S128x512, .f32⟩
  | .local _ .vmem, ⟨34, _⟩ => ⟨S128x512, .f32⟩
  | .local _ .vmem, ⟨35, _⟩ => ⟨S128x512, .f32⟩
  | .local _ .vmem, ⟨36, _⟩ => ⟨S128x1024, .f32⟩
  | .local _ .vmem, ⟨37, _⟩ => ⟨S128x1024, .f32⟩
  | .local _ .vmem, ⟨38, _⟩ => ⟨S2x4x8x128, .f32⟩
  | .local _ .vmem, ⟨39, _⟩ => ⟨S2x4x128x256, .f32⟩
  | .local _ .smem, ⟨0, _⟩ => ⟨S2x34, .i32⟩
  | .local _ .smem, ⟨1, _⟩ => ⟨S2x4, .f32⟩
  | _, _ => ⟨S4352x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .smem, ⟨1, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c_0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_c : Ref sig .tc := ⟨.hbm, 15, rfl⟩
abbrev main_call0_v9 : Ref sig .tc := ⟨.hbm, 16, rfl⟩
abbrev main_call0_v10 : Ref sig .tc := ⟨.hbm, 17, rfl⟩
abbrev main_call0_v11 : Ref sig .tc := ⟨.hbm, 18, rfl⟩
abbrev main_call0_c_0 : Ref sig .tc := ⟨.hbm, 19, rfl⟩
abbrev main_call0_v12 : Ref sig .tc := ⟨.hbm, 20, rfl⟩
abbrev main_call0_v13 : Ref sig .tc := ⟨.hbm, 21, rfl⟩
abbrev main_v1 : Ref sig .tc := ⟨.hbm, 22, rfl⟩
abbrev main_v2 : Ref sig .tc := ⟨.hbm, 23, rfl⟩
abbrev main_c_1 : Ref sig .tc := ⟨.hbm, 24, rfl⟩
abbrev main_call1_v0 : Ref sig .tc := ⟨.hbm, 25, rfl⟩
abbrev main_call1_c : Ref sig .tc := ⟨.hbm, 26, rfl⟩
abbrev main_call1_v1 : Ref sig .tc := ⟨.hbm, 27, rfl⟩
abbrev main_call1_c_0 : Ref sig .tc := ⟨.hbm, 28, rfl⟩
abbrev main_call1_v2 : Ref sig .tc := ⟨.hbm, 29, rfl⟩
abbrev main_call1_v3 : Ref sig .tc := ⟨.hbm, 30, rfl⟩
abbrev main_call1_v4 : Ref sig .tc := ⟨.hbm, 31, rfl⟩
abbrev main_call1_c_1 : Ref sig .tc := ⟨.hbm, 32, rfl⟩
abbrev main_call1_v5 : Ref sig .tc := ⟨.hbm, 33, rfl⟩
abbrev main_call1_v6 : Ref sig .tc := ⟨.hbm, 34, rfl⟩
abbrev main_call1_c_2 : Ref sig .tc := ⟨.hbm, 35, rfl⟩
abbrev main_call1_v7 : Ref sig .tc := ⟨.hbm, 36, rfl⟩
abbrev main_call1_v8 : Ref sig .tc := ⟨.hbm, 37, rfl⟩
abbrev main_call1_c_3 : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_v12 : Ref sig .tc := ⟨.hbm, 42, rfl⟩
abbrev main_call1_v13 : Ref sig .tc := ⟨.hbm, 43, rfl⟩
abbrev main_call1_v14 : Ref sig .tc := ⟨.hbm, 44, rfl⟩
abbrev main_v3 : Ref sig .tc := ⟨.hbm, 45, rfl⟩
abbrev main_v4 : Ref sig .tc := ⟨.hbm, 46, rfl⟩
abbrev main_v5 : Ref sig .tc := ⟨.hbm, 47, rfl⟩
abbrev main_v6 : Ref sig .tc := ⟨.hbm, 48, rfl⟩
abbrev main_cst : Ref sig .tc := ⟨.hbm, 49, rfl⟩
abbrev main_v7 : Ref sig .tc := ⟨.hbm, 50, rfl⟩
abbrev main_v8 : Ref sig .tc := ⟨.hbm, 51, rfl⟩
abbrev main_cst_2 : Ref sig .tc := ⟨.hbm, 52, rfl⟩
abbrev main_v9 : Ref sig .tc := ⟨.hbm, 53, rfl⟩
abbrev main_v10 : Ref sig .tc := ⟨.hbm, 54, rfl⟩
abbrev main_v11 : Ref sig .tc := ⟨.hbm, 55, rfl⟩
abbrev main_v12 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_v16 : Ref sig .tc := ⟨.hbm, 60, rfl⟩
abbrev main_v17 : Ref sig .tc := ⟨.hbm, 61, rfl⟩
abbrev main_v18 : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_v30 : Ref sig .tc := ⟨.hbm, 74, rfl⟩
abbrev main_v31 : Ref sig .tc := ⟨.hbm, 75, rfl⟩
abbrev main_v32 : Ref sig .tc := ⟨.hbm, 76, rfl⟩
abbrev main_cst_3 : Ref sig .tc := ⟨.hbm, 77, rfl⟩
abbrev main_v33 : Ref sig .tc := ⟨.hbm, 78, rfl⟩
abbrev main_v34 : Ref sig .tc := ⟨.hbm, 79, rfl⟩
abbrev main_cst_4 : Ref sig .tc := ⟨.hbm, 80, rfl⟩
abbrev main_v35 : Ref sig .tc := ⟨.hbm, 81, rfl⟩
abbrev main_v36 : Ref sig .tc := ⟨.hbm, 82, rfl⟩
abbrev main_v37_0 : Ref sig .tc := ⟨.hbm, 83, rfl⟩
abbrev main_v37_1 : Ref sig .tc := ⟨.hbm, 84, rfl⟩
abbrev main_v37_2 : Ref sig .tc := ⟨.hbm, 85, rfl⟩
abbrev main_v37_3 : Ref sig .tc := ⟨.hbm, 86, rfl⟩
abbrev main_v37_4 : Ref sig .tc := ⟨.hbm, 87, rfl⟩
abbrev main_v37_5 : Ref sig .tc := ⟨.hbm, 88, rfl⟩
abbrev main_v37_6 : Ref sig .tc := ⟨.hbm, 89, rfl⟩
abbrev main_c : Ref sig .tc := ⟨.smem, 0, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_scratch0 : Ref sig .tc := ⟨.vmem, 39, rfl⟩
abbrev cc0_stg0_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24
abbrev cc0_sem13_0 : DmaSem sig := 25
abbrev cc0_sem13_1 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39

abbrev nD : Nat := 1
abbrev τ : Topo := Topo.v7x

variable {F : FTy → Type} [FloatOps F]

abbrev grid0 : Pipeline.Grid := ⟨1, ![34], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let c0 : Index := 0#32
  let c33_i32 : BitVec 32 := 33#32
  let arg0 : BitVec 32 := BitVec.ofNat 32 (i 0).val
  let v0 : BitVec 32 := Scalar.subi c33_i32 arg0
  let v1 : Index := Scalar.indexCast v0
  ![0, v1.toNat]
def k0_off2 (i : grid0.Coords) : Fin 2 → Nat :=
  let c1 : Index := 1#32
  let c33_i32 : BitVec 32 := 33#32
  let arg0 : BitVec 32 := BitVec.ofNat 32 (i 0).val
  let v0 : BitVec 32 := Scalar.subi c33_i32 arg0
  let v1 : Index := Scalar.indexCast v0
  ![1, v1.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_2 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c1_i32 : BitVec 32 := 1#32
  let c0_i32 : BitVec 32 := 0#32
  ![v2.toNat, c1_i32.toNat]

def cc0_transform_3 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c1_i32 : BitVec 32 := 1#32
  let c0_i32 : BitVec 32 := 0#32
  ![v2.toNat, c1_i32.toNat]

def cc0_transform_4 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_5 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_6 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_7 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_8 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c1_i32 : BitVec 32 := 1#32
  let c0_i32 : BitVec 32 := 0#32
  ![v2.toNat, c1_i32.toNat]

def cc0_transform_9 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c1_i32 : BitVec 32 := 1#32
  let c0_i32 : BitVec 32 := 0#32
  ![v2.toNat, c1_i32.toNat]

def cc0_transform_10 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_11 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_12 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_13 (i : grid0.Coords) : Fin 5 → Nat :=
  let arg0 : BitVec 32 := BitVec.ofNat 32 (i 0).val
  let c33_i32 : BitVec 32 := 33#32
  let v0 : BitVec 32 := Scalar.subi c33_i32 arg0
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, v0.toNat, c0_i32_1.toNat, c0_i32_2.toNat]

def cc0_transform_14 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_15 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_16 (k0_off1_inb : ∀ i : grid0.Coords, ∀ a, (k0_off1 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c0 : Index := 0#32
  let v1 : Index := Scalar.indexCast v0
  let v2 : BitVec 32 := pf.at 0 (Rect.unit (s := S2x34) ![0, v1.toNat] S1x1.size (k0_off1_inb i)) numel1_S1x1
  let c0_i32 : BitVec 32 := 0#32
  let c0_i32_0 : BitVec 32 := 0#32
  ![v2.toNat, c0_i32.toNat]

def cc0_transform_17 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_18 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_19 (k0_off2_inb : ∀ i : grid0.Coords, ∀ a, (k0_off2 i) a + S1x1.size a ≤ S2x34.size a) (numel1_S1x1 : S1x1.numel = 1) (pf : pre0.Contents (Elt F)) (i : grid0.Coords) : Fin 2 → Nat :=
  let arg0 : BitVec 32 := BitVec.ofNat 32 (i 0).val
  let c33_i32 : BitVec 32 := 33#32
  let v0 : BitVec 32 := Scalar.subi c33_i32 arg0
  let c1 : Index := 1#32
  let v1 : Index := Scalar.indexCast v0
  let v2 : BitVec 32 := pf.at 0 (Rect.unit (s := S2x34) ![1, v1.toNat] S1x1.size (k0_off2_inb i)) numel1_S1x1
  let c0_i32 : BitVec 32 := 0#32
  let c0_i32_0 : BitVec 32 := 0#32
  ![v2.toNat, c0_i32.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

abbrev stage0_0 : Fin 1 → Memref sig .tc .smem S2x4 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S2x4x1x128x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x512 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S128x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S128x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S128x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 1 → Memref sig .tc .vmem S2x4x8x128 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]
-- ==== ReferenceIdeal.lean ====
abbrev S4352x2048 : Shape := ⟨2, ![4352, 2048]⟩
abbrev S2x4 : Shape := ⟨2, ![2, 4]⟩
abbrev S2x4x34x128x256 : Shape := ⟨5, ![2, 4, 34, 128, 256]⟩
abbrev S4352x1024 : Shape := ⟨2, ![4352, 1024]⟩
abbrev S_ : Shape := ⟨0, ![]⟩
abbrev S8 : Shape := ⟨1, ![8]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S8x1x1 : Shape := ⟨3, ![8, 1, 1]⟩
abbrev S1x128x128 : Shape := ⟨3, ![1, 128, 128]⟩
abbrev S8x128x128 : Shape := ⟨3, ![8, 128, 128]⟩
abbrev S8x1 : Shape := ⟨2, ![8, 1]⟩
abbrev S8x128 : Shape := ⟨2, ![8, 128]⟩
abbrev S8x128x1 : Shape := ⟨3, ![8, 128, 1]⟩
abbrev S4352x512 : Shape := ⟨2, ![4352, 512]⟩
abbrev S4352x4x128 : Shape := ⟨3, ![4352, 4, 128]⟩
abbrev S4352x16x128 : Shape := ⟨3, ![4352, 16, 128]⟩
abbrev S256x16x128 : Shape := ⟨3, ![256, 16, 128]⟩
abbrev S4096x16x128 : Shape := ⟨3, ![4096, 16, 128]⟩
abbrev S4096 : Shape := ⟨1, ![4096]⟩
abbrev S32 : Shape := ⟨1, ![32]⟩
abbrev S4096x16x64 : Shape := ⟨3, ![4096, 16, 64]⟩
abbrev S4096x1 : Shape := ⟨2, ![4096, 1]⟩
abbrev S1x32 : Shape := ⟨2, ![1, 32]⟩
abbrev S4096x32 : Shape := ⟨2, ![4096, 32]⟩
abbrev S4096x1x32 : Shape := ⟨3, ![4096, 1, 32]⟩
abbrev S4096x16x32 : Shape := ⟨3, ![4096, 16, 32]⟩
abbrev S34x128x4x128 : Shape := ⟨4, ![34, 128, 4, 128]⟩
abbrev S34x4x128x128 : Shape := ⟨4, ![34, 4, 128, 128]⟩
abbrev S256x4x128 : Shape := ⟨3, ![256, 4, 128]⟩
abbrev S4096x4x128 : Shape := ⟨3, ![4096, 4, 128]⟩
abbrev S34x8x128x128 : Shape := ⟨4, ![34, 8, 128, 128]⟩
abbrev S4352x4x256 : Shape := ⟨3, ![4352, 4, 256]⟩
abbrev S34x128x4x256 : Shape := ⟨4, ![34, 128, 4, 256]⟩
abbrev S34x4x128x256 : Shape := ⟨4, ![34, 4, 128, 256]⟩
abbrev S256x4x256 : Shape := ⟨3, ![256, 4, 256]⟩
abbrev S4096x4x256 : Shape := ⟨3, ![4096, 4, 256]⟩
abbrev S34x8x128x256 : Shape := ⟨4, ![34, 8, 128, 256]⟩
abbrev S8x34x128x256 : Shape := ⟨4, ![8, 34, 128, 256]⟩
abbrev S8x128x256 : Shape := ⟨3, ![8, 128, 256]⟩
abbrev S1x8x128x256 : Shape := ⟨4, ![1, 8, 128, 256]⟩
abbrev S1x8x128x128 : Shape := ⟨4, ![1, 8, 128, 128]⟩
abbrev S8x256x128 : Shape := ⟨3, ![8, 256, 128]⟩

abbrev nBuf : Space → Nat
  | .hbm => 489
  | .vmem => 0
  | .smem => 0
  | _ => 0

abbrev hbmTy0_0 (i : Nat) : BufTy := match i % 128 with
  | 0 => ⟨S4352x2048, .f32⟩
  | 1 => ⟨S2x4, .f32⟩
  | 2 => ⟨S2x4x34x128x256, .f32⟩
  | 3 => ⟨S4352x1024, .f32⟩
  | 4 => ⟨S2x4, .f32⟩
  | 5 => ⟨S_, .f32⟩
  | 6 => ⟨S2x4, .f32⟩
  | 7 => ⟨S2x4, .f32⟩
  | 8 => ⟨S2x4, .f32⟩
  | 9 => ⟨S2x4, .f32⟩
  | 10 => ⟨S2x4, .i1⟩
  | 11 => ⟨S2x4, .f32⟩
  | 12 => ⟨S2x4, .f32⟩
  | 13 => ⟨S2x4, .f32⟩
  | 14 => ⟨S2x4, .f32⟩
  | 15 => ⟨S2x4, .f32⟩
  | 16 => ⟨S2x4, .f32⟩
  | 17 => ⟨S2x4, .f32⟩
  | 18 => ⟨S2x4, .f32⟩
  | 19 => ⟨S2x4, .f32⟩
  | 20 => ⟨S8, .f32⟩
  | 21 => ⟨S128, .f32⟩
  | 22 => ⟨S128x1, .f32⟩
  | 23 => ⟨S1x128, .f32⟩
  | 24 => ⟨S128x128, .f32⟩
  | 25 => ⟨S128x128, .f32⟩
  | 26 => ⟨S128x128, .f32⟩
  | 27 => ⟨S_, .f32⟩
  | 28 => ⟨S128x128, .f32⟩
  | 29 => ⟨S128x128, .i1⟩
  | 30 => ⟨S_, .f32⟩
  | 31 => ⟨S_, .f32⟩
  | 32 => ⟨S128x128, .f32⟩
  | 33 => ⟨S128x128, .f32⟩
  | 34 => ⟨S8x1x1, .f32⟩
  | 35 => ⟨S1x128x128, .f32⟩
  | 36 => ⟨S8x128x128, .f32⟩
  | 37 => ⟨S8x128x128, .f32⟩
  | 38 => ⟨S8x128x128, .f32⟩
  | 39 => ⟨S8x128x128, .f32⟩
  | 40 => ⟨S_, .f32⟩
  | 41 => ⟨S_, .f32⟩
  | 42 => ⟨S8x128x128, .i1⟩
  | 43 => ⟨S8x128x128, .f32⟩
  | 44 => ⟨S8x128x128, .f32⟩
  | 45 => ⟨S_, .f32⟩
  | 46 => ⟨S128, .f32⟩
  | 47 => ⟨S128, .f32⟩
  | 48 => ⟨S8x1, .f32⟩
  | 49 => ⟨S1x128, .f32⟩
  | 50 => ⟨S8x128, .f32⟩
  | 51 => ⟨S8x128, .f32⟩
  | 52 => ⟨S8x128, .f32⟩
  | 53 => ⟨S8x128, .f32⟩
  | 54 => ⟨S8x128x1, .f32⟩
  | 55 => ⟨S_, .f32⟩
  | 56 => ⟨S128, .f32⟩
  | 57 => ⟨S128, .f32⟩
  | 58 => ⟨S8x1, .f32⟩
  | 59 => ⟨S1x128, .f32⟩
  | 60 => ⟨S8x128, .f32⟩
  | 61 => ⟨S8x128, .f32⟩
  | 62 => ⟨S8x128, .f32⟩
  | 63 => ⟨S8x128, .f32⟩
  | 64 => ⟨S8x128x1, .f32⟩
  | 65 => ⟨S_, .f32⟩
  | 66 => ⟨S8, .f32⟩
  | 67 => ⟨S8, .f32⟩
  | 68 => ⟨S8, .f32⟩
  | 69 => ⟨S8x1x1, .f32⟩
  | 70 => ⟨S4352x512, .f32⟩
  | 71 => ⟨S4352x512, .f32⟩
  | 72 => ⟨S4352x1024, .f32⟩
  | 73 => ⟨S4352x4x128, .f32⟩
  | 74 => ⟨S4352x4x128, .f32⟩
  | 75 => ⟨S4352x4x128, .f32⟩
  | 76 => ⟨S4352x4x128, .f32⟩
  | 77 => ⟨S4352x16x128, .f32⟩
  | 78 => ⟨S256x16x128, .f32⟩
  | 79 => ⟨S4096x16x128, .f32⟩
  | 80 => ⟨S4096, .i32⟩
  | 81 => ⟨S_, .i32⟩
  | 82 => ⟨S_, .i32⟩
  | 83 => ⟨S4096, .i32⟩
  | 84 => ⟨S4096, .i32⟩
  | 85 => ⟨S4096, .i32⟩
  | 86 => ⟨S_, .i32⟩
  | 87 => ⟨S4096, .i32⟩
  | 88 => ⟨S4096, .i1⟩
  | 89 => ⟨S4096, .i32⟩
  | 90 => ⟨S4096, .i32⟩
  | 91 => ⟨S_, .i32⟩
  | 92 => ⟨S4096, .i32⟩
  | 93 => ⟨S4096, .i1⟩
  | 94 => ⟨S4096, .i1⟩
  | 95 => ⟨S_, .i32⟩
  | 96 => ⟨S4096, .i32⟩
  | 97 => ⟨S4096, .i32⟩
  | 98 => ⟨S4096, .i32⟩
  | 99 => ⟨S4096, .f32⟩
  | 100 => ⟨S_, .i32⟩
  | 101 => ⟨S4096, .i32⟩
  | 102 => ⟨S4096, .i32⟩
  | 103 => ⟨S4096, .f32⟩
  | 104 => ⟨S32, .f32⟩
  | 105 => ⟨S32, .f32⟩
  | 106 => ⟨S_, .f32⟩
  | 107 => ⟨S32, .f32⟩
  | 108 => ⟨S32, .f32⟩
  | 109 => ⟨S_, .f32⟩
  | 110 => ⟨S32, .f32⟩
  | 111 => ⟨S32, .f32⟩
  | 112 => ⟨S4096x16x64, .f32⟩
  | 113 => ⟨S4096x1, .f32⟩
  | 114 => ⟨S1x32, .f32⟩
  | 115 => ⟨S4096x32, .f32⟩
  | 116 => ⟨S4096x32, .f32⟩
  | 117 => ⟨S4096x32, .f32⟩
  | 118 => ⟨S4096x32, .f32⟩
  | 119 => ⟨S4096x1x32, .f32⟩
  | 120 => ⟨S4096x32, .f32⟩
  | 121 => ⟨S4096x1x32, .f32⟩
  | 122 => ⟨S4096x16x32, .f32⟩
  | 123 => ⟨S4096x16x32, .f32⟩
  | 124 => ⟨S4096x16x32, .f32⟩
  | 125 => ⟨S4096x16x32, .f32⟩
  | 126 => ⟨S4096x16x32, .f32⟩
  | 127 => ⟨S4096x16x32, .f32⟩
  | _ => ⟨S4352x2048, .f32⟩

abbrev hbmTy0_1 (i : Nat) : BufTy := match i % 128 with
  | 0 => ⟨S4096x16x32, .f32⟩
  | 1 => ⟨S4096x16x32, .f32⟩
  | 2 => ⟨S4096x16x32, .f32⟩
  | 3 => ⟨S4096x16x32, .f32⟩
  | 4 => ⟨S4096x16x32, .f32⟩
  | 5 => ⟨S4096x16x32, .f32⟩
  | 6 => ⟨S4096x16x64, .f32⟩
  | 7 => ⟨S4096x16x64, .f32⟩
  | 8 => ⟨S4096x1, .f32⟩
  | 9 => ⟨S1x32, .f32⟩
  | 10 => ⟨S4096x32, .f32⟩
  | 11 => ⟨S4096x32, .f32⟩
  | 12 => ⟨S4096x32, .f32⟩
  | 13 => ⟨S4096x32, .f32⟩
  | 14 => ⟨S4096x1x32, .f32⟩
  | 15 => ⟨S4096x32, .f32⟩
  | 16 => ⟨S4096x1x32, .f32⟩
  | 17 => ⟨S4096x16x32, .f32⟩
  | 18 => ⟨S4096x16x32, .f32⟩
  | 19 => ⟨S4096x16x32, .f32⟩
  | 20 => ⟨S4096x16x32, .f32⟩
  | 21 => ⟨S4096x16x32, .f32⟩
  | 22 => ⟨S4096x16x32, .f32⟩
  | 23 => ⟨S4096x16x32, .f32⟩
  | 24 => ⟨S4096x16x32, .f32⟩
  | 25 => ⟨S4096x16x32, .f32⟩
  | 26 => ⟨S4096x16x32, .f32⟩
  | 27 => ⟨S4096x16x32, .f32⟩
  | 28 => ⟨S4096x16x32, .f32⟩
  | 29 => ⟨S4096x16x64, .f32⟩
  | 30 => ⟨S4096x16x128, .f32⟩
  | 31 => ⟨S4352x16x128, .f32⟩
  | 32 => ⟨S4352x4x128, .f32⟩
  | 33 => ⟨S4352x4x128, .f32⟩
  | 34 => ⟨S34x128x4x128, .f32⟩
  | 35 => ⟨S34x4x128x128, .f32⟩
  | 36 => ⟨S256x4x128, .f32⟩
  | 37 => ⟨S256x4x128, .f32⟩
  | 38 => ⟨S4096x4x128, .f32⟩
  | 39 => ⟨S4096x4x128, .f32⟩
  | 40 => ⟨S4352x4x128, .f32⟩
  | 41 => ⟨S34x128x4x128, .f32⟩
  | 42 => ⟨S34x4x128x128, .f32⟩
  | 43 => ⟨S34x8x128x128, .f32⟩
  | 44 => ⟨S_, .f32⟩
  | 45 => ⟨S34x8x128x128, .f32⟩
  | 46 => ⟨S34x8x128x128, .f32⟩
  | 47 => ⟨S4352x4x128, .f32⟩
  | 48 => ⟨S4352x4x128, .f32⟩
  | 49 => ⟨S34x128x4x128, .f32⟩
  | 50 => ⟨S34x4x128x128, .f32⟩
  | 51 => ⟨S256x4x128, .f32⟩
  | 52 => ⟨S256x4x128, .f32⟩
  | 53 => ⟨S4096x4x128, .f32⟩
  | 54 => ⟨S4096x4x128, .f32⟩
  | 55 => ⟨S4352x4x128, .f32⟩
  | 56 => ⟨S34x128x4x128, .f32⟩
  | 57 => ⟨S34x4x128x128, .f32⟩
  | 58 => ⟨S34x8x128x128, .f32⟩
  | 59 => ⟨S4352x4x256, .f32⟩
  | 60 => ⟨S4352x4x256, .f32⟩
  | 61 => ⟨S34x128x4x256, .f32⟩
  | 62 => ⟨S34x4x128x256, .f32⟩
  | 63 => ⟨S256x4x256, .f32⟩
  | 64 => ⟨S256x4x256, .f32⟩
  | 65 => ⟨S4096x4x256, .f32⟩
  | 66 => ⟨S4096x4x256, .f32⟩
  | 67 => ⟨S4352x4x256, .f32⟩
  | 68 => ⟨S34x128x4x256, .f32⟩
  | 69 => ⟨S34x4x128x256, .f32⟩
  | 70 => ⟨S34x8x128x256, .f32⟩
  | 71 => ⟨S8x34x128x256, .f32⟩
  | 72 => ⟨S34x8x128x256, .f32⟩
  | 73 => ⟨S4352x4x256, .f32⟩
  | 74 => ⟨S4352x4x256, .f32⟩
  | 75 => ⟨S34x128x4x256, .f32⟩
  | 76 => ⟨S34x4x128x256, .f32⟩
  | 77 => ⟨S256x4x256, .f32⟩
  | 78 => ⟨S256x4x256, .f32⟩
  | 79 => ⟨S4096x4x256, .f32⟩
  | 80 => ⟨S4096x4x256, .f32⟩
  | 81 => ⟨S4352x4x256, .f32⟩
  | 82 => ⟨S34x128x4x256, .f32⟩
  | 83 => ⟨S34x4x128x256, .f32⟩
  | 84 => ⟨S34x8x128x256, .f32⟩
  | 85 => ⟨S_, .f32⟩
  | 86 => ⟨S8x128x256, .f32⟩
  | 87 => ⟨S_, .f32⟩
  | 88 => ⟨S34x8x128x128, .f32⟩
  | 89 => ⟨S_, .f32⟩
  | 90 => ⟨S34x8x128x128, .f32⟩
  | 91 => ⟨S_, .f32⟩
  | 92 => ⟨S34x8x128x256, .f32⟩
  | 93 => ⟨S_, .i32⟩
  | 94 => ⟨S34x8x128x256, .f32⟩
  | 95 => ⟨S34x8x128x128, .f32⟩
  | 96 => ⟨S34x8x128x128, .f32⟩
  | 97 => ⟨S34x8x128x256, .f32⟩
  | 98 => ⟨S34x8x128x256, .f32⟩
  | 99 => ⟨S8x128x128, .f32⟩
  | 100 => ⟨S8x128x1, .f32⟩
  | 101 => ⟨S8x1x1, .f32⟩
  | 102 => ⟨S8x128x1, .f32⟩
  | 103 => ⟨S_, .i32⟩
  | 104 => ⟨S8x128x256, .f32⟩
  | 105 => ⟨S34x8x128x128, .f32⟩
  | 106 => ⟨S34x8x128x128, .f32⟩
  | 107 => ⟨S34x8x128x256, .f32⟩
  | 108 => ⟨S_, .i32⟩
  | 109 => ⟨S_, .i1⟩
  | 110 => ⟨S_, .i32⟩
  | 111 => ⟨S_, .i32⟩
  | 112 => ⟨S_, .i32⟩
  | 113 => ⟨S_, .i32⟩
  | 114 => ⟨S_, .i32⟩
  | 115 => ⟨S_, .i32⟩
  | 116 => ⟨S_, .i32⟩
  | 117 => ⟨S1x8x128x256, .f32⟩
  | 118 => ⟨S8x128x256, .f32⟩
  | 119 => ⟨S_, .i32⟩
  | 120 => ⟨S_, .i32⟩
  | 121 => ⟨S_, .i32⟩
  | 122 => ⟨S1x8x128x128, .f32⟩
  | 123 => ⟨S8x128x128, .f32⟩
  | 124 => ⟨S_, .i32⟩
  | 125 => ⟨S_, .i32⟩
  | 126 => ⟨S_, .i32⟩
  | 127 => ⟨S1x8x128x128, .f32⟩
  | _ => ⟨S4352x2048, .f32⟩

abbrev hbmTy0_2 (i : Nat) : BufTy := match i % 128 with
  | 0 => ⟨S8x128x128, .f32⟩
  | 1 => ⟨S_, .i32⟩
  | 2 => ⟨S_, .i32⟩
  | 3 => ⟨S_, .i32⟩
  | 4 => ⟨S1x8x128x256, .f32⟩
  | 5 => ⟨S8x128x256, .f32⟩
  | 6 => ⟨S_, .i32⟩
  | 7 => ⟨S_, .i32⟩
  | 8 => ⟨S_, .i32⟩
  | 9 => ⟨S1x8x128x256, .f32⟩
  | 10 => ⟨S8x128x256, .f32⟩
  | 11 => ⟨S8x128x128, .f32⟩
  | 12 => ⟨S8x128x128, .f32⟩
  | 13 => ⟨S8x128x256, .f32⟩
  | 14 => ⟨S8x128x256, .f32⟩
  | 15 => ⟨S8x128x256, .f32⟩
  | 16 => ⟨S8x128x256, .f32⟩
  | 17 => ⟨S8x128x256, .f32⟩
  | 18 => ⟨S8x128x256, .f32⟩
  | 19 => ⟨S8x128x256, .f32⟩
  | 20 => ⟨S8x128x128, .f32⟩
  | 21 => ⟨S8x128x128, .f32⟩
  | 22 => ⟨S8x128x256, .f32⟩
  | 23 => ⟨S8x128x256, .f32⟩
  | 24 => ⟨S8x256x128, .f32⟩
  | 25 => ⟨S8x128x256, .f32⟩
  | 26 => ⟨S8x128x128, .f32⟩
  | 27 => ⟨S8x128x128, .f32⟩
  | 28 => ⟨S8x128x128, .f32⟩
  | 29 => ⟨S8x128x128, .f32⟩
  | 30 => ⟨S8x128x256, .f32⟩
  | 31 => ⟨S8x128x256, .f32⟩
  | 32 => ⟨S8x128x256, .f32⟩
  | 33 => ⟨S8x128x256, .f32⟩
  | 34 => ⟨S8x256x128, .f32⟩
  | 35 => ⟨S8x128x256, .f32⟩
  | 36 => ⟨S8x128x256, .f32⟩
  | 37 => ⟨S8x128x128, .f32⟩
  | 38 => ⟨S8x256x128, .f32⟩
  | 39 => ⟨S8x128x256, .f32⟩
  | 40 => ⟨S8x128x256, .f32⟩
  | 41 => ⟨S8x128x128, .f32⟩
  | 42 => ⟨S8x128x128, .f32⟩
  | 43 => ⟨S8x128x128, .f32⟩
  | 44 => ⟨S8x128x128, .f32⟩
  | 45 => ⟨S8x128x128, .f32⟩
  | 46 => ⟨S8x128x128, .f32⟩
  | 47 => ⟨S1x8x128x128, .f32⟩
  | 48 => ⟨S_, .i32⟩
  | 49 => ⟨S_, .i32⟩
  | 50 => ⟨S_, .i32⟩
  | 51 => ⟨S34x8x128x128, .f32⟩
  | 52 => ⟨S1x8x128x128, .f32⟩
  | 53 => ⟨S_, .i32⟩
  | 54 => ⟨S_, .i32⟩
  | 55 => ⟨S_, .i32⟩
  | 56 => ⟨S34x8x128x128, .f32⟩
  | 57 => ⟨S1x8x128x256, .f32⟩
  | 58 => ⟨S_, .i32⟩
  | 59 => ⟨S_, .i32⟩
  | 60 => ⟨S_, .i32⟩
  | 61 => ⟨S34x8x128x256, .f32⟩
  | 62 => ⟨S_, .i32⟩
  | 63 => ⟨S_, .i32⟩
  | 64 => ⟨S4096, .i32⟩
  | 65 => ⟨S_, .i32⟩
  | 66 => ⟨S_, .i32⟩
  | 67 => ⟨S4096, .i32⟩
  | 68 => ⟨S4096, .i32⟩
  | 69 => ⟨S4096, .i32⟩
  | 70 => ⟨S_, .i32⟩
  | 71 => ⟨S4096, .i32⟩
  | 72 => ⟨S4096, .i1⟩
  | 73 => ⟨S4096, .i32⟩
  | 74 => ⟨S4096, .i32⟩
  | 75 => ⟨S_, .i32⟩
  | 76 => ⟨S4096, .i32⟩
  | 77 => ⟨S4096, .i1⟩
  | 78 => ⟨S4096, .i1⟩
  | 79 => ⟨S_, .i32⟩
  | 80 => ⟨S4096, .i32⟩
  | 81 => ⟨S4096, .i32⟩
  | 82 => ⟨S4096, .i32⟩
  | 83 => ⟨S4096, .f32⟩
  | 84 => ⟨S_, .i32⟩
  | 85 => ⟨S4096, .i32⟩
  | 86 => ⟨S4096, .i32⟩
  | 87 => ⟨S4096, .f32⟩
  | 88 => ⟨S32, .f32⟩
  | 89 => ⟨S32, .f32⟩
  | 90 => ⟨S_, .f32⟩
  | 91 => ⟨S32, .f32⟩
  | 92 => ⟨S32, .f32⟩
  | 93 => ⟨S_, .f32⟩
  | 94 => ⟨S32, .f32⟩
  | 95 => ⟨S32, .f32⟩
  | 96 => ⟨S4096x1, .f32⟩
  | 97 => ⟨S1x32, .f32⟩
  | 98 => ⟨S4096x32, .f32⟩
  | 99 => ⟨S4096x32, .f32⟩
  | 100 => ⟨S4096x32, .f32⟩
  | 101 => ⟨S4096x32, .f32⟩
  | 102 => ⟨S4096x1x32, .f32⟩
  | 103 => ⟨S4096x32, .f32⟩
  | 104 => ⟨S4096x1x32, .f32⟩
  | 105 => ⟨S4096x1, .f32⟩
  | 106 => ⟨S1x32, .f32⟩
  | 107 => ⟨S4096x32, .f32⟩
  | 108 => ⟨S4096x32, .f32⟩
  | 109 => ⟨S4096x32, .f32⟩
  | 110 => ⟨S4096x32, .f32⟩
  | 111 => ⟨S4096x1x32, .f32⟩
  | 112 => ⟨S4096x32, .f32⟩
  | 113 => ⟨S4096x1x32, .f32⟩
  | 114 => ⟨S34x4x128x256, .f32⟩
  | 115 => ⟨S34x4x128x256, .f32⟩
  | 116 => ⟨S34x128x4x256, .f32⟩
  | 117 => ⟨S4352x4x256, .f32⟩
  | 118 => ⟨S256x4x256, .f32⟩
  | 119 => ⟨S4096x4x256, .f32⟩
  | 120 => ⟨S4096x4x256, .f32⟩
  | 121 => ⟨S_, .f32⟩
  | 122 => ⟨S4352x4x256, .f32⟩
  | 123 => ⟨S256x4x256, .f32⟩
  | 124 => ⟨S_, .f32⟩
  | 125 => ⟨S4352x4x256, .f32⟩
  | 126 => ⟨S4352x4x256, .f32⟩
  | 127 => ⟨S34x128x4x256, .f32⟩
  | _ => ⟨S4352x2048, .f32⟩

abbrev hbmTy0_3 (i : Nat) : BufTy := match i % 128 with
  | 0 => ⟨S4352x4x256, .f32⟩
  | 1 => ⟨S4352x1024, .f32⟩
  | 2 => ⟨S4352x1024, .f32⟩
  | 3 => ⟨S34x4x128x128, .f32⟩
  | 4 => ⟨S34x4x128x128, .f32⟩
  | 5 => ⟨S34x128x4x128, .f32⟩
  | 6 => ⟨S4352x4x128, .f32⟩
  | 7 => ⟨S256x4x128, .f32⟩
  | 8 => ⟨S4096x4x128, .f32⟩
  | 9 => ⟨S4096x4x128, .f32⟩
  | 10 => ⟨S_, .f32⟩
  | 11 => ⟨S4352x4x128, .f32⟩
  | 12 => ⟨S256x4x128, .f32⟩
  | 13 => ⟨S_, .f32⟩
  | 14 => ⟨S4352x4x128, .f32⟩
  | 15 => ⟨S4352x4x128, .f32⟩
  | 16 => ⟨S34x128x4x128, .f32⟩
  | 17 => ⟨S4352x4x128, .f32⟩
  | 18 => ⟨S_, .f32⟩
  | 19 => ⟨S4352x16x128, .f32⟩
  | 20 => ⟨S_, .f32⟩
  | 21 => ⟨S4352x16x128, .f32⟩
  | 22 => ⟨S4352x16x128, .f32⟩
  | 23 => ⟨S_, .f32⟩
  | 24 => ⟨S34x8x128x128, .f32⟩
  | 25 => ⟨S34x8x128x128, .f32⟩
  | 26 => ⟨S34x4x128x128, .f32⟩
  | 27 => ⟨S34x4x128x128, .f32⟩
  | 28 => ⟨S34x128x4x128, .f32⟩
  | 29 => ⟨S4352x4x128, .f32⟩
  | 30 => ⟨S256x4x128, .f32⟩
  | 31 => ⟨S4096x4x128, .f32⟩
  | 32 => ⟨S4096x4x128, .f32⟩
  | 33 => ⟨S_, .f32⟩
  | 34 => ⟨S4352x4x128, .f32⟩
  | 35 => ⟨S256x4x128, .f32⟩
  | 36 => ⟨S_, .f32⟩
  | 37 => ⟨S4352x4x128, .f32⟩
  | 38 => ⟨S4352x4x128, .f32⟩
  | 39 => ⟨S34x128x4x128, .f32⟩
  | 40 => ⟨S4352x4x128, .f32⟩
  | 41 => ⟨S_, .f32⟩
  | 42 => ⟨S4352x16x128, .f32⟩
  | 43 => ⟨S4352x16x128, .f32⟩
  | 44 => ⟨S_, .f32⟩
  | 45 => ⟨S4352x16x128, .f32⟩
  | 46 => ⟨S4352x16x128, .f32⟩
  | 47 => ⟨S256x16x128, .f32⟩
  | 48 => ⟨S4096x16x128, .f32⟩
  | 49 => ⟨S4096x16x64, .f32⟩
  | 50 => ⟨S4096x16x64, .f32⟩
  | 51 => ⟨S4096x16x32, .f32⟩
  | 52 => ⟨S4096x16x32, .f32⟩
  | 53 => ⟨S4096x16x32, .f32⟩
  | 54 => ⟨S4096x16x32, .f32⟩
  | 55 => ⟨S4096x16x32, .f32⟩
  | 56 => ⟨S4096x16x32, .f32⟩
  | 57 => ⟨S4096x16x32, .f32⟩
  | 58 => ⟨S4096x16x32, .f32⟩
  | 59 => ⟨S4096x16x32, .f32⟩
  | 60 => ⟨S4096x16x32, .f32⟩
  | 61 => ⟨S4096x16x32, .f32⟩
  | 62 => ⟨S4096x16x32, .f32⟩
  | 63 => ⟨S4096x16x32, .f32⟩
  | 64 => ⟨S_, .f32⟩
  | 65 => ⟨S4096x16x64, .f32⟩
  | 66 => ⟨S_, .f32⟩
  | 67 => ⟨S4096x16x64, .f32⟩
  | 68 => ⟨S4096x16x64, .f32⟩
  | 69 => ⟨S_, .f32⟩
  | 70 => ⟨S4096x16x128, .f32⟩
  | 71 => ⟨S4096x16x32, .f32⟩
  | 72 => ⟨S4096x16x32, .f32⟩
  | 73 => ⟨S4096x16x32, .f32⟩
  | 74 => ⟨S4096x16x32, .f32⟩
  | 75 => ⟨S4096x16x32, .f32⟩
  | 76 => ⟨S4096x16x32, .f32⟩
  | 77 => ⟨S4096x16x32, .f32⟩
  | 78 => ⟨S4096x16x32, .f32⟩
  | 79 => ⟨S4096x16x32, .f32⟩
  | 80 => ⟨S4096x16x32, .f32⟩
  | 81 => ⟨S4096x16x32, .f32⟩
  | 82 => ⟨S4096x16x32, .f32⟩
  | 83 => ⟨S4096x16x32, .f32⟩
  | 84 => ⟨S_, .f32⟩
  | 85 => ⟨S4096x16x64, .f32⟩
  | 86 => ⟨S_, .f32⟩
  | 87 => ⟨S4096x16x64, .f32⟩
  | 88 => ⟨S4096x16x64, .f32⟩
  | 89 => ⟨S_, .f32⟩
  | 90 => ⟨S4096x16x128, .f32⟩
  | 91 => ⟨S4096x16x128, .f32⟩
  | 92 => ⟨S_, .f32⟩
  | 93 => ⟨S4352x16x128, .f32⟩
  | 94 => ⟨S_, .f32⟩
  | 95 => ⟨S4352x16x128, .f32⟩
  | 96 => ⟨S4352x16x128, .f32⟩
  | 97 => ⟨S4352x4x128, .f32⟩
  | 98 => ⟨S4352x4x128, .f32⟩
  | 99 => ⟨S4352x4x128, .f32⟩
  | 100 => ⟨S4352x4x128, .f32⟩
  | 101 => ⟨S4352x512, .f32⟩
  | 102 => ⟨S4352x512, .f32⟩
  | 103 => ⟨S4352x512, .f32⟩
  | 104 => ⟨S4352x512, .f32⟩
  | _ => ⟨S4352x2048, .f32⟩

abbrev hbmTy (i : Nat) : BufTy := match i / 128 with
  | 0 => hbmTy0_0 i
  | 1 => hbmTy0_1 i
  | 2 => hbmTy0_2 i
  | 3 => hbmTy0_3 i
  | _ => ⟨S4352x2048, .f32⟩

abbrev bufTy : (tb : Table) → Fin (tcTables nBuf tb) → BufTy
  | .hbm, ⟨i, _⟩ => hbmTy i
  | _, _ => ⟨S4352x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_call0_cst : Ref sig .tc := ⟨.hbm, 5, rfl⟩
abbrev main_call0_call0_v0 : Ref sig .tc := ⟨.hbm, 6, rfl⟩
abbrev main_call0_call0_v1 : Ref sig .tc := ⟨.hbm, 7, rfl⟩
abbrev main_call0_call0_v2 : Ref sig .tc := ⟨.hbm, 8, rfl⟩
abbrev main_call0_call0_v3 : Ref sig .tc := ⟨.hbm, 9, rfl⟩
abbrev main_call0_call0_v4 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_v8 : Ref sig .tc := ⟨.hbm, 14, rfl⟩
abbrev main_call0_call0_v9 : Ref sig .tc := ⟨.hbm, 15, rfl⟩
abbrev main_call0_call0_v10 : Ref sig .tc := ⟨.hbm, 16, rfl⟩
abbrev main_call0_call0_v11 : Ref sig .tc := ⟨.hbm, 17, rfl⟩
abbrev main_call0_v1 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst : Ref sig .tc := ⟨.hbm, 27, rfl⟩
abbrev main_v8 : Ref sig .tc := ⟨.hbm, 28, rfl⟩
abbrev main_v9 : Ref sig .tc := ⟨.hbm, 29, rfl⟩
abbrev main_cst_0 : Ref sig .tc := ⟨.hbm, 30, rfl⟩
abbrev main_call1_v0 : Ref sig .tc := ⟨.hbm, 31, rfl⟩
abbrev main_call1_v1 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_cst_1 : Ref sig .tc := ⟨.hbm, 40, rfl⟩
abbrev main_call2_v0 : Ref sig .tc := ⟨.hbm, 41, rfl⟩
abbrev main_call2_v1 : Ref sig .tc := ⟨.hbm, 42, rfl⟩
abbrev main_call2_v2 : Ref sig .tc := ⟨.hbm, 43, rfl⟩
abbrev main_v17 : Ref sig .tc := ⟨.hbm, 44, rfl⟩
abbrev main_cst_2 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_cst_3 : Ref sig .tc := ⟨.hbm, 55, rfl⟩
abbrev main_v27 : Ref sig .tc := ⟨.hbm, 56, rfl⟩
abbrev main_v28 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_cst_4 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_c : Ref sig .tc := ⟨.hbm, 81, rfl⟩
abbrev main_call3_v0 : Ref sig .tc := ⟨.hbm, 82, rfl⟩
abbrev main_call3_v1 : Ref sig .tc := ⟨.hbm, 83, rfl⟩
abbrev main_call3_v2 : Ref sig .tc := ⟨.hbm, 84, rfl⟩
abbrev main_call3_v3 : Ref sig .tc := ⟨.hbm, 85, rfl⟩
abbrev main_call3_v4 : Ref sig .tc := ⟨.hbm, 86, rfl⟩
abbrev main_call3_v5 : Ref sig .tc := ⟨.hbm, 87, rfl⟩
abbrev main_call3_v6 : Ref sig .tc := ⟨.hbm, 88, rfl⟩
abbrev main_call3_v7 : Ref sig .tc := ⟨.hbm, 89, rfl⟩
abbrev main_call3_v8 : Ref sig .tc := ⟨.hbm, 90, rfl⟩
abbrev main_call3_c : Ref sig .tc := ⟨.hbm, 91, rfl⟩
abbrev main_call3_v9 : Ref sig .tc := ⟨.hbm, 92, rfl⟩
abbrev main_call3_v10 : Ref sig .tc := ⟨.hbm, 93, rfl⟩
abbrev main_call3_v11 : Ref sig .tc := ⟨.hbm, 94, rfl⟩
abbrev main_call3_c_0 : Ref sig .tc := ⟨.hbm, 95, rfl⟩
abbrev main_call3_v12 : Ref sig .tc := ⟨.hbm, 96, rfl⟩
abbrev main_call3_v13 : Ref sig .tc := ⟨.hbm, 97, rfl⟩
abbrev main_v51 : Ref sig .tc := ⟨.hbm, 98, rfl⟩
abbrev main_v52 : Ref sig .tc := ⟨.hbm, 99, rfl⟩
abbrev main_c_5 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_6 : Ref sig .tc := ⟨.hbm, 106, rfl⟩
abbrev main_v58 : Ref sig .tc := ⟨.hbm, 107, rfl⟩
abbrev main_v59 : Ref sig .tc := ⟨.hbm, 108, rfl⟩
abbrev main_cst_7 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_v63 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_v67 : Ref sig .tc := ⟨.hbm, 117, rfl⟩
abbrev main_v68 : Ref sig .tc := ⟨.hbm, 118, rfl⟩
abbrev main_v69 : Ref sig .tc := ⟨.hbm, 119, rfl⟩
abbrev main_v70 : Ref sig .tc := ⟨.hbm, 120, rfl⟩
abbrev main_v71 : Ref sig .tc := ⟨.hbm, 121, rfl⟩
abbrev main_v72 : Ref sig .tc := ⟨.hbm, 122, rfl⟩
abbrev main_v73 : Ref sig .tc := ⟨.hbm, 123, rfl⟩
abbrev main_v74 : Ref sig .tc := ⟨.hbm, 124, rfl⟩
abbrev main_v75 : Ref sig .tc := ⟨.hbm, 125, rfl⟩
abbrev main_v76 : Ref sig .tc := ⟨.hbm, 126, rfl⟩
abbrev main_v77 : Ref sig .tc := ⟨.hbm, 127, rfl⟩
abbrev main_v78 : Ref sig .tc := ⟨.hbm, 128, rfl⟩
abbrev main_v79 : Ref sig .tc := ⟨.hbm, 129, rfl⟩
abbrev main_v80 : Ref sig .tc := ⟨.hbm, 130, rfl⟩
abbrev main_v81 : Ref sig .tc := ⟨.hbm, 131, rfl⟩
abbrev main_v82 : Ref sig .tc := ⟨.hbm, 132, rfl⟩
abbrev main_v83 : Ref sig .tc := ⟨.hbm, 133, rfl⟩
abbrev main_v84 : Ref sig .tc := ⟨.hbm, 134, rfl⟩
abbrev main_v85 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_v95 : Ref sig .tc := ⟨.hbm, 145, rfl⟩
abbrev main_v96 : Ref sig .tc := ⟨.hbm, 146, rfl⟩
abbrev main_v97 : Ref sig .tc := ⟨.hbm, 147, rfl⟩
abbrev main_v98 : Ref sig .tc := ⟨.hbm, 148, rfl⟩
abbrev main_v99 : Ref sig .tc := ⟨.hbm, 149, rfl⟩
abbrev main_v100 : Ref sig .tc := ⟨.hbm, 150, rfl⟩
abbrev main_v101 : Ref sig .tc := ⟨.hbm, 151, rfl⟩
abbrev main_v102 : Ref sig .tc := ⟨.hbm, 152, rfl⟩
abbrev main_v103 : Ref sig .tc := ⟨.hbm, 153, rfl⟩
abbrev main_v104 : Ref sig .tc := ⟨.hbm, 154, rfl⟩
abbrev main_v105 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_8 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_v128 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_v150 : Ref sig .tc := ⟨.hbm, 201, rfl⟩
abbrev main_v151 : Ref sig .tc := ⟨.hbm, 202, rfl⟩
abbrev main_v152 : Ref sig .tc := ⟨.hbm, 203, rfl⟩
abbrev main_v153 : Ref sig .tc := ⟨.hbm, 204, rfl⟩
abbrev main_v154 : Ref sig .tc := ⟨.hbm, 205, rfl⟩
abbrev main_v155 : Ref sig .tc := ⟨.hbm, 206, rfl⟩
abbrev main_v156 : Ref sig .tc := ⟨.hbm, 207, rfl⟩
abbrev main_v157 : Ref sig .tc := ⟨.hbm, 208, rfl⟩
abbrev main_v158 : Ref sig .tc := ⟨.hbm, 209, rfl⟩
abbrev main_v159 : Ref sig .tc := ⟨.hbm, 210, rfl⟩
abbrev main_v160 : Ref sig .tc := ⟨.hbm, 211, rfl⟩
abbrev main_v161 : Ref sig .tc := ⟨.hbm, 212, rfl⟩
abbrev main_cst_9 : Ref sig .tc := ⟨.hbm, 213, rfl⟩
abbrev main_v162 : Ref sig .tc := ⟨.hbm, 214, rfl⟩
abbrev main_cst_10 : Ref sig .tc := ⟨.hbm, 215, rfl⟩
abbrev main_v163 : Ref sig .tc := ⟨.hbm, 216, rfl⟩
abbrev main_cst_11 : Ref sig .tc := ⟨.hbm, 217, rfl⟩
abbrev main_v164 : Ref sig .tc := ⟨.hbm, 218, rfl⟩
abbrev main_cst_12 : Ref sig .tc := ⟨.hbm, 219, rfl⟩
abbrev main_v165 : Ref sig .tc := ⟨.hbm, 220, rfl⟩
abbrev main_c_13 : Ref sig .tc := ⟨.hbm, 221, rfl⟩
abbrev main_v166_0 : Ref sig .tc := ⟨.hbm, 222, rfl⟩
abbrev main_v166_1 : Ref sig .tc := ⟨.hbm, 223, rfl⟩
abbrev main_v166_2 : Ref sig .tc := ⟨.hbm, 224, rfl⟩
abbrev main_v166_3 : Ref sig .tc := ⟨.hbm, 225, rfl⟩
abbrev main_v166_4 : Ref sig .tc := ⟨.hbm, 226, rfl⟩
abbrev main_v166_5 : Ref sig .tc := ⟨.hbm, 227, rfl⟩
abbrev main_v166_6 : Ref sig .tc := ⟨.hbm, 228, rfl⟩
abbrev main_v166_7 : Ref sig .tc := ⟨.hbm, 229, rfl⟩
abbrev main_v166_8 : Ref sig .tc := ⟨.hbm, 230, rfl⟩
abbrev main_v166_9 : Ref sig .tc := ⟨.hbm, 231, rfl⟩
abbrev main_v166_10 : Ref sig .tc := ⟨.hbm, 232, rfl⟩
abbrev main_v166_11 : Ref sig .tc := ⟨.hbm, 233, rfl⟩
abbrev main_v166_12 : Ref sig .tc := ⟨.hbm, 234, rfl⟩
abbrev main_v166_13 : Ref sig .tc := ⟨.hbm, 235, rfl⟩
abbrev main_while0c_c_50 : Ref sig .tc := ⟨.hbm, 236, rfl⟩
abbrev main_while0c_v297 : Ref sig .tc := ⟨.hbm, 237, rfl⟩
abbrev main_while0b_c_50 : Ref sig .tc := ⟨.hbm, 238, rfl⟩
abbrev main_while0b_v297 : Ref sig .tc := ⟨.hbm, 239, rfl⟩
abbrev main_while0b_c_51 : Ref sig .tc := ⟨.hbm, 240, rfl⟩
abbrev main_while0b_v298 : Ref sig .tc := ⟨.hbm, 241, rfl⟩
abbrev main_while0b_call12_c : Ref sig .tc := ⟨.hbm, 242, rfl⟩
abbrev main_while0b_call12_c_0 : Ref sig .tc := ⟨.hbm, 243, rfl⟩
abbrev main_while0b_call12_c_1 : Ref sig .tc := ⟨.hbm, 244, rfl⟩
abbrev main_while0b_call12_v0 : Ref sig .tc := ⟨.hbm, 245, rfl⟩
abbrev main_while0b_v299 : Ref sig .tc := ⟨.hbm, 246, rfl⟩
abbrev main_while0b_call13_c : Ref sig .tc := ⟨.hbm, 247, rfl⟩
abbrev main_while0b_call13_c_0 : Ref sig .tc := ⟨.hbm, 248, rfl⟩
abbrev main_while0b_call13_c_1 : Ref sig .tc := ⟨.hbm, 249, rfl⟩
abbrev main_while0b_call13_v0 : Ref sig .tc := ⟨.hbm, 250, rfl⟩
abbrev main_while0b_v300 : Ref sig .tc := ⟨.hbm, 251, rfl⟩
abbrev main_while0b_call14_c : Ref sig .tc := ⟨.hbm, 252, rfl⟩
abbrev main_while0b_call14_c_0 : Ref sig .tc := ⟨.hbm, 253, rfl⟩
abbrev main_while0b_call14_c_1 : Ref sig .tc := ⟨.hbm, 254, rfl⟩
abbrev main_while0b_call14_v0 : Ref sig .tc := ⟨.hbm, 255, rfl⟩
abbrev main_while0b_v301 : Ref sig .tc := ⟨.hbm, 256, rfl⟩
abbrev main_while0b_call15_c : Ref sig .tc := ⟨.hbm, 257, rfl⟩
abbrev main_while0b_call15_c_0 : Ref sig .tc := ⟨.hbm, 258, rfl⟩
abbrev main_while0b_call15_c_1 : Ref sig .tc := ⟨.hbm, 259, rfl⟩
abbrev main_while0b_call15_v0 : Ref sig .tc := ⟨.hbm, 260, rfl⟩
abbrev main_while0b_v302 : Ref sig .tc := ⟨.hbm, 261, rfl⟩
abbrev main_while0b_call16_c : Ref sig .tc := ⟨.hbm, 262, rfl⟩
abbrev main_while0b_call16_c_0 : Ref sig .tc := ⟨.hbm, 263, rfl⟩
abbrev main_while0b_call16_c_1 : Ref sig .tc := ⟨.hbm, 264, rfl⟩
abbrev main_while0b_call16_v0 : Ref sig .tc := ⟨.hbm, 265, rfl⟩
abbrev main_while0b_v303 : Ref sig .tc := ⟨.hbm, 266, rfl⟩
abbrev main_while0b_v304 : Ref sig .tc := ⟨.hbm, 267, rfl⟩
abbrev main_while0b_v305 : Ref sig .tc := ⟨.hbm, 268, rfl⟩
abbrev main_while0b_v306 : Ref sig .tc := ⟨.hbm, 269, rfl⟩
abbrev main_while0b_v307 : Ref sig .tc := ⟨.hbm, 270, rfl⟩
abbrev main_while0b_v308 : Ref sig .tc := ⟨.hbm, 271, rfl⟩
abbrev main_while0b_v309 : Ref sig .tc := ⟨.hbm, 272, rfl⟩
abbrev main_while0b_v310 : Ref sig .tc := ⟨.hbm, 273, rfl⟩
abbrev main_while0b_v311 : Ref sig .tc := ⟨.hbm, 274, rfl⟩
abbrev main_while0b_v312 : Ref sig .tc := ⟨.hbm, 275, rfl⟩
abbrev main_while0b_v313 : Ref sig .tc := ⟨.hbm, 276, rfl⟩
abbrev main_while0b_v314 : Ref sig .tc := ⟨.hbm, 277, rfl⟩
abbrev main_while0b_v315 : Ref sig .tc := ⟨.hbm, 278, rfl⟩
abbrev main_while0b_v316 : Ref sig .tc := ⟨.hbm, 279, rfl⟩
abbrev main_while0b_v317 : Ref sig .tc := ⟨.hbm, 280, rfl⟩
abbrev main_while0b_v318 : Ref sig .tc := ⟨.hbm, 281, rfl⟩
abbrev main_while0b_v319 : Ref sig .tc := ⟨.hbm, 282, rfl⟩
abbrev main_while0b_v320 : Ref sig .tc := ⟨.hbm, 283, rfl⟩
abbrev main_while0b_v321 : Ref sig .tc := ⟨.hbm, 284, rfl⟩
abbrev main_while0b_v322 : Ref sig .tc := ⟨.hbm, 285, rfl⟩
abbrev main_while0b_v323 : Ref sig .tc := ⟨.hbm, 286, rfl⟩
abbrev main_while0b_v324 : Ref sig .tc := ⟨.hbm, 287, rfl⟩
abbrev main_while0b_v325 : Ref sig .tc := ⟨.hbm, 288, rfl⟩
abbrev main_while0b_v326 : Ref sig .tc := ⟨.hbm, 289, rfl⟩
abbrev main_while0b_v327 : Ref sig .tc := ⟨.hbm, 290, rfl⟩
abbrev main_while0b_v328 : Ref sig .tc := ⟨.hbm, 291, rfl⟩
abbrev main_while0b_v329 : Ref sig .tc := ⟨.hbm, 292, rfl⟩
abbrev main_while0b_v330 : Ref sig .tc := ⟨.hbm, 293, rfl⟩
abbrev main_while0b_v331 : Ref sig .tc := ⟨.hbm, 294, rfl⟩
abbrev main_while0b_v332 : Ref sig .tc := ⟨.hbm, 295, rfl⟩
abbrev main_while0b_v333 : Ref sig .tc := ⟨.hbm, 296, rfl⟩
abbrev main_while0b_v334 : Ref sig .tc := ⟨.hbm, 297, rfl⟩
abbrev main_while0b_v335 : Ref sig .tc := ⟨.hbm, 298, rfl⟩
abbrev main_while0b_v336 : Ref sig .tc := ⟨.hbm, 299, rfl⟩
abbrev main_while0b_v337 : Ref sig .tc := ⟨.hbm, 300, rfl⟩
abbrev main_while0b_v338 : Ref sig .tc := ⟨.hbm, 301, rfl⟩
abbrev main_while0b_v339 : Ref sig .tc := ⟨.hbm, 302, rfl⟩
abbrev main_while0b_call17_v0 : Ref sig .tc := ⟨.hbm, 303, rfl⟩
abbrev main_while0b_call17_c : Ref sig .tc := ⟨.hbm, 304, rfl⟩
abbrev main_while0b_call17_c_0 : Ref sig .tc := ⟨.hbm, 305, rfl⟩
abbrev main_while0b_call17_c_1 : Ref sig .tc := ⟨.hbm, 306, rfl⟩
abbrev main_while0b_v340 : Ref sig .tc := ⟨.hbm, 307, rfl⟩
abbrev main_while0b_call18_v0 : Ref sig .tc := ⟨.hbm, 308, rfl⟩
abbrev main_while0b_call18_c : Ref sig .tc := ⟨.hbm, 309, rfl⟩
abbrev main_while0b_call18_c_0 : Ref sig .tc := ⟨.hbm, 310, rfl⟩
abbrev main_while0b_call18_c_1 : Ref sig .tc := ⟨.hbm, 311, rfl⟩
abbrev main_while0b_v341 : Ref sig .tc := ⟨.hbm, 312, rfl⟩
abbrev main_while0b_call19_v0 : Ref sig .tc := ⟨.hbm, 313, rfl⟩
abbrev main_while0b_call19_c : Ref sig .tc := ⟨.hbm, 314, rfl⟩
abbrev main_while0b_call19_c_0 : Ref sig .tc := ⟨.hbm, 315, rfl⟩
abbrev main_while0b_call19_c_1 : Ref sig .tc := ⟨.hbm, 316, rfl⟩
abbrev main_while0b_v342 : Ref sig .tc := ⟨.hbm, 317, rfl⟩
abbrev main_while0b_c_52 : Ref sig .tc := ⟨.hbm, 318, rfl⟩
abbrev main_while0b_v343 : Ref sig .tc := ⟨.hbm, 319, rfl⟩
abbrev main_v167 : Ref sig .tc := ⟨.hbm, 320, rfl⟩
abbrev main_c_14 : Ref sig .tc := ⟨.hbm, 321, rfl⟩
abbrev main_call20_v0 : Ref sig .tc := ⟨.hbm, 322, rfl⟩
abbrev main_call20_v1 : Ref sig .tc := ⟨.hbm, 323, rfl⟩
abbrev main_call20_v2 : Ref sig .tc := ⟨.hbm, 324, rfl⟩
abbrev main_call20_v3 : Ref sig .tc := ⟨.hbm, 325, rfl⟩
abbrev main_call20_v4 : Ref sig .tc := ⟨.hbm, 326, rfl⟩
abbrev main_call20_v5 : Ref sig .tc := ⟨.hbm, 327, rfl⟩
abbrev main_call20_v6 : Ref sig .tc := ⟨.hbm, 328, rfl⟩
abbrev main_call20_v7 : Ref sig .tc := ⟨.hbm, 329, rfl⟩
abbrev main_call20_v8 : Ref sig .tc := ⟨.hbm, 330, rfl⟩
abbrev main_call20_c : Ref sig .tc := ⟨.hbm, 331, rfl⟩
abbrev main_call20_v9 : Ref sig .tc := ⟨.hbm, 332, rfl⟩
abbrev main_call20_v10 : Ref sig .tc := ⟨.hbm, 333, rfl⟩
abbrev main_call20_v11 : Ref sig .tc := ⟨.hbm, 334, rfl⟩
abbrev main_call20_c_0 : Ref sig .tc := ⟨.hbm, 335, rfl⟩
abbrev main_call20_v12 : Ref sig .tc := ⟨.hbm, 336, rfl⟩
abbrev main_call20_v13 : Ref sig .tc := ⟨.hbm, 337, rfl⟩
abbrev main_v168 : Ref sig .tc := ⟨.hbm, 338, rfl⟩
abbrev main_v169 : Ref sig .tc := ⟨.hbm, 339, rfl⟩
abbrev main_c_15 : Ref sig .tc := ⟨.hbm, 340, rfl⟩
abbrev main_v170 : Ref sig .tc := ⟨.hbm, 341, rfl⟩
abbrev main_v171 : Ref sig .tc := ⟨.hbm, 342, rfl⟩
abbrev main_v172 : Ref sig .tc := ⟨.hbm, 343, rfl⟩
abbrev main_v173 : Ref sig .tc := ⟨.hbm, 344, rfl⟩
abbrev main_v174 : Ref sig .tc := ⟨.hbm, 345, rfl⟩
abbrev main_cst_16 : Ref sig .tc := ⟨.hbm, 346, rfl⟩
abbrev main_v175 : Ref sig .tc := ⟨.hbm, 347, rfl⟩
abbrev main_v176 : Ref sig .tc := ⟨.hbm, 348, rfl⟩
abbrev main_cst_17 : Ref sig .tc := ⟨.hbm, 349, rfl⟩
abbrev main_v177 : Ref sig .tc := ⟨.hbm, 350, rfl⟩
abbrev main_v178 : Ref sig .tc := ⟨.hbm, 351, rfl⟩
abbrev main_v179 : Ref sig .tc := ⟨.hbm, 352, rfl⟩
abbrev main_v180 : Ref sig .tc := ⟨.hbm, 353, rfl⟩
abbrev main_v181 : Ref sig .tc := ⟨.hbm, 354, rfl⟩
abbrev main_v182 : Ref sig .tc := ⟨.hbm, 355, rfl⟩
abbrev main_v183 : Ref sig .tc := ⟨.hbm, 356, rfl⟩
abbrev main_v184 : Ref sig .tc := ⟨.hbm, 357, rfl⟩
abbrev main_v185 : Ref sig .tc := ⟨.hbm, 358, rfl⟩
abbrev main_v186 : Ref sig .tc := ⟨.hbm, 359, rfl⟩
abbrev main_v187 : Ref sig .tc := ⟨.hbm, 360, rfl⟩
abbrev main_v188 : Ref sig .tc := ⟨.hbm, 361, rfl⟩
abbrev main_v189 : Ref sig .tc := ⟨.hbm, 362, rfl⟩
abbrev main_v190 : Ref sig .tc := ⟨.hbm, 363, rfl⟩
abbrev main_v191 : Ref sig .tc := ⟨.hbm, 364, rfl⟩
abbrev main_v192 : Ref sig .tc := ⟨.hbm, 365, rfl⟩
abbrev main_v193 : Ref sig .tc := ⟨.hbm, 366, rfl⟩
abbrev main_v194 : Ref sig .tc := ⟨.hbm, 367, rfl⟩
abbrev main_v195 : Ref sig .tc := ⟨.hbm, 368, rfl⟩
abbrev main_v196 : Ref sig .tc := ⟨.hbm, 369, rfl⟩
abbrev main_v197 : Ref sig .tc := ⟨.hbm, 370, rfl⟩
abbrev main_v198 : Ref sig .tc := ⟨.hbm, 371, rfl⟩
abbrev main_v199 : Ref sig .tc := ⟨.hbm, 372, rfl⟩
abbrev main_v200 : Ref sig .tc := ⟨.hbm, 373, rfl⟩
abbrev main_v201 : Ref sig .tc := ⟨.hbm, 374, rfl⟩
abbrev main_v202 : Ref sig .tc := ⟨.hbm, 375, rfl⟩
abbrev main_v203 : Ref sig .tc := ⟨.hbm, 376, rfl⟩
abbrev main_cst_18 : Ref sig .tc := ⟨.hbm, 377, rfl⟩
abbrev main_v204 : Ref sig .tc := ⟨.hbm, 378, rfl⟩
abbrev main_v205 : Ref sig .tc := ⟨.hbm, 379, rfl⟩
abbrev main_cst_19 : Ref sig .tc := ⟨.hbm, 380, rfl⟩
abbrev main_v206 : Ref sig .tc := ⟨.hbm, 381, rfl⟩
abbrev main_v207 : Ref sig .tc := ⟨.hbm, 382, rfl⟩
abbrev main_v208 : Ref sig .tc := ⟨.hbm, 383, rfl⟩
abbrev main_v209 : Ref sig .tc := ⟨.hbm, 384, rfl⟩
abbrev main_v210 : Ref sig .tc := ⟨.hbm, 385, rfl⟩
abbrev main_v211 : Ref sig .tc := ⟨.hbm, 386, rfl⟩
abbrev main_v212 : Ref sig .tc := ⟨.hbm, 387, rfl⟩
abbrev main_v213 : Ref sig .tc := ⟨.hbm, 388, rfl⟩
abbrev main_v214 : Ref sig .tc := ⟨.hbm, 389, rfl⟩
abbrev main_v215 : Ref sig .tc := ⟨.hbm, 390, rfl⟩
abbrev main_v216 : Ref sig .tc := ⟨.hbm, 391, rfl⟩
abbrev main_v217 : Ref sig .tc := ⟨.hbm, 392, rfl⟩
abbrev main_v218 : Ref sig .tc := ⟨.hbm, 393, rfl⟩
abbrev main_cst_20 : Ref sig .tc := ⟨.hbm, 394, rfl⟩
abbrev main_v219 : Ref sig .tc := ⟨.hbm, 395, rfl⟩
abbrev main_v220 : Ref sig .tc := ⟨.hbm, 396, rfl⟩
abbrev main_cst_21 : Ref sig .tc := ⟨.hbm, 397, rfl⟩
abbrev main_v221 : Ref sig .tc := ⟨.hbm, 398, rfl⟩
abbrev main_v222 : Ref sig .tc := ⟨.hbm, 399, rfl⟩
abbrev main_v223 : Ref sig .tc := ⟨.hbm, 400, rfl⟩
abbrev main_v224 : Ref sig .tc := ⟨.hbm, 401, rfl⟩
abbrev main_cst_22 : Ref sig .tc := ⟨.hbm, 402, rfl⟩
abbrev main_v225 : Ref sig .tc := ⟨.hbm, 403, rfl⟩
abbrev main_cst_23 : Ref sig .tc := ⟨.hbm, 404, rfl⟩
abbrev main_v226 : Ref sig .tc := ⟨.hbm, 405, rfl⟩
abbrev main_v227 : Ref sig .tc := ⟨.hbm, 406, rfl⟩
abbrev main_cst_24 : Ref sig .tc := ⟨.hbm, 407, rfl⟩
abbrev main_v228 : Ref sig .tc := ⟨.hbm, 408, rfl⟩
abbrev main_v229 : Ref sig .tc := ⟨.hbm, 409, rfl⟩
abbrev main_v230 : Ref sig .tc := ⟨.hbm, 410, rfl⟩
abbrev main_v231 : Ref sig .tc := ⟨.hbm, 411, rfl⟩
abbrev main_v232 : Ref sig .tc := ⟨.hbm, 412, rfl⟩
abbrev main_v233 : Ref sig .tc := ⟨.hbm, 413, rfl⟩
abbrev main_v234 : Ref sig .tc := ⟨.hbm, 414, rfl⟩
abbrev main_v235 : Ref sig .tc := ⟨.hbm, 415, rfl⟩
abbrev main_v236 : Ref sig .tc := ⟨.hbm, 416, rfl⟩
abbrev main_cst_25 : Ref sig .tc := ⟨.hbm, 417, rfl⟩
abbrev main_v237 : Ref sig .tc := ⟨.hbm, 418, rfl⟩
abbrev main_v238 : Ref sig .tc := ⟨.hbm, 419, rfl⟩
abbrev main_cst_26 : Ref sig .tc := ⟨.hbm, 420, rfl⟩
abbrev main_v239 : Ref sig .tc := ⟨.hbm, 421, rfl⟩
abbrev main_v240 : Ref sig .tc := ⟨.hbm, 422, rfl⟩
abbrev main_v241 : Ref sig .tc := ⟨.hbm, 423, rfl⟩
abbrev main_v242 : Ref sig .tc := ⟨.hbm, 424, rfl⟩
abbrev main_cst_27 : Ref sig .tc := ⟨.hbm, 425, rfl⟩
abbrev main_v243 : Ref sig .tc := ⟨.hbm, 426, rfl⟩
abbrev main_v244 : Ref sig .tc := ⟨.hbm, 427, rfl⟩
abbrev main_cst_28 : Ref sig .tc := ⟨.hbm, 428, rfl⟩
abbrev main_v245 : Ref sig .tc := ⟨.hbm, 429, rfl⟩
abbrev main_v246 : Ref sig .tc := ⟨.hbm, 430, rfl⟩
abbrev main_v247 : Ref sig .tc := ⟨.hbm, 431, rfl⟩
abbrev main_v248 : Ref sig .tc := ⟨.hbm, 432, rfl⟩
abbrev main_v249 : Ref sig .tc := ⟨.hbm, 433, rfl⟩
abbrev main_v250 : Ref sig .tc := ⟨.hbm, 434, rfl⟩
abbrev main_v251 : Ref sig .tc := ⟨.hbm, 435, rfl⟩
abbrev main_v252 : Ref sig .tc := ⟨.hbm, 436, rfl⟩
abbrev main_v253 : Ref sig .tc := ⟨.hbm, 437, rfl⟩
abbrev main_v254 : Ref sig .tc := ⟨.hbm, 438, rfl⟩
abbrev main_v255 : Ref sig .tc := ⟨.hbm, 439, rfl⟩
abbrev main_v256 : Ref sig .tc := ⟨.hbm, 440, rfl⟩
abbrev main_v257 : Ref sig .tc := ⟨.hbm, 441, rfl⟩
abbrev main_v258 : Ref sig .tc := ⟨.hbm, 442, rfl⟩
abbrev main_v259 : Ref sig .tc := ⟨.hbm, 443, rfl⟩
abbrev main_v260 : Ref sig .tc := ⟨.hbm, 444, rfl⟩
abbrev main_v261 : Ref sig .tc := ⟨.hbm, 445, rfl⟩
abbrev main_v262 : Ref sig .tc := ⟨.hbm, 446, rfl⟩
abbrev main_v263 : Ref sig .tc := ⟨.hbm, 447, rfl⟩
abbrev main_cst_29 : Ref sig .tc := ⟨.hbm, 448, rfl⟩
abbrev main_v264 : Ref sig .tc := ⟨.hbm, 449, rfl⟩
abbrev main_cst_30 : Ref sig .tc := ⟨.hbm, 450, rfl⟩
abbrev main_v265 : Ref sig .tc := ⟨.hbm, 451, rfl⟩
abbrev main_v266 : Ref sig .tc := ⟨.hbm, 452, rfl⟩
abbrev main_cst_31 : Ref sig .tc := ⟨.hbm, 453, rfl⟩
abbrev main_v267 : Ref sig .tc := ⟨.hbm, 454, rfl⟩
abbrev main_v268 : Ref sig .tc := ⟨.hbm, 455, rfl⟩
abbrev main_v269 : Ref sig .tc := ⟨.hbm, 456, rfl⟩
abbrev main_v270 : Ref sig .tc := ⟨.hbm, 457, rfl⟩
abbrev main_v271 : Ref sig .tc := ⟨.hbm, 458, rfl⟩
abbrev main_v272 : Ref sig .tc := ⟨.hbm, 459, rfl⟩
abbrev main_v273 : Ref sig .tc := ⟨.hbm, 460, rfl⟩
abbrev main_v274 : Ref sig .tc := ⟨.hbm, 461, rfl⟩
abbrev main_v275 : Ref sig .tc := ⟨.hbm, 462, rfl⟩
abbrev main_v276 : Ref sig .tc := ⟨.hbm, 463, rfl⟩
abbrev main_v277 : Ref sig .tc := ⟨.hbm, 464, rfl⟩
abbrev main_v278 : Ref sig .tc := ⟨.hbm, 465, rfl⟩
abbrev main_v279 : Ref sig .tc := ⟨.hbm, 466, rfl⟩
abbrev main_v280 : Ref sig .tc := ⟨.hbm, 467, rfl⟩
abbrev main_cst_32 : Ref sig .tc := ⟨.hbm, 468, rfl⟩
abbrev main_v281 : Ref sig .tc := ⟨.hbm, 469, rfl⟩
abbrev main_cst_33 : Ref sig .tc := ⟨.hbm, 470, rfl⟩
abbrev main_v282 : Ref sig .tc := ⟨.hbm, 471, rfl⟩
abbrev main_v283 : Ref sig .tc := ⟨.hbm, 472, rfl⟩
abbrev main_cst_34 : Ref sig .tc := ⟨.hbm, 473, rfl⟩
abbrev main_v284 : Ref sig .tc := ⟨.hbm, 474, rfl⟩
abbrev main_v285 : Ref sig .tc := ⟨.hbm, 475, rfl⟩
abbrev main_cst_35 : Ref sig .tc := ⟨.hbm, 476, rfl⟩
abbrev main_v286 : Ref sig .tc := ⟨.hbm, 477, rfl⟩
abbrev main_cst_36 : Ref sig .tc := ⟨.hbm, 478, rfl⟩
abbrev main_v287 : Ref sig .tc := ⟨.hbm, 479, rfl⟩
abbrev main_v288 : Ref sig .tc := ⟨.hbm, 480, rfl⟩
abbrev main_v289 : Ref sig .tc := ⟨.hbm, 481, rfl⟩
abbrev main_v290 : Ref sig .tc := ⟨.hbm, 482, rfl⟩
abbrev main_v291 : Ref sig .tc := ⟨.hbm, 483, rfl⟩
abbrev main_v292 : Ref sig .tc := ⟨.hbm, 484, rfl⟩
abbrev main_v293 : Ref sig .tc := ⟨.hbm, 485, rfl⟩
abbrev main_v294 : Ref sig .tc := ⟨.hbm, 486, rfl⟩
abbrev main_v295 : Ref sig .tc := ⟨.hbm, 487, rfl⟩
abbrev main_v296 : Ref sig .tc := ⟨.hbm, 488, rfl⟩

abbrev nD : Nat := 1
abbrev τ : Topo := Topo.v7x

variable {F : FTy → Type} [FloatOps F]

abbrev main_while0_count : Scf.Loop 32 := ⟨0#32, 34#32, 1#32⟩
-- ==== FfnDown.lean ====
abbrev S4352x5632 : Shape := ⟨2, ![4352, 5632]⟩
abbrev S5632x2048 : Shape := ⟨2, ![5632, 2048]⟩
abbrev S4352x2048 : Shape := ⟨2, ![4352, 2048]⟩
abbrev S1088x5632 : Shape := ⟨2, ![1088, 5632]⟩
abbrev S5632x512 : Shape := ⟨2, ![5632, 512]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x2048, .f32⟩
  | .local _ .vmem, ⟨0, _⟩ => ⟨S1088x5632, .bf16⟩
  | .local _ .vmem, ⟨1, _⟩ => ⟨S1088x5632, .bf16⟩
  | .local _ .vmem, ⟨2, _⟩ => ⟨S5632x512, .bf16⟩
  | .local _ .vmem, ⟨3, _⟩ => ⟨S5632x512, .bf16⟩
  | .local _ .vmem, ⟨4, _⟩ => ⟨S1088x512, .f32⟩
  | .local _ .vmem, ⟨5, _⟩ => ⟨S1088x512, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S5632x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownRefIdeal.lean ====
abbrev S4352x5632 : Shape := ⟨2, ![4352, 5632]⟩
abbrev S5632x2048 : Shape := ⟨2, ![5632, 2048]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S5632x2048, .bf16⟩
  | .hbm, ⟨2, _⟩ => ⟨S4352x5632, .f32⟩
  | .hbm, ⟨3, _⟩ => ⟨S5632x2048, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDx.lean ====
abbrev S4352x2048 : Shape := ⟨2, ![4352, 2048]⟩
abbrev S5632x2048 : Shape := ⟨2, ![5632, 2048]⟩
abbrev S4352x5632 : Shape := ⟨2, ![4352, 5632]⟩
abbrev S1088x2048 : Shape := ⟨2, ![1088, 2048]⟩
abbrev S1408x2048 : Shape := ⟨2, ![1408, 2048]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S1408x2048, .bf16⟩
  | .local _ .vmem, ⟨3, _⟩ => ⟨S1408x2048, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1408x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownDxRefIdeal.lean ====
abbrev S4352x2048 : Shape := ⟨2, ![4352, 2048]⟩
abbrev S5632x2048 : Shape := ⟨2, ![5632, 2048]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S5632x2048, .bf16⟩
  | .hbm, ⟨2, _⟩ => ⟨S5632x2048, .f32⟩
  | .hbm, ⟨3, _⟩ => ⟨S4352x2048, .f32⟩
  | .hbm, ⟨4, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== FfnDownDw.lean ====
abbrev S5632x4352 : Shape := ⟨2, ![5632, 4352]⟩
abbrev S4352x2048 : Shape := ⟨2, ![4352, 2048]⟩
abbrev S5632x2048 : Shape := ⟨2, ![5632, 2048]⟩
abbrev S512x4352 : Shape := ⟨2, ![512, 4352]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S5632x4352, .bf16⟩
  | .hbm, ⟨1, _⟩ => ⟨S4352x2048, .bf16⟩
  | .hbm, ⟨2, _⟩ => ⟨S5632x2048, .bf16⟩
  | .local _ .vmem, ⟨0, _⟩ => ⟨S512x4352, .bf16⟩
  | .local _ .vmem, ⟨1, _⟩ => ⟨S512x4352, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S5632x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnDownDwRefIdeal.lean ====
abbrev S5632x4352 : Shape := ⟨2, ![5632, 4352]⟩
abbrev S4352x2048 : Shape := ⟨2, ![4352, 2048]⟩
abbrev S4352x5632 : Shape := ⟨2, ![4352, 5632]⟩
abbrev S2048x5632 : Shape := ⟨2, ![2048, 5632]⟩
abbrev S5632x2048 : Shape := ⟨2, ![5632, 2048]⟩

abbrev nBuf : Space → Nat
  | .hbm => 8
  | .vmem => 0
  | .smem => 0
  | _ => 0

abbrev bufTy : (tb : Table) → Fin (tcTables nBuf tb) → BufTy
  | .hbm, ⟨0, _⟩ => ⟨S5632x4352, .bf16⟩
  | .hbm, ⟨1, _⟩ => ⟨S4352x2048, .bf16⟩
  | .hbm, ⟨2, _⟩ => ⟨S5632x4352, .f32⟩
  | .hbm, ⟨3, _⟩ => ⟨S4352x5632, .f32⟩
  | .hbm, ⟨4, _⟩ => ⟨S4352x2048, .f32⟩
  | .hbm, ⟨5, _⟩ => ⟨S2048x5632, .f32⟩
  | .hbm, ⟨6, _⟩ => ⟨S5632x2048, .f32⟩
  | .hbm, ⟨7, _⟩ => ⟨S5632x2048, .bf16⟩
  | _, _ => ⟨S5632x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== FfnUp.lean ====
abbrev S4352x2048 : Shape := ⟨2, ![4352, 2048]⟩
abbrev S8x2048x1408 : Shape := ⟨3, ![8, 2048, 1408]⟩
abbrev S4352x11264 : Shape := ⟨2, ![4352, 11264]⟩
abbrev S1088x2048 : Shape := ⟨2, ![1088, 2048]⟩
abbrev S1x2048x1408 : Shape := ⟨3, ![1, 2048, 1408]⟩
abbrev S1088x1408 : Shape := ⟨2, ![1088, 1408]⟩
abbrev S2048x1408 : Shape := ⟨2, ![2048, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S4352x11264, .f32⟩
  | .local _ .vmem, ⟨0, _⟩ => ⟨S1088x2048, .bf16⟩
  | .local _ .vmem, ⟨1, _⟩ => ⟨S1088x2048, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpRefIdeal.lean ====
abbrev S4352x2048 : Shape := ⟨2, ![4352, 2048]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4352x11264 : Shape := ⟨2, ![4352, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S4352x2048, .f32⟩
  | .hbm, ⟨6, _⟩ => ⟨S4352x11264, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUpDx.lean ====
abbrev S4352x11264 : Shape := ⟨2, ![4352, 11264]⟩
abbrev S8x2048x1408 : Shape := ⟨3, ![8, 2048, 1408]⟩
abbrev S4352x2048 : Shape := ⟨2, ![4352, 2048]⟩
abbrev S544x11264 : Shape := ⟨2, ![544, 11264]⟩
abbrev S8x512x1408 : Shape := ⟨3, ![8, 512, 1408]⟩
abbrev S544x512 : Shape := ⟨2, ![544, 512]⟩
abbrev S544x1408 : Shape := ⟨2, ![544, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S4352x2048, .f32⟩
  | .local _ .vmem, ⟨0, _⟩ => ⟨S544x11264, .bf16⟩
  | .local _ .vmem, ⟨1, _⟩ => ⟨S544x11264, .bf16⟩
  | .local _ .vmem, ⟨2, _⟩ => ⟨S8x512x1408, .bf16⟩
  | .local _ .vmem, ⟨3, _⟩ => ⟨S8x512x1408, .bf16⟩
  | .local _ .vmem, ⟨4, _⟩ => ⟨S544x512, .f32⟩
  | .local _ .vmem, ⟨5, _⟩ => ⟨S544x512, .f32⟩
  | _, _ => ⟨S4352x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S544x11264 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S8x512x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S544x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpDxRefIdeal.lean ====
abbrev S4352x11264 : Shape := ⟨2, ![4352, 11264]⟩
abbrev S8x2048x1408 : Shape := ⟨3, ![8, 2048, 1408]⟩
abbrev S2048x8x1408 : Shape := ⟨3, ![2048, 8, 1408]⟩
abbrev S2048x11264 : Shape := ⟨2, ![2048, 11264]⟩
abbrev S4352x2048 : Shape := ⟨2, ![4352, 2048]⟩

abbrev nBuf : Space → Nat
  | .hbm => 7
  | .vmem => 0
  | .smem => 0
  | _ => 0

abbrev bufTy : (tb : Table) → Fin (tcTables nBuf tb) → BufTy
  | .hbm, ⟨0, _⟩ => ⟨S4352x11264, .bf16⟩
  | .hbm, ⟨1, _⟩ => ⟨S8x2048x1408, .bf16⟩
  | .hbm, ⟨2, _⟩ => ⟨S8x2048x1408, .f32⟩
  | .hbm, ⟨3, _⟩ => ⟨S2048x8x1408, .f32⟩
  | .hbm, ⟨4, _⟩ => ⟨S2048x11264, .f32⟩
  | .hbm, ⟨5, _⟩ => ⟨S4352x11264, .f32⟩
  | .hbm, ⟨6, _⟩ => ⟨S4352x2048, .f32⟩
  | _, _ => ⟨S4352x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== FfnUpDw.lean ====
abbrev S2048x4352 : Shape := ⟨2, ![2048, 4352]⟩
abbrev S4352x11264 : Shape := ⟨2, ![4352, 11264]⟩
abbrev S8x2048x1408 : Shape := ⟨3, ![8, 2048, 1408]⟩
abbrev S512x4352 : Shape := ⟨2, ![512, 4352]⟩
abbrev S4352x1408 : Shape := ⟨2, ![4352, 1408]⟩
abbrev S1x512x1408 : Shape := ⟨3, ![1, 512, 1408]⟩
abbrev S512x1408 : Shape := ⟨2, ![512, 1408]⟩

abbrev nBuf : Space → Nat
  | .hbm => 3
  | .vmem => 6
  | .smem => 0
  | _ => 0

abbrev bufTy : (tb : Table) → Fin (tcTables nBuf tb) → BufTy
  | .hbm, ⟨0, _⟩ => ⟨S2048x4352, .bf16⟩
  | .hbm, ⟨1, _⟩ => ⟨S4352x11264, .bf16⟩
  | .hbm, ⟨2, _⟩ => ⟨S8x2048x1408, .bf16⟩
  | .local _ .vmem, ⟨0, _⟩ => ⟨S512x4352, .bf16⟩
  | .local _ .vmem, ⟨1, _⟩ => ⟨S512x4352, .bf16⟩
  | .local _ .vmem, ⟨2, _⟩ => ⟨S4352x1408, .bf16⟩
  | .local _ .vmem, ⟨3, _⟩ => ⟨S4352x1408, .bf16⟩
  | .local _ .vmem, ⟨4, _⟩ => ⟨S1x512x1408, .bf16⟩
  | .local _ .vmem, ⟨5, _⟩ => ⟨S1x512x1408, .bf16⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== FfnUpDwRefIdeal.lean ====
abbrev S2048x4352 : Shape := ⟨2, ![2048, 4352]⟩
abbrev S4352x11264 : Shape := ⟨2, ![4352, 11264]⟩
abbrev S4352x2048 : Shape := ⟨2, ![4352, 2048]⟩
abbrev S11264x2048 : Shape := ⟨2, ![11264, 2048]⟩
abbrev S2048x11264 : Shape := ⟨2, ![2048, 11264]⟩
abbrev S2048x8x1408 : Shape := ⟨3, ![2048, 8, 1408]⟩
abbrev S8x2048x1408 : Shape := ⟨3, ![8, 2048, 1408]⟩

abbrev nBuf : Space → Nat
  | .hbm => 10
  | .vmem => 0
  | .smem => 0
  | _ => 0

abbrev bufTy : (tb : Table) → Fin (tcTables nBuf tb) → BufTy
  | .hbm, ⟨0, _⟩ => ⟨S2048x4352, .bf16⟩
  | .hbm, ⟨1, _⟩ => ⟨S4352x11264, .bf16⟩
  | .hbm, ⟨2, _⟩ => ⟨S2048x4352, .f32⟩
  | .hbm, ⟨3, _⟩ => ⟨S4352x2048, .f32⟩
  | .hbm, ⟨4, _⟩ => ⟨S4352x11264, .f32⟩
  | .hbm, ⟨5, _⟩ => ⟨S11264x2048, .f32⟩
  | .hbm, ⟨6, _⟩ => ⟨S2048x11264, .f32⟩
  | .hbm, ⟨7, _⟩ => ⟨S2048x8x1408, .f32⟩
  | .hbm, ⟨8, _⟩ => ⟨S8x2048x1408, .f32⟩
  | .hbm, ⟨9, _⟩ => ⟨S8x2048x1408, .bf16⟩
  | _, _ => ⟨S2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== ProjIn.lean ====
abbrev S4352x2048 : Shape := ⟨2, ![4352, 2048]⟩
abbrev S2048x5632 : Shape := ⟨2, ![2048, 5632]⟩
abbrev S4352x5632 : Shape := ⟨2, ![4352, 5632]⟩
abbrev S1088x2048 : Shape := ⟨2, ![1088, 2048]⟩
abbrev S2048x1408 : Shape := ⟨2, ![2048, 1408]⟩
abbrev S1088x1408 : Shape := ⟨2, ![1088, 1408]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S4352x5632, .f32⟩
  | .local _ .vmem, ⟨0, _⟩ => ⟨S1088x2048, .bf16⟩
  | .local _ .vmem, ⟨1, _⟩ => ⟨S1088x2048, .bf16⟩
  | .local _ .vmem, ⟨2, _⟩ => ⟨S2048x1408, .bf16⟩
  | .local _ .vmem, ⟨3, _⟩ => ⟨S2048x1408, .bf16⟩
  | .local _ .vmem, ⟨4, _⟩ => ⟨S1088x1408, .f32⟩
  | .local _ .vmem, ⟨5, _⟩ => ⟨S1088x1408, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInRefIdeal.lean ====
abbrev S4352x2048 : Shape := ⟨2, ![4352, 2048]⟩
abbrev S2048x5632 : Shape := ⟨2, ![2048, 5632]⟩
abbrev S4352x5632 : Shape := ⟨2, ![4352, 5632]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x5632, .bf16⟩
  | .hbm, ⟨2, _⟩ => ⟨S4352x2048, .f32⟩
  | .hbm, ⟨3, _⟩ => ⟨S2048x5632, .f32⟩
  | .hbm, ⟨4, _⟩ => ⟨S4352x5632, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjInDx.lean ====
abbrev S4352x5632 : Shape := ⟨2, ![4352, 5632]⟩
abbrev S2048x5632 : Shape := ⟨2, ![2048, 5632]⟩
abbrev S4352x2048 : Shape := ⟨2, ![4352, 2048]⟩
abbrev S1088x5632 : Shape := ⟨2, ![1088, 5632]⟩
abbrev S512x5632 : Shape := ⟨2, ![512, 5632]⟩
abbrev S1088x512 : Shape := ⟨2, ![1088, 512]⟩

abbrev nBuf : Space → Nat
  | .hbm => 3
  | .vmem => 6
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S4352x2048, .f32⟩
  | .local _ .vmem, ⟨0, _⟩ => ⟨S1088x5632, .bf16⟩
  | .local _ .vmem, ⟨1, _⟩ => ⟨S1088x5632, .bf16⟩
  | .local _ .vmem, ⟨2, _⟩ => ⟨S512x5632, .bf16⟩
  | .local _ .vmem, ⟨3, _⟩ => ⟨S512x5632, .bf16⟩
  | .local _ .vmem, ⟨4, _⟩ => ⟨S1088x512, .f32⟩
  | .local _ .vmem, ⟨5, _⟩ => ⟨S1088x512, .f32⟩
  | _, _ => ⟨S4352x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x5632 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInDxRefIdeal.lean ====
abbrev S4352x5632 : Shape := ⟨2, ![4352, 5632]⟩
abbrev S2048x5632 : Shape := ⟨2, ![2048, 5632]⟩
abbrev S4352x2048 : Shape := ⟨2, ![4352, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x5632, .bf16⟩
  | .hbm, ⟨1, _⟩ => ⟨S2048x5632, .bf16⟩
  | .hbm, ⟨2, _⟩ => ⟨S2048x5632, .f32⟩
  | .hbm, ⟨3, _⟩ => ⟨S4352x5632, .f32⟩
  | .hbm, ⟨4, _⟩ => ⟨S4352x2048, .f32⟩
  | _, _ => ⟨S4352x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjInDw.lean ====
abbrev S1024x4352 : Shape := ⟨2, ![1024, 4352]⟩
abbrev S4352x5632 : Shape := ⟨2, ![4352, 5632]⟩
abbrev S8x1024x704 : Shape := ⟨3, ![8, 1024, 704]⟩
abbrev S512x4352 : Shape := ⟨2, ![512, 4352]⟩
abbrev S4352x1408 : Shape := ⟨2, ![4352, 1408]⟩
abbrev S2x512x704 : Shape := ⟨3, ![2, 512, 704]⟩
abbrev S512x1408 : Shape := ⟨2, ![512, 1408]⟩
abbrev S512x704 : Shape := ⟨2, ![512, 704]⟩
abbrev S1x512x704 : Shape := ⟨3, ![1, 512, 704]⟩

abbrev nBuf : Space → Nat
  | .hbm => 3
  | .vmem => 6
  | .smem => 0
  | _ => 0

abbrev bufTy : (tb : Table) → Fin (tcTables nBuf tb) → BufTy
  | .hbm, ⟨0, _⟩ => ⟨S1024x4352, .bf16⟩
  | .hbm, ⟨1, _⟩ => ⟨S4352x5632, .bf16⟩
  | .hbm, ⟨2, _⟩ => ⟨S8x1024x704, .bf16⟩
  | .local _ .vmem, ⟨0, _⟩ => ⟨S512x4352, .bf16⟩
  | .local _ .vmem, ⟨1, _⟩ => ⟨S512x4352, .bf16⟩
  | .local _ .vmem, ⟨2, _⟩ => ⟨S4352x1408, .bf16⟩
  | .local _ .vmem, ⟨3, _⟩ => ⟨S4352x1408, .bf16⟩
  | .local _ .vmem, ⟨4, _⟩ => ⟨S2x512x704, .bf16⟩
  | .local _ .vmem, ⟨5, _⟩ => ⟨S2x512x704, .bf16⟩
  | _, _ => ⟨S1024x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2x512x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjInDwRefIdeal.lean ====
abbrev S1024x4352 : Shape := ⟨2, ![1024, 4352]⟩
abbrev S4352x5632 : Shape := ⟨2, ![4352, 5632]⟩
abbrev S4352x1024 : Shape := ⟨2, ![4352, 1024]⟩
abbrev S5632x1024 : Shape := ⟨2, ![5632, 1024]⟩
abbrev S1024x5632 : Shape := ⟨2, ![1024, 5632]⟩
abbrev S1024x8x704 : Shape := ⟨3, ![1024, 8, 704]⟩
abbrev S8x1024x704 : Shape := ⟨3, ![8, 1024, 704]⟩

abbrev nBuf : Space → Nat
  | .hbm => 10
  | .vmem => 0
  | .smem => 0
  | _ => 0

abbrev bufTy : (tb : Table) → Fin (tcTables nBuf tb) → BufTy
  | .hbm, ⟨0, _⟩ => ⟨S1024x4352, .bf16⟩
  | .hbm, ⟨1, _⟩ => ⟨S4352x5632, .bf16⟩
  | .hbm, ⟨2, _⟩ => ⟨S1024x4352, .f32⟩
  | .hbm, ⟨3, _⟩ => ⟨S4352x1024, .f32⟩
  | .hbm, ⟨4, _⟩ => ⟨S4352x5632, .f32⟩
  | .hbm, ⟨5, _⟩ => ⟨S5632x1024, .f32⟩
  | .hbm, ⟨6, _⟩ => ⟨S1024x5632, .f32⟩
  | .hbm, ⟨7, _⟩ => ⟨S1024x8x704, .f32⟩
  | .hbm, ⟨8, _⟩ => ⟨S8x1024x704, .f32⟩
  | .hbm, ⟨9, _⟩ => ⟨S8x1024x704, .bf16⟩
  | _, _ => ⟨S1024x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩

abbrev nD : Nat := 1
abbrev τ : Topo := Topo.v7x

variable {F : FTy → Type} [FloatOps F]
-- ==== ProjOut.lean ====
abbrev S4352x1024 : Shape := ⟨2, ![4352, 1024]⟩
abbrev S4352x512 : Shape := ⟨2, ![4352, 512]⟩
abbrev S2048x2048 : Shape := ⟨2, ![2048, 2048]⟩
abbrev S4352x2048 : Shape := ⟨2, ![4352, 2048]⟩
abbrev S1088x1024 : Shape := ⟨2, ![1088, 1024]⟩
abbrev S1088x512 : Shape := ⟨2, ![1088, 512]⟩
abbrev S2048x1024 : Shape := ⟨2, ![2048, 1024]⟩
abbrev S1024x1024 : Shape := ⟨2, ![1024, 1024]⟩
abbrev S512x1024 : Shape := ⟨2, ![512, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S2048x2048, .bf16⟩
  | .hbm, ⟨4, _⟩ => ⟨S4352x2048, .f32⟩
  | .local _ .vmem, ⟨0, _⟩ => ⟨S1088x1024, .bf16⟩
  | .local _ .vmem, ⟨1, _⟩ => ⟨S1088x1024, .bf16⟩
  | .local _ .vmem, ⟨2, _⟩ => ⟨S1088x512, .bf16⟩
  | .local _ .vmem, ⟨3, _⟩ => ⟨S1088x512, .bf16⟩
  | .local _ .vmem, ⟨4, _⟩ => ⟨S1088x512, .bf16⟩
  | .local _ .vmem, ⟨5, _⟩ => ⟨S1088x512, .bf16⟩
  | .local _ .vmem, ⟨6, _⟩ => ⟨S2048x1024, .bf16⟩
  | .local _ .vmem, ⟨7, _⟩ => ⟨S2048x1024, .bf16⟩
  | .local _ .vmem, ⟨8, _⟩ => ⟨S1088x1024, .f32⟩
  | .local _ .vmem, ⟨9, _⟩ => ⟨S1088x1024, .f32⟩
  | _, _ => ⟨S4352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1088x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2048x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1088x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ProjOutRefIdeal.lean ====
abbrev S4352x1024 : Shape := ⟨2, ![4352, 1024]⟩
abbrev S4352x512 : Shape := ⟨2, ![4352, 512]⟩
abbrev S2048x2048 : Shape := ⟨2, ![2048, 2048]⟩
abbrev S4352x2048 : Shape := ⟨2, ![4352, 2048]⟩

abbrev nBuf : Space → Nat
  | .hbm => 8
  | .vmem => 0
  | .smem => 0
  | _ => 0

abbrev bufTy : (tb : Table) → Fin (tcTables nBuf tb) → BufTy
  | .hbm, ⟨0, _⟩ => ⟨S4352x1024, .bf16⟩
  | .hbm, ⟨1, _⟩ => ⟨S4352x512, .bf16⟩
  | .hbm, ⟨2, _⟩ => ⟨S4352x512, .bf16⟩
  | .hbm, ⟨3, _⟩ => ⟨S2048x2048, .bf16⟩
  | .hbm, ⟨4, _⟩ => ⟨S4352x2048, .bf16⟩
  | .hbm, ⟨5, _⟩ => ⟨S4352x2048, .f32⟩
  | .hbm, ⟨6, _⟩ => ⟨S2048x2048, .f32⟩
  | .hbm, ⟨7, _⟩ => ⟨S4352x2048, .f32⟩
  | _, _ => ⟨S4352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== ProjOutDx.lean ====
abbrev S4352x2048 : Shape := ⟨2, ![4352, 2048]⟩
abbrev S2048x2048 : Shape := ⟨2, ![2048, 2048]⟩
abbrev S1088x2048 : Shape := ⟨2, ![1088, 2048]⟩
abbrev S1024x2048 : Shape := ⟨2, ![1024, 2048]⟩
abbrev S1088x1024 : Shape := ⟨2, ![1088, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S4352x2048, .f32⟩
  | .local _ .vmem, ⟨0, _⟩ => ⟨S1088x2048, .bf16⟩
  | .local _ .vmem, ⟨1, _⟩ => ⟨S1088x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1088x1024, .f32⟩
  | .local _ .vmem, ⟨5, _⟩ => ⟨S1088x1024, .f32⟩
  | _, _ => ⟨S4352x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1088x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1088x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjOutDxRefIdeal.lean ====
abbrev S4352x2048 : Shape := ⟨2, ![4352, 2048]⟩
abbrev S2048x2048 : Shape := ⟨2, ![2048, 2048]⟩

abbrev nBuf : Space → Nat
  | .hbm => 5
  | .vmem => 0
  | .smem => 0
  | _ => 0

abbrev bufTy : (tb : Table) → Fin (tcTables nBuf tb) → BufTy
  | .hbm, ⟨0, _⟩ => ⟨S4352x2048, .bf16⟩
  | .hbm, ⟨1, _⟩ => ⟨S2048x2048, .bf16⟩
  | .hbm, ⟨2, _⟩ => ⟨S2048x2048, .f32⟩
  | .hbm, ⟨3, _⟩ => ⟨S4352x2048, .f32⟩
  | .hbm, ⟨4, _⟩ => ⟨S4352x2048, .f32⟩
  | _, _ => ⟨S4352x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== ProjOutDw.lean ====
abbrev S2048x4352 : Shape := ⟨2, ![2048, 4352]⟩
abbrev S4352x2048 : Shape := ⟨2, ![4352, 2048]⟩
abbrev S2048x2048 : Shape := ⟨2, ![2048, 2048]⟩
abbrev S512x4352 : Shape := ⟨2, ![512, 4352]⟩
abbrev S4352x512 : Shape := ⟨2, ![4352, 512]⟩
abbrev S512x512 : Shape := ⟨2, ![512, 512]⟩

abbrev nBuf : Space → Nat
  | .hbm => 3
  | .vmem => 6
  | .smem => 0
  | _ => 0

abbrev bufTy : (tb : Table) → Fin (tcTables nBuf tb) → BufTy
  | .hbm, ⟨0, _⟩ => ⟨S2048x4352, .bf16⟩
  | .hbm, ⟨1, _⟩ => ⟨S4352x2048, .bf16⟩
  | .hbm, ⟨2, _⟩ => ⟨S2048x2048, .bf16⟩
  | .local _ .vmem, ⟨0, _⟩ => ⟨S512x4352, .bf16⟩
  | .local _ .vmem, ⟨1, _⟩ => ⟨S512x4352, .bf16⟩
  | .local _ .vmem, ⟨2, _⟩ => ⟨S4352x512, .bf16⟩
  | .local _ .vmem, ⟨3, _⟩ => ⟨S4352x512, .bf16⟩
  | .local _ .vmem, ⟨4, _⟩ => ⟨S512x512, .bf16⟩
  | .local _ .vmem, ⟨5, _⟩ => ⟨S512x512, .bf16⟩
  | _, _ => ⟨S2048x4352, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4352 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4352x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjOutDwRefIdeal.lean ====
abbrev S2048x4352 : Shape := ⟨2, ![2048, 4352]⟩
abbrev S4352x2048 : Shape := ⟨2, ![4352, 2048]⟩
abbrev S2048x2048 : Shape := ⟨2, ![2048, 2048]⟩

abbrev nBuf : Space → Nat
  | .hbm => 8
  | .vmem => 0
  | .smem => 0
  | _ => 0

abbrev bufTy : (tb : Table) → Fin (tcTables nBuf tb) → BufTy
  | .hbm, ⟨0, _⟩ => ⟨S2048x4352, .bf16⟩
  | .hbm, ⟨1, _⟩ => ⟨S4352x2048, .bf16⟩
  | .hbm, ⟨2, _⟩ => ⟨S2048x4352, .f32⟩
  | .hbm, ⟨3, _⟩ => ⟨S4352x2048, .f32⟩
  | .hbm, ⟨4, _⟩ => ⟨S4352x2048, .f32⟩
  | .hbm, ⟨5, _⟩ => ⟨S2048x2048, .f32⟩
  | .hbm, ⟨6, _⟩ => ⟨S2048x2048, .f32⟩
  | .hbm, ⟨7, _⟩ => ⟨S2048x2048, .bf16⟩
  | _, _ => ⟨S2048x4352, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Proof.Lap.lean ====
module

public import proofs.«01_k».proof.Proof.Gen.KernelIdeal.Frame.RunB
public import Idealize.ShloMosaic.Lib.Claim

@[expose] public section

set_option maxRecDepth 16384
set_option maxHeartbeats 4000000

noncomputable section

/-! The run of the kernel, from the runs of its body: the generated frame module's launch, with what a point leaves named
    once (`endA`, `endB`) instead of output by output. -/
namespace Cert.KernelIdeal.Lap

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F]

local notation "𝕄" => MT nD τ sig Unit (Elt F) ℕ (UR sig nD τ) ℕ

/-- What a point leaves: the seven outputs' blocks, then the carried scratch. -/
abbrev Left (F : FTy → Type) := Vec F S128x512 .f32 × Vec F S128x512 .f32 × Vec F S128x1024 .f32 × Vec F S128x512 .f32 × Vec F S128x512 .f32 × Vec F S128x1024 .f32 × Vec F S2x4x8x128 .f32 × Vec F S2x4x128x256 .f32

section Cases
variable {c : Dev nD} {i : grid0.Coords}
  {arg2 : Memref sig .tc .smem S2x4 .f32} {harg2 : arg2.IsWhole} {arg3 : Memref sig .tc .vmem S128x512 .f32} {harg3 : arg3.IsWhole}
  {arg4 : Memref sig .tc .vmem S128x512 .f32} {harg4 : arg4.IsWhole} {arg5 : Memref sig .tc .vmem S128x1024 .f32} {harg5 : arg5.IsWhole}
  {arg6 : Memref sig .tc .vmem S128x128 .f32} {harg6 : arg6.IsWhole} {arg7 : Memref sig .tc .vmem S128x128 .f32} {harg7 : arg7.IsWhole}
  {arg8 : Memref sig .tc .vmem S128x1024 .f32} {harg8 : arg8.IsWhole} {arg9 : Memref sig .tc .vmem S128x512 .f32} {harg9 : arg9.IsWhole}
  {arg10 : Memref sig .tc .vmem S128x512 .f32} {harg10 : arg10.IsWhole} {arg11 : Memref sig .tc .vmem S128x1024 .f32} {harg11 : arg11.IsWhole}
  {arg12 : Memref sig .tc .vmem S128x128 .f32} {harg12 : arg12.IsWhole} {arg13 : Memref sig .tc .vmem S128x128 .f32} {harg13 : arg13.IsWhole}
  {arg14 : Memref sig .tc .vmem S128x1024 .f32} {harg14 : arg14.IsWhole} {arg15 : Memref sig .tc .vmem S2x4x1x128x256 .f32} {harg15 : arg15.IsWhole}
  {arg16 : Memref sig .tc .vmem S128x512 .f32} {harg16 : arg16.IsWhole} {arg17 : Memref sig .tc .vmem S128x512 .f32} {harg17 : arg17.IsWhole}
  {arg18 : Memref sig .tc .vmem S128x1024 .f32} {harg18 : arg18.IsWhole} {arg19 : Memref sig .tc .vmem S128x512 .f32} {harg19 : arg19.IsWhole}
  {arg20 : Memref sig .tc .vmem S128x512 .f32} {harg20 : arg20.IsWhole} {arg21 : Memref sig .tc .vmem S128x1024 .f32} {harg21 : arg21.IsWhole}
  {arg22 : Memref sig .tc .vmem S2x4x8x128 .f32} {harg22 : arg22.IsWhole} {arg23 : Memref sig .tc .vmem S2x4x128x256 .f32} {harg23 : arg23.IsWhole}
  {x0 : Vec F S2x4 .f32} {x1 : Vec F S128x512 .f32} {x2 : Vec F S128x512 .f32} {x3 : Vec F S128x1024 .f32} {x4 : Vec F S128x128 .f32} {x5 : Vec F S128x128 .f32} {x6 : Vec F S128x1024 .f32} {x7 : Vec F S128x512 .f32} {x8 : Vec F S128x512 .f32} {x9 : Vec F S128x1024 .f32} {x10 : Vec F S128x128 .f32} {x11 : Vec F S128x128 .f32} {x12 : Vec F S128x1024 .f32} {x13 : Vec F S2x4x1x128x256 .f32}
  {xt0 : TbBuf0 (F := F) c tbM0_0} {xo20 : Vec F S2x4x8x128 .f32} {xs0 : Vec F S2x4x128x256 .f32}

/-- The pieces of each output tile its block. -/
theorem coverA_14 {hc0 : cond0_0 i} (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).1 S128x128.size (by sl_kernel_rfl) y
theorem coverA_15 {hc0 : cond0_0 i} (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.1 S128x128.size (by sl_kernel_rfl) y
theorem coverA_16 {hc0 : cond0_0 i} (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.1 S128x256.size (by sl_kernel_rfl) y
theorem coverA_17 {hc0 : cond0_0 i} (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.1 S128x128.size (by sl_kernel_rfl) y
theorem coverA_18 {hc0 : cond0_0 i} (y : S128x512.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.1 S128x128.size (by sl_kernel_rfl) y
theorem coverA_19 {hc0 : cond0_0 i} (y : S128x1024.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.1 S128x256.size (by sl_kernel_rfl) y
theorem coverA_20 {hc0 : cond0_0 i} (y : S2x4x8x128.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.2.1, y ∈ pc.1.set :=
  View.cover_of_tiledBy _ ![1, 1, 8, 128] (by sl_kernel_rfl) y
theorem coverA_21 {hc0 : cond0_0 i} (y : S2x4x128x256.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.2.2.1, y ∈ pc.1.set :=
  View.cover_of_wholeMem _ (by sl_whole_mem) y

/-- The pieces of each output tile its block. -/
theorem coverB_14 {hc0 : ¬cond0_0 i} (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).1 S128x128.size (by sl_kernel_rfl) y
theorem coverB_15 {hc0 : ¬cond0_0 i} (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.1 S128x128.size (by sl_kernel_rfl) y
theorem coverB_16 {hc0 : ¬cond0_0 i} (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.1 S128x256.size (by sl_kernel_rfl) y
theorem coverB_17 {hc0 : ¬cond0_0 i} (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.1 S128x128.size (by sl_kernel_rfl) y
theorem coverB_18 {hc0 : ¬cond0_0 i} (y : S128x512.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.1 S128x128.size (by sl_kernel_rfl) y
theorem coverB_19 {hc0 : ¬cond0_0 i} (y : S128x1024.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.1 S128x256.size (by sl_kernel_rfl) y
theorem coverB_20 {hc0 : ¬cond0_0 i} (y : S2x4x8x128.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.1 S1x1x8x128.size (by sl_kernel_rfl) y
theorem coverB_21 {hc0 : ¬cond0_0 i} (y : S2x4x128x256.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.2.1 S1x1x128x256.size (by sl_kernel_rfl) y
end Cases

variable (m : (ℓ : Loc nD τ sig) → Buf (Elt F) ℓ) (ρ : Dev nD → PrngReg)

/-- The pieces of the body's run at a point: the first, and a later one on the dd block and the scratch it finds. -/
abbrev runA (hO : Ok m) (c : Dev nD) (t : Fin (cfgM m hO).N) (h : cond0_0 (grid0.coords t)) :=
  kernelRun0_A c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) h (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0)
abbrev runB (hO : Ok m) (c : Dev nD) (t : Fin (cfgM m hO).N) (h : ¬cond0_0 (grid0.coords t)) (xo : Vec F S2x4x8x128 .f32) (xs : Vec F S2x4x128x256 .f32) :=
  kernelRun0_B c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (ms0_12 m hO t) (hs0_12 m hO t) (ms0_13 m hO t) (hs0_13 m hO t) (ms0_14 m hO t) (hs0_14 m hO t) (ms0_15 m hO t) (hs0_15 m hO t) (ms0_16 m hO t) (hs0_16 m hO t) (ms0_17 m hO t) (hs0_17 m hO t) (ms0_18 m hO t) (hs0_18 m hO t) (ms0_19 m hO t) (hs0_19 m hO t) (ms0_20 m hO t) (hs0_20 m hO t) scM0_0 (Memref.isWhole_whole _) h (iblk m hO c 0 t) (iblk m hO c 1 t) (iblk m hO c 2 t) (iblk m hO c 3 t) (iblk m hO c 4 t) (iblk m hO c 5 t) (iblk m hO c 6 t) (iblk m hO c 7 t) (iblk m hO c 8 t) (iblk m hO c 9 t) (iblk m hO c 10 t) (iblk m hO c 11 t) (iblk m hO c 12 t) (iblk m hO c 13 t) (tbl m 0) xo xs

/-- What a point leaves: its pieces read back over junk. -/
def endA (hO : Ok m) (c : Dev nD) (t : Fin (cfgM m hO).N) (h : cond0_0 (grid0.coords t)) : Left F :=
  (VO0_14.read (Elt F) (VO0_14.writes (Elt F) VO0_14.junk (runA m hO c t h).1),
   VO0_15.read (Elt F) (VO0_15.writes (Elt F) VO0_15.junk (runA m hO c t h).2.1),
   VO0_16.read (Elt F) (VO0_16.writes (Elt F) VO0_16.junk (runA m hO c t h).2.2.1),
   VO0_17.read (Elt F) (VO0_17.writes (Elt F) VO0_17.junk (runA m hO c t h).2.2.2.1),
   VO0_18.read (Elt F) (VO0_18.writes (Elt F) VO0_18.junk (runA m hO c t h).2.2.2.2.1),
   VO0_19.read (Elt F) (VO0_19.writes (Elt F) VO0_19.junk (runA m hO c t h).2.2.2.2.2.1),
   VO0_20.read (Elt F) (VO0_20.writes (Elt F) VO0_20.junk (runA m hO c t h).2.2.2.2.2.2.1),
   VS0_0.read (Elt F) (VS0_0.writes (Elt F) VS0_0.junk (runA m hO c t h).2.2.2.2.2.2.2.1))
def endB (hO : Ok m) (c : Dev nD) (t : Fin (cfgM m hO).N) (h : ¬cond0_0 (grid0.coords t)) (xo : Vec F S2x4x8x128 .f32) (xs : Vec F S2x4x128x256 .f32) : Left F :=
  (VO0_14.read (Elt F) (VO0_14.writes (Elt F) VO0_14.junk (runB m hO c t h xo xs).1),
   VO0_15.read (Elt F) (VO0_15.writes (Elt F) VO0_15.junk (runB m hO c t h xo xs).2.1),
   VO0_16.read (Elt F) (VO0_16.writes (Elt F) VO0_16.junk (runB m hO c t h xo xs).2.2.1),
   VO0_17.read (Elt F) (VO0_17.writes (Elt F) VO0_17.junk (runB m hO c t h xo xs).2.2.2.1),
   VO0_18.read (Elt F) (VO0_18.writes (Elt F) VO0_18.junk (runB m hO c t h xo xs).2.2.2.2.1),
   VO0_19.read (Elt F) (VO0_19.writes (Elt F) VO0_19.junk (runB m hO c t h xo xs).2.2.2.2.2.1),
   VO0_20.read (Elt F) (VO0_20.writes (Elt F) VO0_20.junk (runB m hO c t h xo xs).2.2.2.2.2.2.1),
   VS0_0.read (Elt F) (VS0_0.writes (Elt F) VS0_0.junk (runB m hO c t h xo xs).2.2.2.2.2.2.2.1))

/-- What each point leaves. -/
def outsAt0 (hO : Ok m) (c : Dev nD) : (n : ℕ) → n < (cfgM m hO).N → Left F
  | 0, hn => endA m hO c ⟨0, hn⟩ ((hcond0_0 ⟨0, hn⟩).mpr (Nat.zero_mod _))
  | n + 1, hn =>
    if h0 : (n + 1) % 34 = 0 then endA m hO c ⟨n + 1, hn⟩ ((hcond0_0 ⟨n + 1, hn⟩).mpr h0)
    else endB m hO c ⟨n + 1, hn⟩ (fun h => h0 ((hcond0_0 ⟨n + 1, hn⟩).mp h))
      (outsAt0 hO c n (Nat.lt_of_succ_lt hn)).2.2.2.2.2.2.1 (outsAt0 hO c n (Nat.lt_of_succ_lt hn)).2.2.2.2.2.2.2

theorem outsAt0_A (hO : Ok m) (c : Dev nD) (t : Fin (cfgM m hO).N) (h0 : t.val % 34 = 0) :
    outsAt0 m hO c t.val t.isLt = endA m hO c t ((hcond0_0 t).mpr h0) := by
  obtain ⟨n, hn⟩ := t
  cases n with
  | zero => rw [outsAt0]
  | succ n => rw [outsAt0]; exact dif_pos h0

theorem outsAt0_B (hO : Ok m) (c : Dev nD) (t : Fin (cfgM m hO).N) (h0 : ¬t.val % 34 = 0) :
    outsAt0 m hO c t.val t.isLt = endB m hO c t (fun h => h0 ((hcond0_0 t).mp h))
      (outsAt0 m hO c (t.val - 1) (Nat.lt_of_le_of_lt (Nat.sub_le _ _) t.isLt)).2.2.2.2.2.2.1
      (outsAt0 m hO c (t.val - 1) (Nat.lt_of_le_of_lt (Nat.sub_le _ _) t.isLt)).2.2.2.2.2.2.2 := by
  obtain ⟨n, hn⟩ := t
  cases n with
  | zero => exact (by exfalso; exact absurd (Nat.zero_mod _) h0)
  | succ n => rw [outsAt0]; exact dif_neg h0

def PhiS (hO : Ok m) (c : Dev nD) : (n : ℕ) → n ≤ (cfgM m hO).N → sProp 𝕄
  | 0, _ => iprop(Pipeline.ΦA spec0 c ∗ Pipeline.ΦT pre0 (tbl m) c)
  | n + 1, hn => iprop(iprop(iprop(owns (c : Thread nD τ) scM0_0 fullShare ((outsAt0 m hO c n hn).2.2.2.2.2.2.2)) ∗ (∃ r, prngReg c r)) ∗ Pipeline.ΦT pre0 (tbl m) c)

theorem PhiS_zero (hO : Ok m) (c : Dev nD) (n : ℕ) (h : n ≤ (cfgM m hO).N) (hz : n = 0) : PhiS m hO c n h = iprop(Pipeline.ΦA spec0 c ∗ Pipeline.ΦT pre0 (tbl m) c) := by
  subst hz; rfl

theorem PhiS_succ (hO : Ok m) (c : Dev nD) (n : ℕ) (hn : n < (cfgM m hO).N) :
    PhiS m hO c (n + 1) hn = iprop(iprop(iprop(owns (c : Thread nD τ) scM0_0 fullShare ((outsAt0 m hO c n hn).2.2.2.2.2.2.2)) ∗ (∃ r, prngReg c r)) ∗ Pipeline.ΦT pre0 (tbl m) c) := rfl

theorem PhiS_pos (hO : Ok m) (c : Dev nD) (n : ℕ) (h : n ≤ (cfgM m hO).N) (hz : n ≠ 0) :
    PhiS m hO c n h = iprop(iprop(iprop(owns (c : Thread nD τ) scM0_0 fullShare ((outsAt0 m hO c (n - 1) (by omega)).2.2.2.2.2.2.2)) ∗ (∃ r, prngReg c r)) ∗ Pipeline.ΦT pre0 (tbl m) c) := by
  cases n with
  | zero => exact absurd rfl hz
  | succ n => rfl

/-! ## The pipeline's proof data -/

def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => iblk m hO c 8 t
    | ⟨9, _⟩ => iblk m hO c 9 t
    | ⟨10, _⟩ => iblk m hO c 10 t
    | ⟨11, _⟩ => iblk m hO c 11 t
    | ⟨12, _⟩ => iblk m hO c 12 t
    | ⟨13, _⟩ => iblk m hO c 13 t
    | ⟨14, _⟩ => (outsAt0 m hO c t.val t.isLt).1
    | ⟨15, _⟩ => (outsAt0 m hO c t.val t.isLt).2.1
    | ⟨16, _⟩ => (outsAt0 m hO c t.val t.isLt).2.2.1
    | ⟨17, _⟩ => (outsAt0 m hO c t.val t.isLt).2.2.2.1
    | ⟨18, _⟩ => (outsAt0 m hO c t.val t.isLt).2.2.2.2.1
    | ⟨19, _⟩ => (outsAt0 m hO c t.val t.isLt).2.2.2.2.2.1
    | ⟨20, _⟩ => (outsAt0 m hO c t.val t.isLt).2.2.2.2.2.2.1
    | ⟨_ + 21, h⟩ => absurd h (Nat.not_lt.2 (Nat.le_add_left _ _))
  Φ t := PhiS m hO c t.val (Nat.le_of_lt_succ t.isLt)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem PhiS_castSucc (hO : Ok m) (c : Dev nD) (t : Fin (cfgM m hO).N) :
    (dats m hO 0 c).Φ t.castSucc = PhiS m hO c t.val (Nat.le_of_lt t.isLt) := by
  dsimp only [dats]; exact Pipeline.Dat.Φ_castSucc (PhiS m hO c) t

theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = iblk m hO c 1 t := by dsimp only [dats]; try rfl
theorem after0_2 (hO : Ok m) (c : Dev nD) (t : Fin (cfgM m hO).N) : (dats m hO 0 c).after 2 t = iblk m hO c 2 t := by dsimp only [dats]; try rfl
theorem after0_3 (hO : Ok m) (c : Dev nD) (t : Fin (cfgM m hO).N) : (dats m hO 0 c).after 3 t = iblk m hO c 3 t := by dsimp only [dats]; try rfl
theorem after0_4 (hO : Ok m) (c : Dev nD) (t : Fin (cfgM m hO).N) : (dats m hO 0 c).after 4 t = iblk m hO c 4 t := by dsimp only [dats]; try rfl
theorem after0_5 (hO : Ok m) (c : Dev nD) (t : Fin (cfgM m hO).N) : (dats m hO 0 c).after 5 t = iblk m hO c 5 t := by dsimp only [dats]; try rfl
theorem after0_6 (hO : Ok m) (c : Dev nD) (t : Fin (cfgM m hO).N) : (dats m hO 0 c).after 6 t = iblk m hO c 6 t := by dsimp only [dats]; try rfl
theorem after0_7 (hO : Ok m) (c : Dev nD) (t : Fin (cfgM m hO).N) : (dats m hO 0 c).after 7 t = iblk m hO c 7 t := by dsimp only [dats]; try rfl
theorem after0_8 (hO : Ok m) (c : Dev nD) (t : Fin (cfgM m hO).N) : (dats m hO 0 c).after 8 t = iblk m hO c 8 t := by dsimp only [dats]; try rfl
theorem after0_9 (hO : Ok m) (c : Dev nD) (t : Fin (cfgM m hO).N) : (dats m hO 0 c).after 9 t = iblk m hO c 9 t := by dsimp only [dats]; try rfl
theorem after0_10 (hO : Ok m) (c : Dev nD) (t : Fin (cfgM m hO).N) : (dats m hO 0 c).after 10 t = iblk m hO c 10 t := by dsimp only [dats]; try rfl
theorem after0_11 (hO : Ok m) (c : Dev nD) (t : Fin (cfgM m hO).N) : (dats m hO 0 c).after 11 t = iblk m hO c 11 t := by dsimp only [dats]; try rfl
theorem after0_12 (hO : Ok m) (c : Dev nD) (t : Fin (cfgM m hO).N) : (dats m hO 0 c).after 12 t = iblk m hO c 12 t := by dsimp only [dats]; try rfl
theorem after0_13 (hO : Ok m) (c : Dev nD) (t : Fin (cfgM m hO).N) : (dats m hO 0 c).after 13 t = iblk m hO c 13 t := by dsimp only [dats]; try rfl
theorem after0_14 (hO : Ok m) (c : Dev nD) (t : Fin (cfgM m hO).N) : (dats m hO 0 c).after 14 t = (outsAt0 m hO c t.val t.isLt).1 := by dsimp only [dats]; try rfl
theorem after0_15 (hO : Ok m) (c : Dev nD) (t : Fin (cfgM m hO).N) : (dats m hO 0 c).after 15 t = (outsAt0 m hO c t.val t.isLt).2.1 := by dsimp only [dats]; try rfl
theorem after0_16 (hO : Ok m) (c : Dev nD) (t : Fin (cfgM m hO).N) : (dats m hO 0 c).after 16 t = (outsAt0 m hO c t.val t.isLt).2.2.1 := by dsimp only [dats]; try rfl
theorem after0_17 (hO : Ok m) (c : Dev nD) (t : Fin (cfgM m hO).N) : (dats m hO 0 c).after 17 t = (outsAt0 m hO c t.val t.isLt).2.2.2.1 := by dsimp only [dats]; try rfl
theorem after0_18 (hO : Ok m) (c : Dev nD) (t : Fin (cfgM m hO).N) : (dats m hO 0 c).after 18 t = (outsAt0 m hO c t.val t.isLt).2.2.2.2.1 := by dsimp only [dats]; try rfl
theorem after0_19 (hO : Ok m) (c : Dev nD) (t : Fin (cfgM m hO).N) : (dats m hO 0 c).after 19 t = (outsAt0 m hO c t.val t.isLt).2.2.2.2.2.1 := by dsimp only [dats]; try rfl
theorem after0_20 (hO : Ok m) (c : Dev nD) (t : Fin (cfgM m hO).N) : (dats m hO 0 c).after 20 t = (outsAt0 m hO c t.val t.isLt).2.2.2.2.2.2.1 := by dsimp only [dats]; try rfl

theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d
theorem before0_7 (hO : Ok m) (c : Dev nD) (t : Fin (cfgM m hO).N) (d) : (dats m hO 0 c).before 7 t d = iblk m hO c 7 t :=
  before0_7_of m hO (dats m hO 0 c) (A_eq m hO c 7) (after0_7 m hO c) t d
theorem before0_8 (hO : Ok m) (c : Dev nD) (t : Fin (cfgM m hO).N) (d) : (dats m hO 0 c).before 8 t d = iblk m hO c 8 t :=
  before0_8_of m hO (dats m hO 0 c) (A_eq m hO c 8) (after0_8 m hO c) t d
theorem before0_9 (hO : Ok m) (c : Dev nD) (t : Fin (cfgM m hO).N) (d) : (dats m hO 0 c).before 9 t d = iblk m hO c 9 t :=
  before0_9_of m hO (dats m hO 0 c) (A_eq m hO c 9) (after0_9 m hO c) t d
theorem before0_10 (hO : Ok m) (c : Dev nD) (t : Fin (cfgM m hO).N) (d) : (dats m hO 0 c).before 10 t d = iblk m hO c 10 t :=
  before0_10_of m hO (dats m hO 0 c) (A_eq m hO c 10) (after0_10 m hO c) t d
theorem before0_11 (hO : Ok m) (c : Dev nD) (t : Fin (cfgM m hO).N) (d) : (dats m hO 0 c).before 11 t d = iblk m hO c 11 t :=
  before0_11_of m hO (dats m hO 0 c) (A_eq m hO c 11) (after0_11 m hO c) t d
theorem before0_12 (hO : Ok m) (c : Dev nD) (t : Fin (cfgM m hO).N) (d) : (dats m hO 0 c).before 12 t d = iblk m hO c 12 t :=
  before0_12_of m hO (dats m hO 0 c) (A_eq m hO c 12) (after0_12 m hO c) t d
theorem before0_13 (hO : Ok m) (c : Dev nD) (t : Fin (cfgM m hO).N) (d) : (dats m hO 0 c).before 13 t d = iblk m hO c 13 t :=
  before0_13_of m hO (dats m hO 0 c) (A_eq m hO c 13) (after0_13 m hO c) t d
theorem before0_20_B (hO : Ok m) (c : Dev nD) (t : Fin (cfgM m hO).N) (h0 : ¬t.val % 34 = 0) (d) :
    (dats m hO 0 c).before 20 t d = (outsAt0 m hO c (t.val - 1) (Nat.lt_of_le_of_lt (Nat.sub_le _ _) t.isLt)).2.2.2.2.2.2.1 := by
  have hN : t.val < 34 := lt_of_lt_of_eq t.isLt (show (cfgM m hO).N = 34 from N_0)
  rw [Dat.before_out_kept _ 20 rfl t (by omega) (Bool.eq_false_iff.mpr fun h => by have := (flush0_20 (adm m hO) _).mp h; dsimp only at this; omega)
    (fun _ => rfl) (fun _ _ => rfl)]
  dsimp only [dats]
  try rfl

/-! ## The body obligation, at a generic point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ d, owns (c : Thread nD τ) (ms0_9 m hO t) fullShare ((dats m hO 0 c).before 9 t d))
    ∗ (∃ d, owns (c : Thread nD τ) (ms0_10 m hO t) fullShare ((dats m hO 0 c).before 10 t d))
    ∗ (∃ d, owns (c : Thread nD τ) (ms0_11 m hO t) fullShare ((dats m hO 0 c).before 11 t d))
    ∗ (∃ d, owns (c : Thread nD τ) (ms0_12 m hO t) fullShare ((dats m hO 0 c).before 12 t d))
    ∗ (∃ d, owns (c : Thread nD τ) (ms0_13 m hO t) fullShare ((dats m hO 0 c).before 13 t d))
    ∗ (∃ d, owns (c : Thread nD τ) (ms0_14 m hO t) fullShare ((dats m hO 0 c).before 14 t d))
    ∗ (∃ d, owns (c : Thread nD τ) (ms0_15 m hO t) fullShare ((dats m hO 0 c).before 15 t d))
    ∗ (∃ d, owns (c : Thread nD τ) (ms0_16 m hO t) fullShare ((dats m hO 0 c).before 16 t d))
    ∗ (∃ d, owns (c : Thread nD τ) (ms0_17 m hO t) fullShare ((dats m hO 0 c).before 17 t d))
    ∗ (∃ d, owns (c : Thread nD τ) (ms0_18 m hO t) fullShare ((dats m hO 0 c).before 18 t d))
    ∗ (∃ d, owns (c : Thread nD τ) (ms0_19 m hO t) fullShare ((dats m hO 0 c).before 19 t d))
    ∗ (∃ d, owns (c : Thread nD τ) (ms0_20 m hO t) fullShare ((dats m hO 0 c).before 20 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ owns (c : Thread nD τ) (ms0_9 m hO t) fullShare ((dats m hO 0 c).after 9 t)
    ∗ owns (c : Thread nD τ) (ms0_10 m hO t) fullShare ((dats m hO 0 c).after 10 t)
    ∗ owns (c : Thread nD τ) (ms0_11 m hO t) fullShare ((dats m hO 0 c).after 11 t)
    ∗ owns (c : Thread nD τ) (ms0_12 m hO t) fullShare ((dats m hO 0 c).after 12 t)
    ∗ owns (c : Thread nD τ) (ms0_13 m hO t) fullShare ((dats m hO 0 c).after 13 t)
    ∗ owns (c : Thread nD τ) (ms0_14 m hO t) fullShare ((dats m hO 0 c).after 14 t)
    ∗ owns (c : Thread nD τ) (ms0_15 m hO t) fullShare ((dats m hO 0 c).after 15 t)
    ∗ owns (c : Thread nD τ) (ms0_16 m hO t) fullShare ((dats m hO 0 c).after 16 t)
    ∗ owns (c : Thread nD τ) (ms0_17 m hO t) fullShare ((dats m hO 0 c).after 17 t)
    ∗ owns (c : Thread nD τ) (ms0_18 m hO t) fullShare ((dats m hO 0 c).after 18 t)
    ∗ owns (c : Thread nD τ) (ms0_19 m hO t) fullShare ((dats m hO 0 c).after 19 t)
    ∗ owns (c : Thread nD τ) (ms0_20 m hO t) fullShare ((dats m hO 0 c).after 20 t))

set_option maxHeartbeats 16000000 in
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6, before0_7, before0_8, before0_9, before0_10, before0_11, before0_12, before0_13]
  rw [show (dats m hO 0 c).owesAt () t.succ = (dats m hO 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m hO 0 c).Φ t.succ = PhiS m hO c (t.val + 1) t.isLt from rfl, PhiS_succ, PhiT0_eq]
  have hN : t.val < 34 := lt_of_lt_of_eq t.isLt (show (cfgM m hO).N = 34 from N_0)
  by_cases h0 : t.val % 34 = 0
  · by_cases hz : t.val = 0
    · rw [PhiS_castSucc m hO c t, PhiS_zero m hO c _ _ hz, PhiT0_eq, PhiA0_eq]
      rw [outsAt0_A m hO c t h0]
      unfold endA; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runA m hO c t ((hcond0_0 t).mpr h0)).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [HS0]; · iexact HS0
      isplitl [HT0]; · iexact HT0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ coverA_21
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ coverA_14
      isplitl [H15]
      · unfold owns; iexists _; isplitr
        swap; · iexact H15
        ipureintro; exact View.read_writes_of_cover _ _ _ _ _ coverA_15
      isplitl [H16]
      · unfold owns; iexists _; isplitr
        swap; · iexact H16
        ipureintro; exact View.read_writes_of_cover _ _ _ _ _ coverA_16
      isplitl [H17]
      · unfold owns; iexists _; isplitr
        swap; · iexact H17
        ipureintro; exact View.read_writes_of_cover _ _ _ _ _ coverA_17
      isplitl [H18]
      · unfold owns; iexists _; isplitr
        swap; · iexact H18
        ipureintro; exact View.read_writes_of_cover _ _ _ _ _ coverA_18
      isplitl [H19]
      · unfold owns; iexists _; isplitr
        swap; · iexact H19
        ipureintro; exact View.read_writes_of_cover _ _ _ _ _ coverA_19
      unfold owns; iexists _; isplitr
      swap; · iexact H20
      ipureintro; exact View.read_writes_of_cover _ _ _ _ _ coverA_20
    · exfalso; have hN : t.val < 34 := lt_of_lt_of_eq t.isLt (show (cfgM m hO).N = 34 from N_0); omega
  · by_cases hz : t.val = 0
    · exfalso; have hN : t.val < 34 := lt_of_lt_of_eq t.isLt (show (cfgM m hO).N = 34 from N_0); omega
    · rw [PhiS_castSucc m hO c t, PhiS_pos m hO c _ _ hz, PhiT0_eq]
      rw [outsAt0_B m hO c t h0]
      simp only [before0_20_B m hO c t h0]
      unfold endB; (try dsimp only)
      iintro ⟨⟨⟨HS0, Hg⟩, HT0⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
      iapply ((runB m hO c t (fun h => h0 ((hcond0_0 t).mp h)) _ _).2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexact H20
      isplitl [HS0]; · iexact HS0
      isplitl [HT0]; · iexact HT0
      iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%es0, HS0⟩, HT0⟩
      isplitl [HS0 Hg HT0]
      · isplitl [HS0 Hg]
        · isplitl [HS0]
          · unfold owns; iexists _; isplitr
            swap; · iexact HS0
            ipureintro; exact View.read_writes_of_cover _ _ _ _ _ coverB_21
          iexact Hg
        iexact HT0
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexact H13
      isplitl [H14]
      · unfold owns; iexists _; isplitr
        swap; · iexact H14
        ipureintro; exact View.read_writes_of_cover _ _ _ _ _ coverB_14
      isplitl [H15]
      · unfold owns; iexists _; isplitr
        swap; · iexact H15
        ipureintro; exact View.read_writes_of_cover _ _ _ _ _ coverB_15
      isplitl [H16]
      · unfold owns; iexists _; isplitr
        swap; · iexact H16
        ipureintro; exact View.read_writes_of_cover _ _ _ _ _ coverB_16
      isplitl [H17]
      · unfold owns; iexists _; isplitr
        swap; · iexact H17
        ipureintro; exact View.read_writes_of_cover _ _ _ _ _ coverB_17
      isplitl [H18]
      · unfold owns; iexists _; isplitr
        swap; · iexact H18
        ipureintro; exact View.read_writes_of_cover _ _ _ _ _ coverB_18
      isplitl [H19]
      · unfold owns; iexists _; isplitr
        swap; · iexact H19
        ipureintro; exact View.read_writes_of_cover _ _ _ _ _ coverB_19
      unfold owns; iexists _; isplitr
      swap; · iexact H20
      ipureintro; exact View.read_writes_of_cover _ _ _ _ _ coverB_20

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  exact triple_restated (sound_body m hO c t) rfl .rfl fun _ => .rfl

theorem hin (hO : Ok m) (c : Dev nD) : iprop(Pipeline.ΦA spec0 c ∗ Pipeline.ΦT pre0 (tbl m) c) ⊢ (dats m hO 0 c).Φ 0 := by
  rw [show (dats m hO 0 c).Φ 0 = PhiS m hO c 0 (Nat.zero_le _) from rfl, PhiS_zero m hO c 0 _ rfl]
  try exact Idealize.SL.BI.Entails.refl _

theorem Phi_out (hO : Ok m) (c : Dev nD) (t : Fin ((cfgM m hO).N + 1)) (ht : t.val ≠ 0) : (dats m hO 0 c).Φ t ⊢ Pipeline.ΦA spec0 c := by
  rw [show (dats m hO 0 c).Φ t = PhiS m hO c t.val (Nat.le_of_lt_succ t.isLt) from rfl, PhiS_pos m hO c _ _ ht, PhiA0_eq]
  iintro ⟨⟨HS0, Hg⟩, -⟩
  isplitl [HS0]
  · iexists _; iexact HS0
  iexact Hg

theorem hout (hO : Ok m) (c : Dev nD) : (dats m hO 0 c).Φ (Fin.last (cfgM m hO).N) ⊢ Pipeline.ΦA spec0 c :=
  Phi_out m hO c _ (by rw [Fin.val_last]; have : (cfgM m hO).N = 34 := N_0; omega)

/-! ## The run and the frame -/

-- `θ_run_frameP_track_shared`'s implicit arguments are found by unifying its conclusion with this one, which takes unfolding plain
-- definitions in a metavariable's type
set_option backward.isDefEq.respectTransparency.types false in
theorem run_main_quiescent (hO : Ok m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO c).loose) (hq := fun _ _ _ => rfl)
    (howed := fun _ _ => rfl) (V := V m) (hmain := hmain m Variants.none) (hA := A_eq m hO) (hpf := V_pre m)
    (hin := hin m hO) (hout := hout m hO)

theorem run_main (hO : Ok m) : θ_run defs (onTc (τ := τ) (main (F := F))) (s₀ m ρ) (Pipeline.FramePost (Pipeline.pin pcfgs fun _ => adm m hO) (dats m hO) 0 (V m)) :=
  (θ_run defs _ _).mono (fun _ h => h.1) (run_main_quiescent m ρ hO)

theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ hO (dats m hO) (A_eq m hO) (run_main m ρ hO)

theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (unchanged m ρ hO) ((θ_run defs _ _).mono (fun _ h => h.2) (run_main_quiescent m ρ hO))

end Cert.KernelIdeal.Lap

end
-- ==== Proof.Head.lean ====
module

public import proofs.«01_k».proof.Proof.Gen.KernelIdeal.Skeleton
public import proofs.«01_k».proof.Proof.Gen.KernelIdeal

@[expose] public section

set_option maxRecDepth 16384

noncomputable section

/-! The body of one head of one direction, as vector operations: what the stores of `Kernel`'s body write. The bit `b`
    is 1 for the forward direction and 0 for the backward one. -/
namespace Cert.KernelIdeal.Head

open Idealize.ShloMosaic Idealize.ShloMosaic.TcCoe
open Cert.KernelIdeal Facts₀ Facts

variable {F : FTy → Type} [FloatOps F]

abbrev Sq (F : FTy → Type) := FVec F S128x128 .f32
abbrev Wide (F : FTy → Type) := FVec F S128x256 .f32

def rowNo : FVec F S128x1 .f32 := sitofp .f32 (iota .tc S128x1 32 [0] iota_S128x1_d0_w32)

/-- A row's place in its chunk, in the direction's order. -/
def pos (b : BitVec 1) : FVec F S128x1 .f32 :=
  Scalar.select b (rowNo (F := F)) (subf (broadcast S128x1 (Scalar.ofBits .f32 0x42FE0000#32)) rowNo)

/-- The difference of two rows' places. -/
def diff (b : BitVec 1) : Sq F :=
  mulf (broadcast S128x128 (Scalar.select b (Scalar.ofBits .f32 0x3F800000#32 : F .f32) (Scalar.ofBits .f32 0xBF800000#32)))
    (subf (broadcastTo S128x128 (rowNo (F := F)) broadcasts_S128x1_S128x128)
      (broadcastTo S128x128 (sitofp .f32 (iota .tc S1x128 32 [1] iota_S1x128_d1_w32) : FVec F S1x128 .f32) broadcasts_S1x128_S128x128))

/-- The lanes of the first half of each 64. -/
def lowHalf : IVec S128x128 1 :=
  have l : IVec S128x128 32 := remsi (iota .tc S128x128 32 [1] iota_S128x128_d1_w32) (broadcast S128x128 (Scalar.select (Scalar.cmpi .eq 64#32 0#32) 1#32 64#32))
  cmpi .slt (select
      (andi (xori (cmpi .slt l (broadcast S128x128 0#32))
        (broadcastTo S128x128 (broadcast S128x128 (Scalar.cmpi .slt (Scalar.select (Scalar.cmpi .eq 64#32 0#32) 1#32 64#32) 0#32)) broadcasts_S128x128_S128x128))
        (cmpi .ne l (broadcast S128x128 0#32)))
      (addi l (broadcast S128x128 (Scalar.select (Scalar.cmpi .eq 64#32 0#32) 1#32 64#32))) l)
    (broadcast S128x128 32#32)

/-- Quarters of the lanes exchanged in pairs. -/
def swap (x : Sq F) : Sq F :=
  select lowHalf (dynamicRotate 1 96#32 none x rotates_S128x128_d1) (dynamicRotate 1 32#32 none x rotates_S128x128_d1)

def rope (x co si : Sq F) : Sq F := addf (mulf x co) (mulf (swap x) si)
def ropeT (y co si : Sq F) : Sq F := addf (mulf y co) (swap (mulf y si))
def scaled (x : Sq F) : Sq F := mulf x (broadcast S128x128 (Scalar.ofBits .f32 0x3DB504F3#32))

/-- The logarithm of a head's decay. -/
def lg (x : Elt F .f32) : FVec F S1x1 .f32 :=
  have z : FVec F S1x1 .f32 := broadcast S1x1 (Scalar.ofBits .f32 0x00000000#32)
  have v : FVec F S1x1 .f32 := broadcast S1x1 x
  subf z (addf (maximumf (subf z v) z) (log1p (exp (subf z (absf v)))))

/-- The decay between two rows of a chunk. -/
def decay (b : BitVec 1) (x : Elt F .f32) : Sq F :=
  have z : Sq F := broadcast S128x128 (Scalar.ofBits .f32 0x00000000#32)
  have lower : IVec S128x128 1 := cmpf .oge (diff (F := F) b) z
  select lower (exp (mulf (select lower (diff b) z) (broadcastTo S128x128 (lg x) broadcasts_S1x1_S128x128))) z

def xi (b : BitVec 1) (x : Elt F .f32) : FVec F S128x1 .f32 :=
  exp (mulf (addf (pos b) (broadcast S128x1 (Scalar.ofBits .f32 0x3F800000#32))) (broadcastTo S128x1 (lg x) broadcasts_S1x1_S128x1))

def zeta (b : BitVec 1) (x : Elt F .f32) : FVec F S128x1 .f32 :=
  exp (mulf (subf (broadcast S128x1 (Scalar.ofBits .f32 0x42FE0000#32)) (pos b)) (broadcastTo S128x1 (lg x) broadcasts_S1x1_S128x1))

def gch (x : Elt F .f32) : FVec F S1x1 .f32 :=
  exp (mulf (broadcast S1x1 (Scalar.ofBits .f32 0x43000000#32)) (lg x))

def tr16 (x : Sq F) : FVec F S128x128 .bf16 := truncf .bf16 x bitsLt_bf16_f32
def tr16w (x : Wide F) : FVec F S128x256 .bf16 := truncf .bf16 x bitsLt_bf16_f32
def z128 : Sq F := constant S128x128 .f32 0x00000000#32
def z256 : Wide F := constant S128x256 .f32 0x00000000#32
def spread (y : FVec F S128x1 .f32) : Sq F := broadcastTo S128x128 y broadcasts_S128x1_S128x128
def spreadW (y : FVec F S128x1 .f32) : Wide F := broadcastTo S128x256 y broadcasts_S128x1_S128x256

/-- The products of the cotangent rows with the value rows, under the decay. -/
def dinner (b : BitVec 1) (x : Elt F .f32) (v w : Wide F) : Sq F :=
  mulf (matmul dot_S128x256_S128x256_S128x128_1_1_0_0_n_n none (tr16w w) (tr16w v) z128) (decay b x)

/-- The products of the query rows with the key rows, under the decay. -/
def inner (b : BitVec 1) (x : Elt F .f32) (q k : Sq F) : Sq F :=
  mulf (matmul dot_S128x128_S128x128_S128x128_1_1_0_0_n_n none (tr16 q) (tr16 k) z128) (decay b x)

/-- The head's slab of the state, and of its gradient, as a matrix. -/
def slab (s : Vec F S1x1x1x128x256 .f32) : Wide F := shapeCast S128x256 s shapeCasts_S1x1x1x128x256_S128x256
def flat (s : Vec F S1x1x128x256 .f32) : Wide F := shapeCast S128x256 s shapeCasts_S1x1x128x256_S128x256
def keep (s : Wide F) : Wide F := shapeCast S128x256 s shapeCasts_S128x256_S128x256
def keepS (s : Vec F S128x128 .f32) : Sq F := shapeCast S128x128 s shapeCasts_S128x128_S128x128

/-- The gradient of the roped, scaled queries. -/
def gq (b : BitVec 1) (x : Elt F .f32) (k : Sq F) (v w st : Wide F) : Sq F :=
  addf (matmul dot_S128x256_S128x256_S128x128_1_1_0_0_n_n none (tr16w (mulf w (spreadW (xi b x)))) (tr16w st) z128)
    (matmul dot_S128x128_S128x128_S128x128_1_0_0_1_n_n none (tr16 (dinner b x v w)) (tr16 k) z128)

/-- The gradient of the roped keys. -/
def gk (b : BitVec 1) (x : Elt F .f32) (q : Sq F) (v w ds : Wide F) : Sq F :=
  addf (mulf (matmul dot_S128x256_S128x256_S128x128_1_1_0_0_n_n none (tr16w v) (tr16w ds) z128) (spread (zeta b x)))
    (matmul dot_S128x128_S128x128_S128x128_0_0_1_1_n_n none (tr16 (dinner b x v w)) (tr16 q) z128)

/-- The gradient of the values. -/
def gv (b : BitVec 1) (x : Elt F .f32) (q k : Sq F) (w ds : Wide F) : Wide F :=
  addf (matmul dot_S128x128_S128x256_S128x256_1_0_0_1_n_n none (tr16 (mulf k (spread (zeta b x)))) (tr16w ds) z256)
    (matmul dot_S128x128_S128x256_S128x256_0_0_1_1_n_n none (tr16 (inner b x q k)) (tr16w w) z256)

/-- The gradient of the state the chunk starts from. -/
def gs (b : BitVec 1) (x : Elt F .f32) (q : Sq F) (w ds : Wide F) : Wide F :=
  addf (mulf ds (broadcastTo S128x256 (gch x) broadcasts_S1x1_S128x256))
    (matmul dot_S128x128_S128x256_S128x256_0_0_1_1_n_n none (tr16 q) (tr16w (mulf w (spreadW (xi b x)))) z256)

/-- What the body stores for one head, from the blocks it loads. -/
def outQ (b : BitVec 1) (x : Elt F .f32) (k co si : Vec F S128x128 .f32) (v w : Vec F S128x256 .f32) (st : Vec F S1x1x1x128x256 .f32) : Sq F :=
  ropeT (scaled (gq b x (rope k (keepS co) (keepS si)) v (keep w) (slab st))) (keepS co) (keepS si)
def outK (b : BitVec 1) (x : Elt F .f32) (q co si : Vec F S128x128 .f32) (v w : Vec F S128x256 .f32) (ds : Vec F S1x1x128x256 .f32) : Sq F :=
  ropeT (gk b x (scaled (rope q (keepS co) (keepS si))) v (keep w) (keep (flat ds))) (keepS co) (keepS si)
def outV (b : BitVec 1) (x : Elt F .f32) (q k co si : Vec F S128x128 .f32) (w : Vec F S128x256 .f32) (ds : Vec F S1x1x128x256 .f32) : Wide F :=
  gv b x (scaled (rope q (keepS co) (keepS si))) (rope k (keepS co) (keepS si)) (keep w) (keep (flat ds))
def outS (b : BitVec 1) (x : Elt F .f32) (q co si : Vec F S128x128 .f32) (w : Vec F S128x256 .f32) (ds : Vec F S1x1x128x256 .f32) : Vec F S1x1x128x256 .f32 :=
  shapeCast S1x1x128x256 (gs b x (scaled (rope q (keepS co) (keepS si))) (keep w) (keep (flat ds))) shapeCasts_S128x256_S1x1x128x256

end Cert.KernelIdeal.Head
-- ==== Proof.Pieces.lean ====
module

public import proofs.«01_k».proof.Proof.Gen.KernelIdeal.Frame.RunA
public import proofs.«01_k».proof.Proof.Gen.KernelIdeal.Frame.RunB
public import proofs.«01_k».proof.Proof.Head
public import Idealize.ShloMosaic.Lib.WholeRead

@[expose] public section

set_option maxRecDepth 16384
set_option maxHeartbeats 4000000

noncomputable section

/-! The pieces the body's stores leave, head by head, as the head's functions of what it loads. -/
namespace Cert.KernelIdeal.Pieces

open Idealize.ShloMosaic Idealize.ShloMosaic.TcCoe Idealize.ShloMosaic.Tactic
open Cert.KernelIdeal.Gen Cert.KernelIdeal.Head Cert.KernelIdeal

variable {F : FTy → Type} [FloatOps F]

/-- A load of a block's lanes from `o`, of a table, of a head's decay, and of a head's states. -/
abbrev ldq {a : Memref sig .tc .vmem S128x512 .f32} (ha : a.IsWhole) (x : Vec F S128x512 .f32) (o : ℕ) (h : ∀ k, (![0, o] : Fin 2 → ℕ) k + S128x128.size k ≤ S128x512.size k) : Vec F S128x128 .f32 :=
  View.readAt (Elt F) a.view (Rect.unit (s := S128x512) ![0, o] S128x128.size h).toLoadRect (ha.unread x)
abbrev ldv {a : Memref sig .tc .vmem S128x1024 .f32} (ha : a.IsWhole) (x : Vec F S128x1024 .f32) (o : ℕ) (h : ∀ k, (![0, o] : Fin 2 → ℕ) k + S128x256.size k ≤ S128x1024.size k) : Vec F S128x256 .f32 :=
  View.readAt (Elt F) a.view (Rect.unit (s := S128x1024) ![0, o] S128x256.size h).toLoadRect (ha.unread x)
abbrev ldt {a : Memref sig .tc .vmem S128x128 .f32} (ha : a.IsWhole) (x : Vec F S128x128 .f32) : Vec F S128x128 .f32 :=
  View.readAt (Elt F) a.view (Rect.unit (s := S128x128) ![0, 0] S128x128.size inb_S128x128_S128x128_0_0).toLoadRect (ha.unread x)
abbrev lds {a : Memref sig .tc .vmem S2x4x128x256 .f32} (ha : a.IsWhole) (x : Vec F S2x4x128x256 .f32) (d h : ℕ) (hb : ∀ k, (![d, h, 0, 0] : Fin 4 → ℕ) k + S1x1x128x256.size k ≤ S2x4x128x256.size k) : Vec F S1x1x128x256 .f32 :=
  View.readAt (Elt F) a.view (Rect.unit (s := S2x4x128x256) ![d, h, 0, 0] S1x1x128x256.size hb).toLoadRect (ha.unread x)
abbrev ldst {a : Memref sig .tc .vmem S2x4x1x128x256 .f32} (ha : a.IsWhole) (x : Vec F S2x4x1x128x256 .f32) (d h : ℕ) (hb : ∀ k, (![d, h, 0, 0, 0] : Fin 5 → ℕ) k + S1x1x1x128x256.size k ≤ S2x4x1x128x256.size k) : Vec F S1x1x1x128x256 .f32 :=
  View.readAt (Elt F) a.view (Rect.unit (s := S2x4x1x128x256) ![d, h, 0, 0, 0] S1x1x1x128x256.size hb).toLoadRect (ha.unread x)

abbrev ldx {a : Memref sig .tc .smem S2x4 .f32} (ha : a.IsWhole) (x : Vec F S2x4 .f32) (d h : ℕ) (hb : ∀ k, (![d, h] : Fin 2 → ℕ) k + S1x1.size k ≤ S2x4.size k) : Elt F .f32 :=
  View.readAt (Elt F) a.view (Rect.unit (s := S2x4) ![d, h] S1x1.size hb).toLoadRect (ha.unread x) (Shape.Idx.first (show 0 < S1x1.numel by decide))

variable {c : Dev nD} {i : grid0.Coords}
  {arg2 : Memref sig .tc .smem S2x4 .f32} {harg2 : arg2.IsWhole} {arg3 : Memref sig .tc .vmem S128x512 .f32} {harg3 : arg3.IsWhole}
  {arg4 : Memref sig .tc .vmem S128x512 .f32} {harg4 : arg4.IsWhole} {arg5 : Memref sig .tc .vmem S128x1024 .f32} {harg5 : arg5.IsWhole}
  {arg6 : Memref sig .tc .vmem S128x128 .f32} {harg6 : arg6.IsWhole} {arg7 : Memref sig .tc .vmem S128x128 .f32} {harg7 : arg7.IsWhole}
  {arg8 : Memref sig .tc .vmem S128x1024 .f32} {harg8 : arg8.IsWhole} {arg9 : Memref sig .tc .vmem S128x512 .f32} {harg9 : arg9.IsWhole}
  {arg10 : Memref sig .tc .vmem S128x512 .f32} {harg10 : arg10.IsWhole} {arg11 : Memref sig .tc .vmem S128x1024 .f32} {harg11 : arg11.IsWhole}
  {arg12 : Memref sig .tc .vmem S128x128 .f32} {harg12 : arg12.IsWhole} {arg13 : Memref sig .tc .vmem S128x128 .f32} {harg13 : arg13.IsWhole}
  {arg14 : Memref sig .tc .vmem S128x1024 .f32} {harg14 : arg14.IsWhole} {arg15 : Memref sig .tc .vmem S2x4x1x128x256 .f32} {harg15 : arg15.IsWhole}
  {arg16 : Memref sig .tc .vmem S128x512 .f32} {harg16 : arg16.IsWhole} {arg17 : Memref sig .tc .vmem S128x512 .f32} {harg17 : arg17.IsWhole}
  {arg18 : Memref sig .tc .vmem S128x1024 .f32} {harg18 : arg18.IsWhole} {arg19 : Memref sig .tc .vmem S128x512 .f32} {harg19 : arg19.IsWhole}
  {arg20 : Memref sig .tc .vmem S128x512 .f32} {harg20 : arg20.IsWhole} {arg21 : Memref sig .tc .vmem S128x1024 .f32} {harg21 : arg21.IsWhole}
  {arg22 : Memref sig .tc .vmem S2x4x8x128 .f32} {harg22 : arg22.IsWhole} {arg23 : Memref sig .tc .vmem S2x4x128x256 .f32} {harg23 : arg23.IsWhole}
  {x0 : Vec F S2x4 .f32} {x1 : Vec F S128x512 .f32} {x2 : Vec F S128x512 .f32} {x3 : Vec F S128x1024 .f32} {x4 : Vec F S128x128 .f32} {x5 : Vec F S128x128 .f32} {x6 : Vec F S128x1024 .f32} {x7 : Vec F S128x512 .f32} {x8 : Vec F S128x512 .f32} {x9 : Vec F S128x1024 .f32} {x10 : Vec F S128x128 .f32} {x11 : Vec F S128x128 .f32} {x12 : Vec F S128x1024 .f32} {x13 : Vec F S2x4x1x128x256 .f32}
  {xt0 : TbBuf0 (F := F) c tbM0_0} {xo20 : Vec F S2x4x8x128 .f32} {xs0 : Vec F S2x4x128x256 .f32}

theorem B14 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).1 =
    [⟨Rect.unit ![0, 384] S128x128.size inb_S128x512_S128x128_0_384, outQ 1#1 (ldx harg2 x0 0 3 inb_S2x4_S1x1_0_3) (ldq harg4 x2 384 inb_S128x512_S128x128_0_384) (ldt harg6 x4) (ldt harg7 x5) (ldv harg5 x3 768 inb_S128x1024_S128x256_0_768) (ldv harg8 x6 768 inb_S128x1024_S128x256_0_768) (ldst harg15 x13 0 3 inb_S2x4x1x128x256_S1x1x1x128x256_0_3_0_0_0)⟩,
     ⟨Rect.unit ![0, 256] S128x128.size inb_S128x512_S128x128_0_256, outQ 1#1 (ldx harg2 x0 0 2 inb_S2x4_S1x1_0_2) (ldq harg4 x2 256 inb_S128x512_S128x128_0_256) (ldt harg6 x4) (ldt harg7 x5) (ldv harg5 x3 512 inb_S128x1024_S128x256_0_512) (ldv harg8 x6 512 inb_S128x1024_S128x256_0_512) (ldst harg15 x13 0 2 inb_S2x4x1x128x256_S1x1x1x128x256_0_2_0_0_0)⟩,
     ⟨Rect.unit ![0, 128] S128x128.size inb_S128x512_S128x128_0_128, outQ 1#1 (ldx harg2 x0 0 1 inb_S2x4_S1x1_0_1) (ldq harg4 x2 128 inb_S128x512_S128x128_0_128) (ldt harg6 x4) (ldt harg7 x5) (ldv harg5 x3 256 inb_S128x1024_S128x256_0_256) (ldv harg8 x6 256 inb_S128x1024_S128x256_0_256) (ldst harg15 x13 0 1 inb_S2x4x1x128x256_S1x1x1x128x256_0_1_0_0_0)⟩,
     ⟨Rect.unit ![0, 0] S128x128.size inb_S128x512_S128x128_0_0, outQ 1#1 (ldx harg2 x0 0 0 inb_S2x4_S1x1_0_0) (ldq harg4 x2 0 inb_S128x512_S128x128_0_0) (ldt harg6 x4) (ldt harg7 x5) (ldv harg5 x3 0 inb_S128x1024_S128x256_0_0) (ldv harg8 x6 0 inb_S128x1024_S128x256_0_0) (ldst harg15 x13 0 0 inb_S2x4x1x128x256_S1x1x1x128x256_0_0_0_0_0)⟩] := rfl

theorem B15 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.1 =
    [⟨Rect.unit ![0, 384] S128x128.size inb_S128x512_S128x128_0_384, outK 1#1 (ldx harg2 x0 0 3 inb_S2x4_S1x1_0_3) (ldq harg3 x1 384 inb_S128x512_S128x128_0_384) (ldt harg6 x4) (ldt harg7 x5) (ldv harg5 x3 768 inb_S128x1024_S128x256_0_768) (ldv harg8 x6 768 inb_S128x1024_S128x256_0_768) (lds harg23 xs0 0 3 inb_S2x4x128x256_S1x1x128x256_0_3_0_0)⟩,
     ⟨Rect.unit ![0, 256] S128x128.size inb_S128x512_S128x128_0_256, outK 1#1 (ldx harg2 x0 0 2 inb_S2x4_S1x1_0_2) (ldq harg3 x1 256 inb_S128x512_S128x128_0_256) (ldt harg6 x4) (ldt harg7 x5) (ldv harg5 x3 512 inb_S128x1024_S128x256_0_512) (ldv harg8 x6 512 inb_S128x1024_S128x256_0_512) (lds harg23 xs0 0 2 inb_S2x4x128x256_S1x1x128x256_0_2_0_0)⟩,
     ⟨Rect.unit ![0, 128] S128x128.size inb_S128x512_S128x128_0_128, outK 1#1 (ldx harg2 x0 0 1 inb_S2x4_S1x1_0_1) (ldq harg3 x1 128 inb_S128x512_S128x128_0_128) (ldt harg6 x4) (ldt harg7 x5) (ldv harg5 x3 256 inb_S128x1024_S128x256_0_256) (ldv harg8 x6 256 inb_S128x1024_S128x256_0_256) (lds harg23 xs0 0 1 inb_S2x4x128x256_S1x1x128x256_0_1_0_0)⟩,
     ⟨Rect.unit ![0, 0] S128x128.size inb_S128x512_S128x128_0_0, outK 1#1 (ldx harg2 x0 0 0 inb_S2x4_S1x1_0_0) (ldq harg3 x1 0 inb_S128x512_S128x128_0_0) (ldt harg6 x4) (ldt harg7 x5) (ldv harg5 x3 0 inb_S128x1024_S128x256_0_0) (ldv harg8 x6 0 inb_S128x1024_S128x256_0_0) (lds harg23 xs0 0 0 inb_S2x4x128x256_S1x1x128x256_0_0_0_0)⟩] := rfl

theorem B16 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.1 =
    [⟨Rect.unit ![0, 768] S128x256.size inb_S128x1024_S128x256_0_768, outV 1#1 (ldx harg2 x0 0 3 inb_S2x4_S1x1_0_3) (ldq harg3 x1 384 inb_S128x512_S128x128_0_384) (ldq harg4 x2 384 inb_S128x512_S128x128_0_384) (ldt harg6 x4) (ldt harg7 x5) (ldv harg8 x6 768 inb_S128x1024_S128x256_0_768) (lds harg23 xs0 0 3 inb_S2x4x128x256_S1x1x128x256_0_3_0_0)⟩,
     ⟨Rect.unit ![0, 512] S128x256.size inb_S128x1024_S128x256_0_512, outV 1#1 (ldx harg2 x0 0 2 inb_S2x4_S1x1_0_2) (ldq harg3 x1 256 inb_S128x512_S128x128_0_256) (ldq harg4 x2 256 inb_S128x512_S128x128_0_256) (ldt harg6 x4) (ldt harg7 x5) (ldv harg8 x6 512 inb_S128x1024_S128x256_0_512) (lds harg23 xs0 0 2 inb_S2x4x128x256_S1x1x128x256_0_2_0_0)⟩,
     ⟨Rect.unit ![0, 256] S128x256.size inb_S128x1024_S128x256_0_256, outV 1#1 (ldx harg2 x0 0 1 inb_S2x4_S1x1_0_1) (ldq harg3 x1 128 inb_S128x512_S128x128_0_128) (ldq harg4 x2 128 inb_S128x512_S128x128_0_128) (ldt harg6 x4) (ldt harg7 x5) (ldv harg8 x6 256 inb_S128x1024_S128x256_0_256) (lds harg23 xs0 0 1 inb_S2x4x128x256_S1x1x128x256_0_1_0_0)⟩,
     ⟨Rect.unit ![0, 0] S128x256.size inb_S128x1024_S128x256_0_0, outV 1#1 (ldx harg2 x0 0 0 inb_S2x4_S1x1_0_0) (ldq harg3 x1 0 inb_S128x512_S128x128_0_0) (ldq harg4 x2 0 inb_S128x512_S128x128_0_0) (ldt harg6 x4) (ldt harg7 x5) (ldv harg8 x6 0 inb_S128x1024_S128x256_0_0) (lds harg23 xs0 0 0 inb_S2x4x128x256_S1x1x128x256_0_0_0_0)⟩] := rfl

theorem B17 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.1 =
    [⟨Rect.unit ![0, 384] S128x128.size inb_S128x512_S128x128_0_384, outQ 0#1 (ldx harg2 x0 1 3 inb_S2x4_S1x1_1_3) (ldq harg10 x8 384 inb_S128x512_S128x128_0_384) (ldt harg12 x10) (ldt harg13 x11) (ldv harg11 x9 768 inb_S128x1024_S128x256_0_768) (ldv harg14 x12 768 inb_S128x1024_S128x256_0_768) (ldst harg15 x13 1 3 inb_S2x4x1x128x256_S1x1x1x128x256_1_3_0_0_0)⟩,
     ⟨Rect.unit ![0, 256] S128x128.size inb_S128x512_S128x128_0_256, outQ 0#1 (ldx harg2 x0 1 2 inb_S2x4_S1x1_1_2) (ldq harg10 x8 256 inb_S128x512_S128x128_0_256) (ldt harg12 x10) (ldt harg13 x11) (ldv harg11 x9 512 inb_S128x1024_S128x256_0_512) (ldv harg14 x12 512 inb_S128x1024_S128x256_0_512) (ldst harg15 x13 1 2 inb_S2x4x1x128x256_S1x1x1x128x256_1_2_0_0_0)⟩,
     ⟨Rect.unit ![0, 128] S128x128.size inb_S128x512_S128x128_0_128, outQ 0#1 (ldx harg2 x0 1 1 inb_S2x4_S1x1_1_1) (ldq harg10 x8 128 inb_S128x512_S128x128_0_128) (ldt harg12 x10) (ldt harg13 x11) (ldv harg11 x9 256 inb_S128x1024_S128x256_0_256) (ldv harg14 x12 256 inb_S128x1024_S128x256_0_256) (ldst harg15 x13 1 1 inb_S2x4x1x128x256_S1x1x1x128x256_1_1_0_0_0)⟩,
     ⟨Rect.unit ![0, 0] S128x128.size inb_S128x512_S128x128_0_0, outQ 0#1 (ldx harg2 x0 1 0 inb_S2x4_S1x1_1_0) (ldq harg10 x8 0 inb_S128x512_S128x128_0_0) (ldt harg12 x10) (ldt harg13 x11) (ldv harg11 x9 0 inb_S128x1024_S128x256_0_0) (ldv harg14 x12 0 inb_S128x1024_S128x256_0_0) (ldst harg15 x13 1 0 inb_S2x4x1x128x256_S1x1x1x128x256_1_0_0_0_0)⟩] := rfl

theorem B18 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.1 =
    [⟨Rect.unit ![0, 384] S128x128.size inb_S128x512_S128x128_0_384, outK 0#1 (ldx harg2 x0 1 3 inb_S2x4_S1x1_1_3) (ldq harg9 x7 384 inb_S128x512_S128x128_0_384) (ldt harg12 x10) (ldt harg13 x11) (ldv harg11 x9 768 inb_S128x1024_S128x256_0_768) (ldv harg14 x12 768 inb_S128x1024_S128x256_0_768) (lds harg23 xs0 1 3 inb_S2x4x128x256_S1x1x128x256_1_3_0_0)⟩,
     ⟨Rect.unit ![0, 256] S128x128.size inb_S128x512_S128x128_0_256, outK 0#1 (ldx harg2 x0 1 2 inb_S2x4_S1x1_1_2) (ldq harg9 x7 256 inb_S128x512_S128x128_0_256) (ldt harg12 x10) (ldt harg13 x11) (ldv harg11 x9 512 inb_S128x1024_S128x256_0_512) (ldv harg14 x12 512 inb_S128x1024_S128x256_0_512) (lds harg23 xs0 1 2 inb_S2x4x128x256_S1x1x128x256_1_2_0_0)⟩,
     ⟨Rect.unit ![0, 128] S128x128.size inb_S128x512_S128x128_0_128, outK 0#1 (ldx harg2 x0 1 1 inb_S2x4_S1x1_1_1) (ldq harg9 x7 128 inb_S128x512_S128x128_0_128) (ldt harg12 x10) (ldt harg13 x11) (ldv harg11 x9 256 inb_S128x1024_S128x256_0_256) (ldv harg14 x12 256 inb_S128x1024_S128x256_0_256) (lds harg23 xs0 1 1 inb_S2x4x128x256_S1x1x128x256_1_1_0_0)⟩,
     ⟨Rect.unit ![0, 0] S128x128.size inb_S128x512_S128x128_0_0, outK 0#1 (ldx harg2 x0 1 0 inb_S2x4_S1x1_1_0) (ldq harg9 x7 0 inb_S128x512_S128x128_0_0) (ldt harg12 x10) (ldt harg13 x11) (ldv harg11 x9 0 inb_S128x1024_S128x256_0_0) (ldv harg14 x12 0 inb_S128x1024_S128x256_0_0) (lds harg23 xs0 1 0 inb_S2x4x128x256_S1x1x128x256_1_0_0_0)⟩] := rfl

theorem B19 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.1 =
    [⟨Rect.unit ![0, 768] S128x256.size inb_S128x1024_S128x256_0_768, outV 0#1 (ldx harg2 x0 1 3 inb_S2x4_S1x1_1_3) (ldq harg9 x7 384 inb_S128x512_S128x128_0_384) (ldq harg10 x8 384 inb_S128x512_S128x128_0_384) (ldt harg12 x10) (ldt harg13 x11) (ldv harg14 x12 768 inb_S128x1024_S128x256_0_768) (lds harg23 xs0 1 3 inb_S2x4x128x256_S1x1x128x256_1_3_0_0)⟩,
     ⟨Rect.unit ![0, 512] S128x256.size inb_S128x1024_S128x256_0_512, outV 0#1 (ldx harg2 x0 1 2 inb_S2x4_S1x1_1_2) (ldq harg9 x7 256 inb_S128x512_S128x128_0_256) (ldq harg10 x8 256 inb_S128x512_S128x128_0_256) (ldt harg12 x10) (ldt harg13 x11) (ldv harg14 x12 512 inb_S128x1024_S128x256_0_512) (lds harg23 xs0 1 2 inb_S2x4x128x256_S1x1x128x256_1_2_0_0)⟩,
     ⟨Rect.unit ![0, 256] S128x256.size inb_S128x1024_S128x256_0_256, outV 0#1 (ldx harg2 x0 1 1 inb_S2x4_S1x1_1_1) (ldq harg9 x7 128 inb_S128x512_S128x128_0_128) (ldq harg10 x8 128 inb_S128x512_S128x128_0_128) (ldt harg12 x10) (ldt harg13 x11) (ldv harg14 x12 256 inb_S128x1024_S128x256_0_256) (lds harg23 xs0 1 1 inb_S2x4x128x256_S1x1x128x256_1_1_0_0)⟩,
     ⟨Rect.unit ![0, 0] S128x256.size inb_S128x1024_S128x256_0_0, outV 0#1 (ldx harg2 x0 1 0 inb_S2x4_S1x1_1_0) (ldq harg9 x7 0 inb_S128x512_S128x128_0_0) (ldq harg10 x8 0 inb_S128x512_S128x128_0_0) (ldt harg12 x10) (ldt harg13 x11) (ldv harg14 x12 0 inb_S128x1024_S128x256_0_0) (lds harg23 xs0 1 0 inb_S2x4x128x256_S1x1x128x256_1_0_0_0)⟩] := rfl

theorem B21 {hc0 : ¬cond0_0 i} : (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.2.1 =
    [⟨Rect.unit ![1, 3, 0, 0] S1x1x128x256.size inb_S2x4x128x256_S1x1x128x256_1_3_0_0, outS 0#1 (ldx harg2 x0 1 3 inb_S2x4_S1x1_1_3) (ldq harg9 x7 384 inb_S128x512_S128x128_0_384) (ldt harg12 x10) (ldt harg13 x11) (ldv harg14 x12 768 inb_S128x1024_S128x256_0_768) (lds harg23 xs0 1 3 inb_S2x4x128x256_S1x1x128x256_1_3_0_0)⟩,
     ⟨Rect.unit ![1, 2, 0, 0] S1x1x128x256.size inb_S2x4x128x256_S1x1x128x256_1_2_0_0, outS 0#1 (ldx harg2 x0 1 2 inb_S2x4_S1x1_1_2) (ldq harg9 x7 256 inb_S128x512_S128x128_0_256) (ldt harg12 x10) (ldt harg13 x11) (ldv harg14 x12 512 inb_S128x1024_S128x256_0_512) (lds harg23 xs0 1 2 inb_S2x4x128x256_S1x1x128x256_1_2_0_0)⟩,
     ⟨Rect.unit ![1, 1, 0, 0] S1x1x128x256.size inb_S2x4x128x256_S1x1x128x256_1_1_0_0, outS 0#1 (ldx harg2 x0 1 1 inb_S2x4_S1x1_1_1) (ldq harg9 x7 128 inb_S128x512_S128x128_0_128) (ldt harg12 x10) (ldt harg13 x11) (ldv harg14 x12 256 inb_S128x1024_S128x256_0_256) (lds harg23 xs0 1 1 inb_S2x4x128x256_S1x1x128x256_1_1_0_0)⟩,
     ⟨Rect.unit ![1, 0, 0, 0] S1x1x128x256.size inb_S2x4x128x256_S1x1x128x256_1_0_0_0, outS 0#1 (ldx harg2 x0 1 0 inb_S2x4_S1x1_1_0) (ldq harg9 x7 0 inb_S128x512_S128x128_0_0) (ldt harg12 x10) (ldt harg13 x11) (ldv harg14 x12 0 inb_S128x1024_S128x256_0_0) (lds harg23 xs0 1 0 inb_S2x4x128x256_S1x1x128x256_1_0_0_0)⟩,
     ⟨Rect.unit ![0, 3, 0, 0] S1x1x128x256.size inb_S2x4x128x256_S1x1x128x256_0_3_0_0, outS 1#1 (ldx harg2 x0 0 3 inb_S2x4_S1x1_0_3) (ldq harg3 x1 384 inb_S128x512_S128x128_0_384) (ldt harg6 x4) (ldt harg7 x5) (ldv harg8 x6 768 inb_S128x1024_S128x256_0_768) (lds harg23 xs0 0 3 inb_S2x4x128x256_S1x1x128x256_0_3_0_0)⟩,
     ⟨Rect.unit ![0, 2, 0, 0] S1x1x128x256.size inb_S2x4x128x256_S1x1x128x256_0_2_0_0, outS 1#1 (ldx harg2 x0 0 2 inb_S2x4_S1x1_0_2) (ldq harg3 x1 256 inb_S128x512_S128x128_0_256) (ldt harg6 x4) (ldt harg7 x5) (ldv harg8 x6 512 inb_S128x1024_S128x256_0_512) (lds harg23 xs0 0 2 inb_S2x4x128x256_S1x1x128x256_0_2_0_0)⟩,
     ⟨Rect.unit ![0, 1, 0, 0] S1x1x128x256.size inb_S2x4x128x256_S1x1x128x256_0_1_0_0, outS 1#1 (ldx harg2 x0 0 1 inb_S2x4_S1x1_0_1) (ldq harg3 x1 128 inb_S128x512_S128x128_0_128) (ldt harg6 x4) (ldt harg7 x5) (ldv harg8 x6 256 inb_S128x1024_S128x256_0_256) (lds harg23 xs0 0 1 inb_S2x4x128x256_S1x1x128x256_0_1_0_0)⟩,
     ⟨Rect.unit ![0, 0, 0, 0] S1x1x128x256.size inb_S2x4x128x256_S1x1x128x256_0_0_0_0, outS 1#1 (ldx harg2 x0 0 0 inb_S2x4_S1x1_0_0) (ldq harg3 x1 0 inb_S128x512_S128x128_0_0) (ldt harg6 x4) (ldt harg7 x5) (ldv harg8 x6 0 inb_S128x1024_S128x256_0_0) (lds harg23 xs0 0 0 inb_S2x4x128x256_S1x1x128x256_0_0_0_0)⟩] := rfl

theorem A14 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).1 =
    [⟨Rect.unit ![0, 384] S128x128.size inb_S128x512_S128x128_0_384, outQ 1#1 (ldx harg2 x0 0 3 inb_S2x4_S1x1_0_3) (ldq harg4 x2 384 inb_S128x512_S128x128_0_384) (ldt harg6 x4) (ldt harg7 x5) (ldv harg5 x3 768 inb_S128x1024_S128x256_0_768) (ldv harg8 x6 768 inb_S128x1024_S128x256_0_768) (ldst harg15 x13 0 3 inb_S2x4x1x128x256_S1x1x1x128x256_0_3_0_0_0)⟩,
     ⟨Rect.unit ![0, 256] S128x128.size inb_S128x512_S128x128_0_256, outQ 1#1 (ldx harg2 x0 0 2 inb_S2x4_S1x1_0_2) (ldq harg4 x2 256 inb_S128x512_S128x128_0_256) (ldt harg6 x4) (ldt harg7 x5) (ldv harg5 x3 512 inb_S128x1024_S128x256_0_512) (ldv harg8 x6 512 inb_S128x1024_S128x256_0_512) (ldst harg15 x13 0 2 inb_S2x4x1x128x256_S1x1x1x128x256_0_2_0_0_0)⟩,
     ⟨Rect.unit ![0, 128] S128x128.size inb_S128x512_S128x128_0_128, outQ 1#1 (ldx harg2 x0 0 1 inb_S2x4_S1x1_0_1) (ldq harg4 x2 128 inb_S128x512_S128x128_0_128) (ldt harg6 x4) (ldt harg7 x5) (ldv harg5 x3 256 inb_S128x1024_S128x256_0_256) (ldv harg8 x6 256 inb_S128x1024_S128x256_0_256) (ldst harg15 x13 0 1 inb_S2x4x1x128x256_S1x1x1x128x256_0_1_0_0_0)⟩,
     ⟨Rect.unit ![0, 0] S128x128.size inb_S128x512_S128x128_0_0, outQ 1#1 (ldx harg2 x0 0 0 inb_S2x4_S1x1_0_0) (ldq harg4 x2 0 inb_S128x512_S128x128_0_0) (ldt harg6 x4) (ldt harg7 x5) (ldv harg5 x3 0 inb_S128x1024_S128x256_0_0) (ldv harg8 x6 0 inb_S128x1024_S128x256_0_0) (ldst harg15 x13 0 0 inb_S2x4x1x128x256_S1x1x1x128x256_0_0_0_0_0)⟩] := rfl

theorem A15 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.1 =
    [⟨Rect.unit ![0, 384] S128x128.size inb_S128x512_S128x128_0_384, outK 1#1 (ldx harg2 x0 0 3 inb_S2x4_S1x1_0_3) (ldq harg3 x1 384 inb_S128x512_S128x128_0_384) (ldt harg6 x4) (ldt harg7 x5) (ldv harg5 x3 768 inb_S128x1024_S128x256_0_768) (ldv harg8 x6 768 inb_S128x1024_S128x256_0_768) (kernelRun0_A.sl.v961 c arg2 harg2 arg3 harg3 arg6 harg6 arg7 harg7 arg8 harg8 arg23 x0 x1 x4 x5 x6 : Vec F S1x1x128x256 .f32)⟩,
     ⟨Rect.unit ![0, 256] S128x128.size inb_S128x512_S128x128_0_256, outK 1#1 (ldx harg2 x0 0 2 inb_S2x4_S1x1_0_2) (ldq harg3 x1 256 inb_S128x512_S128x128_0_256) (ldt harg6 x4) (ldt harg7 x5) (ldv harg5 x3 512 inb_S128x1024_S128x256_0_512) (ldv harg8 x6 512 inb_S128x1024_S128x256_0_512) (kernelRun0_A.sl.v686 c arg2 harg2 arg3 harg3 arg6 harg6 arg7 harg7 arg8 harg8 arg23 x0 x1 x4 x5 x6 : Vec F S1x1x128x256 .f32)⟩,
     ⟨Rect.unit ![0, 128] S128x128.size inb_S128x512_S128x128_0_128, outK 1#1 (ldx harg2 x0 0 1 inb_S2x4_S1x1_0_1) (ldq harg3 x1 128 inb_S128x512_S128x128_0_128) (ldt harg6 x4) (ldt harg7 x5) (ldv harg5 x3 256 inb_S128x1024_S128x256_0_256) (ldv harg8 x6 256 inb_S128x1024_S128x256_0_256) (kernelRun0_A.sl.v411 c arg2 harg2 arg3 harg3 arg6 harg6 arg7 harg7 arg8 harg8 arg23 x0 x1 x4 x5 x6 : Vec F S1x1x128x256 .f32)⟩,
     ⟨Rect.unit ![0, 0] S128x128.size inb_S128x512_S128x128_0_0, outK 1#1 (ldx harg2 x0 0 0 inb_S2x4_S1x1_0_0) (ldq harg3 x1 0 inb_S128x512_S128x128_0_0) (ldt harg6 x4) (ldt harg7 x5) (ldv harg5 x3 0 inb_S128x1024_S128x256_0_0) (ldv harg8 x6 0 inb_S128x1024_S128x256_0_0) (kernelRun0_A.sl.v136 c arg23 : Vec F S1x1x128x256 .f32)⟩] := rfl

theorem A16 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.1 =
    [⟨Rect.unit ![0, 768] S128x256.size inb_S128x1024_S128x256_0_768, outV 1#1 (ldx harg2 x0 0 3 inb_S2x4_S1x1_0_3) (ldq harg3 x1 384 inb_S128x512_S128x128_0_384) (ldq harg4 x2 384 inb_S128x512_S128x128_0_384) (ldt harg6 x4) (ldt harg7 x5) (ldv harg8 x6 768 inb_S128x1024_S128x256_0_768) (kernelRun0_A.sl.v961 c arg2 harg2 arg3 harg3 arg6 harg6 arg7 harg7 arg8 harg8 arg23 x0 x1 x4 x5 x6 : Vec F S1x1x128x256 .f32)⟩,
     ⟨Rect.unit ![0, 512] S128x256.size inb_S128x1024_S128x256_0_512, outV 1#1 (ldx harg2 x0 0 2 inb_S2x4_S1x1_0_2) (ldq harg3 x1 256 inb_S128x512_S128x128_0_256) (ldq harg4 x2 256 inb_S128x512_S128x128_0_256) (ldt harg6 x4) (ldt harg7 x5) (ldv harg8 x6 512 inb_S128x1024_S128x256_0_512) (kernelRun0_A.sl.v686 c arg2 harg2 arg3 harg3 arg6 harg6 arg7 harg7 arg8 harg8 arg23 x0 x1 x4 x5 x6 : Vec F S1x1x128x256 .f32)⟩,
     ⟨Rect.unit ![0, 256] S128x256.size inb_S128x1024_S128x256_0_256, outV 1#1 (ldx harg2 x0 0 1 inb_S2x4_S1x1_0_1) (ldq harg3 x1 128 inb_S128x512_S128x128_0_128) (ldq harg4 x2 128 inb_S128x512_S128x128_0_128) (ldt harg6 x4) (ldt harg7 x5) (ldv harg8 x6 256 inb_S128x1024_S128x256_0_256) (kernelRun0_A.sl.v411 c arg2 harg2 arg3 harg3 arg6 harg6 arg7 harg7 arg8 harg8 arg23 x0 x1 x4 x5 x6 : Vec F S1x1x128x256 .f32)⟩,
     ⟨Rect.unit ![0, 0] S128x256.size inb_S128x1024_S128x256_0_0, outV 1#1 (ldx harg2 x0 0 0 inb_S2x4_S1x1_0_0) (ldq harg3 x1 0 inb_S128x512_S128x128_0_0) (ldq harg4 x2 0 inb_S128x512_S128x128_0_0) (ldt harg6 x4) (ldt harg7 x5) (ldv harg8 x6 0 inb_S128x1024_S128x256_0_0) (kernelRun0_A.sl.v136 c arg23 : Vec F S1x1x128x256 .f32)⟩] := rfl

theorem A17 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.1 =
    [⟨Rect.unit ![0, 384] S128x128.size inb_S128x512_S128x128_0_384, outQ 0#1 (ldx harg2 x0 1 3 inb_S2x4_S1x1_1_3) (ldq harg10 x8 384 inb_S128x512_S128x128_0_384) (ldt harg12 x10) (ldt harg13 x11) (ldv harg11 x9 768 inb_S128x1024_S128x256_0_768) (ldv harg14 x12 768 inb_S128x1024_S128x256_0_768) (ldst harg15 x13 1 3 inb_S2x4x1x128x256_S1x1x1x128x256_1_3_0_0_0)⟩,
     ⟨Rect.unit ![0, 256] S128x128.size inb_S128x512_S128x128_0_256, outQ 0#1 (ldx harg2 x0 1 2 inb_S2x4_S1x1_1_2) (ldq harg10 x8 256 inb_S128x512_S128x128_0_256) (ldt harg12 x10) (ldt harg13 x11) (ldv harg11 x9 512 inb_S128x1024_S128x256_0_512) (ldv harg14 x12 512 inb_S128x1024_S128x256_0_512) (ldst harg15 x13 1 2 inb_S2x4x1x128x256_S1x1x1x128x256_1_2_0_0_0)⟩,
     ⟨Rect.unit ![0, 128] S128x128.size inb_S128x512_S128x128_0_128, outQ 0#1 (ldx harg2 x0 1 1 inb_S2x4_S1x1_1_1) (ldq harg10 x8 128 inb_S128x512_S128x128_0_128) (ldt harg12 x10) (ldt harg13 x11) (ldv harg11 x9 256 inb_S128x1024_S128x256_0_256) (ldv harg14 x12 256 inb_S128x1024_S128x256_0_256) (ldst harg15 x13 1 1 inb_S2x4x1x128x256_S1x1x1x128x256_1_1_0_0_0)⟩,
     ⟨Rect.unit ![0, 0] S128x128.size inb_S128x512_S128x128_0_0, outQ 0#1 (ldx harg2 x0 1 0 inb_S2x4_S1x1_1_0) (ldq harg10 x8 0 inb_S128x512_S128x128_0_0) (ldt harg12 x10) (ldt harg13 x11) (ldv harg11 x9 0 inb_S128x1024_S128x256_0_0) (ldv harg14 x12 0 inb_S128x1024_S128x256_0_0) (ldst harg15 x13 1 0 inb_S2x4x1x128x256_S1x1x1x128x256_1_0_0_0_0)⟩] := rfl

theorem A18 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.1 =
    [⟨Rect.unit ![0, 384] S128x128.size inb_S128x512_S128x128_0_384, outK 0#1 (ldx harg2 x0 1 3 inb_S2x4_S1x1_1_3) (ldq harg9 x7 384 inb_S128x512_S128x128_0_384) (ldt harg12 x10) (ldt harg13 x11) (ldv harg11 x9 768 inb_S128x1024_S128x256_0_768) (ldv harg14 x12 768 inb_S128x1024_S128x256_0_768) (kernelRun0_A.sl.v2078 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 256] S128x128.size inb_S128x512_S128x128_0_256, outK 0#1 (ldx harg2 x0 1 2 inb_S2x4_S1x1_1_2) (ldq harg9 x7 256 inb_S128x512_S128x128_0_256) (ldt harg12 x10) (ldt harg13 x11) (ldv harg11 x9 512 inb_S128x1024_S128x256_0_512) (ldv harg14 x12 512 inb_S128x1024_S128x256_0_512) (kernelRun0_A.sl.v1803 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 128] S128x128.size inb_S128x512_S128x128_0_128, outK 0#1 (ldx harg2 x0 1 1 inb_S2x4_S1x1_1_1) (ldq harg9 x7 128 inb_S128x512_S128x128_0_128) (ldt harg12 x10) (ldt harg13 x11) (ldv harg11 x9 256 inb_S128x1024_S128x256_0_256) (ldv harg14 x12 256 inb_S128x1024_S128x256_0_256) (kernelRun0_A.sl.v1528 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 0] S128x128.size inb_S128x512_S128x128_0_0, outK 0#1 (ldx harg2 x0 1 0 inb_S2x4_S1x1_1_0) (ldq harg9 x7 0 inb_S128x512_S128x128_0_0) (ldt harg12 x10) (ldt harg13 x11) (ldv harg11 x9 0 inb_S128x1024_S128x256_0_0) (ldv harg14 x12 0 inb_S128x1024_S128x256_0_0) (kernelRun0_A.sl.v1253 c arg2 harg2 arg3 harg3 arg6 harg6 arg7 harg7 arg8 harg8 arg23 x0 x1 x4 x5 x6 : Vec F S1x1x128x256 .f32)⟩] := rfl

theorem A19 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.1 =
    [⟨Rect.unit ![0, 768] S128x256.size inb_S128x1024_S128x256_0_768, outV 0#1 (ldx harg2 x0 1 3 inb_S2x4_S1x1_1_3) (ldq harg9 x7 384 inb_S128x512_S128x128_0_384) (ldq harg10 x8 384 inb_S128x512_S128x128_0_384) (ldt harg12 x10) (ldt harg13 x11) (ldv harg14 x12 768 inb_S128x1024_S128x256_0_768) (kernelRun0_A.sl.v2078 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 512] S128x256.size inb_S128x1024_S128x256_0_512, outV 0#1 (ldx harg2 x0 1 2 inb_S2x4_S1x1_1_2) (ldq harg9 x7 256 inb_S128x512_S128x128_0_256) (ldq harg10 x8 256 inb_S128x512_S128x128_0_256) (ldt harg12 x10) (ldt harg13 x11) (ldv harg14 x12 512 inb_S128x1024_S128x256_0_512) (kernelRun0_A.sl.v1803 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 256] S128x256.size inb_S128x1024_S128x256_0_256, outV 0#1 (ldx harg2 x0 1 1 inb_S2x4_S1x1_1_1) (ldq harg9 x7 128 inb_S128x512_S128x128_0_128) (ldq harg10 x8 128 inb_S128x512_S128x128_0_128) (ldt harg12 x10) (ldt harg13 x11) (ldv harg14 x12 256 inb_S128x1024_S128x256_0_256) (kernelRun0_A.sl.v1528 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![0, 0] S128x256.size inb_S128x1024_S128x256_0_0, outV 0#1 (ldx harg2 x0 1 0 inb_S2x4_S1x1_1_0) (ldq harg9 x7 0 inb_S128x512_S128x128_0_0) (ldq harg10 x8 0 inb_S128x512_S128x128_0_0) (ldt harg12 x10) (ldt harg13 x11) (ldv harg14 x12 0 inb_S128x1024_S128x256_0_0) (kernelRun0_A.sl.v1253 c arg2 harg2 arg3 harg3 arg6 harg6 arg7 harg7 arg8 harg8 arg23 x0 x1 x4 x5 x6 : Vec F S1x1x128x256 .f32)⟩] := rfl

theorem A21 {hc0 : cond0_0 i} : (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.2.2.1 =
    [⟨Rect.unit ![1, 3, 0, 0] S1x1x128x256.size inb_S2x4x128x256_S1x1x128x256_1_3_0_0, outS 0#1 (ldx harg2 x0 1 3 inb_S2x4_S1x1_1_3) (ldq harg9 x7 384 inb_S128x512_S128x128_0_384) (ldt harg12 x10) (ldt harg13 x11) (ldv harg14 x12 768 inb_S128x1024_S128x256_0_768) (kernelRun0_A.sl.v2078 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![1, 2, 0, 0] S1x1x128x256.size inb_S2x4x128x256_S1x1x128x256_1_2_0_0, outS 0#1 (ldx harg2 x0 1 2 inb_S2x4_S1x1_1_2) (ldq harg9 x7 256 inb_S128x512_S128x128_0_256) (ldt harg12 x10) (ldt harg13 x11) (ldv harg14 x12 512 inb_S128x1024_S128x256_0_512) (kernelRun0_A.sl.v1803 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![1, 1, 0, 0] S1x1x128x256.size inb_S2x4x128x256_S1x1x128x256_1_1_0_0, outS 0#1 (ldx harg2 x0 1 1 inb_S2x4_S1x1_1_1) (ldq harg9 x7 128 inb_S128x512_S128x128_0_128) (ldt harg12 x10) (ldt harg13 x11) (ldv harg14 x12 256 inb_S128x1024_S128x256_0_256) (kernelRun0_A.sl.v1528 c arg2 harg2 arg3 harg3 arg6 harg6 arg7 harg7 arg8 harg8 arg9 harg9 arg12 harg12 arg13 harg13 arg14 harg14 arg23 x0 x1 x4 x5 x6 x7 x10 x11 x12 : Vec F S1x1x128x256 .f32)⟩,
     ⟨Rect.unit ![1, 0, 0, 0] S1x1x128x256.size inb_S2x4x128x256_S1x1x128x256_1_0_0_0, outS 0#1 (ldx harg2 x0 1 0 inb_S2x4_S1x1_1_0) (ldq harg9 x7 0 inb_S128x512_S128x128_0_0) (ldt harg12 x10) (ldt harg13 x11) (ldv harg14 x12 0 inb_S128x1024_S128x256_0_0) (kernelRun0_A.sl.v1253 c arg2 harg2 arg3 harg3 arg6 harg6 arg7 harg7 arg8 harg8 arg23 x0 x1 x4 x5 x6 : Vec F S1x1x128x256 .f32)⟩,
     ⟨Rect.unit ![0, 3, 0, 0] S1x1x128x256.size inb_S2x4x128x256_S1x1x128x256_0_3_0_0, outS 1#1 (ldx harg2 x0 0 3 inb_S2x4_S1x1_0_3) (ldq harg3 x1 384 inb_S128x512_S128x128_0_384) (ldt harg6 x4) (ldt harg7 x5) (ldv harg8 x6 768 inb_S128x1024_S128x256_0_768) (kernelRun0_A.sl.v961 c arg2 harg2 arg3 harg3 arg6 harg6 arg7 harg7 arg8 harg8 arg23 x0 x1 x4 x5 x6 : Vec F S1x1x128x256 .f32)⟩,
     ⟨Rect.unit ![0, 2, 0, 0] S1x1x128x256.size inb_S2x4x128x256_S1x1x128x256_0_2_0_0, outS 1#1 (ldx harg2 x0 0 2 inb_S2x4_S1x1_0_2) (ldq harg3 x1 256 inb_S128x512_S128x128_0_256) (ldt harg6 x4) (ldt harg7 x5) (ldv harg8 x6 512 inb_S128x1024_S128x256_0_512) (kernelRun0_A.sl.v686 c arg2 harg2 arg3 harg3 arg6 harg6 arg7 harg7 arg8 harg8 arg23 x0 x1 x4 x5 x6 : Vec F S1x1x128x256 .f32)⟩,
     ⟨Rect.unit ![0, 1, 0, 0] S1x1x128x256.size inb_S2x4x128x256_S1x1x128x256_0_1_0_0, outS 1#1 (ldx harg2 x0 0 1 inb_S2x4_S1x1_0_1) (ldq harg3 x1 128 inb_S128x512_S128x128_0_128) (ldt harg6 x4) (ldt harg7 x5) (ldv harg8 x6 256 inb_S128x1024_S128x256_0_256) (kernelRun0_A.sl.v411 c arg2 harg2 arg3 harg3 arg6 harg6 arg7 harg7 arg8 harg8 arg23 x0 x1 x4 x5 x6 : Vec F S1x1x128x256 .f32)⟩,
     ⟨Rect.unit ![0, 0, 0, 0] S1x1x128x256.size inb_S2x4x128x256_S1x1x128x256_0_0_0_0, outS 1#1 (ldx harg2 x0 0 0 inb_S2x4_S1x1_0_0) (ldq harg3 x1 0 inb_S128x512_S128x128_0_0) (ldt harg6 x4) (ldt harg7 x5) (ldv harg8 x6 0 inb_S128x1024_S128x256_0_0) (kernelRun0_A.sl.v136 c arg23 : Vec F S1x1x128x256 .f32)⟩,
     ⟨Rect.unit ![0, 0, 0, 0] S2x4x128x256.size inb_S2x4x128x256_S2x4x128x256_0_0_0_0, k0_pay3⟩] := rfl

end Cert.KernelIdeal.Pieces
-- ==== Proof.Reads.lean ====
module

public import proofs.«01_k».proof.Proof.Pieces
public import Idealize.ShloMosaic.Lib.WritesUnit
public import Idealize.ShloMosaic.Lib.VecWindow
public import Idealize.ShloMosaic.Lib.Pointwise

@[expose] public section

set_option maxRecDepth 16384
set_option maxHeartbeats 4000000

noncomputable section

/-! What the body leaves at an index of each output's block and of the scratch. -/
namespace Cert.KernelIdeal.Reads

open Idealize.ShloMosaic Idealize.ShloMosaic.TcCoe
open Cert.KernelIdeal.Gen Cert.KernelIdeal.Head Cert.KernelIdeal.Pieces Cert.KernelIdeal

variable {F : FTy → Type} [FloatOps F]

/-- A head's lane in a row of all heads' lanes. -/
def col (h : Fin 4) (c : Fin 128) : Fin 512 := ⟨128 * h.val + c.val, by omega⟩
def colv (h : Fin 4) (u : Fin 256) : Fin 1024 := ⟨256 * h.val + u.val, by omega⟩

/-- A head's part of a block. -/
def qc (x : Vec F S128x512 .f32) (h : Fin 4) : Vec F S128x128 .f32 := fun j => x (ix2 (j 0) (col h (j 1)))
def vc (x : Vec F S128x1024 .f32) (h : Fin 4) : Vec F S128x256 .f32 := fun j => x (ix2 (j 0) (colv h (j 1)))
def sc (x : Vec F S2x4x128x256 .f32) (d : Fin 2) (h : Fin 4) : Vec F S1x1x128x256 .f32 := fun j => x (ix4 d h (j 2) (j 3))
def stc (x : Vec F S2x4x1x128x256 .f32) (d : Fin 2) (h : Fin 4) : Vec F S1x1x1x128x256 .f32 := fun j => x (ix5 d h 0 (j 3) (j 4))
/-- The zero state. -/
def zS : Vec F S1x1x128x256 .f32 := fun _ => FloatOps.ofBits .f32 0x00000000#32

theorem ldq_eq {a : Memref sig .tc .vmem S128x512 .f32} (ha : a.IsWhole) (x : Vec F S128x512 .f32) (o : ℕ) (hb) (h : Fin 4) (ho : o = 128 * h.val) :
    ldq ha x o hb = qc x h := by
  subst ho
  funext j
  refine (ha.readAt_unread x (Rect.unit (s := S128x512) ![0, 128 * h.val] S128x128.size hb).toLoadRect j).trans (congrArg x (funext fun k => Fin.ext ?_))
  match k with
  | 0 => exact (show 0 + 1 * (j 0).val = (j 0).val by omega)
  | 1 => exact (show 128 * h.val + 1 * (j 1).val = 128 * h.val + (j 1).val by omega)
theorem ldv_eq {a : Memref sig .tc .vmem S128x1024 .f32} (ha : a.IsWhole) (x : Vec F S128x1024 .f32) (o : ℕ) (hb) (h : Fin 4) (ho : o = 256 * h.val) :
    ldv ha x o hb = vc x h := by
  subst ho
  funext j
  refine (ha.readAt_unread x (Rect.unit (s := S128x1024) ![0, 256 * h.val] S128x256.size hb).toLoadRect j).trans (congrArg x (funext fun k => Fin.ext ?_))
  match k with
  | 0 => exact (show 0 + 1 * (j 0).val = (j 0).val by omega)
  | 1 => exact (show 256 * h.val + 1 * (j 1).val = 256 * h.val + (j 1).val by omega)
theorem ldt_eq {a : Memref sig .tc .vmem S128x128 .f32} (ha : a.IsWhole) (x : Vec F S128x128 .f32) : ldt ha x = x := by
  funext j
  refine (ha.readAt_unread x (Rect.unit (s := S128x128) ![0, 0] S128x128.size inb_S128x128_S128x128_0_0).toLoadRect j).trans (congrArg x (funext fun k => Fin.ext ?_))
  match k with
  | 0 => exact (show 0 + 1 * (j 0).val = (j 0).val by omega)
  | 1 => exact (show 0 + 1 * (j 1).val = (j 1).val by omega)
theorem lds_eq {a : Memref sig .tc .vmem S2x4x128x256 .f32} (ha : a.IsWhole) (x : Vec F S2x4x128x256 .f32) (o p : ℕ) (hb) (d : Fin 2) (h : Fin 4)
    (ho : o = d.val) (hp : p = h.val) : lds ha x o p hb = sc x d h := by
  subst ho hp
  funext j
  have h0 : (j 0).val < 1 := (j 0).isLt
  have h1 : (j 1).val < 1 := (j 1).isLt
  refine (ha.readAt_unread x (Rect.unit (s := S2x4x128x256) ![d.val, h.val, 0, 0] S1x1x128x256.size hb).toLoadRect j).trans (congrArg x (funext fun k => Fin.ext ?_))
  match k with
  | 0 => exact (show d.val + 1 * (j 0).val = d.val by omega)
  | 1 => exact (show h.val + 1 * (j 1).val = h.val by omega)
  | 2 => exact (show 0 + 1 * (j 2).val = (j 2).val by omega)
  | 3 => exact (show 0 + 1 * (j 3).val = (j 3).val by omega)
theorem ldst_eq {a : Memref sig .tc .vmem S2x4x1x128x256 .f32} (ha : a.IsWhole) (x : Vec F S2x4x1x128x256 .f32) (o p : ℕ) (hb) (d : Fin 2) (h : Fin 4)
    (ho : o = d.val) (hp : p = h.val) : ldst ha x o p hb = stc x d h := by
  subst ho hp
  funext j
  have h0 : (j 0).val < 1 := (j 0).isLt
  have h1 : (j 1).val < 1 := (j 1).isLt
  have h2 : (j 2).val < 1 := (j 2).isLt
  refine (ha.readAt_unread x (Rect.unit (s := S2x4x1x128x256) ![d.val, h.val, 0, 0, 0] S1x1x1x128x256.size hb).toLoadRect j).trans (congrArg x (funext fun k => Fin.ext ?_))
  match k with
  | 0 => exact (show d.val + 1 * (j 0).val = d.val by omega)
  | 1 => exact (show h.val + 1 * (j 1).val = h.val by omega)
  | 2 => exact (show 0 + 1 * (j 2).val = 0 by omega)
  | 3 => exact (show 0 + 1 * (j 3).val = (j 3).val by omega)
  | 4 => exact (show 0 + 1 * (j 4).val = (j 4).val by omega)
theorem ldx_eq {a : Memref sig .tc .smem S2x4 .f32} (ha : a.IsWhole) (x : Vec F S2x4 .f32) (o p : ℕ) (hb) (d : Fin 2) (h : Fin 4)
    (ho : o = d.val) (hp : p = h.val) : ldx ha x o p hb = x (ix2 d h) := by
  subst ho hp
  refine (ha.readAt_unread x (Rect.unit (s := S2x4) ![d.val, h.val] S1x1.size hb).toLoadRect (Shape.Idx.first (show 0 < S1x1.numel by decide))).trans (congrArg x (funext fun k => Fin.ext ?_))
  match k with
  | 0 => exact (show d.val + 1 * 0 = d.val by omega)
  | 1 => exact (show h.val + 1 * 0 = h.val by omega)

section Lists
variable {κ : Kind} {sp : Space}

theorem read4 (v : View sig κ sp S128x512 .f32) (f) (w : Fin 4 → Vec F S128x128 .f32) (a3 a2 a1 a0) (r : Fin 128) (h : Fin 4) (c : Fin 128) :
    v.read (Elt F) (v.writes (Elt F) f [⟨Rect.unit ![0, 384] S128x128.size a3, w 3⟩, ⟨Rect.unit ![0, 256] S128x128.size a2, w 2⟩,
      ⟨Rect.unit ![0, 128] S128x128.size a1, w 1⟩, ⟨Rect.unit ![0, 0] S128x128.size a0, w 0⟩]) (ix2 r (col h c)) = w h (ix2 r c) := by
  have miss : ∀ (o : ℕ) (a) (w' : Vec F S128x128 .f32) (L), o = 128 * (h.val + 1) ∨ o ≥ 128 * (h.val + 1) →
      v.read (Elt F) (v.writes (Elt F) f (⟨Rect.unit ![0, o] S128x128.size a, w'⟩ :: L)) (ix2 r (col h c)) = v.read (Elt F) (v.writes (Elt F) f L) (ix2 r (col h c)) :=
    fun o a w' L ho => View.read_writes_cons_unit_of_not_mem v f a w' L _ rfl (1 : Fin 2) (Or.inl (show 128 * h.val + c.val < o by omega))
  have hit : ∀ (o : ℕ) (a) (w' : Vec F S128x128 .f32) (L), o = 128 * h.val →
      v.read (Elt F) (v.writes (Elt F) f (⟨Rect.unit ![0, o] S128x128.size a, w'⟩ :: L)) (ix2 r (col h c)) = w' (ix2 r c) := by
    intro o a w' L ho
    refine View.read_writes_cons_unit_of_mem v f a w' L _ (ix2 r c) rfl fun k => ?_
    match k with
    | 0 => exact (show r.val = 0 + r.val by omega)
    | 1 => exact (show 128 * h.val + c.val = o + c.val by omega)
  match h with
  | 3 => rw [hit 384 _ _ _ rfl]
  | 2 => rw [miss 384 _ _ _ (by decide), hit 256 _ _ _ rfl]
  | 1 => rw [miss 384 _ _ _ (by decide), miss 256 _ _ _ (by decide), hit 128 _ _ _ rfl]
  | 0 => rw [miss 384 _ _ _ (by decide), miss 256 _ _ _ (by decide), miss 128 _ _ _ (by decide), hit 0 _ _ _ rfl]

theorem read4v (v : View sig κ sp S128x1024 .f32) (f) (w : Fin 4 → Vec F S128x256 .f32) (a3 a2 a1 a0) (r : Fin 128) (h : Fin 4) (c : Fin 256) :
    v.read (Elt F) (v.writes (Elt F) f [⟨Rect.unit ![0, 768] S128x256.size a3, w 3⟩, ⟨Rect.unit ![0, 512] S128x256.size a2, w 2⟩,
      ⟨Rect.unit ![0, 256] S128x256.size a1, w 1⟩, ⟨Rect.unit ![0, 0] S128x256.size a0, w 0⟩]) (ix2 r (colv h c)) = w h (ix2 r c) := by
  have miss : ∀ (o : ℕ) (a) (w' : Vec F S128x256 .f32) (L), o ≥ 256 * (h.val + 1) →
      v.read (Elt F) (v.writes (Elt F) f (⟨Rect.unit ![0, o] S128x256.size a, w'⟩ :: L)) (ix2 r (colv h c)) = v.read (Elt F) (v.writes (Elt F) f L) (ix2 r (colv h c)) :=
    fun o a w' L ho => View.read_writes_cons_unit_of_not_mem v f a w' L _ rfl (1 : Fin 2) (Or.inl (show 256 * h.val + c.val < o by omega))
  have hit : ∀ (o : ℕ) (a) (w' : Vec F S128x256 .f32) (L), o = 256 * h.val →
      v.read (Elt F) (v.writes (Elt F) f (⟨Rect.unit ![0, o] S128x256.size a, w'⟩ :: L)) (ix2 r (colv h c)) = w' (ix2 r c) := by
    intro o a w' L ho
    refine View.read_writes_cons_unit_of_mem v f a w' L _ (ix2 r c) rfl fun k => ?_
    match k with
    | 0 => exact (show r.val = 0 + r.val by omega)
    | 1 => exact (show 256 * h.val + c.val = o + c.val by omega)
  match h with
  | 3 => rw [hit 768 _ _ _ rfl]
  | 2 => rw [miss 768 _ _ _ (by decide), hit 512 _ _ _ rfl]
  | 1 => rw [miss 768 _ _ _ (by decide), miss 512 _ _ _ (by decide), hit 256 _ _ _ rfl]
  | 0 => rw [miss 768 _ _ _ (by decide), miss 512 _ _ _ (by decide), miss 256 _ _ _ (by decide), hit 0 _ _ _ rfl]

theorem miss8 (v : View sig κ sp S2x4x128x256 .f32) (f) (d h : ℕ) (y : S2x4x128x256.Idx) (o p : ℕ) (a) (w' : Vec F S1x1x128x256 .f32) (L)
    (h0 : (y 0).val = d) (h1 : (y 1).val = h) (ne : o ≠ d ∨ p ≠ h) :
    v.read (Elt F) (v.writes (Elt F) f (⟨Rect.unit (s := S2x4x128x256) ![o, p, 0, 0] S1x1x128x256.size a, w'⟩ :: L)) y = v.read (Elt F) (v.writes (Elt F) f L) y := by
  rcases ne with ne | ne
  · refine View.read_writes_cons_unit_of_not_mem v f a w' L _ rfl (0 : Fin 4) ?_
    rw [h0]; exact (show d < o ∨ o + 1 ≤ d by omega)
  · refine View.read_writes_cons_unit_of_not_mem v f a w' L _ rfl (1 : Fin 4) ?_
    rw [h1]; exact (show h < p ∨ p + 1 ≤ h by omega)

theorem read8 (v : View sig κ sp S2x4x128x256 .f32) (f) (w : Fin 2 → Fin 4 → Vec F S1x1x128x256 .f32) (L) (b3 b2 b1 b0 a3 a2 a1 a0)
    (d : Fin 2) (h : Fin 4) (l : Fin 128) (u : Fin 256) :
    v.read (Elt F) (v.writes (Elt F) f (⟨Rect.unit ![1, 3, 0, 0] S1x1x128x256.size b3, w 1 3⟩ :: ⟨Rect.unit ![1, 2, 0, 0] S1x1x128x256.size b2, w 1 2⟩ ::
      ⟨Rect.unit ![1, 1, 0, 0] S1x1x128x256.size b1, w 1 1⟩ :: ⟨Rect.unit ![1, 0, 0, 0] S1x1x128x256.size b0, w 1 0⟩ ::
      ⟨Rect.unit ![0, 3, 0, 0] S1x1x128x256.size a3, w 0 3⟩ :: ⟨Rect.unit ![0, 2, 0, 0] S1x1x128x256.size a2, w 0 2⟩ ::
      ⟨Rect.unit ![0, 1, 0, 0] S1x1x128x256.size a1, w 0 1⟩ :: ⟨Rect.unit ![0, 0, 0, 0] S1x1x128x256.size a0, w 0 0⟩ :: L)) (ix4 d h l u) = w d h (ix4 0 0 l u) := by
  have miss : ∀ (o p : ℕ) (a) (w' : Vec F S1x1x128x256 .f32) (L), (o ≠ d.val ∨ p ≠ h.val) →
      v.read (Elt F) (v.writes (Elt F) f (⟨Rect.unit (s := S2x4x128x256) ![o, p, 0, 0] S1x1x128x256.size a, w'⟩ :: L)) (ix4 d h l u) = v.read (Elt F) (v.writes (Elt F) f L) (ix4 d h l u) :=
    fun o p a w' L ne => miss8 v f d.val h.val _ o p a w' L rfl rfl ne
  have hit : ∀ (o p : ℕ) (a) (w' : Vec F S1x1x128x256 .f32) (L), (o = d.val ∧ p = h.val) →
      v.read (Elt F) (v.writes (Elt F) f (⟨Rect.unit (s := S2x4x128x256) ![o, p, 0, 0] S1x1x128x256.size a, w'⟩ :: L)) (ix4 d h l u) = w' (ix4 0 0 l u) := by
    intro o p a w' L ho
    refine View.read_writes_cons_unit_of_mem v f a w' L _ (ix4 0 0 l u) rfl fun k => ?_
    match k with
    | 0 => exact (show d.val = o + 0 by omega)
    | 1 => exact (show h.val = p + 0 by omega)
    | 2 => exact (show l.val = 0 + l.val by omega)
    | 3 => exact (show u.val = 0 + u.val by omega)
  match d, h with
  | 1, 3 => rw [hit 1 3 _ _ _ (by decide)]
  | 1, 2 => rw [miss 1 3 _ _ _ (by decide), hit 1 2 _ _ _ (by decide)]
  | 1, 1 => rw [miss 1 3 _ _ _ (by decide), miss 1 2 _ _ _ (by decide), hit 1 1 _ _ _ (by decide)]
  | 1, 0 => rw [miss 1 3 _ _ _ (by decide), miss 1 2 _ _ _ (by decide), miss 1 1 _ _ _ (by decide), hit 1 0 _ _ _ (by decide)]
  | 0, 3 => rw [miss 1 3 _ _ _ (by decide), miss 1 2 _ _ _ (by decide), miss 1 1 _ _ _ (by decide), miss 1 0 _ _ _ (by decide), hit 0 3 _ _ _ (by decide)]
  | 0, 2 => rw [miss 1 3 _ _ _ (by decide), miss 1 2 _ _ _ (by decide), miss 1 1 _ _ _ (by decide), miss 1 0 _ _ _ (by decide), miss 0 3 _ _ _ (by decide), hit 0 2 _ _ _ (by decide)]
  | 0, 1 => rw [miss 1 3 _ _ _ (by decide), miss 1 2 _ _ _ (by decide), miss 1 1 _ _ _ (by decide), miss 1 0 _ _ _ (by decide), miss 0 3 _ _ _ (by decide), miss 0 2 _ _ _ (by decide), hit 0 1 _ _ _ (by decide)]
  | 0, 0 => rw [miss 1 3 _ _ _ (by decide), miss 1 2 _ _ _ (by decide), miss 1 1 _ _ _ (by decide), miss 1 0 _ _ _ (by decide), miss 0 3 _ _ _ (by decide), miss 0 2 _ _ _ (by decide), miss 0 1 _ _ _ (by decide), hit 0 0 _ _ _ (by decide)]
end Lists

section Cases
variable {c : Dev nD} {i : grid0.Coords}
  {arg2 : Memref sig .tc .smem S2x4 .f32} {harg2 : arg2.IsWhole} {arg3 : Memref sig .tc .vmem S128x512 .f32} {harg3 : arg3.IsWhole}
  {arg4 : Memref sig .tc .vmem S128x512 .f32} {harg4 : arg4.IsWhole} {arg5 : Memref sig .tc .vmem S128x1024 .f32} {harg5 : arg5.IsWhole}
  {arg6 : Memref sig .tc .vmem S128x128 .f32} {harg6 : arg6.IsWhole} {arg7 : Memref sig .tc .vmem S128x128 .f32} {harg7 : arg7.IsWhole}
  {arg8 : Memref sig .tc .vmem S128x1024 .f32} {harg8 : arg8.IsWhole} {arg9 : Memref sig .tc .vmem S128x512 .f32} {harg9 : arg9.IsWhole}
  {arg10 : Memref sig .tc .vmem S128x512 .f32} {harg10 : arg10.IsWhole} {arg11 : Memref sig .tc .vmem S128x1024 .f32} {harg11 : arg11.IsWhole}
  {arg12 : Memref sig .tc .vmem S128x128 .f32} {harg12 : arg12.IsWhole} {arg13 : Memref sig .tc .vmem S128x128 .f32} {harg13 : arg13.IsWhole}
  {arg14 : Memref sig .tc .vmem S128x1024 .f32} {harg14 : arg14.IsWhole} {arg15 : Memref sig .tc .vmem S2x4x1x128x256 .f32} {harg15 : arg15.IsWhole}
  {arg16 : Memref sig .tc .vmem S128x512 .f32} {harg16 : arg16.IsWhole} {arg17 : Memref sig .tc .vmem S128x512 .f32} {harg17 : arg17.IsWhole}
  {arg18 : Memref sig .tc .vmem S128x1024 .f32} {harg18 : arg18.IsWhole} {arg19 : Memref sig .tc .vmem S128x512 .f32} {harg19 : arg19.IsWhole}
  {arg20 : Memref sig .tc .vmem S128x512 .f32} {harg20 : arg20.IsWhole} {arg21 : Memref sig .tc .vmem S128x1024 .f32} {harg21 : arg21.IsWhole}
  {arg22 : Memref sig .tc .vmem S2x4x8x128 .f32} {harg22 : arg22.IsWhole} {arg23 : Memref sig .tc .vmem S2x4x128x256 .f32} {harg23 : arg23.IsWhole}
  {x0 : Vec F S2x4 .f32} {x1 : Vec F S128x512 .f32} {x2 : Vec F S128x512 .f32} {x3 : Vec F S128x1024 .f32} {x4 : Vec F S128x128 .f32} {x5 : Vec F S128x128 .f32} {x6 : Vec F S128x1024 .f32} {x7 : Vec F S128x512 .f32} {x8 : Vec F S128x512 .f32} {x9 : Vec F S128x1024 .f32} {x10 : Vec F S128x128 .f32} {x11 : Vec F S128x128 .f32} {x12 : Vec F S128x1024 .f32} {x13 : Vec F S2x4x1x128x256 .f32}
  {xt0 : TbBuf0 (F := F) c tbM0_0} {xo20 : Vec F S2x4x8x128 .f32} {xs0 : Vec F S2x4x128x256 .f32}

/-- The scratch the first point reads is zero. -/
theorem zero_00 : (kernelRun0_A.sl.v136 c arg23 : Vec F S1x1x128x256 .f32) = zS := by
  funext x
  have h0 : (x 0).val < 1 := (x 0).isLt
  have h1 : (x 1).val < 1 := (x 1).isLt
  unfold kernelRun0_A.sl.v136 kernelRun0_A.sl.HS0_1
  have e0 : (((Rect.unit (s := S2x4x128x256) ![0, 0, 0, 0] S1x1x128x256.size inb_S2x4x128x256_S1x1x128x256_0_0_0_0).toLoadRect.idx x) 0).val = 0 := (show 0 + 1 * (x 0).val = 0 by omega)
  have e1 : (((Rect.unit (s := S2x4x128x256) ![0, 0, 0, 0] S1x1x128x256.size inb_S2x4x128x256_S1x1x128x256_0_0_0_0).toLoadRect.idx x) 1).val = 0 := (show 0 + 1 * (x 1).val = 0 by omega)
  refine Eq.trans (b := arg23.view.read (Elt F) (arg23.view.writes (Elt F) _ _) _) rfl ?_

  exact (congrFun (View.read_writes_full _ _ _ _ _) _).trans rfl

/-- The scratch the first point reads is zero. -/
theorem zero_01 : (kernelRun0_A.sl.v411 c arg2 harg2 arg3 harg3 arg6 harg6 arg7 harg7 arg8 harg8 arg23 x0 x1 x4 x5 x6 : Vec F S1x1x128x256 .f32) = zS := by
  funext x
  have h0 : (x 0).val < 1 := (x 0).isLt
  have h1 : (x 1).val < 1 := (x 1).isLt
  unfold kernelRun0_A.sl.v411 kernelRun0_A.sl.HS0_2 kernelRun0_A.sl.HS0_1
  have e0 : (((Rect.unit (s := S2x4x128x256) ![0, 1, 0, 0] S1x1x128x256.size inb_S2x4x128x256_S1x1x128x256_0_1_0_0).toLoadRect.idx x) 0).val = 0 := (show 0 + 1 * (x 0).val = 0 by omega)
  have e1 : (((Rect.unit (s := S2x4x128x256) ![0, 1, 0, 0] S1x1x128x256.size inb_S2x4x128x256_S1x1x128x256_0_1_0_0).toLoadRect.idx x) 1).val = 1 := (show 1 + 1 * (x 1).val = 1 by omega)
  refine Eq.trans (b := arg23.view.read (Elt F) (arg23.view.writes (Elt F) _ _) _) rfl ?_
  refine (miss8 _ _ 0 1 _ 0 0 _ _ _ e0 e1 (by decide)).trans ?_
  exact (congrFun (View.read_writes_full _ _ _ _ _) _).trans rfl

/-- The scratch the first point reads is zero. -/
theorem zero_02 : (kernelRun0_A.sl.v686 c arg2 harg2 arg3 harg3 arg6 harg6 arg7 harg7 arg8 harg8 arg23 x0 x1 x4 x5 x6 : Vec F S1x1x128x256 .f32) = zS := by
  funext x
  have h0 : (x 0).val < 1 := (x 0).isLt
  have h1 : (x 1).val < 1 := (x 1).isLt
  unfold kernelRun0_A.sl.v686 kernelRun0_A.sl.HS0_3 kernelRun0_A.sl.HS0_2 kernelRun0_A.sl.HS0_1
  have e0 : (((Rect.unit (s := S2x4x128x256) ![0, 2, 0, 0] S1x1x128x256.size inb_S2x4x128x256_S1x1x128x256_0_2_0_0).toLoadRect.idx x) 0).val = 0 := (show 0 + 1 * (x 0).val = 0 by omega)
  have e1 : (((Rect.unit (s := S2x4x128x256) ![0, 2, 0, 0] S1x1x128x256.size inb_S2x4x128x256_S1x1x128x256_0_2_0_0).toLoadRect.idx x) 1).val = 2 := (show 2 + 1 * (x 1).val = 2 by omega)
  refine Eq.trans (b := arg23.view.read (Elt F) (arg23.view.writes (Elt F) _ _) _) rfl ?_
  refine (miss8 _ _ 0 2 _ 0 1 _ _ _ e0 e1 (by decide)).trans ?_
  refine (miss8 _ _ 0 2 _ 0 0 _ _ _ e0 e1 (by decide)).trans ?_
  exact (congrFun (View.read_writes_full _ _ _ _ _) _).trans rfl

/-- The scratch the first point reads is zero. -/
theorem zero_03 : (kernelRun0_A.sl.v961 c arg2 harg2 arg3 harg3 arg6 harg6 arg7 harg7 arg8 harg8 arg23 x0 x1 x4 x5 x6 : Vec F S1x1x128x256 .f32) = zS := by
  funext x
  have h0 : (x 0).val < 1 := (x 0).isLt
  have h1 : (x 1).val < 1 := (x 1).isLt
  unfold kernelRun0_A.sl.v961 kernelRun0_A.sl.HS0_4 kernelRun0_A.sl.HS0_3 kernelRun0_A.sl.HS0_2 kernelRun0_A.sl.HS0_1
  have e0 : (((Rect.unit (s := S2x4x128x256) ![0, 3, 0, 0] S1x1x128x256.size inb_S2x4x128x256_S1x1x128x256_0_3_0_0).toLoadRect.idx x) 0).val = 0 := (show 0 + 1 * (x 0).val = 0 by omega)
  have e1 : (((Rect.unit (s := S2x4x128x256) ![0, 3, 0, 0] S1x1x128x256.size inb_S2x4x128x256_S1x1x128x256_0_3_0_0).toLoadRect.idx x) 1).val = 3 := (show 3 + 1 * (x 1).val = 3 by omega)
  refine Eq.trans (b := arg23.view.read (Elt F) (arg23.view.writes (Elt F) _ _) _) rfl ?_
  refine (miss8 _ _ 0 3 _ 0 2 _ _ _ e0 e1 (by decide)).trans ?_
  refine (miss8 _ _ 0 3 _ 0 1 _ _ _ e0 e1 (by decide)).trans ?_
  refine (miss8 _ _ 0 3 _ 0 0 _ _ _ e0 e1 (by decide)).trans ?_
  exact (congrFun (View.read_writes_full _ _ _ _ _) _).trans rfl

/-- The scratch the first point reads is zero. -/
theorem zero_10 : (kernelRun0_A.sl.v1253 c arg2 harg2 arg3 harg3 arg6 harg6 arg7 harg7 arg8 harg8 arg23 x0 x1 x4 x5 x6 : Vec F S1x1x128x256 .f32) = zS := by
  funext x
  have h0 : (x 0).val < 1 := (x 0).isLt
  have h1 : (x 1).val < 1 := (x 1).isLt
  unfold kernelRun0_A.sl.v1253 kernelRun0_A.sl.HS0_5 kernelRun0_A.sl.HS0_4 kernelRun0_A.sl.HS0_3 kernelRun0_A.sl.HS0_2 kernelRun0_A.sl.HS0_1
  have e0 : (((Rect.unit (s := S2x4x128x256) ![1, 0, 0, 0] S1x1x128x256.size inb_S2x4x128x256_S1x1x128x256_1_0_0_0).toLoadRect.idx x) 0).val = 1 := (show 1 + 1 * (x 0).val = 1 by omega)
  have e1 : (((Rect.unit (s := S2x4x128x256) ![1, 0, 0, 0] S1x1x128x256.size inb_S2x4x128x256_S1x1x128x256_1_0_0_0).toLoadRect.idx x) 1).val = 0 := (show 0 + 1 * (x 1).val = 0 by omega)
  refine Eq.trans (b := arg23.view.read (Elt F) (arg23.view.writes (Elt F) _ _) _) rfl ?_
  refine (miss8 _ _ 1 0 _ 0 3 _ _ _ e0 e1 (by decide)).trans ?_
  refine (miss8 _ _ 1 0 _ 0 2 _ _ _ e0 e1 (by decide)).trans ?_
  refine (miss8 _ _ 1 0 _ 0 1 _ _ _ e0 e1 (by decide)).trans ?_
  refine (miss8 _ _ 1 0 _ 0 0 _ _ _ e0 e1 (by decide)).trans ?_
  exact (congrFun (View.read_writes_full _ _ _ _ _) _).trans rfl

/-- The scratch the first point reads is zero. -/
theorem zero_11 : (kernelRun0_A.sl.v1528 c arg2 harg2 arg3 harg3 arg6 harg6 arg7 harg7 arg8 harg8 arg9 harg9 arg12 harg12 arg13 harg13 arg14 harg14 arg23 x0 x1 x4 x5 x6 x7 x10 x11 x12 : Vec F S1x1x128x256 .f32) = zS := by
  funext x
  have h0 : (x 0).val < 1 := (x 0).isLt
  have h1 : (x 1).val < 1 := (x 1).isLt
  unfold kernelRun0_A.sl.v1528 kernelRun0_A.sl.HS0_6 kernelRun0_A.sl.HS0_5 kernelRun0_A.sl.HS0_4 kernelRun0_A.sl.HS0_3 kernelRun0_A.sl.HS0_2 kernelRun0_A.sl.HS0_1
  have e0 : (((Rect.unit (s := S2x4x128x256) ![1, 1, 0, 0] S1x1x128x256.size inb_S2x4x128x256_S1x1x128x256_1_1_0_0).toLoadRect.idx x) 0).val = 1 := (show 1 + 1 * (x 0).val = 1 by omega)
  have e1 : (((Rect.unit (s := S2x4x128x256) ![1, 1, 0, 0] S1x1x128x256.size inb_S2x4x128x256_S1x1x128x256_1_1_0_0).toLoadRect.idx x) 1).val = 1 := (show 1 + 1 * (x 1).val = 1 by omega)
  refine Eq.trans (b := arg23.view.read (Elt F) (arg23.view.writes (Elt F) _ _) _) rfl ?_
  refine (miss8 _ _ 1 1 _ 1 0 _ _ _ e0 e1 (by decide)).trans ?_
  refine (miss8 _ _ 1 1 _ 0 3 _ _ _ e0 e1 (by decide)).trans ?_
  refine (miss8 _ _ 1 1 _ 0 2 _ _ _ e0 e1 (by decide)).trans ?_
  refine (miss8 _ _ 1 1 _ 0 1 _ _ _ e0 e1 (by decide)).trans ?_
  refine (miss8 _ _ 1 1 _ 0 0 _ _ _ e0 e1 (by decide)).trans ?_
  exact (congrFun (View.read_writes_full _ _ _ _ _) _).trans rfl

/-- The scratch the first point reads is zero. -/
theorem zero_12 : (kernelRun0_A.sl.v1803 c arg2 harg2 arg3 harg3 arg6 harg6 arg7 harg7 arg8 harg8 arg9 harg9 arg12 harg12 arg13 harg13 arg14 harg14 arg23 x0 x1 x4 x5 x6 x7 x10 x11 x12 : Vec F S1x1x128x256 .f32) = zS := by
  funext x
  have h0 : (x 0).val < 1 := (x 0).isLt
  have h1 : (x 1).val < 1 := (x 1).isLt
  unfold kernelRun0_A.sl.v1803 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  have e0 : (((Rect.unit (s := S2x4x128x256) ![1, 2, 0, 0] S1x1x128x256.size inb_S2x4x128x256_S1x1x128x256_1_2_0_0).toLoadRect.idx x) 0).val = 1 := (show 1 + 1 * (x 0).val = 1 by omega)
  have e1 : (((Rect.unit (s := S2x4x128x256) ![1, 2, 0, 0] S1x1x128x256.size inb_S2x4x128x256_S1x1x128x256_1_2_0_0).toLoadRect.idx x) 1).val = 2 := (show 2 + 1 * (x 1).val = 2 by omega)
  refine Eq.trans (b := arg23.view.read (Elt F) (arg23.view.writes (Elt F) _ _) _) rfl ?_
  refine (miss8 _ _ 1 2 _ 1 1 _ _ _ e0 e1 (by decide)).trans ?_
  refine (miss8 _ _ 1 2 _ 1 0 _ _ _ e0 e1 (by decide)).trans ?_
  refine (miss8 _ _ 1 2 _ 0 3 _ _ _ e0 e1 (by decide)).trans ?_
  refine (miss8 _ _ 1 2 _ 0 2 _ _ _ e0 e1 (by decide)).trans ?_
  refine (miss8 _ _ 1 2 _ 0 1 _ _ _ e0 e1 (by decide)).trans ?_
  refine (miss8 _ _ 1 2 _ 0 0 _ _ _ e0 e1 (by decide)).trans ?_
  exact (congrFun (View.read_writes_full _ _ _ _ _) _).trans rfl

/-- The scratch the first point reads is zero. -/
theorem zero_13 : (kernelRun0_A.sl.v2078 c arg2 harg2 arg3 harg3 arg6 harg6 arg7 harg7 arg8 harg8 arg9 harg9 arg12 harg12 arg13 harg13 arg14 harg14 arg23 x0 x1 x4 x5 x6 x7 x10 x11 x12 : Vec F S1x1x128x256 .f32) = zS := by
  funext x
  have h0 : (x 0).val < 1 := (x 0).isLt
  have h1 : (x 1).val < 1 := (x 1).isLt
  unfold kernelRun0_A.sl.v2078 kernelRun0_A.sl.HS0_8 kernelRun0_A.sl.HS0_7 kernelRun0_A.sl.HS0_6 kernelRun0_A.sl.HS0_5 kernelRun0_A.sl.HS0_4 kernelRun0_A.sl.HS0_3 kernelRun0_A.sl.HS0_2 kernelRun0_A.sl.HS0_1
  have e0 : (((Rect.unit (s := S2x4x128x256) ![1, 3, 0, 0] S1x1x128x256.size inb_S2x4x128x256_S1x1x128x256_1_3_0_0).toLoadRect.idx x) 0).val = 1 := (show 1 + 1 * (x 0).val = 1 by omega)
  have e1 : (((Rect.unit (s := S2x4x128x256) ![1, 3, 0, 0] S1x1x128x256.size inb_S2x4x128x256_S1x1x128x256_1_3_0_0).toLoadRect.idx x) 1).val = 3 := (show 3 + 1 * (x 1).val = 3 by omega)
  refine Eq.trans (b := arg23.view.read (Elt F) (arg23.view.writes (Elt F) _ _) _) rfl ?_
  refine (miss8 _ _ 1 3 _ 1 2 _ _ _ e0 e1 (by decide)).trans ?_
  refine (miss8 _ _ 1 3 _ 1 1 _ _ _ e0 e1 (by decide)).trans ?_
  refine (miss8 _ _ 1 3 _ 1 0 _ _ _ e0 e1 (by decide)).trans ?_
  refine (miss8 _ _ 1 3 _ 0 3 _ _ _ e0 e1 (by decide)).trans ?_
  refine (miss8 _ _ 1 3 _ 0 2 _ _ _ e0 e1 (by decide)).trans ?_
  refine (miss8 _ _ 1 3 _ 0 1 _ _ _ e0 e1 (by decide)).trans ?_
  refine (miss8 _ _ 1 3 _ 0 0 _ _ _ e0 e1 (by decide)).trans ?_
  exact (congrFun (View.read_writes_full _ _ _ _ _) _).trans rfl

theorem B14_at {hc0 : ¬cond0_0 i} (r : Fin 128) (h : Fin 4) (l : Fin 128) :
    VO0_14.read (Elt F) (VO0_14.writes (Elt F) VO0_14.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).1) (ix2 r (col h l)) =
      outQ 1#1 (x0 (ix2 0 h)) (qc x2 h) x4 x5 (vc x3 h) (vc x6 h) (stc x13 0 h) (ix2 r l) := by
  rw [B14]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4 _ _ (fun h => outQ 1#1 (x0 (ix2 0 h)) (qc x2 h) x4 x5 (vc x3 h) (vc x6 h) (stc x13 0 h)) _ _ _ _ r h l

theorem B15_at {hc0 : ¬cond0_0 i} (r : Fin 128) (h : Fin 4) (l : Fin 128) :
    VO0_15.read (Elt F) (VO0_15.writes (Elt F) VO0_15.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.1) (ix2 r (col h l)) =
      outK 1#1 (x0 (ix2 0 h)) (qc x1 h) x4 x5 (vc x3 h) (vc x6 h) (sc xs0 0 h) (ix2 r l) := by
  rw [B15]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4 _ _ (fun h => outK 1#1 (x0 (ix2 0 h)) (qc x1 h) x4 x5 (vc x3 h) (vc x6 h) (sc xs0 0 h)) _ _ _ _ r h l

theorem B16_at {hc0 : ¬cond0_0 i} (r : Fin 128) (h : Fin 4) (u : Fin 256) :
    VO0_16.read (Elt F) (VO0_16.writes (Elt F) VO0_16.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.1) (ix2 r (colv h u)) =
      outV 1#1 (x0 (ix2 0 h)) (qc x1 h) (qc x2 h) x4 x5 (vc x6 h) (sc xs0 0 h) (ix2 r u) := by
  rw [B16]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4v _ _ (fun h => outV 1#1 (x0 (ix2 0 h)) (qc x1 h) (qc x2 h) x4 x5 (vc x6 h) (sc xs0 0 h)) _ _ _ _ r h u

theorem B17_at {hc0 : ¬cond0_0 i} (r : Fin 128) (h : Fin 4) (l : Fin 128) :
    VO0_17.read (Elt F) (VO0_17.writes (Elt F) VO0_17.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.1) (ix2 r (col h l)) =
      outQ 0#1 (x0 (ix2 1 h)) (qc x8 h) x10 x11 (vc x9 h) (vc x12 h) (stc x13 1 h) (ix2 r l) := by
  rw [B17]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4 _ _ (fun h => outQ 0#1 (x0 (ix2 1 h)) (qc x8 h) x10 x11 (vc x9 h) (vc x12 h) (stc x13 1 h)) _ _ _ _ r h l

theorem B18_at {hc0 : ¬cond0_0 i} (r : Fin 128) (h : Fin 4) (l : Fin 128) :
    VO0_18.read (Elt F) (VO0_18.writes (Elt F) VO0_18.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.1) (ix2 r (col h l)) =
      outK 0#1 (x0 (ix2 1 h)) (qc x7 h) x10 x11 (vc x9 h) (vc x12 h) (sc xs0 1 h) (ix2 r l) := by
  rw [B18]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4 _ _ (fun h => outK 0#1 (x0 (ix2 1 h)) (qc x7 h) x10 x11 (vc x9 h) (vc x12 h) (sc xs0 1 h)) _ _ _ _ r h l

theorem B19_at {hc0 : ¬cond0_0 i} (r : Fin 128) (h : Fin 4) (u : Fin 256) :
    VO0_19.read (Elt F) (VO0_19.writes (Elt F) VO0_19.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.1) (ix2 r (colv h u)) =
      outV 0#1 (x0 (ix2 1 h)) (qc x7 h) (qc x8 h) x10 x11 (vc x12 h) (sc xs0 1 h) (ix2 r u) := by
  rw [B19]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read4v _ _ (fun h => outV 0#1 (x0 (ix2 1 h)) (qc x7 h) (qc x8 h) x10 x11 (vc x12 h) (sc xs0 1 h)) _ _ _ _ r h u

theorem B21_at {hc0 : ¬cond0_0 i} (d : Fin 2) (h : Fin 4) (l : Fin 128) (u : Fin 256) :
    VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0 xo20 xs0).2.2.2.2.2.2.2.1) (ix4 d h l u) =
      (if d = 0 then outS 1#1 (x0 (ix2 0 h)) (qc x1 h) x4 x5 (vc x6 h) (sc xs0 0 h) else outS 0#1 (x0 (ix2 1 h)) (qc x7 h) x10 x11 (vc x12 h) (sc xs0 1 h)) (ix4 0 0 l u) := by
  rw [B21]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl]
  exact read8 _ _ (fun d h => if d = 0 then outS 1#1 (x0 (ix2 0 h)) (qc x1 h) x4 x5 (vc x6 h) (sc xs0 0 h) else outS 0#1 (x0 (ix2 1 h)) (qc x7 h) x10 x11 (vc x12 h) (sc xs0 1 h)) _ _ _ _ _ _ _ _ _ d h l u

theorem A14_at {hc0 : cond0_0 i} (r : Fin 128) (h : Fin 4) (l : Fin 128) :
    VO0_14.read (Elt F) (VO0_14.writes (Elt F) VO0_14.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).1) (ix2 r (col h l)) =
      outQ 1#1 (x0 (ix2 0 h)) (qc x2 h) x4 x5 (vc x3 h) (vc x6 h) (stc x13 0 h) (ix2 r l) := by
  rw [A14]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4 _ _ (fun h => outQ 1#1 (x0 (ix2 0 h)) (qc x2 h) x4 x5 (vc x3 h) (vc x6 h) (stc x13 0 h)) _ _ _ _ r h l

theorem A15_at {hc0 : cond0_0 i} (r : Fin 128) (h : Fin 4) (l : Fin 128) :
    VO0_15.read (Elt F) (VO0_15.writes (Elt F) VO0_15.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.1) (ix2 r (col h l)) =
      outK 1#1 (x0 (ix2 0 h)) (qc x1 h) x4 x5 (vc x3 h) (vc x6 h) zS (ix2 r l) := by
  rw [A15]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4 _ _ (fun h => outK 1#1 (x0 (ix2 0 h)) (qc x1 h) x4 x5 (vc x3 h) (vc x6 h) zS) _ _ _ _ r h l

theorem A16_at {hc0 : cond0_0 i} (r : Fin 128) (h : Fin 4) (u : Fin 256) :
    VO0_16.read (Elt F) (VO0_16.writes (Elt F) VO0_16.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.1) (ix2 r (colv h u)) =
      outV 1#1 (x0 (ix2 0 h)) (qc x1 h) (qc x2 h) x4 x5 (vc x6 h) zS (ix2 r u) := by
  rw [A16]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4v _ _ (fun h => outV 1#1 (x0 (ix2 0 h)) (qc x1 h) (qc x2 h) x4 x5 (vc x6 h) zS) _ _ _ _ r h u

theorem A17_at {hc0 : cond0_0 i} (r : Fin 128) (h : Fin 4) (l : Fin 128) :
    VO0_17.read (Elt F) (VO0_17.writes (Elt F) VO0_17.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.1) (ix2 r (col h l)) =
      outQ 0#1 (x0 (ix2 1 h)) (qc x8 h) x10 x11 (vc x9 h) (vc x12 h) (stc x13 1 h) (ix2 r l) := by
  rw [A17]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4 _ _ (fun h => outQ 0#1 (x0 (ix2 1 h)) (qc x8 h) x10 x11 (vc x9 h) (vc x12 h) (stc x13 1 h)) _ _ _ _ r h l

theorem A18_at {hc0 : cond0_0 i} (r : Fin 128) (h : Fin 4) (l : Fin 128) :
    VO0_18.read (Elt F) (VO0_18.writes (Elt F) VO0_18.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.1) (ix2 r (col h l)) =
      outK 0#1 (x0 (ix2 1 h)) (qc x7 h) x10 x11 (vc x9 h) (vc x12 h) zS (ix2 r l) := by
  rw [A18]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4 _ _ (fun h => outK 0#1 (x0 (ix2 1 h)) (qc x7 h) x10 x11 (vc x9 h) (vc x12 h) zS) _ _ _ _ r h l

theorem A19_at {hc0 : cond0_0 i} (r : Fin 128) (h : Fin 4) (u : Fin 256) :
    VO0_19.read (Elt F) (VO0_19.writes (Elt F) VO0_19.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.1) (ix2 r (colv h u)) =
      outV 0#1 (x0 (ix2 1 h)) (qc x7 h) (qc x8 h) x10 x11 (vc x12 h) zS (ix2 r u) := by
  rw [A19]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read4v _ _ (fun h => outV 0#1 (x0 (ix2 1 h)) (qc x7 h) (qc x8 h) x10 x11 (vc x12 h) zS) _ _ _ _ r h u

theorem A21_at {hc0 : cond0_0 i} (d : Fin 2) (h : Fin 4) (l : Fin 128) (u : Fin 256) :
    VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 hc0 x0 x1 x2 x3 x4 x5 x6 x7 x8 x9 x10 x11 x12 x13 xt0).2.2.2.2.2.2.2.1) (ix4 d h l u) =
      (if d = 0 then outS 1#1 (x0 (ix2 0 h)) (qc x1 h) x4 x5 (vc x6 h) zS else outS 0#1 (x0 (ix2 1 h)) (qc x7 h) x10 x11 (vc x12 h) zS) (ix4 0 0 l u) := by
  rw [A21]
  simp only [ldq_eq _ _ 0 _ 0 rfl, ldq_eq _ _ 128 _ 1 rfl, ldq_eq _ _ 256 _ 2 rfl, ldq_eq _ _ 384 _ 3 rfl, ldv_eq _ _ 0 _ 0 rfl, ldv_eq _ _ 256 _ 1 rfl, ldv_eq _ _ 512 _ 2 rfl, ldv_eq _ _ 768 _ 3 rfl, ldt_eq, lds_eq _ _ 0 0 _ 0 0 rfl rfl, ldst_eq _ _ 0 0 _ 0 0 rfl rfl, ldx_eq _ _ 0 0 _ 0 0 rfl rfl, lds_eq _ _ 0 1 _ 0 1 rfl rfl, ldst_eq _ _ 0 1 _ 0 1 rfl rfl, ldx_eq _ _ 0 1 _ 0 1 rfl rfl, lds_eq _ _ 0 2 _ 0 2 rfl rfl, ldst_eq _ _ 0 2 _ 0 2 rfl rfl, ldx_eq _ _ 0 2 _ 0 2 rfl rfl, lds_eq _ _ 0 3 _ 0 3 rfl rfl, ldst_eq _ _ 0 3 _ 0 3 rfl rfl, ldx_eq _ _ 0 3 _ 0 3 rfl rfl, lds_eq _ _ 1 0 _ 1 0 rfl rfl, ldst_eq _ _ 1 0 _ 1 0 rfl rfl, ldx_eq _ _ 1 0 _ 1 0 rfl rfl, lds_eq _ _ 1 1 _ 1 1 rfl rfl, ldst_eq _ _ 1 1 _ 1 1 rfl rfl, ldx_eq _ _ 1 1 _ 1 1 rfl rfl, lds_eq _ _ 1 2 _ 1 2 rfl rfl, ldst_eq _ _ 1 2 _ 1 2 rfl rfl, ldx_eq _ _ 1 2 _ 1 2 rfl rfl, lds_eq _ _ 1 3 _ 1 3 rfl rfl, ldst_eq _ _ 1 3 _ 1 3 rfl rfl, ldx_eq _ _ 1 3 _ 1 3 rfl rfl, zero_00, zero_01, zero_02, zero_03, zero_10, zero_11, zero_12, zero_13]
  exact read8 _ _ (fun d h => if d = 0 then outS 1#1 (x0 (ix2 0 h)) (qc x1 h) x4 x5 (vc x6 h) zS else outS 0#1 (x0 (ix2 1 h)) (qc x7 h) x10 x11 (vc x12 h) zS) _ _ _ _ _ _ _ _ _ d h l u

end Cases

end Cert.KernelIdeal.Reads
-- ==== Proof.Spec.lean ====
module

public import Idealize.ShloMosaic.PureOps.Ideal
public import Mathlib.Algebra.BigOperators.Fin

@[expose] public section

noncomputable section

/-! The gradient of one chunk of a retention head over the extended reals, rows numbered in the order of the scan. -/
namespace Cert.Ret

open Idealize.ShloMosaic

/-- The logarithm of the decay `sigmoid x`. -/
def lgE (x : EReal) : EReal := 0 - (max (0 - x) 0 + Ideal.log1p (Ideal.exp (0 - FloatOps.absf (F := Ideal) (φ := .f32) x)))

/-- The decay from row `j` to row `i`. -/
def dec (lg : EReal) (i j : Fin 128) : EReal :=
  if j ≤ i then Ideal.exp ((((i : ℕ) : ℝ) - ((j : ℕ) : ℝ) : ℝ) * lg) else 0
def xiE (lg : EReal) (i : Fin 128) : EReal := Ideal.exp (((((i : ℕ) : ℝ) + 1 : ℝ) : EReal) * lg)
def zetaE (lg : EReal) (i : Fin 128) : EReal := Ideal.exp (((127 - ((i : ℕ) : ℝ) : ℝ) : EReal) * lg)
def gE (lg : EReal) : EReal := Ideal.exp (((128 : ℝ) : EReal) * lg)

abbrev M (a b : ℕ) := Fin a → Fin b → EReal

def dI (lg : EReal) (v w : M 128 256) (i j : Fin 128) : EReal := (∑ u, w i u * v j u) * dec lg i j

/-- The gradients of a chunk's queries, keys, values, and of the state it starts from; `w` the cotangent of its
    output, `ds` of the state it ends in. -/
def GQ (lg : EReal) (k : M 128 128) (v w st : M 128 256) : M 128 128 := fun i l =>
  ∑ u, w i u * xiE lg i * st l u + ∑ j, dI lg v w i j * k j l
def GK (lg : EReal) (q : M 128 128) (v w ds : M 128 256) : M 128 128 := fun j l =>
  (∑ u, v j u * ds l u) * zetaE lg j + ∑ i, dI lg v w i j * q i l
def GV (lg : EReal) (q k : M 128 128) (w ds : M 128 256) : M 128 256 := fun j u =>
  ∑ l, k j l * zetaE lg j * ds l u + ∑ i, (∑ l, q i l * k j l) * dec lg i j * w i u
def GS (lg : EReal) (q : M 128 128) (w ds : M 128 256) : M 128 256 := fun l u =>
  ds l u * gE lg + ∑ i, q i l * (w i u * xiE lg i)

/-- The lane a lane is rotated with: quarters exchanged in pairs. -/
def mate (c : Fin 128) : Fin 128 := if (c : ℕ) % 64 < 32 then ⟨((c : ℕ) + 128 - 96) % 128, Nat.mod_lt _ (by decide)⟩
  else ⟨((c : ℕ) + 128 - 32) % 128, Nat.mod_lt _ (by decide)⟩

/-- The rotation of a row, `co` and `si` the cosines and the signed sines, and its transpose. -/
def rot (co si x : Fin 128 → EReal) (c : Fin 128) : EReal := x c * co c + x (mate c) * si c
def rotT (co si y : Fin 128 → EReal) (c : Fin 128) : EReal := y c * co c + y (mate c) * si (mate c)

/-- A row's place in its chunk: its number forwards (`b = 1`), counted from the end backwards. -/
def plc (b : BitVec 1) (r : Fin 128) : Fin 128 := if b = 1#1 then r else r.rev

theorem plc_plc (b : BitVec 1) (r : Fin 128) : plc b (plc b r) = r := by unfold plc; split <;> simp

def plcE (b : BitVec 1) : Fin 128 ≃ Fin 128 := ⟨plc b, plc b, plc_plc b, plc_plc b⟩

theorem sum_plc (b : BitVec 1) (f : Fin 128 → EReal) : ∑ r, f (plc b r) = ∑ r, f r := Equiv.sum_comp (plcE b) f

end Cert.Ret
-- ==== Proof.HeadAt.lean ====
module

public import proofs.«01_k».proof.Proof.Head
public import proofs.«01_k».proof.Proof.Spec
public import Idealize.ShloMosaic.Lib.Pointwise
public import Idealize.ShloMosaic.Lib.IdealHost

@[expose] public section

set_option maxRecDepth 16384

noncomputable section

namespace Cert.KernelIdeal.Head

open Idealize.ShloMosaic Idealize.ShloMosaic.TcCoe
open Cert.KernelIdeal Facts₀ Facts Cert.Ret

theorem lit127 : Ideal.ofBits .f32 0x42FE0000#32 = ((127 : ℝ) : EReal) := by
  simp [Ideal.ofBits, Ideal.ieee, -EReal.coe_mul]; norm_num
theorem lit128 : Ideal.ofBits .f32 0x43000000#32 = ((128 : ℝ) : EReal) := by
  simp [Ideal.ofBits, Ideal.ieee, -EReal.coe_mul]; norm_num
theorem litNeg : Ideal.ofBits .f32 0xBF800000#32 = ((-1 : ℝ) : EReal) := by
  simp [Ideal.ofBits, Ideal.ieee, -EReal.coe_mul, -EReal.coe_neg]; norm_num

theorem sitofp_nat (n : ℕ) (h : n < 2 ^ 31) : (FloatOps.sitofp .f32 (BitVec.ofNat 32 n) : Ideal .f32) = (((n : ℕ) : ℝ) : EReal) := by
  change (((BitVec.ofNat 32 n).toInt : ℝ) : EReal) = _
  have h : (BitVec.ofNat 32 n).toInt = (n : ℤ) := by
    rw [BitVec.toInt_eq_toNat_of_lt (by rw [BitVec.toNat_ofNat]; omega), BitVec.toNat_ofNat, Nat.mod_eq_of_lt (by omega)]
  rw [h, Int.cast_natCast]

theorem one_coe : (1 : EReal) = ((1 : ℝ) : EReal) := rfl

theorem pos_at (b : BitVec 1) (r : Fin 128) (c : Fin 1) : (pos b : FVec Ideal _ _) (ix2 r c) = ((((plc b r : Fin 128) : ℕ) : ℝ) : EReal) := by
  unfold pos rowNo
  pointwise
  rw [sitofp_nat _ (by omega), lit127]
  rcases BitVec.eq_zero_or_eq_one b with rfl | rfl
  · simp only [Scalar.select, plc]
    rw [if_neg (by decide), if_neg (by decide), ← EReal.coe_sub]
    congr 1
    rw [Fin.val_rev, Nat.cast_sub (by omega)]; push_cast; ring
  · rfl

theorem diff_at (b : BitVec 1) (r c : Fin 128) : (diff b : Sq Ideal) (ix2 r c) = (((((plc b r : Fin 128) : ℕ) : ℝ) - (((plc b c : Fin 128) : ℕ) : ℝ) : ℝ) : EReal) := by
  unfold diff rowNo
  pointwise
  rw [sitofp_nat _ (by omega), sitofp_nat _ (by omega), litNeg, ← EReal.coe_sub]
  rcases BitVec.eq_zero_or_eq_one b with rfl | rfl
  · simp only [Scalar.select, plc]
    rw [if_neg (by decide), if_neg (by decide), if_neg (by decide), ← EReal.coe_mul]
    congr 1
    rw [Fin.val_rev, Fin.val_rev, Nat.cast_sub (by omega), Nat.cast_sub (by omega)]; push_cast; ring
  · change (1 : EReal) * _ = _
    rw [one_mul]; rfl

theorem decay_at (b : BitVec 1) (x : Elt Ideal .f32) (r c : Fin 128) : decay b x (ix2 r c) = dec (lgE x) (plc b r) (plc b c) := by
  unfold decay lg
  pointwise
  rw [diff_at]
  unfold dec lgE
  have h : (0 : EReal) ≤ (((((plc b r : Fin 128) : ℕ) : ℝ) - (((plc b c : Fin 128) : ℕ) : ℝ) : ℝ) : EReal) ↔ plc b c ≤ plc b r := by
    rw [EReal.coe_nonneg, sub_nonneg, Nat.cast_le]; rfl
  simp only [h]
  split <;> rfl

theorem xi_at (b : BitVec 1) (x : Elt Ideal .f32) (r : Fin 128) (c : Fin 1) : xi b x (ix2 r c) = xiE (lgE x) (plc b r) := by
  unfold xi lg
  pointwise
  rw [pos_at, one_coe, ← EReal.coe_add]; rfl

theorem zeta_at (b : BitVec 1) (x : Elt Ideal .f32) (r : Fin 128) (c : Fin 1) : zeta b x (ix2 r c) = zetaE (lgE x) (plc b r) := by
  unfold zeta lg
  pointwise
  rw [pos_at, lit127, ← EReal.coe_sub]; rfl

theorem gch_at (x : Elt Ideal .f32) (a c : Fin 1) : gch x (ix2 a c) = gE (lgE x) := by
  unfold gch lg
  pointwise
  rw [lit128]; rfl

/-- A vector's rows, in the direction's order. -/
def rows {n : ℕ} (b : BitVec 1) (x : FVec Ideal ⟨2, ![128, n]⟩ .f32) : M 128 n := fun i u => x (ix2 (plc b i) u)
/-- A vector as a matrix. -/
def mat {n : ℕ} (x : FVec Ideal ⟨2, ![128, n]⟩ .f32) : M 128 n := fun i u => x (ix2 i u)

theorem dinner_at (b : BitVec 1) (x : Elt Ideal .f32) (v w : Wide Ideal) (r c : Fin 128) :
    dinner b x v w (ix2 r c) = dI (lgE x) (rows b v) (rows b w) (plc b r) (plc b c) := by
  unfold dinner z128 tr16w
  pointwise
  rw [decay_at]; simp only [dI, rows, plc_plc]

theorem inner_at (b : BitVec 1) (x : Elt Ideal .f32) (q k : Sq Ideal) (r c : Fin 128) :
    inner b x q k (ix2 r c) = (∑ l, rows b q (plc b r) l * rows b k (plc b c) l) * dec (lgE x) (plc b r) (plc b c) := by
  unfold inner z128 tr16
  pointwise
  rw [decay_at]; simp only [rows, plc_plc]

theorem gq_at (b : BitVec 1) (x : Elt Ideal .f32) (k : Sq Ideal) (v w st : Wide Ideal) (r l : Fin 128) :
    gq b x k v w st (ix2 r l) = GQ (lgE x) (rows b k) (rows b v) (rows b w) (mat st) (plc b r) l := by
  unfold gq z128 tr16w tr16 spreadW
  pointwise
  simp only [xi_at, dinner_at, GQ]
  rw [← sum_plc b (fun j => dI (lgE x) (rows b v) (rows b w) (plc b r) j * rows b k j l)]
  simp only [rows, mat, plc_plc]

theorem gk_at (b : BitVec 1) (x : Elt Ideal .f32) (q : Sq Ideal) (v w ds : Wide Ideal) (r l : Fin 128) :
    gk b x q v w ds (ix2 r l) = GK (lgE x) (rows b q) (rows b v) (rows b w) (mat ds) (plc b r) l := by
  unfold gk z128 tr16w tr16 spread
  pointwise
  simp only [zeta_at, dinner_at, GK]
  rw [← sum_plc b (fun i => dI (lgE x) (rows b v) (rows b w) i (plc b r) * rows b q i l)]
  simp only [rows, mat, plc_plc]

theorem gv_at (b : BitVec 1) (x : Elt Ideal .f32) (q k : Sq Ideal) (w ds : Wide Ideal) (r : Fin 128) (u : Fin 256) :
    gv b x q k w ds (ix2 r u) = GV (lgE x) (rows b q) (rows b k) (rows b w) (mat ds) (plc b r) u := by
  unfold gv z256 tr16w tr16 spread
  pointwise
  simp only [zeta_at, inner_at, GV]
  rw [← sum_plc b (fun i => (∑ l, rows b q i l * rows b k (plc b r) l) * dec (lgE x) i (plc b r) * rows b w i u)]
  simp only [rows, mat, plc_plc]

theorem gs_at (b : BitVec 1) (x : Elt Ideal .f32) (q : Sq Ideal) (w ds : Wide Ideal) (l : Fin 128) (u : Fin 256) :
    gs b x q w ds (ix2 l u) = GS (lgE x) (rows b q) (rows b w) (mat ds) l u := by
  unfold gs z256 tr16w tr16 spreadW
  pointwise
  simp only [xi_at, gch_at, GS]
  rw [← sum_plc b (fun i => rows b q i l * (rows b w i u * xiE (lgE x) i))]
  simp only [rows, mat, plc_plc]

theorem lowHalf_at : ∀ (r c : Fin 128), lowHalf (ix2 r c) = if (c : ℕ) % 64 < 32 then 1#1 else 0#1 := by
  intro r c
  unfold lowHalf
  pointwise
  revert c
  clear r
  decide +kernel

theorem swap_at (x : Sq Ideal) (r c : Fin 128) : swap x (ix2 r c) = x (ix2 r (mate c)) := by
  unfold swap
  pointwise
  rw [lowHalf_at]
  unfold mate
  split
  · rfl
  · rfl

theorem rope_at (x co si : Sq Ideal) (r c : Fin 128) : rope x co si (ix2 r c) = rot (mat co r) (mat si r) (mat x r) c := by
  unfold rope; pointwise; rw [swap_at]; rfl
theorem ropeT_at (x co si : Sq Ideal) (r c : Fin 128) : ropeT x co si (ix2 r c) = rotT (mat co r) (mat si r) (mat x r) c := by
  unfold ropeT; pointwise; rw [swap_at]; rfl

/-- The scale of the queries. -/
def scE : EReal := Ideal.ofBits .f32 0x3DB504F3#32

theorem scaled_at (x : Sq Ideal) (r c : Fin 128) : scaled x (ix2 r c) = x (ix2 r c) * scE := by
  unfold scaled; pointwise; rfl

theorem keepS_eq (x : Sq Ideal) : keepS x = x := by
  funext i; idx_vars i; unfold keepS; pointwise
theorem keep_eq (x : Wide Ideal) : keep x = x := by
  funext i; idx_vars i; unfold keep; pointwise
theorem flat_at (x : Vec Ideal S1x1x128x256 .f32) (r : Fin 128) (c : Fin 256) : flat x (ix2 r c) = x (ix4 0 0 r c) := by
  unfold flat; pointwise
theorem slab_at (x : Vec Ideal S1x1x1x128x256 .f32) (r : Fin 128) (c : Fin 256) : slab x (ix2 r c) = x (ix5 0 0 0 r c) := by
  unfold slab; pointwise

theorem mat_flat (x : Vec Ideal S1x1x128x256 .f32) : mat (flat x) = fun l u => x (ix4 0 0 l u) := by
  funext l u; exact flat_at x l u
theorem mat_slab (x : Vec Ideal S1x1x1x128x256 .f32) : mat (slab x) = fun l u => x (ix5 0 0 0 l u) := by
  funext l u; exact slab_at x l u

/-- The head's queries and keys as the gradient reads them. -/
def qE (b : BitVec 1) (q co si : Sq Ideal) : M 128 128 := fun i l => rot (rows b co i) (rows b si i) (rows b q i) l * scE
def kE (b : BitVec 1) (k co si : Sq Ideal) : M 128 128 := fun i l => rot (rows b co i) (rows b si i) (rows b k i) l

theorem rows_q (b : BitVec 1) (q co si : Sq Ideal) : rows b (scaled (rope q co si)) = qE b q co si := by
  funext i l; simp only [rows, qE, scaled_at, rope_at]; rfl
theorem rows_k (b : BitVec 1) (q co si : Sq Ideal) : rows b (rope q co si) = kE b q co si := by
  funext i l; simp only [rows, kE, rope_at]; rfl

theorem outQ_at (b : BitVec 1) (x : Elt Ideal .f32) (k co si : Vec Ideal S128x128 .f32) (v w : Vec Ideal S128x256 .f32) (st : Vec Ideal S1x1x1x128x256 .f32) (i c : Fin 128) :
    outQ b x k co si v w st (ix2 (plc b i) c) = rotT (rows b co i) (rows b si i) (fun l =>
      GQ (lgE x) (kE b k co si) (rows b v) (rows b w) (fun l u => st (ix5 0 0 0 l u)) i l * scE) c := by
  unfold outQ
  rw [ropeT_at, keepS_eq, keepS_eq, keep_eq]
  simp only [rotT, mat, scaled_at, gq_at, rows_k, plc_plc]; rw [← mat_slab]; rfl
theorem outK_at (b : BitVec 1) (x : Elt Ideal .f32) (q co si : Vec Ideal S128x128 .f32) (v w : Vec Ideal S128x256 .f32) (ds : Vec Ideal S1x1x128x256 .f32) (i c : Fin 128) :
    outK b x q co si v w ds (ix2 (plc b i) c) = rotT (rows b co i) (rows b si i)
      (GK (lgE x) (qE b q co si) (rows b v) (rows b w) (fun l u => ds (ix4 0 0 l u)) i) c := by
  unfold outK
  rw [ropeT_at, keepS_eq, keepS_eq, keep_eq, keep_eq]
  simp only [rotT, mat, gk_at, rows_q, plc_plc]; rw [← mat_flat]; rfl
theorem outV_at (b : BitVec 1) (x : Elt Ideal .f32) (q k co si : Vec Ideal S128x128 .f32) (w : Vec Ideal S128x256 .f32) (ds : Vec Ideal S1x1x128x256 .f32) (i : Fin 128) (u : Fin 256) :
    outV b x q k co si w ds (ix2 (plc b i) u) =
      GV (lgE x) (qE b q co si) (kE b k co si) (rows b w) (fun l u => ds (ix4 0 0 l u)) i u := by
  unfold outV
  rw [gv_at, keepS_eq, keepS_eq, keep_eq, keep_eq]
  rw [rows_q, rows_k, plc_plc, mat_flat]
theorem outS_at (b : BitVec 1) (x : Elt Ideal .f32) (q co si : Vec Ideal S128x128 .f32) (w : Vec Ideal S128x256 .f32) (ds : Vec Ideal S1x1x128x256 .f32) (l : Fin 128) (u : Fin 256) :
    outS b x q co si w ds (ix4 0 0 l u) = GS (lgE x) (qE b q co si) (rows b w) (fun l u => ds (ix4 0 0 l u)) l u := by
  unfold outS
  pointwise
  rw [gs_at, keepS_eq, keepS_eq, keep_eq, keep_eq]
  rw [rows_q, mat_flat]

end Cert.KernelIdeal.Head
-- ==== Proof.OkI.lean ====
module

public import proofs.«01_k».proof.Proof.Gen.KernelIdeal.Frame.Runs
public import Idealize.ShloMosaic.Lib.Claim
public import Idealize.ShloMosaic.Lib.StableHlo.ReadAt

@[expose] public section

set_option maxRecDepth 16384

noncomputable section

namespace Cert.KernelIdeal.Tab

open Idealize.ShloMosaic Idealize.ShloMosaic.TcCoe
open Cert.KernelIdeal Cert.KernelIdeal.Gen

variable {F : FTy → Type} [FloatOps F]
variable (m : (ℓ : Loc nD τ sig) → Buf (Elt F) ℓ)

/-- The order of the chunks, as the host writes it. -/
def ordTab : S2x34.Idx → BitVec 32 := fun i => lit0 (S2x34.rowMajor i)

theorem tbl_eq : tbl m 0 = ordTab := by
  change StableHlo.after (List.flatten [hostOps0, hostOps0_1, hostOps0_2, hostOps0_3, hostOps0_4]) (fun b => m (0, b)) (Proc.devRef .tc main_c) = _
  simp only [List.flatten_cons, List.flatten_nil, List.append_nil, hostOps0, hostOps0_1, hostOps0_2, hostOps0_3, hostOps0_4, List.cons_append, List.nil_append]
  after_reads_simp
  rfl

/-- The chunk the forward direction (`d = 0`) or the backward one (`d = 1`) meets at grid point `s`. -/
def blk (d : Fin 2) (s : ℕ) : ℕ := if d = 0 then 33 - s else if s < 32 then s + 2 else s - 32

/-- The word the table holds for direction `0` at entry `33 - s`. -/
theorem word1 : ∀ i : grid0.Coords, (ordTab ((Rect.unit (s := S2x34) (k0_off1 i) S1x1.size (k0_off1_inb i)).emb (Shape.Idx.first (numel1_S1x1.symm ▸ Nat.one_pos)))).toNat = blk 0 (i 0).val := by
  decide +kernel

/-- The word the table holds for direction `1` at entry `33 - s`. -/
theorem word2 : ∀ i : grid0.Coords, (ordTab ((Rect.unit (s := S2x34) (k0_off2 i) S1x1.size (k0_off2_inb i)).emb (Shape.Idx.first (numel1_S1x1.symm ▸ Nat.one_pos)))).toNat = blk 1 (i 0).val := by
  decide +kernel

theorem blk_lt (d : Fin 2) (s : ℕ) (h : s < 34) : blk d s < 34 := by
  unfold blk; split <;> [omega; split <;> omega]

theorem tr1 (i : grid0.Coords) : cc0_transform_1 k0_off1_inb numel1_S1x1 (tbl m) i = ![blk 0 (i 0).val, 0] := by
  rw [← word1 i, ← tbl_eq m]; rfl
theorem tr2 (i : grid0.Coords) : cc0_transform_2 k0_off1_inb numel1_S1x1 (tbl m) i = ![blk 0 (i 0).val, 1] := by
  rw [← word1 i, ← tbl_eq m]; rfl
theorem tr3 (i : grid0.Coords) : cc0_transform_3 k0_off1_inb numel1_S1x1 (tbl m) i = ![blk 0 (i 0).val, 1] := by
  rw [← word1 i, ← tbl_eq m]; rfl
theorem tr4 (i : grid0.Coords) : cc0_transform_4 k0_off1_inb numel1_S1x1 (tbl m) i = ![blk 0 (i 0).val, 0] := by
  rw [← word1 i, ← tbl_eq m]; rfl
theorem tr5 (i : grid0.Coords) : cc0_transform_5 k0_off1_inb numel1_S1x1 (tbl m) i = ![blk 0 (i 0).val, 0] := by
  rw [← word1 i, ← tbl_eq m]; rfl
theorem tr6 (i : grid0.Coords) : cc0_transform_6 k0_off1_inb numel1_S1x1 (tbl m) i = ![blk 0 (i 0).val, 0] := by
  rw [← word1 i, ← tbl_eq m]; rfl
theorem tr7 (i : grid0.Coords) : cc0_transform_7 k0_off2_inb numel1_S1x1 (tbl m) i = ![blk 1 (i 0).val, 0] := by
  rw [← word2 i, ← tbl_eq m]; rfl
theorem tr8 (i : grid0.Coords) : cc0_transform_8 k0_off2_inb numel1_S1x1 (tbl m) i = ![blk 1 (i 0).val, 1] := by
  rw [← word2 i, ← tbl_eq m]; rfl
theorem tr9 (i : grid0.Coords) : cc0_transform_9 k0_off2_inb numel1_S1x1 (tbl m) i = ![blk 1 (i 0).val, 1] := by
  rw [← word2 i, ← tbl_eq m]; rfl
theorem tr10 (i : grid0.Coords) : cc0_transform_10 k0_off2_inb numel1_S1x1 (tbl m) i = ![blk 1 (i 0).val, 0] := by
  rw [← word2 i, ← tbl_eq m]; rfl
theorem tr11 (i : grid0.Coords) : cc0_transform_11 k0_off2_inb numel1_S1x1 (tbl m) i = ![blk 1 (i 0).val, 0] := by
  rw [← word2 i, ← tbl_eq m]; rfl
theorem tr12 (i : grid0.Coords) : cc0_transform_12 k0_off2_inb numel1_S1x1 (tbl m) i = ![blk 1 (i 0).val, 0] := by
  rw [← word2 i, ← tbl_eq m]; rfl
theorem tr14 (i : grid0.Coords) : cc0_transform_14 k0_off1_inb numel1_S1x1 (tbl m) i = ![blk 0 (i 0).val, 0] := by
  rw [← word1 i, ← tbl_eq m]; rfl
theorem tr15 (i : grid0.Coords) : cc0_transform_15 k0_off1_inb numel1_S1x1 (tbl m) i = ![blk 0 (i 0).val, 0] := by
  rw [← word1 i, ← tbl_eq m]; rfl
theorem tr16 (i : grid0.Coords) : cc0_transform_16 k0_off1_inb numel1_S1x1 (tbl m) i = ![blk 0 (i 0).val, 0] := by
  rw [← word1 i, ← tbl_eq m]; rfl
theorem tr17 (i : grid0.Coords) : cc0_transform_17 k0_off2_inb numel1_S1x1 (tbl m) i = ![blk 1 (i 0).val, 0] := by
  rw [← word2 i, ← tbl_eq m]; rfl
theorem tr18 (i : grid0.Coords) : cc0_transform_18 k0_off2_inb numel1_S1x1 (tbl m) i = ![blk 1 (i 0).val, 0] := by
  rw [← word2 i, ← tbl_eq m]; rfl
theorem tr19 (i : grid0.Coords) : cc0_transform_19 k0_off2_inb numel1_S1x1 (tbl m) i = ![blk 1 (i 0).val, 0] := by
  rw [← word2 i, ← tbl_eq m]; rfl

theorem inb2 {A b : ℕ} {w : ℕ} {B : ℕ} (hA : (b + 1) * 128 ≤ A) (c : ℕ) (hB : (c + 1) * w ≤ B) :
    ∀ a : Fin 2, ((![b, c] : Fin 2 → ℕ) a + 1) * (![128, w] : Fin 2 → ℕ) a ≤ (![A, B] : Fin 2 → ℕ) a := by
  intro a; match a with
  | 0 => exact hA
  | 1 => exact hB

/-- The pipeline's side condition: every block the table names lies inside its array. -/
theorem ok : Ok m := by
  have hb (d : Fin 2) (i : grid0.Coords) : (blk d (i 0).val + 1) * 128 ≤ 4352 := by
    have := blk_lt d (i 0).val (i 0).isLt; omega
  refine ⟨fun i => ⟨tr1 m i ▸ inb2 (hb _ i) _ (by decide), Or.inl rfl⟩,
    fun i => ⟨tr2 m i ▸ inb2 (hb _ i) _ (by decide), Or.inl rfl⟩,
    fun i => ⟨tr3 m i ▸ inb2 (hb _ i) _ (by decide), Or.inl rfl⟩,
    fun i => ⟨tr4 m i ▸ inb2 (hb _ i) _ (by decide), Or.inl rfl⟩,
    fun i => ⟨tr5 m i ▸ inb2 (hb _ i) _ (by decide), Or.inl rfl⟩,
    fun i => ⟨tr6 m i ▸ inb2 (hb _ i) _ (by decide), Or.inl rfl⟩,
    fun i => ⟨tr7 m i ▸ inb2 (hb _ i) _ (by decide), Or.inl rfl⟩,
    fun i => ⟨tr8 m i ▸ inb2 (hb _ i) _ (by decide), Or.inl rfl⟩,
    fun i => ⟨tr9 m i ▸ inb2 (hb _ i) _ (by decide), Or.inl rfl⟩,
    fun i => ⟨tr10 m i ▸ inb2 (hb _ i) _ (by decide), Or.inl rfl⟩,
    fun i => ⟨tr11 m i ▸ inb2 (hb _ i) _ (by decide), Or.inl rfl⟩,
    fun i => ⟨tr12 m i ▸ inb2 (hb _ i) _ (by decide), Or.inl rfl⟩,
    fun i => ⟨tr14 m i ▸ inb2 (hb _ i) _ (by decide), Or.inl rfl⟩,
    fun i => ⟨tr15 m i ▸ inb2 (hb _ i) _ (by decide), Or.inl rfl⟩,
    fun i => ⟨tr16 m i ▸ inb2 (hb _ i) _ (by decide), Or.inl rfl⟩,
    fun i => ⟨tr17 m i ▸ inb2 (hb _ i) _ (by decide), Or.inl rfl⟩,
    fun i => ⟨tr18 m i ▸ inb2 (hb _ i) _ (by decide), Or.inl rfl⟩,
    fun i => ⟨tr19 m i ▸ inb2 (hb _ i) _ (by decide), Or.inl rfl⟩⟩

end Cert.KernelIdeal.Tab
-- ==== Proof.Grad.lean ====
module

public import proofs.«01_k».proof.Proof.Spec

@[expose] public section

noncomputable section

/-! The gradient of the two directions' retention, chunk by chunk in the order of the reverse scan, as a function of the
    arrays. -/
namespace Cert.Ret

open Idealize.ShloMosaic

/-- The arrays: the projection's q | k | v columns, the decays, the chunks' states, the output's cotangent, and the
    cosines and signed sines of the rotation. -/
structure Arr where
  p : Fin 4352 → Fin 2048 → EReal
  x : Fin 2 → Fin 4 → EReal
  s : Fin 2 → Fin 4 → Fin 34 → M 128 256
  w : Fin 4352 → Fin 1024 → EReal
  co : Fin 4352 → Fin 128 → EReal
  si : Fin 4352 → Fin 128 → EReal

/-- The order of a chunk's rows: forwards in direction 0, backwards in direction 1. -/
def bit (d : Fin 2) : BitVec 1 := if d = 0 then 1#1 else 0#1

/-- The block of rows a direction meets at a step of the reverse scan. -/
def blk (d : Fin 2) (s : ℕ) : ℕ := if d = 0 then 33 - s else if s < 32 then s + 2 else s - 32

theorem blk_lt (d : Fin 2) (s : ℕ) (h : s < 34) : blk d s < 34 := by
  unfold blk; split <;> [omega; split <;> omega]

/-- Row `i` of that block. -/
def rowOf (d : Fin 2) (s : ℕ) (i : Fin 128) : Fin 4352 := Fin.ofNat 4352 (blk d s * 128 + i.val)

theorem rowOf_val (d : Fin 2) (s : ℕ) (h : s < 34) (i : Fin 128) : (rowOf d s i).val = blk d s * 128 + i.val := by
  have := blk_lt d s h; have := i.isLt
  show (blk d s * 128 + i.val) % 4352 = _
  exact Nat.mod_eq_of_lt (by omega)

/-- The row at position `i` of the chunk of step `s`. -/
def row (d : Fin 2) (s : ℕ) (i : Fin 128) : Fin 4352 := rowOf d s (plc (bit d) i)

def qcol (h : Fin 4) (c : Fin 128) : Fin 2048 := ⟨128 * h.val + c.val, by omega⟩
def kcol (h : Fin 4) (c : Fin 128) : Fin 2048 := ⟨512 + (128 * h.val + c.val), by omega⟩
def vcol (h : Fin 4) (u : Fin 256) : Fin 2048 := ⟨1024 + (256 * h.val + u.val), by omega⟩
def wcol (h : Fin 4) (u : Fin 256) : Fin 1024 := ⟨256 * h.val + u.val, by omega⟩

/-- The queries' scale, `128 ^ (-1/2)` as the programs write it. -/
def scl : EReal := Ideal.ofBits .f32 0x3DB504F3#32

namespace Arr
variable (A : Arr) (d : Fin 2) (h : Fin 4)

def lg : EReal := lgE (A.x d h)
def q (n : ℕ) : M 128 128 := fun i l =>
  rot (A.co (row d n i)) (A.si (row d n i)) (fun c => A.p (row d n i) (qcol h c)) l * scl
def k (n : ℕ) : M 128 128 := fun i l =>
  rot (A.co (row d n i)) (A.si (row d n i)) (fun c => A.p (row d n i) (kcol h c)) l
def v (n : ℕ) : M 128 256 := fun i u => A.p (row d n i) (vcol h u)
def ct (n : ℕ) : M 128 256 := fun i u => A.w (row d n i) (wcol h u)
def st (n : ℕ) : M 128 256 := A.s d h (Fin.ofNat 34 (33 - n))

/-- The state's cotangent before step `n`. -/
def ds : ℕ → M 128 256
  | 0 => fun _ _ => 0
  | n + 1 => GS (A.lg d h) (A.q d h n) (A.ct d h n) (ds n)

/-- The gradients of the queries, keys and values at position `i` of the chunk of step `n`. -/
def dq (n : ℕ) (i c : Fin 128) : EReal := rotT (A.co (row d n i)) (A.si (row d n i))
  (fun l => GQ (A.lg d h) (A.k d h n) (A.v d h n) (A.ct d h n) (A.st d h n) i l * scl) c
def dk (n : ℕ) (i c : Fin 128) : EReal := rotT (A.co (row d n i)) (A.si (row d n i))
  (GK (A.lg d h) (A.q d h n) (A.v d h n) (A.ct d h n) (A.ds d h n) i) c
def dv (n : ℕ) (i : Fin 128) (u : Fin 256) : EReal :=
  GV (A.lg d h) (A.q d h n) (A.k d h n) (A.ct d h n) (A.ds d h n) i u

end Arr

/-- The step and the position at which a direction meets a row. -/
def stp (d : Fin 2) (r : Fin 4352) : ℕ := if d = 0 then 33 - r.val / 128 else if 2 ≤ r.val / 128 then r.val / 128 - 2 else r.val / 128 + 32
def pos (d : Fin 2) (r : Fin 4352) : Fin 128 := plc (bit d) ⟨r.val % 128, Nat.mod_lt _ (by decide)⟩

theorem stp_lt (d : Fin 2) (r : Fin 4352) : stp d r < 34 := by
  have := r.isLt; unfold stp; split <;> [omega; split <;> omega]

theorem row_stp_pos (d : Fin 2) (r : Fin 4352) : row d (stp d r) (pos d r) = r := by
  apply Fin.ext
  unfold row pos
  rw [plc_plc, rowOf_val _ _ (stp_lt d r)]
  have := r.isLt
  show blk d (stp d r) * 128 + r.val % 128 = r.val
  unfold blk stp
  split
  · omega
  · split <;> split <;> omega

theorem stp_rowOf (d : Fin 2) (n : ℕ) (hn : n < 34) (i : Fin 128) : stp d (rowOf d n i) = n := by
  have e := rowOf_val d n hn i
  have hi := i.isLt
  unfold stp; rw [e]; unfold blk
  split
  · omega
  · split <;> split <;> omega

theorem pos_rowOf (d : Fin 2) (n : ℕ) (hn : n < 34) (i : Fin 128) : pos d (rowOf d n i) = plc (bit d) i := by
  unfold pos; congr 1; apply Fin.ext
  show (rowOf d n i).val % 128 = i.val
  rw [rowOf_val d n hn i]; have := i.isLt; omega

/-- The head and the lane of a column. -/
def hd4 (x : Fin 512) : Fin 4 := ⟨x.val / 128, by omega⟩
def ln4 (x : Fin 512) : Fin 128 := ⟨x.val % 128, by omega⟩
def hdv (x : Fin 1024) : Fin 4 := ⟨x.val / 256, by omega⟩
def lnv (x : Fin 1024) : Fin 256 := ⟨x.val % 256, by omega⟩

/-- The three gradients as arrays. -/
def Arr.dQ (A : Arr) (d : Fin 2) (r : Fin 4352) (x : Fin 512) : EReal := A.dq d (hd4 x) (stp d r) (pos d r) (ln4 x)
def Arr.dK (A : Arr) (d : Fin 2) (r : Fin 4352) (x : Fin 512) : EReal := A.dk d (hd4 x) (stp d r) (pos d r) (ln4 x)
def Arr.dV (A : Arr) (d : Fin 2) (r : Fin 4352) (x : Fin 1024) : EReal := A.dv d (hdv x) (stp d r) (pos d r) (lnv x)

end Cert.Ret
-- ==== Proof.KBlk.lean ====
module

public import proofs.«01_k».proof.Proof.Lap
public import proofs.«01_k».proof.Proof.Reads
public import proofs.«01_k».proof.Proof.HeadAt
public import proofs.«01_k».proof.Proof.OkI
public import proofs.«01_k».proof.Proof.Grad
public import Idealize.ShloMosaic.Lib.Pipeline.ValueKit

@[expose] public section

set_option maxRecDepth 16384

noncomputable section

/-! The blocks of the windows as reads of the arrays the region finds, and the operands of the heads in terms of them. -/
namespace Cert.KernelIdeal.KVal

open Idealize.ShloMosaic Idealize.ShloMosaic.TcCoe
open Cert.KernelIdeal Cert.KernelIdeal.Gen Cert.Ret
open Cert.KernelIdeal.Head Cert.KernelIdeal.Reads

variable (m : (ℓ : Loc nD τ sig) → Buf (Elt Ideal) ℓ)

/-- The arrays the region finds. -/
def arr (c : Dev nD) : Arr where
  p r x := V m c main_arg0 (ix2 r x)
  x d h := V m c main_arg1 (ix2 d h)
  s d h n l u := V m c main_arg2 (ix5 d h n l u)
  w r x := V m c main_arg3 (ix2 r x)
  co r x := V m c main_v34 (ix2 r x)
  si r x := V m c main_v36 (ix2 r x)

theorem pt_eq : ∀ t : Fin grid0.N, (grid0.coords t 0).val = t.val := by decide +kernel

theorem blk_eq : Tab.blk = blk := rfl

variable (hO : Ok m) (c : Dev nD) (t : Fin (cfgM m hO).N)

theorem tlt : t.val < 34 := t.isLt

theorem rd0 (X : S2x4.Idx → EReal) (d : Fin 2) (h : Fin 4) :
    (((cfgM m hO).win 0).blk t).view.read (Elt Ideal) X (ix2 d h) = X (ix2 d h) := by
  have e : ((cfgM m hO).win 0).index t = ![0, 0] := rfl
  have e' : (pcfg0.win (adm m hO) 0).index t = ![0, 0] := rfl
  blk_ext [e, e']
theorem iblk0 (d : Fin 2) (h : Fin 4) : iblk m hO c 0 t (ix2 d h) = (arr m c).x d h :=
  rd0 m hO t (V m c (Pipeline.arrRef spec0 0)) d h

theorem rd13 (X : S2x4x34x128x256.Idx → EReal) (d : Fin 2) (h : Fin 4) (l : Fin 128) (u : Fin 256) :
    (((cfgM m hO).win 13).blk t).view.read (Elt Ideal) X (ix5 d h 0 l u) = X (ix5 d h (Fin.ofNat 34 (33 - t.val)) l u) := by
  have e : ((cfgM m hO).win 13).index t = ![0, 0, 33 - t.val, 0, 0] := by
    have : ∀ i : grid0.Coords, cc0_transform_13 i = ![0, 0, 33 - (i 0).val, 0, 0] := by decide +kernel
    exact (this _).trans (by rw [pt_eq])
  have h33 : (Fin.ofNat 34 (33 - t.val)).val = 33 - t.val := Nat.mod_eq_of_lt (by omega)
  blk_ext [e, h33]
theorem iblk13 (d : Fin 2) (h : Fin 4) (l : Fin 128) (u : Fin 256) :
    iblk m hO c 13 t (ix5 d h 0 l u) = (arr m c).st d h t.val l u :=
  rd13 m hO t (V m c (Pipeline.arrRef spec0 13)) d h l u

theorem rd1 (X : (⟨2, ![4352, 2048]⟩ : Shape).Idx → EReal) (i : Fin 128) (x : Fin 512) :
    (((cfgM m hO).win 1).blk t).view.read (Elt Ideal) X (ix2 i x) = X (ix2 (rowOf 0 t.val i) ⟨0 + x.val, by omega⟩) := by
  have e : ((cfgM m hO).win 1).index t = ![blk 0 t.val, 0] := (Tab.tr1 m (grid0.coords t)).trans (by rw [pt_eq, blk_eq])
  blk_ext [e]
  exact (rowOf_val 0 t.val (tlt m hO t) i).symm
theorem iblk1 (i : Fin 128) (x : Fin 512) : iblk m hO c 1 t (ix2 i x) = (arr m c).p (rowOf 0 t.val i) ⟨0 + x.val, by omega⟩ :=
  rd1 m hO t (V m c (Pipeline.arrRef spec0 1)) i x

theorem rd2 (X : (⟨2, ![4352, 2048]⟩ : Shape).Idx → EReal) (i : Fin 128) (x : Fin 512) :
    (((cfgM m hO).win 2).blk t).view.read (Elt Ideal) X (ix2 i x) = X (ix2 (rowOf 0 t.val i) ⟨512 + x.val, by omega⟩) := by
  have e : ((cfgM m hO).win 2).index t = ![blk 0 t.val, 1] := (Tab.tr2 m (grid0.coords t)).trans (by rw [pt_eq, blk_eq])
  blk_ext [e]
  exact (rowOf_val 0 t.val (tlt m hO t) i).symm
theorem iblk2 (i : Fin 128) (x : Fin 512) : iblk m hO c 2 t (ix2 i x) = (arr m c).p (rowOf 0 t.val i) ⟨512 + x.val, by omega⟩ :=
  rd2 m hO t (V m c (Pipeline.arrRef spec0 2)) i x

theorem rd3 (X : (⟨2, ![4352, 2048]⟩ : Shape).Idx → EReal) (i : Fin 128) (x : Fin 1024) :
    (((cfgM m hO).win 3).blk t).view.read (Elt Ideal) X (ix2 i x) = X (ix2 (rowOf 0 t.val i) ⟨1024 + x.val, by omega⟩) := by
  have e : ((cfgM m hO).win 3).index t = ![blk 0 t.val, 1] := (Tab.tr3 m (grid0.coords t)).trans (by rw [pt_eq, blk_eq])
  blk_ext [e]
  exact (rowOf_val 0 t.val (tlt m hO t) i).symm
theorem iblk3 (i : Fin 128) (x : Fin 1024) : iblk m hO c 3 t (ix2 i x) = (arr m c).p (rowOf 0 t.val i) ⟨1024 + x.val, by omega⟩ :=
  rd3 m hO t (V m c (Pipeline.arrRef spec0 3)) i x

theorem rd4 (X : (⟨2, ![4352, 128]⟩ : Shape).Idx → EReal) (i : Fin 128) (x : Fin 128) :
    (((cfgM m hO).win 4).blk t).view.read (Elt Ideal) X (ix2 i x) = X (ix2 (rowOf 0 t.val i) x) := by
  have e : ((cfgM m hO).win 4).index t = ![blk 0 t.val, 0] := (Tab.tr4 m (grid0.coords t)).trans (by rw [pt_eq, blk_eq])
  blk_ext [e]
  exact (rowOf_val 0 t.val (tlt m hO t) i).symm
theorem iblk4 (i : Fin 128) (x : Fin 128) : iblk m hO c 4 t (ix2 i x) = (arr m c).co (rowOf 0 t.val i) x :=
  rd4 m hO t (V m c (Pipeline.arrRef spec0 4)) i x

theorem rd5 (X : (⟨2, ![4352, 128]⟩ : Shape).Idx → EReal) (i : Fin 128) (x : Fin 128) :
    (((cfgM m hO).win 5).blk t).view.read (Elt Ideal) X (ix2 i x) = X (ix2 (rowOf 0 t.val i) x) := by
  have e : ((cfgM m hO).win 5).index t = ![blk 0 t.val, 0] := (Tab.tr5 m (grid0.coords t)).trans (by rw [pt_eq, blk_eq])
  blk_ext [e]
  exact (rowOf_val 0 t.val (tlt m hO t) i).symm
theorem iblk5 (i : Fin 128) (x : Fin 128) : iblk m hO c 5 t (ix2 i x) = (arr m c).si (rowOf 0 t.val i) x :=
  rd5 m hO t (V m c (Pipeline.arrRef spec0 5)) i x

theorem rd6 (X : (⟨2, ![4352, 1024]⟩ : Shape).Idx → EReal) (i : Fin 128) (x : Fin 1024) :
    (((cfgM m hO).win 6).blk t).view.read (Elt Ideal) X (ix2 i x) = X (ix2 (rowOf 0 t.val i) x) := by
  have e : ((cfgM m hO).win 6).index t = ![blk 0 t.val, 0] := (Tab.tr6 m (grid0.coords t)).trans (by rw [pt_eq, blk_eq])
  blk_ext [e]
  exact (rowOf_val 0 t.val (tlt m hO t) i).symm
theorem iblk6 (i : Fin 128) (x : Fin 1024) : iblk m hO c 6 t (ix2 i x) = (arr m c).w (rowOf 0 t.val i) x :=
  rd6 m hO t (V m c (Pipeline.arrRef spec0 6)) i x

theorem rd7 (X : (⟨2, ![4352, 2048]⟩ : Shape).Idx → EReal) (i : Fin 128) (x : Fin 512) :
    (((cfgM m hO).win 7).blk t).view.read (Elt Ideal) X (ix2 i x) = X (ix2 (rowOf 1 t.val i) ⟨0 + x.val, by omega⟩) := by
  have e : ((cfgM m hO).win 7).index t = ![blk 1 t.val, 0] := (Tab.tr7 m (grid0.coords t)).trans (by rw [pt_eq, blk_eq])
  blk_ext [e]
  exact (rowOf_val 1 t.val (tlt m hO t) i).symm
theorem iblk7 (i : Fin 128) (x : Fin 512) : iblk m hO c 7 t (ix2 i x) = (arr m c).p (rowOf 1 t.val i) ⟨0 + x.val, by omega⟩ :=
  rd7 m hO t (V m c (Pipeline.arrRef spec0 7)) i x

theorem rd8 (X : (⟨2, ![4352, 2048]⟩ : Shape).Idx → EReal) (i : Fin 128) (x : Fin 512) :
    (((cfgM m hO).win 8).blk t).view.read (Elt Ideal) X (ix2 i x) = X (ix2 (rowOf 1 t.val i) ⟨512 + x.val, by omega⟩) := by
  have e : ((cfgM m hO).win 8).index t = ![blk 1 t.val, 1] := (Tab.tr8 m (grid0.coords t)).trans (by rw [pt_eq, blk_eq])
  blk_ext [e]
  exact (rowOf_val 1 t.val (tlt m hO t) i).symm
theorem iblk8 (i : Fin 128) (x : Fin 512) : iblk m hO c 8 t (ix2 i x) = (arr m c).p (rowOf 1 t.val i) ⟨512 + x.val, by omega⟩ :=
  rd8 m hO t (V m c (Pipeline.arrRef spec0 8)) i x

theorem rd9 (X : (⟨2, ![4352, 2048]⟩ : Shape).Idx → EReal) (i : Fin 128) (x : Fin 1024) :
    (((cfgM m hO).win 9).blk t).view.read (Elt Ideal) X (ix2 i x) = X (ix2 (rowOf 1 t.val i) ⟨1024 + x.val, by omega⟩) := by
  have e : ((cfgM m hO).win 9).index t = ![blk 1 t.val, 1] := (Tab.tr9 m (grid0.coords t)).trans (by rw [pt_eq, blk_eq])
  blk_ext [e]
  exact (rowOf_val 1 t.val (tlt m hO t) i).symm
theorem iblk9 (i : Fin 128) (x : Fin 1024) : iblk m hO c 9 t (ix2 i x) = (arr m c).p (rowOf 1 t.val i) ⟨1024 + x.val, by omega⟩ :=
  rd9 m hO t (V m c (Pipeline.arrRef spec0 9)) i x

theorem rd10 (X : (⟨2, ![4352, 128]⟩ : Shape).Idx → EReal) (i : Fin 128) (x : Fin 128) :
    (((cfgM m hO).win 10).blk t).view.read (Elt Ideal) X (ix2 i x) = X (ix2 (rowOf 1 t.val i) x) := by
  have e : ((cfgM m hO).win 10).index t = ![blk 1 t.val, 0] := (Tab.tr10 m (grid0.coords t)).trans (by rw [pt_eq, blk_eq])
  blk_ext [e]
  exact (rowOf_val 1 t.val (tlt m hO t) i).symm
theorem iblk10 (i : Fin 128) (x : Fin 128) : iblk m hO c 10 t (ix2 i x) = (arr m c).co (rowOf 1 t.val i) x :=
  rd10 m hO t (V m c (Pipeline.arrRef spec0 10)) i x

theorem rd11 (X : (⟨2, ![4352, 128]⟩ : Shape).Idx → EReal) (i : Fin 128) (x : Fin 128) :
    (((cfgM m hO).win 11).blk t).view.read (Elt Ideal) X (ix2 i x) = X (ix2 (rowOf 1 t.val i) x) := by
  have e : ((cfgM m hO).win 11).index t = ![blk 1 t.val, 0] := (Tab.tr11 m (grid0.coords t)).trans (by rw [pt_eq, blk_eq])
  blk_ext [e]
  exact (rowOf_val 1 t.val (tlt m hO t) i).symm
theorem iblk11 (i : Fin 128) (x : Fin 128) : iblk m hO c 11 t (ix2 i x) = (arr m c).si (rowOf 1 t.val i) x :=
  rd11 m hO t (V m c (Pipeline.arrRef spec0 11)) i x

theorem rd12 (X : (⟨2, ![4352, 1024]⟩ : Shape).Idx → EReal) (i : Fin 128) (x : Fin 1024) :
    (((cfgM m hO).win 12).blk t).view.read (Elt Ideal) X (ix2 i x) = X (ix2 (rowOf 1 t.val i) x) := by
  have e : ((cfgM m hO).win 12).index t = ![blk 1 t.val, 0] := (Tab.tr12 m (grid0.coords t)).trans (by rw [pt_eq, blk_eq])
  blk_ext [e]
  exact (rowOf_val 1 t.val (tlt m hO t) i).symm
theorem iblk12 (i : Fin 128) (x : Fin 1024) : iblk m hO c 12 t (ix2 i x) = (arr m c).w (rowOf 1 t.val i) x :=
  rd12 m hO t (V m c (Pipeline.arrRef spec0 12)) i x

theorem co0 (i : Fin 128) : rows 1#1 (iblk m hO c 4 t) i = (arr m c).co (row 0 t.val i) := by
  funext x; exact iblk4 m hO c t _ x
theorem si0 (i : Fin 128) : rows 1#1 (iblk m hO c 5 t) i = (arr m c).si (row 0 t.val i) := by
  funext x; exact iblk5 m hO c t _ x
theorem q0 (h : Fin 4) : qE 1#1 (qc (iblk m hO c 1 t) h) (iblk m hO c 4 t) (iblk m hO c 5 t) = (arr m c).q 0 h t.val := by
  have e (i : Fin 128) : rows 1#1 (qc (iblk m hO c 1 t) h) i = fun x => (arr m c).p (row 0 t.val i) (qcol h x) := by
    funext x
    refine (iblk1 m hO c t _ _).trans (congrArg ((arr m c).p _) (Fin.ext ?_))
    simp [col, qcol]
  funext i l
  unfold qE Arr.q
  rw [co0, si0, e]; rfl
theorem k0 (h : Fin 4) : kE 1#1 (qc (iblk m hO c 2 t) h) (iblk m hO c 4 t) (iblk m hO c 5 t) = (arr m c).k 0 h t.val := by
  have e (i : Fin 128) : rows 1#1 (qc (iblk m hO c 2 t) h) i = fun x => (arr m c).p (row 0 t.val i) (kcol h x) := by
    funext x
    refine (iblk2 m hO c t _ _).trans (congrArg ((arr m c).p _) (Fin.ext ?_))
    simp [col, kcol]
  funext i l
  unfold kE Arr.k
  rw [co0, si0, e]
theorem v0 (h : Fin 4) : rows 1#1 (vc (iblk m hO c 3 t) h) = (arr m c).v 0 h t.val := by
  funext i u
  refine (iblk3 m hO c t _ _).trans (congrArg ((arr m c).p _) (Fin.ext ?_))
  simp [colv, vcol]
theorem w0 (h : Fin 4) : rows 1#1 (vc (iblk m hO c 6 t) h) = (arr m c).ct 0 h t.val := by
  funext i u
  exact iblk6 m hO c t _ _
theorem lg0 (h : Fin 4) : lgE (iblk m hO c 0 t (ix2 0 h)) = (arr m c).lg 0 h := by
  rw [iblk0]; rfl
theorem st0 (h : Fin 4) : (fun (l : Fin 128) (u : Fin 256) => stc (iblk m hO c 13 t) 0 h (ix5 0 0 0 l u)) = (arr m c).st 0 h t.val := by
  funext l u; exact iblk13 m hO c t 0 h l u

theorem co1 (i : Fin 128) : rows 0#1 (iblk m hO c 10 t) i = (arr m c).co (row 1 t.val i) := by
  funext x; exact iblk10 m hO c t _ x
theorem si1 (i : Fin 128) : rows 0#1 (iblk m hO c 11 t) i = (arr m c).si (row 1 t.val i) := by
  funext x; exact iblk11 m hO c t _ x
theorem q1 (h : Fin 4) : qE 0#1 (qc (iblk m hO c 7 t) h) (iblk m hO c 10 t) (iblk m hO c 11 t) = (arr m c).q 1 h t.val := by
  have e (i : Fin 128) : rows 0#1 (qc (iblk m hO c 7 t) h) i = fun x => (arr m c).p (row 1 t.val i) (qcol h x) := by
    funext x
    refine (iblk7 m hO c t _ _).trans (congrArg ((arr m c).p _) (Fin.ext ?_))
    simp [col, qcol]
  funext i l
  unfold qE Arr.q
  rw [co1, si1, e]; rfl
theorem k1 (h : Fin 4) : kE 0#1 (qc (iblk m hO c 8 t) h) (iblk m hO c 10 t) (iblk m hO c 11 t) = (arr m c).k 1 h t.val := by
  have e (i : Fin 128) : rows 0#1 (qc (iblk m hO c 8 t) h) i = fun x => (arr m c).p (row 1 t.val i) (kcol h x) := by
    funext x
    refine (iblk8 m hO c t _ _).trans (congrArg ((arr m c).p _) (Fin.ext ?_))
    simp [col, kcol]
  funext i l
  unfold kE Arr.k
  rw [co1, si1, e]
theorem v1 (h : Fin 4) : rows 0#1 (vc (iblk m hO c 9 t) h) = (arr m c).v 1 h t.val := by
  funext i u
  refine (iblk9 m hO c t _ _).trans (congrArg ((arr m c).p _) (Fin.ext ?_))
  simp [colv, vcol]
theorem w1 (h : Fin 4) : rows 0#1 (vc (iblk m hO c 12 t) h) = (arr m c).ct 1 h t.val := by
  funext i u
  exact iblk12 m hO c t _ _
theorem lg1 (h : Fin 4) : lgE (iblk m hO c 0 t (ix2 1 h)) = (arr m c).lg 1 h := by
  rw [iblk0]; rfl
theorem st1 (h : Fin 4) : (fun (l : Fin 128) (u : Fin 256) => stc (iblk m hO c 13 t) 1 h (ix5 0 0 0 l u)) = (arr m c).st 1 h t.val := by
  funext l u; exact iblk13 m hO c t 1 h l u

end Cert.KernelIdeal.KVal
-- ==== Proof.KEnds.lean ====
module

public import proofs.«01_k».proof.Proof.KBlk

@[expose] public section

set_option maxRecDepth 16384
set_option maxHeartbeats 1000000

noncomputable section

/-! What every point leaves, as the gradients of the arrays the region finds. -/
namespace Cert.KernelIdeal.KVal

open Idealize.ShloMosaic Idealize.ShloMosaic.TcCoe
open Cert.KernelIdeal Cert.KernelIdeal.Gen Cert.Ret Cert.KernelIdeal.Lap
open Cert.KernelIdeal.Head Cert.KernelIdeal.Reads

/-! The arrays a point leaves, one by one. -/
section Parts
variable {F : FTy → Type} [FloatOps F] (m : (ℓ : Loc nD τ sig) → Buf (Elt F) ℓ) (hO : Ok m) (c : Dev nD) (t : Fin (cfgM m hO).N)
theorem endA_o14 (hc : cond0_0 (grid0.coords t)) : (endA m hO c t hc).1 =
    VO0_14.read (Elt F) (VO0_14.writes (Elt F) VO0_14.junk (runA m hO c t hc).1) := by
  delta endA; dsimp only
theorem endA_o15 (hc : cond0_0 (grid0.coords t)) : (endA m hO c t hc).2.1 =
    VO0_15.read (Elt F) (VO0_15.writes (Elt F) VO0_15.junk (runA m hO c t hc).2.1) := by
  delta endA; dsimp only
theorem endA_o16 (hc : cond0_0 (grid0.coords t)) : (endA m hO c t hc).2.2.1 =
    VO0_16.read (Elt F) (VO0_16.writes (Elt F) VO0_16.junk (runA m hO c t hc).2.2.1) := by
  delta endA; dsimp only
theorem endA_o17 (hc : cond0_0 (grid0.coords t)) : (endA m hO c t hc).2.2.2.1 =
    VO0_17.read (Elt F) (VO0_17.writes (Elt F) VO0_17.junk (runA m hO c t hc).2.2.2.1) := by
  delta endA; dsimp only
theorem endA_o18 (hc : cond0_0 (grid0.coords t)) : (endA m hO c t hc).2.2.2.2.1 =
    VO0_18.read (Elt F) (VO0_18.writes (Elt F) VO0_18.junk (runA m hO c t hc).2.2.2.2.1) := by
  delta endA; dsimp only
theorem endA_o19 (hc : cond0_0 (grid0.coords t)) : (endA m hO c t hc).2.2.2.2.2.1 =
    VO0_19.read (Elt F) (VO0_19.writes (Elt F) VO0_19.junk (runA m hO c t hc).2.2.2.2.2.1) := by
  delta endA; dsimp only
theorem endA_s (hc : cond0_0 (grid0.coords t)) : (endA m hO c t hc).2.2.2.2.2.2.2 =
    VS0_0.read (Elt F) (VS0_0.writes (Elt F) VS0_0.junk (runA m hO c t hc).2.2.2.2.2.2.2.1) := by
  delta endA; dsimp only
theorem endB_o14 (hc : ¬cond0_0 (grid0.coords t)) (xo : Vec F S2x4x8x128 .f32) (xs : Vec F S2x4x128x256 .f32) : (endB m hO c t hc xo xs).1 =
    VO0_14.read (Elt F) (VO0_14.writes (Elt F) VO0_14.junk (runB m hO c t hc xo xs).1) := by
  delta endB; dsimp only
theorem endB_o15 (hc : ¬cond0_0 (grid0.coords t)) (xo : Vec F S2x4x8x128 .f32) (xs : Vec F S2x4x128x256 .f32) : (endB m hO c t hc xo xs).2.1 =
    VO0_15.read (Elt F) (VO0_15.writes (Elt F) VO0_15.junk (runB m hO c t hc xo xs).2.1) := by
  delta endB; dsimp only
theorem endB_o16 (hc : ¬cond0_0 (grid0.coords t)) (xo : Vec F S2x4x8x128 .f32) (xs : Vec F S2x4x128x256 .f32) : (endB m hO c t hc xo xs).2.2.1 =
    VO0_16.read (Elt F) (VO0_16.writes (Elt F) VO0_16.junk (runB m hO c t hc xo xs).2.2.1) := by
  delta endB; dsimp only
theorem endB_o17 (hc : ¬cond0_0 (grid0.coords t)) (xo : Vec F S2x4x8x128 .f32) (xs : Vec F S2x4x128x256 .f32) : (endB m hO c t hc xo xs).2.2.2.1 =
    VO0_17.read (Elt F) (VO0_17.writes (Elt F) VO0_17.junk (runB m hO c t hc xo xs).2.2.2.1) := by
  delta endB; dsimp only
theorem endB_o18 (hc : ¬cond0_0 (grid0.coords t)) (xo : Vec F S2x4x8x128 .f32) (xs : Vec F S2x4x128x256 .f32) : (endB m hO c t hc xo xs).2.2.2.2.1 =
    VO0_18.read (Elt F) (VO0_18.writes (Elt F) VO0_18.junk (runB m hO c t hc xo xs).2.2.2.2.1) := by
  delta endB; dsimp only
theorem endB_o19 (hc : ¬cond0_0 (grid0.coords t)) (xo : Vec F S2x4x8x128 .f32) (xs : Vec F S2x4x128x256 .f32) : (endB m hO c t hc xo xs).2.2.2.2.2.1 =
    VO0_19.read (Elt F) (VO0_19.writes (Elt F) VO0_19.junk (runB m hO c t hc xo xs).2.2.2.2.2.1) := by
  delta endB; dsimp only
theorem endB_s (hc : ¬cond0_0 (grid0.coords t)) (xo : Vec F S2x4x8x128 .f32) (xs : Vec F S2x4x128x256 .f32) : (endB m hO c t hc xo xs).2.2.2.2.2.2.2 =
    VS0_0.read (Elt F) (VS0_0.writes (Elt F) VS0_0.junk (runB m hO c t hc xo xs).2.2.2.2.2.2.2.1) := by
  delta endB; dsimp only
end Parts

variable (m : (ℓ : Loc nD τ sig) → Buf (Elt Ideal) ℓ)
variable (hO : Ok m) (c : Dev nD) (t : Fin (cfgM m hO).N)

theorem zS_eq : (fun (l : Fin 128) (u : Fin 256) => (zS : Vec Ideal S1x1x128x256 .f32) (ix4 0 0 l u)) = fun _ _ => 0 := by
  funext l u; exact Ideal.ofBits_zero_f32

/-- The carried state's cotangents as matrices. -/
abbrev mats (xs : Vec Ideal S2x4x128x256 .f32) (d : Fin 2) (h : Fin 4) : M 128 256 := fun l u => xs (ix4 d h l u)

/-! A sum of the step from what its operands hold. -/
section Gen
variable {b : BitVec 1} {x : Elt Ideal .f32} {q k co si : Vec Ideal S128x128 .f32} {v w : Vec Ideal S128x256 .f32} {st : Vec Ideal S1x1x1x128x256 .f32}
  {ds : Vec Ideal S1x1x128x256 .f32} {i c : Fin 128} {CO SI : Fin 128 → EReal} {L : EReal} {Q K : M 128 128} {V W ST DS : M 128 256}

theorem outQ_eq (hco : rows b co i = CO) (hsi : rows b si i = SI) (hL : lgE x = L) (hk : kE b k co si = K) (hv : rows b v = V) (hw : rows b w = W)
    (hst : (fun (l : Fin 128) (u : Fin 256) => st (ix5 0 0 0 l u)) = ST) :
    outQ b x k co si v w st (ix2 (plc b i) c) = rotT CO SI (fun l => GQ L K V W ST i l * scE) c := by
  rw [outQ_at, hco, hsi, hL, hk, hv, hw, hst]
theorem outK_eq (hco : rows b co i = CO) (hsi : rows b si i = SI) (hL : lgE x = L) (hq : qE b q co si = Q) (hv : rows b v = V) (hw : rows b w = W)
    (hds : (fun (l : Fin 128) (u : Fin 256) => ds (ix4 0 0 l u)) = DS) :
    outK b x q co si v w ds (ix2 (plc b i) c) = rotT CO SI (GK L Q V W DS i) c := by
  rw [outK_at, hco, hsi, hL, hq, hv, hw, hds]
theorem outV_eq {u : Fin 256} (hL : lgE x = L) (hq : qE b q co si = Q) (hk : kE b k co si = K) (hw : rows b w = W)
    (hds : (fun (l : Fin 128) (u : Fin 256) => ds (ix4 0 0 l u)) = DS) :
    outV b x q k co si w ds (ix2 (plc b i) u) = GV L Q K W DS i u := by
  rw [outV_at, hL, hq, hk, hw, hds]
theorem outS_eq {l : Fin 128} {u : Fin 256} (hL : lgE x = L) (hq : qE b q co si = Q) (hw : rows b w = W)
    (hds : (fun (l : Fin 128) (u : Fin 256) => ds (ix4 0 0 l u)) = DS) :
    outS b x q co si w ds (ix4 0 0 l u) = GS L Q W DS l u := by
  rw [outS_at, hL, hq, hw, hds]
end Gen

section Ends
variable (h : Fin 4)

theorem endA_14 (hc : cond0_0 (grid0.coords t)) (i x : Fin 128) : (endA m hO c t hc).1 (ix2 (plc 1#1 i) (col h x)) = (arr m c).dq 0 h t.val i x := by
  refine (congrFun (endA_o14 m hO c t hc) _).trans ?_
  delta runA
  refine (A14_at (hc0 := hc) ..).trans ?_
  unfold Arr.dq
  exact outQ_eq (co0 m hO c t i) (si0 m hO c t i) (lg0 m hO c t h) (k0 m hO c t h) (v0 m hO c t h) (w0 m hO c t h) (st0 m hO c t h)
theorem endA_15 (hc : cond0_0 (grid0.coords t)) (i x : Fin 128) : (endA m hO c t hc).2.1 (ix2 (plc 1#1 i) (col h x)) =
    rotT ((arr m c).co (row 0 t.val i)) ((arr m c).si (row 0 t.val i))
      (GK ((arr m c).lg 0 h) ((arr m c).q 0 h t.val) ((arr m c).v 0 h t.val) ((arr m c).ct 0 h t.val) (fun _ _ => 0) i) x := by
  refine (congrFun (endA_o15 m hO c t hc) _).trans ?_
  delta runA
  refine (A15_at (hc0 := hc) ..).trans ?_
  exact outK_eq (co0 m hO c t i) (si0 m hO c t i) (lg0 m hO c t h) (q0 m hO c t h) (v0 m hO c t h) (w0 m hO c t h) zS_eq
theorem endA_16 (hc : cond0_0 (grid0.coords t)) (i : Fin 128) (u : Fin 256) : (endA m hO c t hc).2.2.1 (ix2 (plc 1#1 i) (colv h u)) =
    GV ((arr m c).lg 0 h) ((arr m c).q 0 h t.val) ((arr m c).k 0 h t.val) ((arr m c).ct 0 h t.val) (fun _ _ => 0) i u := by
  refine (congrFun (endA_o16 m hO c t hc) _).trans ?_
  delta runA
  refine (A16_at (hc0 := hc) ..).trans ?_
  exact outV_eq (lg0 m hO c t h) (q0 m hO c t h) (k0 m hO c t h) (w0 m hO c t h) zS_eq
theorem endA_21_0 (hc : cond0_0 (grid0.coords t)) (l : Fin 128) (u : Fin 256) : (endA m hO c t hc).2.2.2.2.2.2.2 (ix4 0 h l u) =
    GS ((arr m c).lg 0 h) ((arr m c).q 0 h t.val) ((arr m c).ct 0 h t.val) (fun _ _ => 0) l u := by
  refine (congrFun (endA_s m hO c t hc) _).trans ?_
  delta runA
  refine (A21_at (hc0 := hc) ..).trans ?_
  refine (congrFun (if_pos rfl) _).trans ?_
  exact outS_eq (lg0 m hO c t h) (q0 m hO c t h) (w0 m hO c t h) zS_eq
theorem endA_17 (hc : cond0_0 (grid0.coords t)) (i x : Fin 128) : (endA m hO c t hc).2.2.2.1 (ix2 (plc 0#1 i) (col h x)) = (arr m c).dq 1 h t.val i x := by
  refine (congrFun (endA_o17 m hO c t hc) _).trans ?_
  delta runA
  refine (A17_at (hc0 := hc) ..).trans ?_
  unfold Arr.dq
  exact outQ_eq (co1 m hO c t i) (si1 m hO c t i) (lg1 m hO c t h) (k1 m hO c t h) (v1 m hO c t h) (w1 m hO c t h) (st1 m hO c t h)
theorem endA_18 (hc : cond0_0 (grid0.coords t)) (i x : Fin 128) : (endA m hO c t hc).2.2.2.2.1 (ix2 (plc 0#1 i) (col h x)) =
    rotT ((arr m c).co (row 1 t.val i)) ((arr m c).si (row 1 t.val i))
      (GK ((arr m c).lg 1 h) ((arr m c).q 1 h t.val) ((arr m c).v 1 h t.val) ((arr m c).ct 1 h t.val) (fun _ _ => 0) i) x := by
  refine (congrFun (endA_o18 m hO c t hc) _).trans ?_
  delta runA
  refine (A18_at (hc0 := hc) ..).trans ?_
  exact outK_eq (co1 m hO c t i) (si1 m hO c t i) (lg1 m hO c t h) (q1 m hO c t h) (v1 m hO c t h) (w1 m hO c t h) zS_eq
theorem endA_19 (hc : cond0_0 (grid0.coords t)) (i : Fin 128) (u : Fin 256) : (endA m hO c t hc).2.2.2.2.2.1 (ix2 (plc 0#1 i) (colv h u)) =
    GV ((arr m c).lg 1 h) ((arr m c).q 1 h t.val) ((arr m c).k 1 h t.val) ((arr m c).ct 1 h t.val) (fun _ _ => 0) i u := by
  refine (congrFun (endA_o19 m hO c t hc) _).trans ?_
  delta runA
  refine (A19_at (hc0 := hc) ..).trans ?_
  exact outV_eq (lg1 m hO c t h) (q1 m hO c t h) (k1 m hO c t h) (w1 m hO c t h) zS_eq
theorem endA_21_1 (hc : cond0_0 (grid0.coords t)) (l : Fin 128) (u : Fin 256) : (endA m hO c t hc).2.2.2.2.2.2.2 (ix4 1 h l u) =
    GS ((arr m c).lg 1 h) ((arr m c).q 1 h t.val) ((arr m c).ct 1 h t.val) (fun _ _ => 0) l u := by
  refine (congrFun (endA_s m hO c t hc) _).trans ?_
  delta runA
  refine (A21_at (hc0 := hc) ..).trans ?_
  refine (congrFun (if_neg (by decide)) _).trans ?_
  exact outS_eq (lg1 m hO c t h) (q1 m hO c t h) (w1 m hO c t h) zS_eq
theorem endB_14 (hc : ¬cond0_0 (grid0.coords t)) (xo : Vec Ideal S2x4x8x128 .f32) (xs : Vec Ideal S2x4x128x256 .f32) (i x : Fin 128) : (endB m hO c t hc xo xs).1 (ix2 (plc 1#1 i) (col h x)) = (arr m c).dq 0 h t.val i x := by
  refine (congrFun (endB_o14 m hO c t hc xo xs) _).trans ?_
  delta runB
  refine (B14_at (hc0 := hc) ..).trans ?_
  unfold Arr.dq
  exact outQ_eq (co0 m hO c t i) (si0 m hO c t i) (lg0 m hO c t h) (k0 m hO c t h) (v0 m hO c t h) (w0 m hO c t h) (st0 m hO c t h)
theorem endB_15 (hc : ¬cond0_0 (grid0.coords t)) (xo : Vec Ideal S2x4x8x128 .f32) (xs : Vec Ideal S2x4x128x256 .f32) (i x : Fin 128) : (endB m hO c t hc xo xs).2.1 (ix2 (plc 1#1 i) (col h x)) =
    rotT ((arr m c).co (row 0 t.val i)) ((arr m c).si (row 0 t.val i))
      (GK ((arr m c).lg 0 h) ((arr m c).q 0 h t.val) ((arr m c).v 0 h t.val) ((arr m c).ct 0 h t.val) (mats xs 0 h) i) x := by
  refine (congrFun (endB_o15 m hO c t hc xo xs) _).trans ?_
  delta runB
  refine (B15_at (hc0 := hc) ..).trans ?_
  exact outK_eq (co0 m hO c t i) (si0 m hO c t i) (lg0 m hO c t h) (q0 m hO c t h) (v0 m hO c t h) (w0 m hO c t h) rfl
theorem endB_16 (hc : ¬cond0_0 (grid0.coords t)) (xo : Vec Ideal S2x4x8x128 .f32) (xs : Vec Ideal S2x4x128x256 .f32) (i : Fin 128) (u : Fin 256) : (endB m hO c t hc xo xs).2.2.1 (ix2 (plc 1#1 i) (colv h u)) =
    GV ((arr m c).lg 0 h) ((arr m c).q 0 h t.val) ((arr m c).k 0 h t.val) ((arr m c).ct 0 h t.val) (mats xs 0 h) i u := by
  refine (congrFun (endB_o16 m hO c t hc xo xs) _).trans ?_
  delta runB
  refine (B16_at (hc0 := hc) ..).trans ?_
  exact outV_eq (lg0 m hO c t h) (q0 m hO c t h) (k0 m hO c t h) (w0 m hO c t h) rfl
theorem endB_21_0 (hc : ¬cond0_0 (grid0.coords t)) (xo : Vec Ideal S2x4x8x128 .f32) (xs : Vec Ideal S2x4x128x256 .f32) (l : Fin 128) (u : Fin 256) : (endB m hO c t hc xo xs).2.2.2.2.2.2.2 (ix4 0 h l u) =
    GS ((arr m c).lg 0 h) ((arr m c).q 0 h t.val) ((arr m c).ct 0 h t.val) (mats xs 0 h) l u := by
  refine (congrFun (endB_s m hO c t hc xo xs) _).trans ?_
  delta runB
  refine (B21_at (hc0 := hc) ..).trans ?_
  refine (congrFun (if_pos rfl) _).trans ?_
  exact outS_eq (lg0 m hO c t h) (q0 m hO c t h) (w0 m hO c t h) rfl
theorem endB_17 (hc : ¬cond0_0 (grid0.coords t)) (xo : Vec Ideal S2x4x8x128 .f32) (xs : Vec Ideal S2x4x128x256 .f32) (i x : Fin 128) : (endB m hO c t hc xo xs).2.2.2.1 (ix2 (plc 0#1 i) (col h x)) = (arr m c).dq 1 h t.val i x := by
  refine (congrFun (endB_o17 m hO c t hc xo xs) _).trans ?_
  delta runB
  refine (B17_at (hc0 := hc) ..).trans ?_
  unfold Arr.dq
  exact outQ_eq (co1 m hO c t i) (si1 m hO c t i) (lg1 m hO c t h) (k1 m hO c t h) (v1 m hO c t h) (w1 m hO c t h) (st1 m hO c t h)
theorem endB_18 (hc : ¬cond0_0 (grid0.coords t)) (xo : Vec Ideal S2x4x8x128 .f32) (xs : Vec Ideal S2x4x128x256 .f32) (i x : Fin 128) : (endB m hO c t hc xo xs).2.2.2.2.1 (ix2 (plc 0#1 i) (col h x)) =
    rotT ((arr m c).co (row 1 t.val i)) ((arr m c).si (row 1 t.val i))
      (GK ((arr m c).lg 1 h) ((arr m c).q 1 h t.val) ((arr m c).v 1 h t.val) ((arr m c).ct 1 h t.val) (mats xs 1 h) i) x := by
  refine (congrFun (endB_o18 m hO c t hc xo xs) _).trans ?_
  delta runB
  refine (B18_at (hc0 := hc) ..).trans ?_
  exact outK_eq (co1 m hO c t i) (si1 m hO c t i) (lg1 m hO c t h) (q1 m hO c t h) (v1 m hO c t h) (w1 m hO c t h) rfl
theorem endB_19 (hc : ¬cond0_0 (grid0.coords t)) (xo : Vec Ideal S2x4x8x128 .f32) (xs : Vec Ideal S2x4x128x256 .f32) (i : Fin 128) (u : Fin 256) : (endB m hO c t hc xo xs).2.2.2.2.2.1 (ix2 (plc 0#1 i) (colv h u)) =
    GV ((arr m c).lg 1 h) ((arr m c).q 1 h t.val) ((arr m c).k 1 h t.val) ((arr m c).ct 1 h t.val) (mats xs 1 h) i u := by
  refine (congrFun (endB_o19 m hO c t hc xo xs) _).trans ?_
  delta runB
  refine (B19_at (hc0 := hc) ..).trans ?_
  exact outV_eq (lg1 m hO c t h) (q1 m hO c t h) (k1 m hO c t h) (w1 m hO c t h) rfl
theorem endB_21_1 (hc : ¬cond0_0 (grid0.coords t)) (xo : Vec Ideal S2x4x8x128 .f32) (xs : Vec Ideal S2x4x128x256 .f32) (l : Fin 128) (u : Fin 256) : (endB m hO c t hc xo xs).2.2.2.2.2.2.2 (ix4 1 h l u) =
    GS ((arr m c).lg 1 h) ((arr m c).q 1 h t.val) ((arr m c).ct 1 h t.val) (mats xs 1 h) l u := by
  refine (congrFun (endB_s m hO c t hc xo xs) _).trans ?_
  delta runB
  refine (B21_at (hc0 := hc) ..).trans ?_
  refine (congrFun (if_neg (by decide)) _).trans ?_
  exact outS_eq (lg1 m hO c t h) (q1 m hO c t h) (w1 m hO c t h) rfl
end Ends

/-- The scratch after point `n`: the cotangents of the states before step `n + 1`. -/
theorem scratch : ∀ (n : ℕ) (hn : n < (cfgM m hO).N) (d : Fin 2) (h : Fin 4),
    mats (outsAt0 m hO c n hn).2.2.2.2.2.2.2 d h = (arr m c).ds d h (n + 1)
  | 0, hn, d, h => by
    funext l u
    have e := outsAt0_A m hO c ⟨0, hn⟩ rfl
    show (outsAt0 m hO c 0 hn).2.2.2.2.2.2.2 (ix4 d h l u) = _
    rw [show outsAt0 m hO c 0 hn = _ from e]
    match d with
    | 0 => exact endA_21_0 m hO c ⟨0, hn⟩ h _ l u
    | 1 => exact endA_21_1 m hO c ⟨0, hn⟩ h _ l u
  | n + 1, hn, d, h => by
    have hn' : n + 1 < 34 := hn
    have h0 : ¬(n + 1) % 34 = 0 := by rw [Nat.mod_eq_of_lt hn']; omega
    have e := outsAt0_B m hO c ⟨n + 1, hn⟩ h0
    have ih := scratch n (Nat.lt_of_succ_lt hn) d h
    funext l u
    show (outsAt0 m hO c (n + 1) hn).2.2.2.2.2.2.2 (ix4 d h l u) = _
    rw [show outsAt0 m hO c (n + 1) hn = _ from e]
    match d with
    | 0 => exact (endB_21_0 m hO c ⟨n + 1, hn⟩ h _ _ _ l u).trans (congrArg (fun z => GS _ _ _ z l u) ih)
    | 1 => exact (endB_21_1 m hO c ⟨n + 1, hn⟩ h _ _ _ l u).trans (congrArg (fun z => GS _ _ _ z l u) ih)

theorem left14 (h : Fin 4) (i : Fin 128) (x : Fin 128) : (outsAt0 m hO c t.val t.isLt).1 (ix2 (plc 1#1 i) (col h x)) = (arr m c).dq 0 h t.val i x := by
  have ht : t.val < 34 := t.isLt
  by_cases h0 : t.val % 34 = 0
  · have hz : t.val = 0 := by omega
    rw [outsAt0_A m hO c t h0]
    refine (endA_14 m hO c t h _ i x).trans ?_
    rfl
  · rw [outsAt0_B m hO c t h0]
    refine (endB_14 m hO c t h _ _ _ i x).trans ?_
    rfl

theorem left15 (h : Fin 4) (i : Fin 128) (x : Fin 128) : (outsAt0 m hO c t.val t.isLt).2.1 (ix2 (plc 1#1 i) (col h x)) = (arr m c).dk 0 h t.val i x := by
  have ht : t.val < 34 := t.isLt
  by_cases h0 : t.val % 34 = 0
  · have hz : t.val = 0 := by omega
    rw [outsAt0_A m hO c t h0]
    refine (endA_15 m hO c t h _ i x).trans ?_
    unfold Arr.dk
    rw [show (arr m c).ds 0 h t.val = fun _ _ => 0 by rw [hz]; rfl]
  · rw [outsAt0_B m hO c t h0]
    refine (endB_15 m hO c t h _ _ _ i x).trans ?_
    have hs := scratch m hO c (t.val - 1) (Nat.lt_of_le_of_lt (Nat.sub_le _ _) t.isLt) 0 h
    rw [show t.val - 1 + 1 = t.val by omega] at hs
    rw [hs]; rfl

theorem left16 (h : Fin 4) (i : Fin 128) (x : Fin 256) : (outsAt0 m hO c t.val t.isLt).2.2.1 (ix2 (plc 1#1 i) (colv h x)) = (arr m c).dv 0 h t.val i x := by
  have ht : t.val < 34 := t.isLt
  by_cases h0 : t.val % 34 = 0
  · have hz : t.val = 0 := by omega
    rw [outsAt0_A m hO c t h0]
    refine (endA_16 m hO c t h _ i x).trans ?_
    unfold Arr.dv
    rw [show (arr m c).ds 0 h t.val = fun _ _ => 0 by rw [hz]; rfl]
  · rw [outsAt0_B m hO c t h0]
    refine (endB_16 m hO c t h _ _ _ i x).trans ?_
    have hs := scratch m hO c (t.val - 1) (Nat.lt_of_le_of_lt (Nat.sub_le _ _) t.isLt) 0 h
    rw [show t.val - 1 + 1 = t.val by omega] at hs
    rw [hs]; rfl

theorem left17 (h : Fin 4) (i : Fin 128) (x : Fin 128) : (outsAt0 m hO c t.val t.isLt).2.2.2.1 (ix2 (plc 0#1 i) (col h x)) = (arr m c).dq 1 h t.val i x := by
  have ht : t.val < 34 := t.isLt
  by_cases h0 : t.val % 34 = 0
  · have hz : t.val = 0 := by omega
    rw [outsAt0_A m hO c t h0]
    refine (endA_17 m hO c t h _ i x).trans ?_
    rfl
  · rw [outsAt0_B m hO c t h0]
    refine (endB_17 m hO c t h _ _ _ i x).trans ?_
    rfl

theorem left18 (h : Fin 4) (i : Fin 128) (x : Fin 128) : (outsAt0 m hO c t.val t.isLt).2.2.2.2.1 (ix2 (plc 0#1 i) (col h x)) = (arr m c).dk 1 h t.val i x := by
  have ht : t.val < 34 := t.isLt
  by_cases h0 : t.val % 34 = 0
  · have hz : t.val = 0 := by omega
    rw [outsAt0_A m hO c t h0]
    refine (endA_18 m hO c t h _ i x).trans ?_
    unfold Arr.dk
    rw [show (arr m c).ds 1 h t.val = fun _ _ => 0 by rw [hz]; rfl]
  · rw [outsAt0_B m hO c t h0]
    refine (endB_18 m hO c t h _ _ _ i x).trans ?_
    have hs := scratch m hO c (t.val - 1) (Nat.lt_of_le_of_lt (Nat.sub_le _ _) t.isLt) 1 h
    rw [show t.val - 1 + 1 = t.val by omega] at hs
    rw [hs]; rfl

theorem left19 (h : Fin 4) (i : Fin 128) (x : Fin 256) : (outsAt0 m hO c t.val t.isLt).2.2.2.2.2.1 (ix2 (plc 0#1 i) (colv h x)) = (arr m c).dv 1 h t.val i x := by
  have ht : t.val < 34 := t.isLt
  by_cases h0 : t.val % 34 = 0
  · have hz : t.val = 0 := by omega
    rw [outsAt0_A m hO c t h0]
    refine (endA_19 m hO c t h _ i x).trans ?_
    unfold Arr.dv
    rw [show (arr m c).ds 1 h t.val = fun _ _ => 0 by rw [hz]; rfl]
  · rw [outsAt0_B m hO c t h0]
    refine (endB_19 m hO c t h _ _ _ i x).trans ?_
    have hs := scratch m hO c (t.val - 1) (Nat.lt_of_le_of_lt (Nat.sub_le _ _) t.isLt) 1 h
    rw [show t.val - 1 + 1 = t.val by omega] at hs
    rw [hs]; rfl

end Cert.KernelIdeal.KVal
-- ==== Proof.KVal.lean ====
module

public import proofs.«01_k».proof.Proof.KEnds
public import Idealize.ShloMosaic.Lib.Pipeline.Covers

@[expose] public section

set_option maxRecDepth 16384
set_option maxHeartbeats 4000000

noncomputable section

/-! The arrays after the run as the gradients of the arrays the region finds. -/
namespace Cert.KernelIdeal.KVal

open Idealize.ShloMosaic Idealize.ShloMosaic.TcCoe
open Cert.KernelIdeal Cert.KernelIdeal.Gen Cert.Ret Cert.KernelIdeal.Lap
open Cert.KernelIdeal.Head Cert.KernelIdeal.Reads

variable (m : (ℓ : Loc nD τ sig) → Buf (Elt Ideal) ℓ)
variable (hO : Ok m) (c : Dev nD) (t : Fin (cfgM m hO).N)

/-- Every block of rows is met by a step. -/
theorem hits (d : Fin 2) (b : ℕ) (hb : b < 34) : ∃ s, s < 34 ∧ blk d s = b := by
  have hr : (Fin.ofNat 4352 (b * 128)).val = b * 128 := Nat.mod_eq_of_lt (by omega)
  refine ⟨stp d (Fin.ofNat 4352 (b * 128)), stp_lt _ _, ?_⟩
  unfold stp blk; rw [hr]
  split
  · omega
  · split <;> split <;> omega

theorem idx14 : ((cfgM m hO).win 14).index t = ![blk 0 t.val, 0] := (Tab.tr14 m (grid0.coords t)).trans (by rw [pt_eq, blk_eq])
theorem rd14 (X : (⟨2, ![4352, 512]⟩ : Shape).Idx → EReal) (i : Fin 128) (x : Fin 512) :
    (((cfgM m hO).win 14).blk t).view.read (Elt Ideal) X (ix2 i x) = X (ix2 (rowOf 0 t.val i) x) := by
  have e := idx14 m hO t
  blk_ext [e]
  exact (rowOf_val 0 t.val (tlt m hO t) i).symm
theorem covers14 : ((cfgM m hO).win 14).Covers :=
  ((cfgM m hO).win 14).covers_of_index_surj rfl (show ∀ a : Fin 2, 0 < (![128, 512] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (512 + 512 - 1) / 512 = 1 from rfl)
    obtain ⟨s, hs, e⟩ := hits 0 (β (0 : Fin 2)).val h0
    have k : ∀ a : Fin 2, (![blk 0 s, 0] : Fin 2 → ℕ) a = (β a).val := Fin.forall_fin_two.mpr ⟨e, (Nat.lt_one_iff.mp h1).symm⟩
    exact ⟨⟨s, hs⟩, fun a => (congrFun (idx14 m hO ⟨s, hs⟩) a).trans (k a)⟩
theorem point14 (i : Fin 128) (x : Fin 512) : (dats m hO 0 c).after 14 t (ix2 i x) = (arr m c).dQ 0 (rowOf 0 t.val i) x := by
  rw [after0_14]
  have e := left14 m hO c t (hd4 x) (plc 1#1 i) (ln4 x)
  rw [plc_plc, show col (hd4 x) (ln4 x) = x from Fin.ext (Nat.div_add_mod x.val 128)] at e
  rw [e]
  unfold Arr.dQ
  rw [stp_rowOf _ _ (tlt m hO t), pos_rowOf _ _ (tlt m hO t)]
  rfl
theorem final14 : (dats m hO 0 c).arrAt 14 (cfgM m hO).N = fun j : (⟨2, ![4352, 512]⟩ : Shape).Idx => (arr m c).dQ 0 (j 0) (j 1) := by
  refine (dats m hO 0 c).arrAt_eq_of_covers 14 _ (covers14 m hO) fun t hf (y : (⟨2, ![128, 512]⟩ : Shape).Idx) => ?_
  obtain ⟨i, x, rfl⟩ : ∃ (i : Fin 128) (x : Fin 512), y = ix2 i x := ⟨y 0, y 1, eq_ix2 y⟩
  exact (point14 m hO c t i x).trans (rd14 m hO t (fun j => (arr m c).dQ 0 (j 0) (j 1)) i x).symm

theorem idx15 : ((cfgM m hO).win 15).index t = ![blk 0 t.val, 0] := (Tab.tr15 m (grid0.coords t)).trans (by rw [pt_eq, blk_eq])
theorem rd15 (X : (⟨2, ![4352, 512]⟩ : Shape).Idx → EReal) (i : Fin 128) (x : Fin 512) :
    (((cfgM m hO).win 15).blk t).view.read (Elt Ideal) X (ix2 i x) = X (ix2 (rowOf 0 t.val i) x) := by
  have e := idx15 m hO t
  blk_ext [e]
  exact (rowOf_val 0 t.val (tlt m hO t) i).symm
theorem covers15 : ((cfgM m hO).win 15).Covers :=
  ((cfgM m hO).win 15).covers_of_index_surj rfl (show ∀ a : Fin 2, 0 < (![128, 512] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (512 + 512 - 1) / 512 = 1 from rfl)
    obtain ⟨s, hs, e⟩ := hits 0 (β (0 : Fin 2)).val h0
    have k : ∀ a : Fin 2, (![blk 0 s, 0] : Fin 2 → ℕ) a = (β a).val := Fin.forall_fin_two.mpr ⟨e, (Nat.lt_one_iff.mp h1).symm⟩
    exact ⟨⟨s, hs⟩, fun a => (congrFun (idx15 m hO ⟨s, hs⟩) a).trans (k a)⟩
theorem point15 (i : Fin 128) (x : Fin 512) : (dats m hO 0 c).after 15 t (ix2 i x) = (arr m c).dK 0 (rowOf 0 t.val i) x := by
  rw [after0_15]
  have e := left15 m hO c t (hd4 x) (plc 1#1 i) (ln4 x)
  rw [plc_plc, show col (hd4 x) (ln4 x) = x from Fin.ext (Nat.div_add_mod x.val 128)] at e
  rw [e]
  unfold Arr.dK
  rw [stp_rowOf _ _ (tlt m hO t), pos_rowOf _ _ (tlt m hO t)]
  rfl
theorem final15 : (dats m hO 0 c).arrAt 15 (cfgM m hO).N = fun j : (⟨2, ![4352, 512]⟩ : Shape).Idx => (arr m c).dK 0 (j 0) (j 1) := by
  refine (dats m hO 0 c).arrAt_eq_of_covers 15 _ (covers15 m hO) fun t hf (y : (⟨2, ![128, 512]⟩ : Shape).Idx) => ?_
  obtain ⟨i, x, rfl⟩ : ∃ (i : Fin 128) (x : Fin 512), y = ix2 i x := ⟨y 0, y 1, eq_ix2 y⟩
  exact (point15 m hO c t i x).trans (rd15 m hO t (fun j => (arr m c).dK 0 (j 0) (j 1)) i x).symm

theorem idx16 : ((cfgM m hO).win 16).index t = ![blk 0 t.val, 0] := (Tab.tr16 m (grid0.coords t)).trans (by rw [pt_eq, blk_eq])
theorem rd16 (X : (⟨2, ![4352, 1024]⟩ : Shape).Idx → EReal) (i : Fin 128) (x : Fin 1024) :
    (((cfgM m hO).win 16).blk t).view.read (Elt Ideal) X (ix2 i x) = X (ix2 (rowOf 0 t.val i) x) := by
  have e := idx16 m hO t
  blk_ext [e]
  exact (rowOf_val 0 t.val (tlt m hO t) i).symm
theorem covers16 : ((cfgM m hO).win 16).Covers :=
  ((cfgM m hO).win 16).covers_of_index_surj rfl (show ∀ a : Fin 2, 0 < (![128, 1024] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (1024 + 1024 - 1) / 1024 = 1 from rfl)
    obtain ⟨s, hs, e⟩ := hits 0 (β (0 : Fin 2)).val h0
    have k : ∀ a : Fin 2, (![blk 0 s, 0] : Fin 2 → ℕ) a = (β a).val := Fin.forall_fin_two.mpr ⟨e, (Nat.lt_one_iff.mp h1).symm⟩
    exact ⟨⟨s, hs⟩, fun a => (congrFun (idx16 m hO ⟨s, hs⟩) a).trans (k a)⟩
theorem point16 (i : Fin 128) (x : Fin 1024) : (dats m hO 0 c).after 16 t (ix2 i x) = (arr m c).dV 0 (rowOf 0 t.val i) x := by
  rw [after0_16]
  have e := left16 m hO c t (hdv x) (plc 1#1 i) (lnv x)
  rw [plc_plc, show colv (hdv x) (lnv x) = x from Fin.ext (Nat.div_add_mod x.val 256)] at e
  rw [e]
  unfold Arr.dV
  rw [stp_rowOf _ _ (tlt m hO t), pos_rowOf _ _ (tlt m hO t)]
  rfl
theorem final16 : (dats m hO 0 c).arrAt 16 (cfgM m hO).N = fun j : (⟨2, ![4352, 1024]⟩ : Shape).Idx => (arr m c).dV 0 (j 0) (j 1) := by
  refine (dats m hO 0 c).arrAt_eq_of_covers 16 _ (covers16 m hO) fun t hf (y : (⟨2, ![128, 1024]⟩ : Shape).Idx) => ?_
  obtain ⟨i, x, rfl⟩ : ∃ (i : Fin 128) (x : Fin 1024), y = ix2 i x := ⟨y 0, y 1, eq_ix2 y⟩
  exact (point16 m hO c t i x).trans (rd16 m hO t (fun j => (arr m c).dV 0 (j 0) (j 1)) i x).symm

theorem idx17 : ((cfgM m hO).win 17).index t = ![blk 1 t.val, 0] := (Tab.tr17 m (grid0.coords t)).trans (by rw [pt_eq, blk_eq])
theorem rd17 (X : (⟨2, ![4352, 512]⟩ : Shape).Idx → EReal) (i : Fin 128) (x : Fin 512) :
    (((cfgM m hO).win 17).blk t).view.read (Elt Ideal) X (ix2 i x) = X (ix2 (rowOf 1 t.val i) x) := by
  have e := idx17 m hO t
  blk_ext [e]
  exact (rowOf_val 1 t.val (tlt m hO t) i).symm
theorem covers17 : ((cfgM m hO).win 17).Covers :=
  ((cfgM m hO).win 17).covers_of_index_surj rfl (show ∀ a : Fin 2, 0 < (![128, 512] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (512 + 512 - 1) / 512 = 1 from rfl)
    obtain ⟨s, hs, e⟩ := hits 1 (β (0 : Fin 2)).val h0
    have k : ∀ a : Fin 2, (![blk 1 s, 0] : Fin 2 → ℕ) a = (β a).val := Fin.forall_fin_two.mpr ⟨e, (Nat.lt_one_iff.mp h1).symm⟩
    exact ⟨⟨s, hs⟩, fun a => (congrFun (idx17 m hO ⟨s, hs⟩) a).trans (k a)⟩
theorem point17 (i : Fin 128) (x : Fin 512) : (dats m hO 0 c).after 17 t (ix2 i x) = (arr m c).dQ 1 (rowOf 1 t.val i) x := by
  rw [after0_17]
  have e := left17 m hO c t (hd4 x) (plc 0#1 i) (ln4 x)
  rw [plc_plc, show col (hd4 x) (ln4 x) = x from Fin.ext (Nat.div_add_mod x.val 128)] at e
  rw [e]
  unfold Arr.dQ
  rw [stp_rowOf _ _ (tlt m hO t), pos_rowOf _ _ (tlt m hO t)]
  rfl
theorem final17 : (dats m hO 0 c).arrAt 17 (cfgM m hO).N = fun j : (⟨2, ![4352, 512]⟩ : Shape).Idx => (arr m c).dQ 1 (j 0) (j 1) := by
  refine (dats m hO 0 c).arrAt_eq_of_covers 17 _ (covers17 m hO) fun t hf (y : (⟨2, ![128, 512]⟩ : Shape).Idx) => ?_
  obtain ⟨i, x, rfl⟩ : ∃ (i : Fin 128) (x : Fin 512), y = ix2 i x := ⟨y 0, y 1, eq_ix2 y⟩
  exact (point17 m hO c t i x).trans (rd17 m hO t (fun j => (arr m c).dQ 1 (j 0) (j 1)) i x).symm

theorem idx18 : ((cfgM m hO).win 18).index t = ![blk 1 t.val, 0] := (Tab.tr18 m (grid0.coords t)).trans (by rw [pt_eq, blk_eq])
theorem rd18 (X : (⟨2, ![4352, 512]⟩ : Shape).Idx → EReal) (i : Fin 128) (x : Fin 512) :
    (((cfgM m hO).win 18).blk t).view.read (Elt Ideal) X (ix2 i x) = X (ix2 (rowOf 1 t.val i) x) := by
  have e := idx18 m hO t
  blk_ext [e]
  exact (rowOf_val 1 t.val (tlt m hO t) i).symm
theorem covers18 : ((cfgM m hO).win 18).Covers :=
  ((cfgM m hO).win 18).covers_of_index_surj rfl (show ∀ a : Fin 2, 0 < (![128, 512] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (512 + 512 - 1) / 512 = 1 from rfl)
    obtain ⟨s, hs, e⟩ := hits 1 (β (0 : Fin 2)).val h0
    have k : ∀ a : Fin 2, (![blk 1 s, 0] : Fin 2 → ℕ) a = (β a).val := Fin.forall_fin_two.mpr ⟨e, (Nat.lt_one_iff.mp h1).symm⟩
    exact ⟨⟨s, hs⟩, fun a => (congrFun (idx18 m hO ⟨s, hs⟩) a).trans (k a)⟩
theorem point18 (i : Fin 128) (x : Fin 512) : (dats m hO 0 c).after 18 t (ix2 i x) = (arr m c).dK 1 (rowOf 1 t.val i) x := by
  rw [after0_18]
  have e := left18 m hO c t (hd4 x) (plc 0#1 i) (ln4 x)
  rw [plc_plc, show col (hd4 x) (ln4 x) = x from Fin.ext (Nat.div_add_mod x.val 128)] at e
  rw [e]
  unfold Arr.dK
  rw [stp_rowOf _ _ (tlt m hO t), pos_rowOf _ _ (tlt m hO t)]
  rfl
theorem final18 : (dats m hO 0 c).arrAt 18 (cfgM m hO).N = fun j : (⟨2, ![4352, 512]⟩ : Shape).Idx => (arr m c).dK 1 (j 0) (j 1) := by
  refine (dats m hO 0 c).arrAt_eq_of_covers 18 _ (covers18 m hO) fun t hf (y : (⟨2, ![128, 512]⟩ : Shape).Idx) => ?_
  obtain ⟨i, x, rfl⟩ : ∃ (i : Fin 128) (x : Fin 512), y = ix2 i x := ⟨y 0, y 1, eq_ix2 y⟩
  exact (point18 m hO c t i x).trans (rd18 m hO t (fun j => (arr m c).dK 1 (j 0) (j 1)) i x).symm

theorem idx19 : ((cfgM m hO).win 19).index t = ![blk 1 t.val, 0] := (Tab.tr19 m (grid0.coords t)).trans (by rw [pt_eq, blk_eq])
theorem rd19 (X : (⟨2, ![4352, 1024]⟩ : Shape).Idx → EReal) (i : Fin 128) (x : Fin 1024) :
    (((cfgM m hO).win 19).blk t).view.read (Elt Ideal) X (ix2 i x) = X (ix2 (rowOf 1 t.val i) x) := by
  have e := idx19 m hO t
  blk_ext [e]
  exact (rowOf_val 1 t.val (tlt m hO t) i).symm
theorem covers19 : ((cfgM m hO).win 19).Covers :=
  ((cfgM m hO).win 19).covers_of_index_surj rfl (show ∀ a : Fin 2, 0 < (![128, 1024] : Fin 2 → ℕ) a by decide) fun β => by
    have h0 : (β (0 : Fin 2)).val < 34 := (β (0 : Fin 2)).isLt.trans_eq (show (4352 + 128 - 1) / 128 = 34 from rfl)
    have h1 : (β (1 : Fin 2)).val < 1 := (β (1 : Fin 2)).isLt.trans_eq (show (1024 + 1024 - 1) / 1024 = 1 from rfl)
    obtain ⟨s, hs, e⟩ := hits 1 (β (0 : Fin 2)).val h0
    have k : ∀ a : Fin 2, (![blk 1 s, 0] : Fin 2 → ℕ) a = (β a).val := Fin.forall_fin_two.mpr ⟨e, (Nat.lt_one_iff.mp h1).symm⟩
    exact ⟨⟨s, hs⟩, fun a => (congrFun (idx19 m hO ⟨s, hs⟩) a).trans (k a)⟩
theorem point19 (i : Fin 128) (x : Fin 1024) : (dats m hO 0 c).after 19 t (ix2 i x) = (arr m c).dV 1 (rowOf 1 t.val i) x := by
  rw [after0_19]
  have e := left19 m hO c t (hdv x) (plc 0#1 i) (lnv x)
  rw [plc_plc, show colv (hdv x) (lnv x) = x from Fin.ext (Nat.div_add_mod x.val 256)] at e
  rw [e]
  unfold Arr.dV
  rw [stp_rowOf _ _ (tlt m hO t), pos_rowOf _ _ (tlt m hO t)]
  rfl
theorem final19 : (dats m hO 0 c).arrAt 19 (cfgM m hO).N = fun j : (⟨2, ![4352, 1024]⟩ : Shape).Idx => (arr m c).dV 1 (j 0) (j 1) := by
  refine (dats m hO 0 c).arrAt_eq_of_covers 19 _ (covers19 m hO) fun t hf (y : (⟨2, ![128, 1024]⟩ : Shape).Idx) => ?_
  obtain ⟨i, x, rfl⟩ : ∃ (i : Fin 128) (x : Fin 1024), y = ix2 i x := ⟨y 0, y 1, eq_ix2 y⟩
  exact (point19 m hO c t i x).trans (rd19 m hO t (fun j => (arr m c).dV 1 (j 0) (j 1)) i x).symm

end Cert.KernelIdeal.KVal
-- ==== Proof.RefDefs.lean ====
module

public import proofs.«01_k».proof.Proof.Grad
public import proofs.«01_k».proof.Proof.Gen.ReferenceIdeal.Run
public import Idealize.ShloMosaic.Lib.Pointwise
public import Idealize.ShloMosaic.Lib.IdealHost

@[expose] public section

set_option maxRecDepth 16384

noncomputable section

/-! What the reference makes of the loop's stacked gradients. -/
namespace Cert.ReferenceIdeal.RVal

open Idealize.ShloMosaic Idealize.ShloMosaic.TcCoe
open Cert.ReferenceIdeal Cert.ReferenceIdeal.Gen Cert.ReferenceIdeal.Value Cert.Ret

def posR : FVec Ideal S4096 .f32 :=
  sitofp .f32 (select (andi (cmpi .ne (signi (iotaInDim S4096 32 0)) (broadcastInDim S4096 ![] bcast_S_S4096 (signi (id (constantI S_ 32 64#32))))) (cmpi .ne (Host.remsi (iotaInDim S4096 32 0) (broadcastInDim S4096 ![] bcast_S_S4096 (id (constantI S_ 32 64#32)))) (broadcastInDim S4096 ![] bcast_S_S4096 (constantI S_ 32 0#32)))) (subi (Host.divsi (iotaInDim S4096 32 0) (broadcastInDim S4096 ![] bcast_S_S4096 (id (constantI S_ 32 64#32)))) (broadcastInDim S4096 ![] bcast_S_S4096 (constantI S_ 32 1#32))) (Host.divsi (iotaInDim S4096 32 0) (broadcastInDim S4096 ![] bcast_S_S4096 (id (constantI S_ 32 64#32)))))

def posC : FVec Ideal S4096 .f32 :=
  sitofp .f32 (Host.remsi (iotaInDim S4096 32 0) (broadcastInDim S4096 ![] bcast_S_S4096 (constantI S_ 32 64#32)))

def invF : FVec Ideal S32 .f32 :=
  Host.powf (broadcastInDim S32 ![] bcast_S_S32 (constant S_ .f32 0x461C4000#32)) (Host.divf (Host.negf (sitofp .f32 (iotaInDim S32 32 0))) (broadcastInDim S32 ![] bcast_S_S32 (constant S_ .f32 0x42000000#32)))

def angR : FVec Ideal S4096x32 .f32 :=
  mulf (broadcastInDim S4096x32 ![0, 1] bcast_S4096x1_S4096x32_0_1 (broadcastInDim S4096x1 ![0] bcast_S4096_S4096x1_0 posR)) (broadcastInDim S4096x32 ![0, 1] bcast_S1x32_S4096x32_0_1 (broadcastInDim S1x32 ![1] bcast_S32_S1x32_1 invF))

def angC : FVec Ideal S4096x32 .f32 :=
  mulf (broadcastInDim S4096x32 ![0, 1] bcast_S4096x1_S4096x32_0_1 (broadcastInDim S4096x1 ![0] bcast_S4096_S4096x1_0 posC)) (broadcastInDim S4096x32 ![0, 1] bcast_S1x32_S4096x32_0_1 (broadcastInDim S1x32 ![1] bcast_S32_S1x32_1 invF))

def unF (X : FVec Ideal S34x8x128x128 .f32) : FVec Ideal S4352x4x128 .f32 :=
  shapeCast S4352x4x128 (transpose S34x128x4x128 [0, 2, 1, 3] (extractStridedSlice S34x4x128x128 ![0, 0, 0, 0] X slices_S34x8x128x128_S34x4x128x128_0_0_0_0) transposes_S34x4x128x128_S34x128x4x128_0_2_1_3) shapeCasts_S34x128x4x128_S4352x4x128

def unB (X : FVec Ideal S34x8x128x128 .f32) : FVec Ideal S4352x4x128 .f32 :=
  addf (pad S4352x4x128 ![256, 0, 0] ![0, 0, 0] ![0, 0, 0] (Host.reverse [0] (extractStridedSlice S4096x4x128 ![256, 0, 0] (shapeCast S4352x4x128 (transpose S34x128x4x128 [0, 2, 1, 3] (extractStridedSlice S34x4x128x128 ![0, 4, 0, 0] X slices_S34x8x128x128_S34x4x128x128_0_4_0_0) transposes_S34x4x128x128_S34x128x4x128_0_2_1_3) shapeCasts_S34x128x4x128_S4352x4x128) slices_S4352x4x128_S4096x4x128_256_0_0)) (constant S_ .f32 0x00000000#32) pads_S4096x4x128_S4352x4x128_25600_000_000 h_S_) (pad S4352x4x128 ![0, 0, 0] ![4096, 0, 0] ![0, 0, 0] (Host.reverse [0] (extractStridedSlice S256x4x128 ![0, 0, 0] (shapeCast S4352x4x128 (transpose S34x128x4x128 [0, 2, 1, 3] (extractStridedSlice S34x4x128x128 ![0, 4, 0, 0] X slices_S34x8x128x128_S34x4x128x128_0_4_0_0) transposes_S34x4x128x128_S34x128x4x128_0_2_1_3) shapeCasts_S34x128x4x128_S4352x4x128) slices_S4352x4x128_S256x4x128_0_0_0)) (constant S_ .f32 0x00000000#32) pads_S256x4x128_S4352x4x128_040960_000_000 h_S_)

def asm (X Y : FVec Ideal S34x8x128x128 .f32) : FVec Ideal S4352x16x128 .f32 :=
  addf (addf (addf (pad S4352x16x128 ![0, 12, 0] ![0, 0, 0] ![0, 0, 0] (unB Y) (constant S_ .f32 0x00000000#32) pads_S4352x4x128_S4352x16x128_000_1200_000 h_S_) (pad S4352x16x128 ![0, 8, 0] ![0, 4, 0] ![0, 0, 0] (unF Y) (constant S_ .f32 0x00000000#32) pads_S4352x4x128_S4352x16x128_000_840_000 h_S_)) (pad S4352x16x128 ![0, 4, 0] ![0, 8, 0] ![0, 0, 0] (unB (mulf X (broadcastInDim S34x8x128x128 ![] bcast_S_S34x8x128x128 (constant S_ .f32 0x3DB504F3#32)))) (constant S_ .f32 0x00000000#32) pads_S4352x4x128_S4352x16x128_000_480_000 h_S_)) (pad S4352x16x128 ![0, 0, 0] ![0, 12, 0] ![0, 0, 0] (unF (mulf X (broadcastInDim S34x8x128x128 ![] bcast_S_S34x8x128x128 (constant S_ .f32 0x3DB504F3#32)))) (constant S_ .f32 0x00000000#32) pads_S4352x4x128_S4352x16x128_000_0120_000 h_S_)

def ropeT (T : FVec Ideal S4352x16x128 .f32) (aR aC : FVec Ideal S4096x32 .f32) : FVec Ideal S4352x16x128 .f32 :=
  addf (pad S4352x16x128 ![256, 0, 0] ![0, 0, 0] ![0, 0, 0] (addf (pad S4096x16x128 ![0, 0, 64] ![0, 0, 0] ![0, 0, 0] (addf (pad S4096x16x64 ![0, 0, 32] ![0, 0, 0] ![0, 0, 0] (addf (mulf (extractStridedSlice S4096x16x32 ![0, 0, 32] (extractStridedSlice S4096x16x64 ![0, 0, 64] (extractStridedSlice S4096x16x128 ![256, 0, 0] T slices_S4352x16x128_S4096x16x128_256_0_0) slices_S4096x16x128_S4096x16x64_0_0_64) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.cos aC)))) (mulf (Host.negf (extractStridedSlice S4096x16x32 ![0, 0, 0] (extractStridedSlice S4096x16x64 ![0, 0, 64] (extractStridedSlice S4096x16x128 ![256, 0, 0] T slices_S4352x16x128_S4096x16x128_256_0_0) slices_S4096x16x128_S4096x16x64_0_0_64) slices_S4096x16x64_S4096x16x32_0_0_0)) (broadcastInDim S4096x16x32 ![0, 1, 2] bcast_S4096x1x32_S4096x16x32_0_1_2 (broadcastInDim S4096x1x32 ![0, 2] bcast_S4096x32_S4096x1x32_0_2 (Host.sin aC))))) (constant S_ .f32 0x00000000#32) pads_S4096x16x32_S4096x16x64_000_000_3200 h_S_) (pad S4096x16x64 ![0, 0, 0] ![0, 0, 32] ![0, 0, 0] (addf (mulf (extractStridedSlice S4096x16x32 ![0, 0, 32] (extractStridedSlice S4096x16x64 ![0, 0, 64] (extractStridedSlice S4096x16x128 ![256, 0, 0] T slices_S4352x16x128_S4096x16x128_256_0_0) slices_S4096x16x128_S4096x16x64_0_0_64) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.sin aC)))) (mulf (extractStridedSlice S4096x16x32 ![0, 0, 0] (extractStridedSlice S4096x16x64 ![0, 0, 64] (extractStridedSlice S4096x16x128 ![256, 0, 0] T slices_S4352x16x128_S4096x16x128_256_0_0) slices_S4096x16x128_S4096x16x64_0_0_64) slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.cos aC))))) (constant S_ .f32 0x00000000#32) pads_S4096x16x32_S4096x16x64_000_000_0320 h_S_)) (constant S_ .f32 0x00000000#32) pads_S4096x16x64_S4096x16x128_000_000_6400 h_S_) (pad S4096x16x128 ![0, 0, 0] ![0, 0, 64] ![0, 0, 0] (addf (pad S4096x16x64 ![0, 0, 32] ![0, 0, 0] ![0, 0, 0] (addf (mulf (extractStridedSlice S4096x16x32 ![0, 0, 32] (extractStridedSlice S4096x16x64 ![0, 0, 0] (extractStridedSlice S4096x16x128 ![256, 0, 0] T slices_S4352x16x128_S4096x16x128_256_0_0) slices_S4096x16x128_S4096x16x64_0_0_0) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.cos aR)))) (mulf (Host.negf (extractStridedSlice S4096x16x32 ![0, 0, 0] (extractStridedSlice S4096x16x64 ![0, 0, 0] (extractStridedSlice S4096x16x128 ![256, 0, 0] T slices_S4352x16x128_S4096x16x128_256_0_0) slices_S4096x16x128_S4096x16x64_0_0_0) slices_S4096x16x64_S4096x16x32_0_0_0)) (broadcastInDim S4096x16x32 ![0, 1, 2] bcast_S4096x1x32_S4096x16x32_0_1_2 (broadcastInDim S4096x1x32 ![0, 2] bcast_S4096x32_S4096x1x32_0_2 (Host.sin aR))))) (constant S_ .f32 0x00000000#32) pads_S4096x16x32_S4096x16x64_000_000_3200 h_S_) (pad S4096x16x64 ![0, 0, 0] ![0, 0, 32] ![0, 0, 0] (addf (mulf (extractStridedSlice S4096x16x32 ![0, 0, 32] (extractStridedSlice S4096x16x64 ![0, 0, 0] (extractStridedSlice S4096x16x128 ![256, 0, 0] T slices_S4352x16x128_S4096x16x128_256_0_0) slices_S4096x16x128_S4096x16x64_0_0_0) slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.sin aR)))) (mulf (extractStridedSlice S4096x16x32 ![0, 0, 0] (extractStridedSlice S4096x16x64 ![0, 0, 0] (extractStridedSlice S4096x16x128 ![256, 0, 0] T slices_S4352x16x128_S4096x16x128_256_0_0) slices_S4096x16x128_S4096x16x64_0_0_0) slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.cos aR))))) (constant S_ .f32 0x00000000#32) pads_S4096x16x32_S4096x16x64_000_000_0320 h_S_)) (constant S_ .f32 0x00000000#32) pads_S4096x16x64_S4096x16x128_000_000_0640 h_S_)) (constant S_ .f32 0x00000000#32) pads_S4096x16x128_S4352x16x128_25600_000_000 h_S_) (pad S4352x16x128 ![0, 0, 0] ![4096, 0, 0] ![0, 0, 0] (extractStridedSlice S256x16x128 ![0, 0, 0] T slices_S4352x16x128_S256x16x128_0_0_0) (constant S_ .f32 0x00000000#32) pads_S256x16x128_S4352x16x128_040960_000_000 h_S_)

variable (V0 : Valuation τ sig (Elt Ideal))

theorem out296 : out_main_v296 V0 = shapeCast S4352x512 (extractStridedSlice S4352x4x128 ![0, 0, 0] (ropeT (asm (V0 (Proc.devRef .tc main_v166_11)) (V0 (Proc.devRef .tc main_v166_12))) angR angC) slices_S4352x16x128_S4352x4x128_0_0_0) shapeCasts_S4352x4x128_S4352x512 := rfl

theorem out295 : out_main_v295 V0 = shapeCast S4352x512 (extractStridedSlice S4352x4x128 ![0, 4, 0] (ropeT (asm (V0 (Proc.devRef .tc main_v166_11)) (V0 (Proc.devRef .tc main_v166_12))) angR angC) slices_S4352x16x128_S4352x4x128_0_4_0) shapeCasts_S4352x4x128_S4352x512 := rfl

theorem out294 : out_main_v294 V0 = shapeCast S4352x512 (extractStridedSlice S4352x4x128 ![0, 8, 0] (ropeT (asm (V0 (Proc.devRef .tc main_v166_11)) (V0 (Proc.devRef .tc main_v166_12))) angR angC) slices_S4352x16x128_S4352x4x128_0_8_0) shapeCasts_S4352x4x128_S4352x512 := rfl

theorem out293 : out_main_v293 V0 = shapeCast S4352x512 (extractStridedSlice S4352x4x128 ![0, 12, 0] (ropeT (asm (V0 (Proc.devRef .tc main_v166_11)) (V0 (Proc.devRef .tc main_v166_12))) angR angC) slices_S4352x16x128_S4352x4x128_0_12_0) shapeCasts_S4352x4x128_S4352x512 := rfl

end Cert.ReferenceIdeal.RVal
-- ==== Proof.Rope.lean ====
module

public import proofs.«01_k».proof.Proof.Grad

@[expose] public section

noncomputable section

/-! The rotation's angles: by the grid row on the first half of the lanes, by the grid column on the second. -/
namespace Cert.Ret

open Idealize.ShloMosaic

theorem sitofp_ofNat (n : ℕ) (h : n < 2 ^ 31) : (FloatOps.sitofp .f32 (BitVec.ofNat 32 n) : Ideal .f32) = (((n : ℕ) : ℝ) : EReal) := by
  change (((BitVec.ofNat 32 n).toInt : ℝ) : EReal) = _
  have h : (BitVec.ofNat 32 n).toInt = (n : ℤ) := by
    rw [BitVec.toInt_eq_toNat_of_lt (by rw [BitVec.toNat_ofNat]; omega), BitVec.toNat_ofNat, Nat.mod_eq_of_lt (by omega)]
  rw [h, Int.cast_natCast]

/-- The frequency of a lane of a quarter, `10000 ^ (-n / 32)`. -/
def freq (n : Fin 32) : EReal :=
  Ideal.pow (Ideal.ofBits .f32 0x461C4000#32) (Ideal.div (-(((n : ℕ) : ℝ) : EReal)) (Ideal.ofBits .f32 0x42000000#32))

def angRow (t : ℕ) (n : Fin 32) : EReal := (((t / 64 : ℕ) : ℝ) : EReal) * freq n
def angCol (t : ℕ) (n : Fin 32) : EReal := (((t % 64 : ℕ) : ℝ) : EReal) * freq n

/-- The angle of lane `c` of latent row `t`. -/
def ang (t : ℕ) (c : Fin 128) : EReal :=
  if c.val < 64 then angRow t ⟨c.val % 32, Nat.mod_lt _ (by decide)⟩ else angCol t ⟨c.val % 32, Nat.mod_lt _ (by decide)⟩

/-- The cosines and the signed sines of a row: the first 256 rows are not rotated. -/
def coT (r : Fin 4352) (c : Fin 128) : EReal := if r.val < 256 then 1 else Ideal.cos (ang (r.val - 256) c)
def siT (r : Fin 4352) (c : Fin 128) : EReal :=
  if r.val < 256 then 0 else if c.val % 64 < 32 then -Ideal.sin (ang (r.val - 256) c) else Ideal.sin (ang (r.val - 256) c)

section Lanes
variable (t : ℕ) (n : Fin 32)

theorem ang0 (h : n.val < 128) : ang t ⟨n.val, h⟩ = angRow t n := by
  unfold ang; rw [if_pos (show n.val < 64 by omega)]
  exact congrArg (angRow t) (Fin.ext (show n.val % 32 = n.val by omega))
theorem ang1 (h : 32 + n.val < 128) : ang t ⟨32 + n.val, h⟩ = angRow t n := by
  unfold ang; rw [if_pos (show 32 + n.val < 64 by omega)]
  exact congrArg (angRow t) (Fin.ext (show (32 + n.val) % 32 = n.val by omega))
theorem ang2 (h : 64 + n.val < 128) : ang t ⟨64 + n.val, h⟩ = angCol t n := by
  unfold ang; rw [if_neg (show ¬64 + n.val < 64 by omega)]
  exact congrArg (angCol t) (Fin.ext (show (64 + n.val) % 32 = n.val by omega))
theorem ang3 (h : 96 + n.val < 128) : ang t ⟨96 + n.val, h⟩ = angCol t n := by
  unfold ang; rw [if_neg (show ¬96 + n.val < 64 by omega)]
  exact congrArg (angCol t) (Fin.ext (show (96 + n.val) % 32 = n.val by omega))

theorem mate0 (h : n.val < 128) : mate ⟨n.val, h⟩ = ⟨32 + n.val, by omega⟩ := by
  unfold mate; rw [if_pos (show n.val % 64 < 32 by omega)]; exact Fin.ext (show (n.val + 128 - 96) % 128 = 32 + n.val by omega)
theorem mate1 (h : 32 + n.val < 128) : mate ⟨32 + n.val, h⟩ = ⟨n.val, by omega⟩ := by
  unfold mate; rw [if_neg (show ¬(32 + n.val) % 64 < 32 by omega)]; exact Fin.ext (show (32 + n.val + 128 - 32) % 128 = n.val by omega)
theorem mate2 (h : 64 + n.val < 128) : mate ⟨64 + n.val, h⟩ = ⟨96 + n.val, by omega⟩ := by
  unfold mate; rw [if_pos (show (64 + n.val) % 64 < 32 by omega)]; exact Fin.ext (show (64 + n.val + 128 - 96) % 128 = 96 + n.val by omega)
theorem mate3 (h : 96 + n.val < 128) : mate ⟨96 + n.val, h⟩ = ⟨64 + n.val, by omega⟩ := by
  unfold mate; rw [if_neg (show ¬(96 + n.val) % 64 < 32 by omega)]; exact Fin.ext (show (96 + n.val + 128 - 32) % 128 = 64 + n.val by omega)

variable (r : Fin 4352)

theorem siT_ctx (hr : r.val < 256) (c : Fin 128) : siT r c = 0 := if_pos hr
theorem coT_ctx (hr : r.val < 256) (c : Fin 128) : coT r c = 1 := if_pos hr
theorem coT_lat (hr : ¬r.val < 256) (c : Fin 128) : coT r c = Ideal.cos (ang (r.val - 256) c) := if_neg hr
theorem siT_neg (hr : ¬r.val < 256) (c : Fin 128) (h : c.val % 64 < 32) : siT r c = -Ideal.sin (ang (r.val - 256) c) := by
  unfold siT; rw [if_neg hr, if_pos h]
theorem siT_pos (hr : ¬r.val < 256) (c : Fin 128) (h : ¬c.val % 64 < 32) : siT r c = Ideal.sin (ang (r.val - 256) c) := by
  unfold siT; rw [if_neg hr, if_neg h]

end Lanes

/-- A row the tables do not rotate is its own rotation. -/
theorem rotT_ctx (r : Fin 4352) (hr : r.val < 256) (y : Fin 128 → EReal) (c : Fin 128) : rotT (coT r) (siT r) y c = y c := by
  unfold rotT; rw [coT_ctx r hr, siT_ctx r hr, mul_one, mul_zero, add_zero]
theorem rot_ctx (r : Fin 4352) (hr : r.val < 256) (y : Fin 128 → EReal) (c : Fin 128) : rot (coT r) (siT r) y c = y c := by
  unfold rot; rw [coT_ctx r hr, siT_ctx r hr, mul_one, mul_zero, add_zero]

/-- A lane by its quarter. -/
theorem lane_cases (P : Fin 128 → Prop) (h0 : ∀ (n : Fin 32), P ⟨n.val, by omega⟩) (h1 : ∀ (n : Fin 32), P ⟨32 + n.val, by omega⟩)
    (h2 : ∀ (n : Fin 32), P ⟨64 + n.val, by omega⟩) (h3 : ∀ (n : Fin 32), P ⟨96 + n.val, by omega⟩) (c : Fin 128) : P c := by
  by_cases a : c.val < 32
  · exact h0 ⟨c.val, a⟩
  by_cases b : c.val < 64
  · have := h1 ⟨c.val - 32, by omega⟩
    rwa [show (⟨32 + (c.val - 32), by omega⟩ : Fin 128) = c from Fin.ext (by show 32 + (c.val - 32) = c.val; omega)] at this
  by_cases d : c.val < 96
  · have := h2 ⟨c.val - 64, by omega⟩
    rwa [show (⟨64 + (c.val - 64), by omega⟩ : Fin 128) = c from Fin.ext (by show 64 + (c.val - 64) = c.val; omega)] at this
  · have := h3 ⟨c.val - 96, by omega⟩
    rwa [show (⟨96 + (c.val - 96), by omega⟩ : Fin 128) = c from Fin.ext (by show 96 + (c.val - 96) = c.val; omega)] at this

/-- The chunk a direction meets a row in. -/
def chk (d : Fin 2) (r : Fin 4352) : Fin 34 := ⟨33 - stp d r, by omega⟩

end Cert.Ret
-- ==== Proof.RefOut.lean ====
module

public import proofs.«01_k».proof.Proof.RefDefs
public import proofs.«01_k».proof.Proof.Rope

@[expose] public section

set_option maxRecDepth 16384
set_option maxHeartbeats 400000

noncomputable section

/-! The reference's results at an index, over the loop's stacked gradients. -/
namespace Cert.ReferenceIdeal.RVal

open Idealize.ShloMosaic Idealize.ShloMosaic.TcCoe
open Cert.ReferenceIdeal Cert.ReferenceIdeal.Gen Cert.ReferenceIdeal.Value Cert.Ret

def lo (h : Fin 4) : Fin 8 := ⟨h.val, by omega⟩
def hi (h : Fin 4) : Fin 8 := ⟨4 + h.val, by omega⟩

theorem ix4_congr {a a' : Fin 34} {b b' : Fin 8} {n : ℕ} {c c' : Fin 128} (d : Fin n) (ha : a.val = a'.val) (hb : b.val = b'.val) (hc : c.val = c'.val) :
    ix4 a b c d = ix4 a' b' c' d := by
  rw [Fin.ext ha, Fin.ext hb, Fin.ext hc]

theorem chk_fwd (r : Fin 4352) : r.val / 128 = (chk 0 r).val := by
  show _ = 33 - stp 0 r
  unfold stp; rw [if_pos rfl]; omega
theorem pos_fwd (r : Fin 4352) : r.val % 128 = (pos 0 r).val := rfl
theorem chk_ctx (r : Fin 4352) (hr : r.val < 256) : (255 - r.val) / 128 = (chk 1 r).val := by
  show _ = 33 - stp 1 r
  unfold stp; rw [if_neg (by decide), if_neg (by omega)]; omega
theorem chk_lat (r : Fin 4352) (hr : ¬r.val < 256) : (4607 - r.val) / 128 = (chk 1 r).val := by
  show _ = 33 - stp 1 r
  unfold stp; rw [if_neg (by decide), if_pos (by omega)]; omega
theorem pos_bwd (r : Fin 4352) : (pos 1 r).val = 127 - r.val % 128 := by
  show (Fin.rev (⟨r.val % 128, _⟩ : Fin 128)).val = _
  rw [Fin.val_rev]; show 128 - (r.val % 128 + 1) = _; omega

theorem unF_at (X : FVec Ideal S34x8x128x128 .f32) (r : Fin 4352) (h : Fin 4) (c : Fin 128) :
    unF X (ix3 r h c) = X (ix4 (chk 0 r) (lo h) (pos 0 r) c) := by
  unfold unF
  pointwise
  exact congrArg X (ix4_congr c (chk_fwd r) rfl (pos_fwd r))

theorem unB_at (X : FVec Ideal S34x8x128x128 .f32) (r : Fin 4352) (h : Fin 4) (c : Fin 128) :
    unB X (ix3 r h c) = X (ix4 (chk 1 r) (hi h) (pos 1 r) c) := by
  unfold unB
  pointwise
  simp only [List.mem_singleton, reduceIte, Fin.isValue, Fin.reduceEq, one_ne_zero, OfNat.ofNat_ne_zero]
  by_cases hr : r.val < 256
  · simp (disch := omega) only [dif_pos, dif_neg, zero_add]
    refine congrArg X (ix4_congr c ?_ rfl ?_)
    · refine Eq.trans ?_ (chk_ctx r hr); simp only [Fin.val_rev]; omega
    · refine Eq.trans ?_ (pos_bwd r).symm; simp only [Fin.val_rev]; omega
  · simp (disch := omega) only [dif_pos, dif_neg, add_zero]
    refine congrArg X (ix4_congr c ?_ rfl ?_)
    · refine Eq.trans ?_ (chk_lat r hr); simp only [Fin.val_rev]; omega
    · refine Eq.trans ?_ (pos_bwd r).symm; simp only [Fin.val_rev]; omega

section Asm
variable (X Y : FVec Ideal S34x8x128x128 .f32) (r : Fin 4352) (h : Fin 4) (c : Fin 128)

theorem asm0 : asm X Y (ix3 r ⟨h.val, by omega⟩ c) = X (ix4 (chk 0 r) (lo h) (pos 0 r) c) * scl := by
  unfold asm
  pointwise
  simp (disch := omega) only [dif_pos, dif_neg, and_false, false_and, not_false_eq_true, zero_add, add_zero]
  rw [unF_at]
  pointwise
  rfl
theorem asm4 : asm X Y (ix3 r ⟨4 + h.val, by omega⟩ c) = X (ix4 (chk 1 r) (hi h) (pos 1 r) c) * scl := by
  unfold asm
  pointwise
  simp (disch := omega) only [dif_pos, dif_neg, and_false, false_and, not_false_eq_true, zero_add, add_zero]
  rw [unB_at]
  pointwise
  rfl
theorem asm8 : asm X Y (ix3 r ⟨8 + h.val, by omega⟩ c) = Y (ix4 (chk 0 r) (lo h) (pos 0 r) c) := by
  unfold asm
  pointwise
  simp (disch := omega) only [dif_pos, dif_neg, and_false, false_and, not_false_eq_true, zero_add, add_zero]
  rw [unF_at]
theorem asm12 : asm X Y (ix3 r ⟨12 + h.val, by omega⟩ c) = Y (ix4 (chk 1 r) (hi h) (pos 1 r) c) := by
  unfold asm
  pointwise
  simp (disch := omega) only [dif_pos, dif_neg, and_false, false_and, not_false_eq_true, zero_add, add_zero]
  rw [unB_at]
end Asm

theorem freq_at (n : Fin 32) : Ideal.pow (Ideal.ofBits .f32 0x461C4000#32)
    (Ideal.div (-(FloatOps.sitofp .f32 (BitVec.ofNat 32 n.val) : Ideal .f32)) (Ideal.ofBits .f32 0x42000000#32)) = freq n := by
  rw [sitofp_ofNat _ (by omega)]; rfl

theorem angR_at (t : Fin 4096) (n : Fin 32) : angR (ix2 t n) = angRow t.val n := by
  unfold angR posR invF
  pointwise
  refine congrArg₂ (fun a b : EReal => a * b) ((congrArg (FloatOps.sitofp .f32) (?_ : _ = BitVec.ofNat 32 (t.val / 64))).trans (sitofp_ofNat _ (by omega))) (freq_at n)
  clear n; revert t; decide +kernel
theorem angC_at (t : Fin 4096) (n : Fin 32) : angC (ix2 t n) = angCol t.val n := by
  unfold angC posC invF
  pointwise
  refine congrArg₂ (fun a b : EReal => a * b) ((congrArg (FloatOps.sitofp .f32) (?_ : _ = BitVec.ofNat 32 (t.val % 64))).trans (sitofp_ofNat _ (by omega))) (freq_at n)
  clear n; revert t; decide +kernel

/-- The rotation of half the lanes by one of the two angles. -/
def half (X : FVec Ideal S4096x16x64 .f32) (a : FVec Ideal S4096x32 .f32) : FVec Ideal S4096x16x64 .f32 :=
  addf (pad S4096x16x64 ![0, 0, 32] ![0, 0, 0] ![0, 0, 0] (addf (mulf (extractStridedSlice S4096x16x32 ![0, 0, 32] X slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.cos a)))) (mulf (Host.negf (extractStridedSlice S4096x16x32 ![0, 0, 0] X slices_S4096x16x64_S4096x16x32_0_0_0)) (broadcastInDim S4096x16x32 ![0, 1, 2] bcast_S4096x1x32_S4096x16x32_0_1_2 (broadcastInDim S4096x1x32 ![0, 2] bcast_S4096x32_S4096x1x32_0_2 (Host.sin a))))) (constant S_ .f32 0x00000000#32) pads_S4096x16x32_S4096x16x64_000_000_3200 h_S_) (pad S4096x16x64 ![0, 0, 0] ![0, 0, 32] ![0, 0, 0] (addf (mulf (extractStridedSlice S4096x16x32 ![0, 0, 32] X slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.sin a)))) (mulf (extractStridedSlice S4096x16x32 ![0, 0, 0] X slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.cos a))))) (constant S_ .f32 0x00000000#32) pads_S4096x16x32_S4096x16x64_000_000_0320 h_S_)
def lat (T : FVec Ideal S4352x16x128 .f32) (aR aC : FVec Ideal S4096x32 .f32) : FVec Ideal S4096x16x128 .f32 :=
  addf (pad S4096x16x128 ![0, 0, 64] ![0, 0, 0] ![0, 0, 0] (half (extractStridedSlice S4096x16x64 ![0, 0, 64] (extractStridedSlice S4096x16x128 ![256, 0, 0] T slices_S4352x16x128_S4096x16x128_256_0_0) slices_S4096x16x128_S4096x16x64_0_0_64) aC) (constant S_ .f32 0x00000000#32) pads_S4096x16x64_S4096x16x128_000_000_6400 h_S_) (pad S4096x16x128 ![0, 0, 0] ![0, 0, 64] ![0, 0, 0] (half (extractStridedSlice S4096x16x64 ![0, 0, 0] (extractStridedSlice S4096x16x128 ![256, 0, 0] T slices_S4352x16x128_S4096x16x128_256_0_0) slices_S4096x16x128_S4096x16x64_0_0_0) aR) (constant S_ .f32 0x00000000#32) pads_S4096x16x64_S4096x16x128_000_000_0640 h_S_)

theorem ropeT_eq (T : FVec Ideal S4352x16x128 .f32) (aR aC : FVec Ideal S4096x32 .f32) : ropeT T aR aC =
    addf (pad S4352x16x128 ![256, 0, 0] ![0, 0, 0] ![0, 0, 0] (lat T aR aC) (constant S_ .f32 0x00000000#32) pads_S4096x16x128_S4352x16x128_25600_000_000 h_S_) (pad S4352x16x128 ![0, 0, 0] ![4096, 0, 0] ![0, 0, 0] (extractStridedSlice S256x16x128 ![0, 0, 0] T slices_S4352x16x128_S256x16x128_0_0_0) (constant S_ .f32 0x00000000#32) pads_S256x16x128_S4352x16x128_040960_000_000 h_S_) := rfl

theorem half_lo (X : FVec Ideal S4096x16x64 .f32) (a : FVec Ideal S4096x32 .f32) (t : Fin 4096) (h : Fin 16) (n : Fin 32) :
    half X a (ix3 t h ⟨n.val, by omega⟩) = X (ix3 t h ⟨32 + n.val, by omega⟩) * Ideal.sin (a (ix2 t n)) + X (ix3 t h ⟨n.val, by omega⟩) * Ideal.cos (a (ix2 t n)) := by
  unfold half
  pointwise
  simp (disch := omega) only [dif_pos, dif_neg, and_false, false_and, not_false_eq_true, zero_add, add_zero]
  rw [dif_neg not_false, zero_add]
theorem half_hi (X : FVec Ideal S4096x16x64 .f32) (a : FVec Ideal S4096x32 .f32) (t : Fin 4096) (h : Fin 16) (n : Fin 32) :
    half X a (ix3 t h ⟨32 + n.val, by omega⟩) = X (ix3 t h ⟨32 + n.val, by omega⟩) * Ideal.cos (a (ix2 t n)) + -X (ix3 t h ⟨n.val, by omega⟩) * Ideal.sin (a (ix2 t n)) := by
  unfold half
  pointwise

section Lat
variable (T : FVec Ideal S4352x16x128 .f32) (aR aC : FVec Ideal S4096x32 .f32) (t : Fin 4096) (h : Fin 16)

theorem lat_lo (l : Fin 64) : lat T aR aC (ix3 t h ⟨l.val, by omega⟩) =
    half (extractStridedSlice S4096x16x64 ![0, 0, 0] (extractStridedSlice S4096x16x128 ![256, 0, 0] T slices_S4352x16x128_S4096x16x128_256_0_0) slices_S4096x16x128_S4096x16x64_0_0_0) aR (ix3 t h l) := by
  unfold lat
  pointwise
  simp (disch := omega) only [dif_pos, dif_neg, and_false, false_and, not_false_eq_true, zero_add, add_zero]
  rw [dif_neg not_false, zero_add]
theorem lat_hi (l : Fin 64) : lat T aR aC (ix3 t h ⟨64 + l.val, by omega⟩) =
    half (extractStridedSlice S4096x16x64 ![0, 0, 64] (extractStridedSlice S4096x16x128 ![256, 0, 0] T slices_S4352x16x128_S4096x16x128_256_0_0) slices_S4096x16x128_S4096x16x64_0_0_64) aC (ix3 t h l) := by
  unfold lat
  pointwise

theorem lo_at (l : Fin 64) : (extractStridedSlice S4096x16x64 ![0, 0, 0] (extractStridedSlice S4096x16x128 ![256, 0, 0] T slices_S4352x16x128_S4096x16x128_256_0_0) slices_S4096x16x128_S4096x16x64_0_0_0) (ix3 t h l) = T (ix3 ⟨256 + t.val, by omega⟩ h ⟨l.val, by omega⟩) := by
  pointwise
theorem hi_at (l : Fin 64) : (extractStridedSlice S4096x16x64 ![0, 0, 64] (extractStridedSlice S4096x16x128 ![256, 0, 0] T slices_S4352x16x128_S4096x16x128_256_0_0) slices_S4096x16x128_S4096x16x64_0_0_64) (ix3 t h l) = T (ix3 ⟨256 + t.val, by omega⟩ h ⟨64 + l.val, by omega⟩) := by
  pointwise

theorem lat0 (n : Fin 32) : lat T aR aC (ix3 t h ⟨n.val, by omega⟩) =
    T (ix3 ⟨256 + t.val, by omega⟩ h ⟨32 + n.val, by omega⟩) * Ideal.sin (aR (ix2 t n)) + T (ix3 ⟨256 + t.val, by omega⟩ h ⟨n.val, by omega⟩) * Ideal.cos (aR (ix2 t n)) := by
  refine (lat_lo T aR aC t h ⟨n.val, by omega⟩).trans ((half_lo _ aR t h n).trans ?_)
  rw [lo_at, lo_at]
theorem lat1 (n : Fin 32) : lat T aR aC (ix3 t h ⟨32 + n.val, by omega⟩) =
    T (ix3 ⟨256 + t.val, by omega⟩ h ⟨32 + n.val, by omega⟩) * Ideal.cos (aR (ix2 t n)) + -T (ix3 ⟨256 + t.val, by omega⟩ h ⟨n.val, by omega⟩) * Ideal.sin (aR (ix2 t n)) := by
  refine (lat_lo T aR aC t h ⟨32 + n.val, by omega⟩).trans ((half_hi _ aR t h n).trans ?_)
  rw [lo_at, lo_at]
theorem lat2 (n : Fin 32) : lat T aR aC (ix3 t h ⟨64 + n.val, by omega⟩) =
    T (ix3 ⟨256 + t.val, by omega⟩ h ⟨64 + (32 + n.val), by omega⟩) * Ideal.sin (aC (ix2 t n)) + T (ix3 ⟨256 + t.val, by omega⟩ h ⟨64 + n.val, by omega⟩) * Ideal.cos (aC (ix2 t n)) := by
  refine (lat_hi T aR aC t h ⟨n.val, by omega⟩).trans ((half_lo _ aC t h n).trans ?_)
  rw [hi_at, hi_at]
theorem lat3 (n : Fin 32) : lat T aR aC (ix3 t h ⟨64 + (32 + n.val), by omega⟩) =
    T (ix3 ⟨256 + t.val, by omega⟩ h ⟨64 + (32 + n.val), by omega⟩) * Ideal.cos (aC (ix2 t n)) + -T (ix3 ⟨256 + t.val, by omega⟩ h ⟨64 + n.val, by omega⟩) * Ideal.sin (aC (ix2 t n)) := by
  refine (lat_hi T aR aC t h ⟨32 + n.val, by omega⟩).trans ((half_hi _ aC t h n).trans ?_)
  rw [hi_at, hi_at]

theorem ropeT_ctx (r : Fin 4352) (hr : r.val < 256) (c : Fin 128) : ropeT T aR aC (ix3 r h c) = T (ix3 r h c) := by
  rw [ropeT_eq]
  pointwise
  simp (disch := omega) only [dif_pos, dif_neg, zero_add]
theorem ropeT_lat (c : Fin 128) : ropeT T aR aC (ix3 ⟨256 + t.val, by omega⟩ h c) = lat T aR aC (ix3 t h c) := by
  rw [ropeT_eq]
  pointwise

theorem ropeT_at_lat (hr : ¬256 + t.val < 256) (c : Fin 128) : ropeT T angR angC (ix3 ⟨256 + t.val, by omega⟩ h c) =
    rotT (coT ⟨256 + t.val, by omega⟩) (siT ⟨256 + t.val, by omega⟩) (fun l => T (ix3 ⟨256 + t.val, by omega⟩ h l)) c := by
  have et : 256 + t.val - 256 = t.val := by omega
  refine (ropeT_lat T angR angC t h c).trans ?_
  unfold rotT
  revert c
  refine lane_cases _ (fun n => ?_) (fun n => ?_) (fun n => ?_) (fun n => ?_)
  · rw [mate0 n, coT_lat ⟨256 + t.val, _⟩ hr ⟨n.val, _⟩, siT_pos ⟨256 + t.val, _⟩ hr ⟨32 + n.val, _⟩ (by show ¬(32 + n.val) % 64 < 32; omega), ang0 (256 + t.val - 256) n, ang1 (256 + t.val - 256) n]
    refine (lat0 T angR angC t h n).trans ?_
    rw [angR_at t n, et]
    exact add_comm _ _
  · rw [mate1 n, coT_lat ⟨256 + t.val, _⟩ hr ⟨32 + n.val, _⟩, siT_neg ⟨256 + t.val, _⟩ hr ⟨n.val, _⟩ (by show n.val % 64 < 32; omega), ang1 (256 + t.val - 256) n, ang0 (256 + t.val - 256) n]
    refine (lat1 T angR angC t h n).trans ?_
    rw [angR_at t n, et, neg_mul, mul_neg]
  · rw [mate2 n, coT_lat ⟨256 + t.val, _⟩ hr ⟨64 + n.val, _⟩, siT_pos ⟨256 + t.val, _⟩ hr ⟨96 + n.val, _⟩ (by show ¬(96 + n.val) % 64 < 32; omega), ang2 (256 + t.val - 256) n, ang3 (256 + t.val - 256) n]
    refine (lat2 T angR angC t h n).trans ?_
    rw [angC_at t n, et]
    refine (add_comm _ _).trans ?_
    exact congrArg (fun i => _ + T (ix3 _ h i) * _) (Fin.ext (show 64 + (32 + n.val) = 96 + n.val by omega))
  · have e : (⟨96 + n.val, by omega⟩ : Fin 128) = ⟨64 + (32 + n.val), by omega⟩ := Fin.ext (show 96 + n.val = 64 + (32 + n.val) by omega)
    rw [mate3 n, coT_lat ⟨256 + t.val, _⟩ hr ⟨96 + n.val, _⟩, siT_neg ⟨256 + t.val, _⟩ hr ⟨64 + n.val, _⟩ (by show (64 + n.val) % 64 < 32; omega), ang3 (256 + t.val - 256) n, ang2 (256 + t.val - 256) n, e]
    refine (lat3 T angR angC t h n).trans ?_
    rw [angC_at t n, et, neg_mul, mul_neg]
end Lat

theorem ropeT_at (T : FVec Ideal S4352x16x128 .f32) (r : Fin 4352) (h : Fin 16) (c : Fin 128) :
    ropeT T angR angC (ix3 r h c) = rotT (coT r) (siT r) (fun l => T (ix3 r h l)) c := by
  by_cases hr : r.val < 256
  · exact (ropeT_ctx T angR angC h r hr c).trans (rotT_ctx r hr (fun l => T (ix3 r h l)) c).symm
  have e : r = ⟨256 + (r.val - 256), by omega⟩ := Fin.ext (show r.val = 256 + (r.val - 256) by omega)
  rw [e]
  exact ropeT_at_lat T ⟨r.val - 256, by omega⟩ h (show ¬256 + (r.val - 256) < 256 by omega) c

/-- The rows of a direction's value gradients in the order of the result. -/
def unFv (X : FVec Ideal S34x8x128x256 .f32) : FVec Ideal S4352x1024 .f32 :=
  shapeCast S4352x1024 (shapeCast S4352x4x256 (transpose S34x128x4x256 [0, 2, 1, 3] (extractStridedSlice S34x4x128x256 ![0, 0, 0, 0] X slices_S34x8x128x256_S34x4x128x256_0_0_0_0) transposes_S34x4x128x256_S34x128x4x256_0_2_1_3) shapeCasts_S34x128x4x256_S4352x4x256) shapeCasts_S4352x4x256_S4352x1024
def unBv (X : FVec Ideal S34x8x128x256 .f32) : FVec Ideal S4352x1024 .f32 :=
  shapeCast S4352x1024 (addf (pad S4352x4x256 ![256, 0, 0] ![0, 0, 0] ![0, 0, 0] (Host.reverse [0] (extractStridedSlice S4096x4x256 ![256, 0, 0] (shapeCast S4352x4x256 (transpose S34x128x4x256 [0, 2, 1, 3] (extractStridedSlice S34x4x128x256 ![0, 4, 0, 0] X slices_S34x8x128x256_S34x4x128x256_0_4_0_0) transposes_S34x4x128x256_S34x128x4x256_0_2_1_3) shapeCasts_S34x128x4x256_S4352x4x256) slices_S4352x4x256_S4096x4x256_256_0_0)) (constant S_ .f32 0x00000000#32) pads_S4096x4x256_S4352x4x256_25600_000_000 h_S_) (pad S4352x4x256 ![0, 0, 0] ![4096, 0, 0] ![0, 0, 0] (Host.reverse [0] (extractStridedSlice S256x4x256 ![0, 0, 0] (shapeCast S4352x4x256 (transpose S34x128x4x256 [0, 2, 1, 3] (extractStridedSlice S34x4x128x256 ![0, 4, 0, 0] X slices_S34x8x128x256_S34x4x128x256_0_4_0_0) transposes_S34x4x128x256_S34x128x4x256_0_2_1_3) shapeCasts_S34x128x4x256_S4352x4x256) slices_S4352x4x256_S256x4x256_0_0_0)) (constant S_ .f32 0x00000000#32) pads_S256x4x256_S4352x4x256_040960_000_000 h_S_)) shapeCasts_S4352x4x256_S4352x1024

theorem unFv_at (X : FVec Ideal S34x8x128x256 .f32) (r : Fin 4352) (y : Fin 1024) :
    unFv X (ix2 r y) = X (ix4 (chk 0 r) (lo (hdv y)) (pos 0 r) (lnv y)) := by
  unfold unFv
  pointwise
  exact congrArg X (ix4_congr _ (chk_fwd r) rfl (pos_fwd r))
theorem unBv_at (X : FVec Ideal S34x8x128x256 .f32) (r : Fin 4352) (y : Fin 1024) :
    unBv X (ix2 r y) = X (ix4 (chk 1 r) (hi (hdv y)) (pos 1 r) (lnv y)) := by
  unfold unBv
  pointwise
  simp only [List.mem_singleton, reduceIte, Fin.isValue, Fin.reduceEq, one_ne_zero, OfNat.ofNat_ne_zero]
  by_cases hr : r.val < 256
  · simp (disch := omega) only [dif_pos, dif_neg, zero_add]
    refine congrArg X (ix4_congr (lnv y) ?_ rfl ?_)
    · refine Eq.trans ?_ (chk_ctx r hr); simp only [Fin.val_rev]; omega
    · refine Eq.trans ?_ (pos_bwd r).symm; simp only [Fin.val_rev]; omega
  · simp (disch := omega) only [dif_pos, dif_neg, add_zero]
    refine congrArg X (ix4_congr (lnv y) ?_ rfl ?_)
    · refine Eq.trans ?_ (chk_lat r hr); simp only [Fin.val_rev]; omega
    · refine Eq.trans ?_ (pos_bwd r).symm; simp only [Fin.val_rev]; omega

/-- An entry of the loop's arrays. -/
def A4 (X : FVec Ideal S34x8x128x128 .f32) (n : Fin 34) (h : Fin 8) (i l : Fin 128) : EReal := X (ix4 n h i l)
def A4v (X : FVec Ideal S34x8x128x256 .f32) (n : Fin 34) (h : Fin 8) (i : Fin 128) (u : Fin 256) : EReal := X (ix4 n h i u)

section Outs
variable (X Y : FVec Ideal S34x8x128x128 .f32) (r : Fin 4352) (x : Fin 512) (y : Fin 1024)

theorem q0_at : shapeCast S4352x512 (extractStridedSlice S4352x4x128 ![0, 0, 0] (ropeT (asm X Y) angR angC) slices_S4352x16x128_S4352x4x128_0_0_0) shapeCasts_S4352x4x128_S4352x512 (ix2 r x) =
    rotT (coT r) (siT r) (fun l => X (ix4 (chk 0 r) (lo (hd4 x)) (pos 0 r) l) * scl) (ln4 x) := by
  pointwise
  rw [ropeT_at]
  exact congrArg (fun f => rotT (coT r) (siT r) f (ln4 x)) (funext fun l => asm0 X Y r (hd4 x) l)
theorem q1_at : shapeCast S4352x512 (extractStridedSlice S4352x4x128 ![0, 4, 0] (ropeT (asm X Y) angR angC) slices_S4352x16x128_S4352x4x128_0_4_0) shapeCasts_S4352x4x128_S4352x512 (ix2 r x) =
    rotT (coT r) (siT r) (fun l => X (ix4 (chk 1 r) (hi (hd4 x)) (pos 1 r) l) * scl) (ln4 x) := by
  pointwise
  rw [ropeT_at]
  exact congrArg (fun f => rotT (coT r) (siT r) f (ln4 x)) (funext fun l => asm4 X Y r (hd4 x) l)
theorem k0_at : shapeCast S4352x512 (extractStridedSlice S4352x4x128 ![0, 8, 0] (ropeT (asm X Y) angR angC) slices_S4352x16x128_S4352x4x128_0_8_0) shapeCasts_S4352x4x128_S4352x512 (ix2 r x) =
    rotT (coT r) (siT r) (fun l => Y (ix4 (chk 0 r) (lo (hd4 x)) (pos 0 r) l)) (ln4 x) := by
  pointwise
  rw [ropeT_at]
  exact congrArg (fun f => rotT (coT r) (siT r) f (ln4 x)) (funext fun l => asm8 X Y r (hd4 x) l)
theorem k1_at : shapeCast S4352x512 (extractStridedSlice S4352x4x128 ![0, 12, 0] (ropeT (asm X Y) angR angC) slices_S4352x16x128_S4352x4x128_0_12_0) shapeCasts_S4352x4x128_S4352x512 (ix2 r x) =
    rotT (coT r) (siT r) (fun l => Y (ix4 (chk 1 r) (hi (hd4 x)) (pos 1 r) l)) (ln4 x) := by
  pointwise
  rw [ropeT_at]
  exact congrArg (fun f => rotT (coT r) (siT r) f (ln4 x)) (funext fun l => asm12 X Y r (hd4 x) l)

variable (V0 : Valuation τ sig (Elt Ideal))

theorem out296_at : out_main_v296 V0 (ix2 r x) = rotT (coT r) (siT r)
    (fun l => A4 (V0 (Proc.devRef .tc main_v166_11)) (chk 0 r) (lo (hd4 x)) (pos 0 r) l * scl) (ln4 x) :=
  (congrFun (out296 V0) _).trans (q0_at _ _ r x)
theorem out295_at : out_main_v295 V0 (ix2 r x) = rotT (coT r) (siT r)
    (fun l => A4 (V0 (Proc.devRef .tc main_v166_11)) (chk 1 r) (hi (hd4 x)) (pos 1 r) l * scl) (ln4 x) :=
  (congrFun (out295 V0) _).trans (q1_at _ _ r x)
theorem out294_at : out_main_v294 V0 (ix2 r x) = rotT (coT r) (siT r)
    (fun l => A4 (V0 (Proc.devRef .tc main_v166_12)) (chk 0 r) (lo (hd4 x)) (pos 0 r) l) (ln4 x) :=
  (congrFun (out294 V0) _).trans (k0_at _ _ r x)
theorem out293_at : out_main_v293 V0 (ix2 r x) = rotT (coT r) (siT r)
    (fun l => A4 (V0 (Proc.devRef .tc main_v166_12)) (chk 1 r) (hi (hd4 x)) (pos 1 r) l) (ln4 x) :=
  (congrFun (out293 V0) _).trans (k1_at _ _ r x)
theorem out211_at : out_main_v211 V0 (ix2 r y) = A4v (V0 (Proc.devRef .tc main_v166_13)) (chk 0 r) (lo (hdv y)) (pos 0 r) (lnv y) :=
  unFv_at _ r y
theorem out210_at : out_main_v210 V0 (ix2 r y) = A4v (V0 (Proc.devRef .tc main_v166_13)) (chk 1 r) (hi (hdv y)) (pos 1 r) (lnv y) :=
  unBv_at _ r y
end Outs

end Cert.ReferenceIdeal.RVal
-- ==== Proof.KTab.lean ====
module

public import proofs.«01_k».proof.Proof.RefOut
public import proofs.«01_k».proof.Proof.Gen.KernelIdeal.Frame.Runs
public import Idealize.ShloMosaic.Lib.StableHlo.ReadAt

@[expose] public section

set_option maxRecDepth 16384
set_option maxHeartbeats 400000

noncomputable section

/-! The rotation's tables as the kernel's host lines prepare them. -/
namespace Cert.KernelIdeal.KTab

open Idealize.ShloMosaic Idealize.ShloMosaic.TcCoe Idealize.ShloMosaic.Tactic Idealize.ShloMosaic.StableHlo Idealize.SL.Sem
open Cert.KernelIdeal Cert.KernelIdeal.Gen Cert.Ret

/-- The divisor of the column's remainder. -/
def colD : IVec S_ 32 :=
  select (cmpi .eq (id (constantI S_ 32 64#32)) (constantI S_ 32 0#32)) (constantI S_ 32 1#32) (id (constantI S_ 32 64#32))

def colR : IVec S4096 32 := Host.remsi (iotaInDim S4096 32 0) (broadcastInDim S4096 ![] bcast_S_S4096 colD)

/-- The column of a latent row. -/
def colW : IVec S4096 32 :=
  select (andi (cmpi .ne (cmpi .slt colR (broadcastInDim S4096 ![] bcast_S_S4096 (constantI S_ 32 0#32))) (broadcastInDim S4096 ![] bcast_S_S4096 (cmpi .slt colD (constantI S_ 32 0#32)))) (cmpi .ne colR (broadcastInDim S4096 ![] bcast_S_S4096 (constantI S_ 32 0#32)))) (addi colR (broadcastInDim S4096 ![] bcast_S_S4096 colD)) colR

theorem colW_at (t : Fin 4096) : colW (ix1 t) = BitVec.ofNat 32 (t.val % 64) := by
  unfold colW colR colD
  pointwise
  revert t; decide +kernel

def kAngC : FVec Ideal S4096x32 .f32 :=
  mulf (broadcastInDim S4096x32 ![0, 1] bcast_S4096x1_S4096x32_0_1 (broadcastInDim S4096x1 ![0] bcast_S4096_S4096x1_0 (sitofp (F := Ideal) .f32 colW))) (broadcastInDim S4096x32 ![0, 1] bcast_S1x32_S4096x32_0_1 (broadcastInDim S1x32 ![1] bcast_S32_S1x32_1 ReferenceIdeal.RVal.invF))

theorem kAngC_at (t : Fin 4096) (n : Fin 32) : kAngC (ix2 t n) = angCol t.val n := by
  unfold kAngC ReferenceIdeal.RVal.invF
  pointwise
  exact congrArg₂ (fun a b : EReal => a * b) ((congrArg (FloatOps.sitofp .f32) (colW_at t)).trans (sitofp_ofNat _ (by omega))) (ReferenceIdeal.RVal.freq_at n)

/-- The table over the latent rows, by its quarters. -/
def quads (a b c d : FVec Ideal S4096x32 .f32) : FVec Ideal S4096x128 .f32 :=
  concatenate S4096x128 1 [⟨S4096x32, a⟩, ⟨S4096x32, b⟩, ⟨S4096x32, c⟩, ⟨S4096x32, d⟩] concatenates_S4096x32_S4096x32_S4096x32_S4096x32_S4096x128_d1

section Quads
variable (a b c d : FVec Ideal S4096x32 .f32) (t : Fin 4096) (n : Fin 32)
theorem quads0 : quads a b c d (ix2 t ⟨n.val, by omega⟩) = a (ix2 t n) := by
  unfold quads
  pointwise
  try simp (disch := omega) only [dif_pos, dif_neg]
theorem quads1 : quads a b c d (ix2 t ⟨32 + n.val, by omega⟩) = b (ix2 t n) := by
  unfold quads
  pointwise
  try simp (disch := omega) only [dif_pos, dif_neg]
theorem quads2 : quads a b c d (ix2 t ⟨64 + n.val, by omega⟩) = c (ix2 t n) := by
  unfold quads
  pointwise
  try simp (disch := omega) only [dif_pos, dif_neg]
  exact congrArg (fun i => c (ix2 t i)) (Fin.ext (show 64 + n.val - 32 - 32 = n.val by omega))
theorem quads3 : quads a b c d (ix2 t ⟨96 + n.val, by omega⟩) = d (ix2 t n) := by
  unfold quads
  pointwise
  try simp (disch := omega) only [dif_pos, dif_neg]
  exact congrArg (fun i => d (ix2 t i)) (Fin.ext (show 96 + n.val - 32 - 32 - 32 = n.val by omega))
end Quads

/-- A table over all rows: `w` on the context rows. -/
def tall (w : BitVec 32) (X : FVec Ideal S4096x128 .f32) : FVec Ideal S4352x128 .f32 :=
  concatenate S4352x128 0 [⟨S256x128, broadcastInDim S256x128 ![] bcast_S_S256x128 (constant (F := Ideal) S_ .f32 w)⟩, ⟨S4096x128, X⟩] concatenates_S256x128_S4096x128_S4352x128_d0

theorem tall_ctx (w : BitVec 32) (X : FVec Ideal S4096x128 .f32) (r : Fin 4352) (hr : r.val < 256) (l : Fin 128) : tall w X (ix2 r l) = Ideal.ofBits .f32 w := by
  unfold tall
  pointwise
  try simp (disch := omega) only [dif_pos, dif_neg]
  try rfl
theorem tall_lat (w : BitVec 32) (X : FVec Ideal S4096x128 .f32) (t : Fin 4096) (l : Fin 128) : tall w X (ix2 ⟨256 + t.val, by omega⟩ l) = X (ix2 t l) := by
  unfold tall
  pointwise
  try simp (disch := omega) only [dif_pos, dif_neg]

theorem row_cases (P : Fin 4352 → Prop) (h0 : ∀ r : Fin 4352, r.val < 256 → P r) (h1 : ∀ t : Fin 4096, P ⟨256 + t.val, by omega⟩) (r : Fin 4352) : P r := by
  by_cases hr : r.val < 256
  · exact h0 r hr
  have := h1 ⟨r.val - 256, by omega⟩
  rwa [show (⟨256 + (r.val - 256), by omega⟩ : Fin 4352) = r from Fin.ext (by show 256 + (r.val - 256) = r.val; omega)] at this

/-- The cosines. -/
def cosT : FVec Ideal S4352x128 .f32 := tall 0x3F800000#32 (quads (Host.cos ReferenceIdeal.RVal.angR) (Host.cos ReferenceIdeal.RVal.angR) (Host.cos kAngC) (Host.cos kAngC))
/-- The signed sines. -/
def sinT : FVec Ideal S4352x128 .f32 := tall 0x00000000#32 (quads (Host.negf (Host.sin ReferenceIdeal.RVal.angR)) (Host.sin ReferenceIdeal.RVal.angR) (Host.negf (Host.sin kAngC)) (Host.sin kAngC))

theorem cos_at (X : FVec Ideal S4096x32 .f32) (t : Fin 4096) (n : Fin 32) : (Host.cos X : FVec Ideal S4096x32 .f32) (ix2 t n) = Ideal.cos (X (ix2 t n)) := rfl
theorem sin_at (X : FVec Ideal S4096x32 .f32) (t : Fin 4096) (n : Fin 32) : (Host.sin X : FVec Ideal S4096x32 .f32) (ix2 t n) = Ideal.sin (X (ix2 t n)) := rfl
theorem neg_at (X : FVec Ideal S4096x32 .f32) (t : Fin 4096) (n : Fin 32) : (Host.negf X : FVec Ideal S4096x32 .f32) (ix2 t n) = -(X (ix2 t n)) := rfl
theorem one_lit : Ideal.ofBits .f32 0x3F800000#32 = 1 := by
  have h : ∀ z : Fin 1, (constant (F := Ideal) S_ .f32 0x3F800000#32 : FVec Ideal S_ .f32) (fun a => a.elim0) = 1 := by
    intro z; pointwise
  exact h 0
theorem zero_lit : Ideal.ofBits .f32 0x00000000#32 = 0 := by
  have h : ∀ z : Fin 1, (constant (F := Ideal) S_ .f32 0x00000000#32 : FVec Ideal S_ .f32) (fun a => a.elim0) = 0 := by
    intro z; pointwise
  exact h 0

theorem cosT_at (r : Fin 4352) (l : Fin 128) : cosT (ix2 r l) = coT r l := by
  unfold cosT
  revert r
  refine row_cases _ (fun r hr => (tall_ctx _ _ r hr l).trans (one_lit.trans (coT_ctx r hr l).symm)) fun t => ?_
  have hr : ¬256 + t.val < 256 := by omega
  have et : 256 + t.val - 256 = t.val := by omega
  rw [tall_lat]
  revert l
  refine lane_cases _ (fun n => ?_) (fun n => ?_) (fun n => ?_) (fun n => ?_)
  · rw [coT_lat ⟨256 + t.val, _⟩ hr ⟨n.val, _⟩, ang0 (256 + t.val - 256) n, quads0, cos_at, ReferenceIdeal.RVal.angR_at t n, et]
  · rw [coT_lat ⟨256 + t.val, _⟩ hr ⟨32 + n.val, _⟩, ang1 (256 + t.val - 256) n, quads1, cos_at, ReferenceIdeal.RVal.angR_at t n, et]
  · rw [coT_lat ⟨256 + t.val, _⟩ hr ⟨64 + n.val, _⟩, ang2 (256 + t.val - 256) n, quads2, cos_at, kAngC_at t n, et]
  · rw [coT_lat ⟨256 + t.val, _⟩ hr ⟨96 + n.val, _⟩, ang3 (256 + t.val - 256) n, quads3, cos_at, kAngC_at t n, et]

theorem sinT_at (r : Fin 4352) (l : Fin 128) : sinT (ix2 r l) = siT r l := by
  unfold sinT
  revert r
  refine row_cases _ (fun r hr => (tall_ctx _ _ r hr l).trans (zero_lit.trans (siT_ctx r hr l).symm)) fun t => ?_
  have hr : ¬256 + t.val < 256 := by omega
  have et : 256 + t.val - 256 = t.val := by omega
  rw [tall_lat]
  revert l
  refine lane_cases _ (fun n => ?_) (fun n => ?_) (fun n => ?_) (fun n => ?_)
  · rw [siT_neg ⟨256 + t.val, _⟩ hr ⟨n.val, _⟩ (by show n.val % 64 < 32; omega), ang0 (256 + t.val - 256) n, quads0, neg_at, sin_at, ReferenceIdeal.RVal.angR_at t n, et]
  · rw [siT_pos ⟨256 + t.val, _⟩ hr ⟨32 + n.val, _⟩ (by show ¬(32 + n.val) % 64 < 32; omega), ang1 (256 + t.val - 256) n, quads1, sin_at, ReferenceIdeal.RVal.angR_at t n, et]
  · rw [siT_neg ⟨256 + t.val, _⟩ hr ⟨64 + n.val, _⟩ (by show (64 + n.val) % 64 < 32; omega), ang2 (256 + t.val - 256) n, quads2, neg_at, sin_at, kAngC_at t n, et]
  · rw [siT_pos ⟨256 + t.val, _⟩ hr ⟨96 + n.val, _⟩ (by show ¬(96 + n.val) % 64 < 32; omega), ang3 (256 + t.val - 256) n, quads3, sin_at, kAngC_at t n, et]

end Cert.KernelIdeal.KTab
-- ==== Proof.KRead.lean ====
module

public import proofs.«01_k».proof.Proof.KTab
public import Idealize.ShloMosaic.Lib.StableHlo.ReadAt

@[expose] public section

set_option maxRecDepth 16384
set_option maxHeartbeats 1000000

noncomputable section

/-! The tables the region finds. -/
namespace Cert.KernelIdeal.KTab

open Idealize.ShloMosaic Idealize.ShloMosaic.TcCoe Idealize.ShloMosaic.Tactic Idealize.ShloMosaic.StableHlo Idealize.SL.Sem
open Cert.KernelIdeal Cert.KernelIdeal.Gen Cert.Ret

theorem quads_congr {a b c d a' b' c' d' : FVec Ideal S4096x32 .f32} (ha : a = a') (hb : b = b') (hc : c = c') (hd : d = d') :
    quads a b c d = quads a' b' c' d' := by rw [ha, hb, hc, hd]

variable (m : (ℓ : Loc nD τ sig) → Buf (Elt Ideal) ℓ) (c : Dev nD)

theorem read15 : V m c main_v15 = ReferenceIdeal.RVal.angR := by
  change after (List.flatten [hostOps0, hostOps0_1, hostOps0_2, hostOps0_3, hostOps0_4]) (fun b => m (c, b)) (Proc.devRef .tc main_v15) = _
  simp only [List.flatten_cons, List.flatten_nil, List.append_nil, hostOps0, hostOps0_1, hostOps0_2, hostOps0_3, hostOps0_4, List.cons_append, List.nil_append]
  after_reads_simp
  unfold ReferenceIdeal.RVal.angR ReferenceIdeal.RVal.posR ReferenceIdeal.RVal.invF
  rfl
theorem read20 : V m c main_v20 = kAngC := by
  change after (List.flatten [hostOps0, hostOps0_1, hostOps0_2, hostOps0_3, hostOps0_4]) (fun b => m (c, b)) (Proc.devRef .tc main_v20) = _
  simp only [List.flatten_cons, List.flatten_nil, List.append_nil, hostOps0, hostOps0_1, hostOps0_2, hostOps0_3, hostOps0_4, List.cons_append, List.nil_append]
  after_reads_simp
  unfold kAngC colW colR colD ReferenceIdeal.RVal.invF
  rfl
theorem read34 : V m c main_v34 = cosT := by
  change after (List.flatten [hostOps0, hostOps0_1, hostOps0_2, hostOps0_3, hostOps0_4]) (fun b => m (c, b)) (Proc.devRef .tc main_v34) = _
  simp only [List.flatten_cons, List.flatten_nil, List.append_nil, hostOps0, hostOps0_1, hostOps0_2, hostOps0_3, hostOps0_4, List.cons_append, List.nil_append]
  after_reads_simp
  unfold cosT tall
  refine congrArg₂ (fun (a : FVec Ideal S256x128 .f32) (b : FVec Ideal S4096x128 .f32) => concatenate S4352x128 0 [⟨S256x128, a⟩, ⟨S4096x128, b⟩] concatenates_S256x128_S4096x128_S4352x128_d0) ?_ ?_
  · after_reads_simp
    try rfl
  · after_reads_simp
    refine quads_congr ?_ ?_ ?_ ?_
    · after_reads_simp
      unfold ReferenceIdeal.RVal.angR ReferenceIdeal.RVal.posR ReferenceIdeal.RVal.invF
      try rfl
    · after_reads_simp
      unfold ReferenceIdeal.RVal.angR ReferenceIdeal.RVal.posR ReferenceIdeal.RVal.invF
      try rfl
    · after_reads_simp
      unfold kAngC colW colR colD ReferenceIdeal.RVal.invF
      try rfl
    · after_reads_simp
      unfold kAngC colW colR colD ReferenceIdeal.RVal.invF
      try rfl
theorem read36 : V m c main_v36 = sinT := by
  change after (List.flatten [hostOps0, hostOps0_1, hostOps0_2, hostOps0_3, hostOps0_4]) (fun b => m (c, b)) (Proc.devRef .tc main_v36) = _
  simp only [List.flatten_cons, List.flatten_nil, List.append_nil, hostOps0, hostOps0_1, hostOps0_2, hostOps0_3, hostOps0_4, List.cons_append, List.nil_append]
  after_reads_simp
  unfold sinT tall
  refine congrArg₂ (fun (a : FVec Ideal S256x128 .f32) (b : FVec Ideal S4096x128 .f32) => concatenate S4352x128 0 [⟨S256x128, a⟩, ⟨S4096x128, b⟩] concatenates_S256x128_S4096x128_S4352x128_d0) ?_ ?_
  · after_reads_simp
    try rfl
  · after_reads_simp
    refine quads_congr ?_ ?_ ?_ ?_
    · after_reads_simp
      unfold ReferenceIdeal.RVal.angR ReferenceIdeal.RVal.posR ReferenceIdeal.RVal.invF
      try rfl
    · after_reads_simp
      unfold ReferenceIdeal.RVal.angR ReferenceIdeal.RVal.posR ReferenceIdeal.RVal.invF
      try rfl
    · after_reads_simp
      unfold kAngC colW colR colD ReferenceIdeal.RVal.invF
      try rfl
    · after_reads_simp
      unfold kAngC colW colR colD ReferenceIdeal.RVal.invF
      try rfl

end Cert.KernelIdeal.KTab
-- ==== Proof.RefIn.lean ====
module

public import proofs.«01_k».proof.Proof.RefDefs

@[expose] public section

set_option maxRecDepth 16384
set_option maxHeartbeats 2000000

noncomputable section

/-! What the reference's loop starts from. -/
namespace Cert.ReferenceIdeal.RVal

open Idealize.ShloMosaic Idealize.ShloMosaic.TcCoe
open Cert.ReferenceIdeal Cert.ReferenceIdeal.Gen Cert.ReferenceIdeal.Value Cert.Ret

/-- The logarithms of the decays. -/
def lgF (x : FVec Ideal S2x4 .f32) : FVec Ideal S8 .f32 :=
  shapeCast S8 (Host.negf (select (cmpf (F := Ideal) .une (subf (Host.negf x) (broadcastInDim S2x4 ![] bcast_S_S2x4 (constant (F := Ideal) S_ .f32 0x00000000#32))) (subf (Host.negf x) (broadcastInDim S2x4 ![] bcast_S_S2x4 (constant (F := Ideal) S_ .f32 0x00000000#32)))) (addf (Host.negf x) (broadcastInDim S2x4 ![] bcast_S_S2x4 (constant (F := Ideal) S_ .f32 0x00000000#32))) (addf (maximumf (Host.negf x) (broadcastInDim S2x4 ![] bcast_S_S2x4 (constant (F := Ideal) S_ .f32 0x00000000#32))) (Host.log1p (Host.exp (Host.negf (Host.absf (subf (Host.negf x) (broadcastInDim S2x4 ![] bcast_S_S2x4 (constant (F := Ideal) S_ .f32 0x00000000#32)))))))))) shapeCasts_S2x4_S8

/-- The decay within a chunk and the decays of the rows of a chunk. -/
def decF (L : FVec Ideal S8 .f32) : FVec Ideal S8x128x128 .f32 :=
  select (broadcastInDim S8x128x128 ![1, 2] bcast_S128x128_S8x128x128_1_2 (cmpf (F := Ideal) .oge (subf (broadcastInDim S128x128 ![0, 1] bcast_S128x1_S128x128_0_1 (broadcastInDim S128x1 ![0] bcast_S128_S128x1_0 (sitofp (F := Ideal) .f32 (iotaInDim S128 32 0)))) (broadcastInDim S128x128 ![0, 1] bcast_S1x128_S128x128_0_1 (broadcastInDim S1x128 ![1] bcast_S128_S1x128_1 (sitofp (F := Ideal) .f32 (iotaInDim S128 32 0))))) (broadcastInDim S128x128 ![] bcast_S_S128x128 (constant (F := Ideal) S_ .f32 0x00000000#32)))) (Host.exp (mulf (broadcastInDim S8x128x128 ![0, 1, 2] bcast_S1x128x128_S8x128x128_0_1_2 (broadcastInDim S1x128x128 ![1, 2] bcast_S128x128_S1x128x128_1_2 (select (cmpf (F := Ideal) .oge (subf (broadcastInDim S128x128 ![0, 1] bcast_S128x1_S128x128_0_1 (broadcastInDim S128x1 ![0] bcast_S128_S128x1_0 (sitofp (F := Ideal) .f32 (iotaInDim S128 32 0)))) (broadcastInDim S128x128 ![0, 1] bcast_S1x128_S128x128_0_1 (broadcastInDim S1x128 ![1] bcast_S128_S1x128_1 (sitofp (F := Ideal) .f32 (iotaInDim S128 32 0))))) (broadcastInDim S128x128 ![] bcast_S_S128x128 (constant (F := Ideal) S_ .f32 0x00000000#32))) (subf (broadcastInDim S128x128 ![0, 1] bcast_S128x1_S128x128_0_1 (broadcastInDim S128x1 ![0] bcast_S128_S128x1_0 (sitofp (F := Ideal) .f32 (iotaInDim S128 32 0)))) (broadcastInDim S128x128 ![0, 1] bcast_S1x128_S128x128_0_1 (broadcastInDim S1x128 ![1] bcast_S128_S1x128_1 (sitofp (F := Ideal) .f32 (iotaInDim S128 32 0))))) (broadcastInDim S128x128 ![] bcast_S_S128x128 (constant (F := Ideal) S_ .f32 0x00000000#32))))) (broadcastInDim S8x128x128 ![0, 1, 2] bcast_S8x1x1_S8x128x128_0_1_2 (broadcastInDim S8x1x1 ![0] bcast_S8_S8x1x1_0 L)))) (broadcastInDim S8x128x128 ![] bcast_S_S8x128x128 (constant (F := Ideal) S_ .f32 0x00000000#32))

def xiF (L : FVec Ideal S8 .f32) : FVec Ideal S8x128x1 .f32 :=
  broadcastInDim S8x128x1 ![0, 1] bcast_S8x128_S8x128x1_0_1 (Host.exp (mulf (broadcastInDim S8x128 ![0, 1] bcast_S1x128_S8x128_0_1 (broadcastInDim S1x128 ![1] bcast_S128_S1x128_1 (addf (sitofp (F := Ideal) .f32 (iotaInDim S128 32 0)) (broadcastInDim S128 ![] bcast_S_S128 (constant (F := Ideal) S_ .f32 0x3F800000#32))))) (broadcastInDim S8x128 ![0, 1] bcast_S8x1_S8x128_0_1 (broadcastInDim S8x1 ![0] bcast_S8_S8x1_0 L))))

def zetaF (L : FVec Ideal S8 .f32) : FVec Ideal S8x128x1 .f32 :=
  broadcastInDim S8x128x1 ![0, 1] bcast_S8x128_S8x128x1_0_1 (Host.exp (mulf (broadcastInDim S8x128 ![0, 1] bcast_S1x128_S8x128_0_1 (broadcastInDim S1x128 ![1] bcast_S128_S1x128_1 (subf (broadcastInDim S128 ![] bcast_S_S128 (constant (F := Ideal) S_ .f32 0x42FE0000#32)) (sitofp (F := Ideal) .f32 (iotaInDim S128 32 0))))) (broadcastInDim S8x128 ![0, 1] bcast_S8x1_S8x128_0_1 (broadcastInDim S8x1 ![0] bcast_S8_S8x1_0 L))))

def gF (L : FVec Ideal S8 .f32) : FVec Ideal S8x1x1 .f32 :=
  broadcastInDim S8x1x1 ![0] bcast_S8_S8x1x1_0 (Host.exp (mulf (broadcastInDim S8 ![] bcast_S_S8 (constant (F := Ideal) S_ .f32 0x43000000#32)) L))

/-- The heads of the queries and keys, each twice. -/
def catF (P : FVec Ideal S4352x2048 .f32) : FVec Ideal S4352x16x128 .f32 :=
  concatenate S4352x16x128 1 [⟨S4352x4x128, shapeCast S4352x4x128 (extractStridedSlice S4352x512 ![0, 0] P slices_S4352x2048_S4352x512_0_0) shapeCasts_S4352x512_S4352x4x128⟩, ⟨S4352x4x128, shapeCast S4352x4x128 (extractStridedSlice S4352x512 ![0, 0] P slices_S4352x2048_S4352x512_0_0) shapeCasts_S4352x512_S4352x4x128⟩, ⟨S4352x4x128, shapeCast S4352x4x128 (extractStridedSlice S4352x512 ![0, 512] P slices_S4352x2048_S4352x512_0_512) shapeCasts_S4352x512_S4352x4x128⟩, ⟨S4352x4x128, shapeCast S4352x4x128 (extractStridedSlice S4352x512 ![0, 512] P slices_S4352x2048_S4352x512_0_512) shapeCasts_S4352x512_S4352x4x128⟩] concatenates_S4352x4x128_S4352x4x128_S4352x4x128_S4352x4x128_S4352x16x128_d1

/-- The rotation of half the lanes. -/
def halfF (X : FVec Ideal S4096x16x64 .f32) (a : FVec Ideal S4096x32 .f32) : FVec Ideal S4096x16x64 .f32 :=
  concatenate S4096x16x64 2 [⟨S4096x16x32, subf (mulf (extractStridedSlice S4096x16x32 ![0, 0, 0] X slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.cos a)))) (mulf (extractStridedSlice S4096x16x32 ![0, 0, 32] X slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.sin a))))⟩, ⟨S4096x16x32, addf (mulf (extractStridedSlice S4096x16x32 ![0, 0, 32] X slices_S4096x16x64_S4096x16x32_0_0_32) (broadcastInDim S4096x16x32 ![0, 1, 2] bcast_S4096x1x32_S4096x16x32_0_1_2 (broadcastInDim S4096x1x32 ![0, 2] bcast_S4096x32_S4096x1x32_0_2 (Host.cos a)))) (mulf (extractStridedSlice S4096x16x32 ![0, 0, 0] X slices_S4096x16x64_S4096x16x32_0_0_0) (broadcastInDim S4096x16x32 ![0, 1, 2] bcast_S4096x1x32_S4096x16x32_0_1_2 (broadcastInDim S4096x1x32 ![0, 2] bcast_S4096x32_S4096x1x32_0_2 (Host.sin a))))⟩] concatenates_S4096x16x32_S4096x16x32_S4096x16x64_d2

/-- The rotated heads. -/
def ropeF (T : FVec Ideal S4352x16x128 .f32) (aR aC : FVec Ideal S4096x32 .f32) : FVec Ideal S4352x16x128 .f32 :=
  concatenate S4352x16x128 0 [⟨S256x16x128, extractStridedSlice S256x16x128 ![0, 0, 0] T slices_S4352x16x128_S256x16x128_0_0_0⟩, ⟨S4096x16x128, concatenate S4096x16x128 2 [⟨S4096x16x64, halfF (extractStridedSlice S4096x16x64 ![0, 0, 0] (extractStridedSlice S4096x16x128 ![256, 0, 0] T slices_S4352x16x128_S4096x16x128_256_0_0) slices_S4096x16x128_S4096x16x64_0_0_0) aR⟩, ⟨S4096x16x64, halfF (extractStridedSlice S4096x16x64 ![0, 0, 64] (extractStridedSlice S4096x16x128 ![256, 0, 0] T slices_S4352x16x128_S4096x16x128_256_0_0) slices_S4096x16x128_S4096x16x64_0_0_64) aC⟩] concatenates_S4096x16x64_S4096x16x64_S4096x16x128_d2⟩] concatenates_S256x16x128_S4096x16x128_S4352x16x128_d0

/-- The chunks of the queries. -/
def chQ (T : FVec Ideal S4352x16x128 .f32) : FVec Ideal S34x8x128x128 .f32 :=
  mulf (concatenate S34x8x128x128 1 [⟨S34x4x128x128, transpose S34x4x128x128 [0, 2, 1, 3] (shapeCast S34x128x4x128 (extractStridedSlice S4352x4x128 ![0, 0, 0] T slices_S4352x16x128_S4352x4x128_0_0_0) shapeCasts_S4352x4x128_S34x128x4x128) transposes_S34x128x4x128_S34x4x128x128_0_2_1_3⟩, ⟨S34x4x128x128, transpose S34x4x128x128 [0, 2, 1, 3] (shapeCast S34x128x4x128 (concatenate S4352x4x128 0 [⟨S256x4x128, Host.reverse [0] (extractStridedSlice S256x4x128 ![0, 0, 0] (extractStridedSlice S4352x4x128 ![0, 4, 0] T slices_S4352x16x128_S4352x4x128_0_4_0) slices_S4352x4x128_S256x4x128_0_0_0)⟩, ⟨S4096x4x128, Host.reverse [0] (extractStridedSlice S4096x4x128 ![256, 0, 0] (extractStridedSlice S4352x4x128 ![0, 4, 0] T slices_S4352x16x128_S4352x4x128_0_4_0) slices_S4352x4x128_S4096x4x128_256_0_0)⟩] concatenates_S256x4x128_S4096x4x128_S4352x4x128_d0) shapeCasts_S4352x4x128_S34x128x4x128) transposes_S34x128x4x128_S34x4x128x128_0_2_1_3⟩] concatenates_S34x4x128x128_S34x4x128x128_S34x8x128x128_d1) (broadcastInDim S34x8x128x128 ![] bcast_S_S34x8x128x128 (constant (F := Ideal) S_ .f32 0x3DB504F3#32))

def chK (T : FVec Ideal S4352x16x128 .f32) : FVec Ideal S34x8x128x128 .f32 :=
  concatenate S34x8x128x128 1 [⟨S34x4x128x128, transpose S34x4x128x128 [0, 2, 1, 3] (shapeCast S34x128x4x128 (extractStridedSlice S4352x4x128 ![0, 8, 0] T slices_S4352x16x128_S4352x4x128_0_8_0) shapeCasts_S4352x4x128_S34x128x4x128) transposes_S34x128x4x128_S34x4x128x128_0_2_1_3⟩, ⟨S34x4x128x128, transpose S34x4x128x128 [0, 2, 1, 3] (shapeCast S34x128x4x128 (concatenate S4352x4x128 0 [⟨S256x4x128, Host.reverse [0] (extractStridedSlice S256x4x128 ![0, 0, 0] (extractStridedSlice S4352x4x128 ![0, 12, 0] T slices_S4352x16x128_S4352x4x128_0_12_0) slices_S4352x4x128_S256x4x128_0_0_0)⟩, ⟨S4096x4x128, Host.reverse [0] (extractStridedSlice S4096x4x128 ![256, 0, 0] (extractStridedSlice S4352x4x128 ![0, 12, 0] T slices_S4352x16x128_S4352x4x128_0_12_0) slices_S4352x4x128_S4096x4x128_256_0_0)⟩] concatenates_S256x4x128_S4096x4x128_S4352x4x128_d0) shapeCasts_S4352x4x128_S34x128x4x128) transposes_S34x128x4x128_S34x4x128x128_0_2_1_3⟩] concatenates_S34x4x128x128_S34x4x128x128_S34x8x128x128_d1

/-- The chunks of an array of values. -/
def chV (X : FVec Ideal S4352x1024 .f32) : FVec Ideal S34x8x128x256 .f32 :=
  concatenate S34x8x128x256 1 [⟨S34x4x128x256, transpose S34x4x128x256 [0, 2, 1, 3] (shapeCast S34x128x4x256 (shapeCast S4352x4x256 X shapeCasts_S4352x1024_S4352x4x256) shapeCasts_S4352x4x256_S34x128x4x256) transposes_S34x128x4x256_S34x4x128x256_0_2_1_3⟩, ⟨S34x4x128x256, transpose S34x4x128x256 [0, 2, 1, 3] (shapeCast S34x128x4x256 (concatenate S4352x4x256 0 [⟨S256x4x256, Host.reverse [0] (extractStridedSlice S256x4x256 ![0, 0, 0] (shapeCast S4352x4x256 X shapeCasts_S4352x1024_S4352x4x256) slices_S4352x4x256_S256x4x256_0_0_0)⟩, ⟨S4096x4x256, Host.reverse [0] (extractStridedSlice S4096x4x256 ![256, 0, 0] (shapeCast S4352x4x256 X shapeCasts_S4352x1024_S4352x4x256) slices_S4352x4x256_S4096x4x256_256_0_0)⟩] concatenates_S256x4x256_S4096x4x256_S4352x4x256_d0) shapeCasts_S4352x4x256_S34x128x4x256) transposes_S34x128x4x256_S34x4x128x256_0_2_1_3⟩] concatenates_S34x4x128x256_S34x4x128x256_S34x8x128x256_d1

/-- The states by chunk. -/
def chS (X : FVec Ideal S2x4x34x128x256 .f32) : FVec Ideal S34x8x128x256 .f32 :=
  transpose S34x8x128x256 [1, 0, 2, 3] (shapeCast S8x34x128x256 X shapeCasts_S2x4x34x128x256_S8x34x128x256) transposes_S8x34x128x256_S34x8x128x256_1_0_2_3

end Cert.ReferenceIdeal.RVal
-- ==== Proof.RefInAt.lean ====
module

public import proofs.«01_k».proof.Proof.RefIn
public import proofs.«01_k».proof.Proof.RefOut
public import proofs.«01_k».proof.Proof.Rope
public import Idealize.ShloMosaic.Lib.IdealHost

@[expose] public section

set_option maxRecDepth 16384
set_option maxHeartbeats 400000

noncomputable section

/-! What the reference's loop starts from, at an index. -/
namespace Cert.ReferenceIdeal.RVal

open Idealize.ShloMosaic Idealize.ShloMosaic.TcCoe
open Cert.ReferenceIdeal Cert.ReferenceIdeal.Gen Cert.ReferenceIdeal.Value Cert.Ret

theorem halfF_lo (X : FVec Ideal S4096x16x64 .f32) (a : FVec Ideal S4096x32 .f32) (t : Fin 4096) (h : Fin 16) (n : Fin 32) :
    halfF X a (ix3 t h ⟨n.val, by omega⟩) = X (ix3 t h ⟨n.val, by omega⟩) * Ideal.cos (a (ix2 t n)) - X (ix3 t h ⟨32 + n.val, by omega⟩) * Ideal.sin (a (ix2 t n)) := by
  unfold halfF
  pointwise
theorem halfF_hi (X : FVec Ideal S4096x16x64 .f32) (a : FVec Ideal S4096x32 .f32) (t : Fin 4096) (h : Fin 16) (n : Fin 32) :
    halfF X a (ix3 t h ⟨32 + n.val, by omega⟩) = X (ix3 t h ⟨32 + n.val, by omega⟩) * Ideal.cos (a (ix2 t n)) + X (ix3 t h ⟨n.val, by omega⟩) * Ideal.sin (a (ix2 t n)) := by
  unfold halfF
  pointwise

section Rope
variable (T : FVec Ideal S4352x16x128 .f32) (aR aC : FVec Ideal S4096x32 .f32) (t : Fin 4096) (h : Fin 16)

theorem ropeF_ctx (r : Fin 4352) (hr : r.val < 256) (c : Fin 128) : ropeF T aR aC (ix3 r h c) = T (ix3 r h c) := by
  unfold ropeF
  pointwise
  exact dif_pos hr
theorem ropeF_lo (l : Fin 64) : ropeF T aR aC (ix3 ⟨256 + t.val, by omega⟩ h ⟨l.val, by omega⟩) =
    halfF (extractStridedSlice S4096x16x64 ![0, 0, 0] (extractStridedSlice S4096x16x128 ![256, 0, 0] T slices_S4352x16x128_S4096x16x128_256_0_0) slices_S4096x16x128_S4096x16x64_0_0_0) aR (ix3 t h l) := by
  unfold ropeF
  pointwise
theorem ropeF_hi (l : Fin 64) : ropeF T aR aC (ix3 ⟨256 + t.val, by omega⟩ h ⟨64 + l.val, by omega⟩) =
    halfF (extractStridedSlice S4096x16x64 ![0, 0, 64] (extractStridedSlice S4096x16x128 ![256, 0, 0] T slices_S4352x16x128_S4096x16x128_256_0_0) slices_S4096x16x128_S4096x16x64_0_0_64) aC (ix3 t h l) := by
  unfold ropeF
  pointwise
end Rope

theorem ropeF_lat (t : Fin 4096) (h : Fin 16) (hr : ¬256 + t.val < 256) (T : FVec Ideal S4352x16x128 .f32) (c : Fin 128) : ropeF T angR angC (ix3 ⟨256 + t.val, by omega⟩ h c) =
    rot (coT ⟨256 + t.val, by omega⟩) (siT ⟨256 + t.val, by omega⟩) (fun l => T (ix3 ⟨256 + t.val, by omega⟩ h l)) c := by
  have et : 256 + t.val - 256 = t.val := by omega
  unfold rot
  revert c
  refine lane_cases _ (fun n => ?_) (fun n => ?_) (fun n => ?_) (fun n => ?_)
  · rw [mate0 n, coT_lat ⟨256 + t.val, _⟩ hr ⟨n.val, _⟩, siT_neg ⟨256 + t.val, _⟩ hr ⟨n.val, _⟩ (by show n.val % 64 < 32; omega), ang0 (256 + t.val - 256) n]
    refine (ropeF_lo T angR angC t h ⟨n.val, by omega⟩).trans ((halfF_lo _ angR t h n).trans ?_)
    rw [lo_at, lo_at, angR_at t n, et, mul_neg, sub_eq_add_neg]
  · rw [mate1 n, coT_lat ⟨256 + t.val, _⟩ hr ⟨32 + n.val, _⟩, siT_pos ⟨256 + t.val, _⟩ hr ⟨32 + n.val, _⟩ (by show ¬(32 + n.val) % 64 < 32; omega), ang1 (256 + t.val - 256) n]
    refine (ropeF_lo T angR angC t h ⟨32 + n.val, by omega⟩).trans ((halfF_hi _ angR t h n).trans ?_)
    rw [lo_at, lo_at, angR_at t n, et]
  · have e : (⟨96 + n.val, by omega⟩ : Fin 128) = ⟨64 + (32 + n.val), by omega⟩ := Fin.ext (show 96 + n.val = 64 + (32 + n.val) by omega)
    rw [mate2 n, coT_lat ⟨256 + t.val, _⟩ hr ⟨64 + n.val, _⟩, siT_neg ⟨256 + t.val, _⟩ hr ⟨64 + n.val, _⟩ (by show (64 + n.val) % 64 < 32; omega), ang2 (256 + t.val - 256) n, e]
    refine (ropeF_hi T angR angC t h ⟨n.val, by omega⟩).trans ((halfF_lo _ angC t h n).trans ?_)
    rw [hi_at, hi_at, angC_at t n, et, mul_neg, sub_eq_add_neg]
  · have e : (⟨96 + n.val, by omega⟩ : Fin 128) = ⟨64 + (32 + n.val), by omega⟩ := Fin.ext (show 96 + n.val = 64 + (32 + n.val) by omega)
    rw [mate3 n, coT_lat ⟨256 + t.val, _⟩ hr ⟨96 + n.val, _⟩, siT_pos ⟨256 + t.val, _⟩ hr ⟨96 + n.val, _⟩ (by show ¬(96 + n.val) % 64 < 32; omega), ang3 (256 + t.val - 256) n, e]
    refine (ropeF_hi T angR angC t h ⟨32 + n.val, by omega⟩).trans ((halfF_hi _ angC t h n).trans ?_)
    rw [hi_at, hi_at, angC_at t n, et]

theorem ropeF_at (T : FVec Ideal S4352x16x128 .f32) (r : Fin 4352) (h : Fin 16) (c : Fin 128) :
    ropeF T angR angC (ix3 r h c) = rot (coT r) (siT r) (fun l => T (ix3 r h l)) c := by
  by_cases hr : r.val < 256
  · exact (ropeF_ctx T angR angC h r hr c).trans (rot_ctx r hr (fun l => T (ix3 r h l)) c).symm
  have e : r = ⟨256 + (r.val - 256), by omega⟩ := Fin.ext (show r.val = 256 + (r.val - 256) by omega)
  rw [e]
  exact ropeF_lat ⟨r.val - 256, by omega⟩ h (show ¬256 + (r.val - 256) < 256 by omega) T c

section Cat
variable (P : FVec Ideal S4352x2048 .f32) (r : Fin 4352) (h : Fin 4) (l : Fin 128)

theorem cat0 : catF P (ix3 r ⟨h.val, by omega⟩ l) = P (ix2 r (qcol h l)) := by
  unfold catF
  pointwise
  exact congrArg (fun z => P (ix2 r z)) (Fin.ext (show h.val * 128 + l.val = 128 * h.val + l.val by omega))
theorem cat4 : catF P (ix3 r ⟨4 + h.val, by omega⟩ l) = P (ix2 r (qcol h l)) := by
  unfold catF
  pointwise
  exact congrArg (fun z => P (ix2 r z)) (Fin.ext (show h.val * 128 + l.val = 128 * h.val + l.val by omega))
theorem cat8 : catF P (ix3 r ⟨8 + h.val, by omega⟩ l) = P (ix2 r (kcol h l)) := by
  unfold catF
  pointwise
  simp (disch := omega) only [dif_pos, dif_neg]
  exact congrArg (fun z => P (ix2 r z)) (Fin.ext (show 512 + ((8 + h.val - 4 - 4) * 128 + l.val) = 512 + (128 * h.val + l.val) by omega))
theorem cat12 : catF P (ix3 r ⟨12 + h.val, by omega⟩ l) = P (ix2 r (kcol h l)) := by
  unfold catF
  pointwise
  simp (disch := omega) only [dif_pos, dif_neg]
  exact congrArg (fun z => P (ix2 r z)) (Fin.ext (show 512 + ((12 + h.val - 4 - 4 - 4) * 128 + l.val) = 512 + (128 * h.val + l.val) by omega))
end Cat

section Chunks
variable (n : Fin 34) (h : Fin 4) (i l : Fin 128) (u : Fin 256)

theorem row0 : (row 0 (33 - n.val) i).val = n.val * 128 + i.val := by
  unfold row; rw [rowOf_val _ _ (by omega)]
  show (33 - (33 - n.val)) * 128 + i.val = _
  omega
theorem row1 : (row 1 (33 - n.val) i).val = if n.val < 2 then 255 - (n.val * 128 + i.val) else 4607 - (n.val * 128 + i.val) := by
  unfold row; rw [rowOf_val _ _ (by omega)]
  show blk 1 (33 - n.val) * 128 + (Fin.rev i).val = _
  rw [Fin.val_rev]
  unfold blk; rw [if_neg (by decide)]
  split <;> split <;> omega

theorem chS_lo (X : FVec Ideal S2x4x34x128x256 .f32) : chS X (ix4 n (lo h) l u) = X (ix5 0 h n l u) := by
  unfold chS lo
  pointwise
  rw [show (⟨h.val / 4, by omega⟩ : Fin 2) = 0 from Fin.ext (show h.val / 4 = 0 by omega), show (⟨h.val % 4, by omega⟩ : Fin 4) = h from Fin.ext (show h.val % 4 = h.val by omega)]
theorem chS_hi (X : FVec Ideal S2x4x34x128x256 .f32) : chS X (ix4 n (hi h) l u) = X (ix5 1 h n l u) := by
  unfold chS hi
  pointwise
  rw [show (⟨(4 + h.val) / 4, by omega⟩ : Fin 2) = 1 from Fin.ext (show (4 + h.val) / 4 = 1 by omega)]

theorem ix3_row {a b : ℕ} {r r' : Fin a} (e : r.val = r'.val) (x : Fin b) {k : ℕ} (y : Fin k) : ix3 r x y = ix3 r' x y := by rw [Fin.ext e]

variable (T : FVec Ideal S4352x16x128 .f32)
theorem chQ_lo : chQ T (ix4 n (lo h) i l) = T (ix3 (row 0 (33 - n.val) i) ⟨h.val, by omega⟩ l) * scl := by
  unfold chQ lo
  pointwise
  exact congrArg (fun z => T z * scl) (ix3_row (row0 n i).symm _ l)
theorem chK_lo : chK T (ix4 n (lo h) i l) = T (ix3 (row 0 (33 - n.val) i) ⟨8 + h.val, by omega⟩ l) := by
  unfold chK lo
  pointwise
  exact congrArg T (ix3_row (row0 n i).symm _ l)
theorem chQ_hi : chQ T (ix4 n (hi h) i l) = T (ix3 (row 1 (33 - n.val) i) ⟨4 + h.val, by omega⟩ l) * scl := by
  unfold chQ hi
  pointwise
  have e := row1 n i
  by_cases hn : n.val < 2
  · rw [if_pos hn] at e
    simp (disch := omega) only [dif_pos, dif_neg, List.mem_singleton, reduceIte, Fin.isValue, Fin.reduceEq, one_ne_zero, OfNat.ofNat_ne_zero]
    refine congrArg (fun z => T z * scl) (ix3_row (Eq.trans ?_ e.symm) _ l)
    simp only [Fin.val_rev]; omega
  · rw [if_neg hn] at e
    simp (disch := omega) only [dif_pos, dif_neg, List.mem_singleton, reduceIte, Fin.isValue, Fin.reduceEq, one_ne_zero, OfNat.ofNat_ne_zero]
    refine congrArg (fun z => T z * scl) (ix3_row (Eq.trans ?_ e.symm) _ l)
    simp only [Fin.val_rev]; omega
theorem chK_hi : chK T (ix4 n (hi h) i l) = T (ix3 (row 1 (33 - n.val) i) ⟨12 + h.val, by omega⟩ l) := by
  unfold chK hi
  pointwise
  have e := row1 n i
  by_cases hn : n.val < 2
  · rw [if_pos hn] at e
    simp (disch := omega) only [dif_pos, dif_neg, List.mem_singleton, reduceIte, Fin.isValue, Fin.reduceEq, one_ne_zero, OfNat.ofNat_ne_zero]
    refine congrArg T (ix3_row (Eq.trans ?_ e.symm) _ l)
    simp only [Fin.val_rev]; omega
  · rw [if_neg hn] at e
    simp (disch := omega) only [dif_pos, dif_neg, List.mem_singleton, reduceIte, Fin.isValue, Fin.reduceEq, one_ne_zero, OfNat.ofNat_ne_zero]
    refine congrArg T (ix3_row (Eq.trans ?_ e.symm) _ l)
    simp only [Fin.val_rev]; omega

theorem ix2_congr {a b : ℕ} {r r' : Fin a} {c c' : Fin b} (e : r.val = r'.val) (f : c.val = c'.val) : ix2 r c = ix2 r' c' := by rw [Fin.ext e, Fin.ext f]

variable (X : FVec Ideal S4352x1024 .f32)
theorem chV_lo : chV X (ix4 n (lo h) i u) = X (ix2 (row 0 (33 - n.val) i) (wcol h u)) := by
  unfold chV lo
  pointwise
  exact congrArg X (ix2_congr (row0 n i).symm (show h.val * 256 + u.val = 256 * h.val + u.val by omega))
theorem chV_hi : chV X (ix4 n (hi h) i u) = X (ix2 (row 1 (33 - n.val) i) (wcol h u)) := by
  unfold chV hi
  pointwise
  have e := row1 n i
  by_cases hn : n.val < 2
  · rw [if_pos hn] at e
    simp (disch := omega) only [dif_pos, dif_neg, List.mem_singleton, reduceIte, Fin.isValue, Fin.reduceEq, one_ne_zero, OfNat.ofNat_ne_zero]
    refine congrArg X (ix2_congr (Eq.trans ?_ e.symm) (show h.val * 256 + u.val = 256 * h.val + u.val by omega))
    simp only [Fin.val_rev]; omega
  · rw [if_neg hn] at e
    simp (disch := omega) only [dif_pos, dif_neg, List.mem_singleton, reduceIte, Fin.isValue, Fin.reduceEq, one_ne_zero, OfNat.ofNat_ne_zero]
    refine congrArg X (ix2_congr (Eq.trans ?_ e.symm) (show h.val * 256 + u.val = 256 * h.val + u.val by omega))
    simp only [Fin.val_rev]; omega
theorem val_at (P : FVec Ideal S4352x2048 .f32) (r : Fin 4352) :
    extractStridedSlice S4352x1024 ![0, 1024] P slices_S4352x2048_S4352x1024_0_1024 (ix2 r (wcol h u)) = P (ix2 r (vcol h u)) := by
  unfold wcol vcol
  pointwise
end Chunks

theorem absf_neg (x : EReal) : FloatOps.absf (F := Ideal) (φ := .f32) (-x) = FloatOps.absf (F := Ideal) (φ := .f32) x := by
  show max (-x) (- -x) = max x (-x)
  rw [neg_neg, max_comm]
theorem lg_aux (x : EReal) : (-if -x ≠ -x then -x else max (-x) 0 + Ideal.log1p (Ideal.exp (-FloatOps.absf (F := Ideal) (φ := .f32) (-x)))) = lgE x := by
  rw [if_neg (not_not.mpr rfl), absf_neg]
  unfold lgE
  rw [zero_sub, zero_sub, zero_sub]
theorem lg_at (X : FVec Ideal S2x4 .f32) (h : Fin 4) : lgF X (ix1 (lo h)) = lgE (X (ix2 0 h)) := by
  unfold lgF lo
  pointwise
  rw [show (⟨h.val / 4, by omega⟩ : Fin 2) = 0 from Fin.ext (show h.val / 4 = 0 by omega), show (⟨h.val % 4, by omega⟩ : Fin 4) = h from Fin.ext (show h.val % 4 = h.val by omega)]
  exact lg_aux _
theorem lg_at1 (X : FVec Ideal S2x4 .f32) (h : Fin 4) : lgF X (ix1 (hi h)) = lgE (X (ix2 1 h)) := by
  unfold lgF hi
  pointwise
  rw [show (⟨(4 + h.val) / 4, by omega⟩ : Fin 2) = 1 from Fin.ext (show (4 + h.val) / 4 = 1 by omega)]
  exact lg_aux _

theorem lit127 : Ideal.ofBits .f32 0x42FE0000#32 = ((127 : ℝ) : EReal) := by
  simp [Ideal.ofBits, Ideal.ieee, -EReal.coe_mul]; norm_num
theorem lit128 : Ideal.ofBits .f32 0x43000000#32 = ((128 : ℝ) : EReal) := by
  simp [Ideal.ofBits, Ideal.ieee, -EReal.coe_mul]; norm_num
theorem one_coe : (1 : EReal) = ((1 : ℝ) : EReal) := rfl

section Decay
variable (L : FVec Ideal S8 .f32) (h : Fin 8) (i j : Fin 128)
theorem dec_at : decF L (ix3 h i j) = dec (L (ix1 h)) i j := by
  unfold decF
  pointwise
  rw [sitofp_ofNat _ (by omega), sitofp_ofNat _ (by omega), ← EReal.coe_sub]
  unfold dec
  have e : (0 : EReal) ≤ (((((i : ℕ) : ℝ) - ((j : ℕ) : ℝ) : ℝ)) : EReal) ↔ j ≤ i := by
    rw [EReal.coe_nonneg, sub_nonneg, Nat.cast_le]; rfl
  simp only [e]
  split <;> rfl
theorem xi_at (z : Fin 1) : xiF L (ix3 h i z) = xiE (L (ix1 h)) i := by
  unfold xiF xiE
  pointwise
  rw [sitofp_ofNat _ (by omega), one_coe, ← EReal.coe_add]
theorem zeta_at (z : Fin 1) : zetaF L (ix3 h i z) = zetaE (L (ix1 h)) i := by
  unfold zetaF zetaE
  pointwise
  rw [sitofp_ofNat _ (by omega), lit127, ← EReal.coe_sub]
theorem g_at (y z : Fin 1) : gF L (ix3 h y z) = gE (L (ix1 h)) := by
  unfold gF gE
  pointwise
  rw [lit128]
end Decay

/-- The reference's arrays. -/
def refArr (P : FVec Ideal S4352x2048 .f32) (D : FVec Ideal S2x4 .f32) (S : FVec Ideal S2x4x34x128x256 .f32) (W : FVec Ideal S4352x1024 .f32) : Arr where
  p r x := P (ix2 r x)
  x d h := D (ix2 d h)
  s d h n l u := S (ix5 d h n l u)
  w r x := W (ix2 r x)
  co := coT
  si := siT

/-- Head `h` of direction `d` among the eight. -/
def h8 (d : Fin 2) (h : Fin 4) : Fin 8 := if d = 0 then lo h else hi h

section Arrs
variable (P : FVec Ideal S4352x2048 .f32) (D : FVec Ideal S2x4 .f32) (S : FVec Ideal S2x4x34x128x256 .f32) (W : FVec Ideal S4352x1024 .f32)
variable (d : Fin 2) (h : Fin 4) (n : Fin 34) (i l : Fin 128) (u : Fin 256)

theorem dir_cases (Q : Fin 2 → Prop) (h0 : Q 0) (h1 : Q 1) (d : Fin 2) : Q d := by
  rcases d with ⟨_ | _ | k, hk⟩
  · exact h0
  · exact h1
  · omega

theorem in_q : chQ (ropeF (catF P) angR angC) (ix4 n (h8 d h) i l) = (refArr P D S W).q d h (33 - n.val) i l := by
  revert d
  refine dir_cases _ ?_ ?_
  · refine (chQ_lo n h i l _).trans (congrArg (fun z => z * scl) ((ropeF_at _ _ _ l).trans ?_))
    exact congrArg (fun f => rot _ _ f l) (funext fun c => cat0 P _ h c)
  · refine (chQ_hi n h i l _).trans (congrArg (fun z => z * scl) ((ropeF_at _ _ _ l).trans ?_))
    exact congrArg (fun f => rot _ _ f l) (funext fun c => cat4 P _ h c)
theorem in_k : chK (ropeF (catF P) angR angC) (ix4 n (h8 d h) i l) = (refArr P D S W).k d h (33 - n.val) i l := by
  revert d
  refine dir_cases _ ?_ ?_
  · refine (chK_lo n h i l _).trans ((ropeF_at _ _ _ l).trans ?_)
    exact congrArg (fun f => rot _ _ f l) (funext fun c => cat8 P _ h c)
  · refine (chK_hi n h i l _).trans ((ropeF_at _ _ _ l).trans ?_)
    exact congrArg (fun f => rot _ _ f l) (funext fun c => cat12 P _ h c)
theorem in_v : chV (extractStridedSlice S4352x1024 ![0, 1024] P slices_S4352x2048_S4352x1024_0_1024) (ix4 n (h8 d h) i u) = (refArr P D S W).v d h (33 - n.val) i u := by
  revert d
  refine dir_cases _ ?_ ?_
  · exact (chV_lo n h i u _).trans (val_at h u P _)
  · exact (chV_hi n h i u _).trans (val_at h u P _)
theorem in_ct : chV W (ix4 n (h8 d h) i u) = (refArr P D S W).ct d h (33 - n.val) i u := by
  revert d
  refine dir_cases _ ?_ ?_
  · exact chV_lo n h i u _
  · exact chV_hi n h i u _
theorem in_st : chS S (ix4 n (h8 d h) l u) = (refArr P D S W).st d h (33 - n.val) l u := by
  have e : Fin.ofNat 34 (33 - (33 - n.val)) = n := Fin.ext (show (33 - (33 - n.val)) % 34 = n.val by omega)
  unfold Arr.st; rw [e]
  revert d
  refine dir_cases _ ?_ ?_
  · exact chS_lo n h l u S
  · exact chS_hi n h l u S
theorem in_lg : lgF D (ix1 (h8 d h)) = (refArr P D S W).lg d h := by
  revert d
  refine dir_cases _ ?_ ?_
  · exact lg_at D h
  · exact lg_at1 D h
end Arrs

end Cert.ReferenceIdeal.RVal
-- ==== Proof.RefStep.lean ====
module

public import proofs.«01_k».proof.Proof.RefInAt
public import Idealize.ShloMosaic.Lib.WordCmp

@[expose] public section

set_option maxRecDepth 16384
set_option maxHeartbeats 400000

noncomputable section

/-! One trip of the reference's loop. -/
namespace Cert.ReferenceIdeal.RVal

open Idealize.ShloMosaic Idealize.ShloMosaic.TcCoe
open Cert.ReferenceIdeal Cert.ReferenceIdeal.Gen Cert.ReferenceIdeal.Value Cert.Ret

section Defs
variable (S V W : FVec Ideal S34x8x128x256 .f32) (Q K : FVec Ideal S34x8x128x128 .f32) (D : FVec Ideal S8x128x128 .f32)
variable (X Z : FVec Ideal S8x128x1 .f32) (G : FVec Ideal S8x1x1 .f32) (E : FVec Ideal S8x128x256 .f32) (st : Fin 4 → Int)

/-- The chunk of a trip. -/
def cut : FVec Ideal S8x128x128 .f32 := shapeCast S8x128x128 (Host.dynamicSlice S1x8x128x128 Q st sliceFits_S34x8x128x128_S1x8x128x128) shapeCasts_S1x8x128x128_S8x128x128
def cutv : FVec Ideal S8x128x256 .f32 := shapeCast S8x128x256 (Host.dynamicSlice S1x8x128x256 S st sliceFits_S34x8x128x256_S1x8x128x256) shapeCasts_S1x8x128x256_S8x128x256
/-- The scores, the decayed keys, the decayed cotangent and the scores' cotangent. -/
def sc : FVec Ideal S8x128x128 .f32 := mulf (Host.dotGeneral dot_S8x128x128_S8x128x128_S8x128x128_2_2_1_1_0_0 none (cut Q st) (cut K st)) D
def kz : FVec Ideal S8x128x128 .f32 := mulf (cut K st) (broadcastInDim S8x128x128 ![0, 1, 2] bcast_S8x128x1_S8x128x128_0_1_2 Z)
def wx : FVec Ideal S8x128x256 .f32 := mulf (cutv W st) (broadcastInDim S8x128x256 ![0, 1, 2] bcast_S8x128x1_S8x128x256_0_1_2 X)
def sd : FVec Ideal S8x128x128 .f32 := mulf (Host.dotGeneral dot_S8x128x256_S8x128x256_S8x128x128_2_2_1_1_0_0 none (cutv W st) (cutv V st)) D
/-- The gradients of a chunk. -/
def newQ : FVec Ideal S8x128x128 .f32 := addf (Host.dotGeneral dot_S8x128x256_S8x128x256_S8x128x128_2_2_1_1_0_0 none (wx W X st) (cutv S st)) (Host.dotGeneral dot_S8x128x128_S8x128x128_S8x128x128_2_1_1_2_0_0 none (sd V W D st) (cut K st))
def newK : FVec Ideal S8x128x128 .f32 := addf (mulf (transpose S8x128x128 [0, 2, 1] (Host.dotGeneral dot_S8x128x256_S8x128x256_S8x128x128_2_2_1_1_0_0 none E (cutv V st)) transposes_S8x128x128_S8x128x128_0_2_1) (broadcastInDim S8x128x128 ![0, 1, 2] bcast_S8x128x1_S8x128x128_0_1_2 Z)) (Host.dotGeneral dot_S8x128x128_S8x128x128_S8x128x128_1_1_2_2_0_0 none (sd V W D st) (cut Q st))
def newV : FVec Ideal S8x128x256 .f32 := addf (transpose S8x128x256 [0, 2, 1] (Host.dotGeneral dot_S8x128x256_S8x128x128_S8x256x128_1_2_2_1_0_0 none E (kz K Z st)) transposes_S8x256x128_S8x128x256_0_2_1) (transpose S8x128x256 [0, 2, 1] (Host.dotGeneral dot_S8x128x256_S8x128x128_S8x256x128_1_1_2_2_0_0 none (cutv W st) (sc Q K D st)) transposes_S8x256x128_S8x128x256_0_2_1)
def newS : FVec Ideal S8x128x256 .f32 := addf (mulf E (broadcastInDim S8x128x256 ![0, 1, 2] bcast_S8x1x1_S8x128x256_0_1_2 G)) (transpose S8x128x256 [0, 2, 1] (Host.dotGeneral dot_S8x128x256_S8x128x128_S8x256x128_1_1_2_2_0_0 none (wx W X st) (cut Q st)) transposes_S8x256x128_S8x128x256_0_2_1)
def put (A : FVec Ideal S34x8x128x128 .f32) (N : FVec Ideal S8x128x128 .f32) : FVec Ideal S34x8x128x128 .f32 :=
  Host.dynamicUpdateSlice A (broadcastInDim S1x8x128x128 ![1, 2, 3] bcast_S8x128x128_S1x8x128x128_1_2_3 N) st updateFits_S34x8x128x128_S1x8x128x128
def putv (A : FVec Ideal S34x8x128x256 .f32) (N : FVec Ideal S8x128x256 .f32) : FVec Ideal S34x8x128x256 .f32 :=
  Host.dynamicUpdateSlice A (broadcastInDim S1x8x128x256 ![1, 2, 3] bcast_S8x128x256_S1x8x128x256_1_2_3 N) st updateFits_S34x8x128x256_S1x8x128x256
end Defs

/-- Where a trip's chunk lies. -/
def start (V0 : Valuation τ sig (Elt Ideal)) : Fin 4 → Int :=
  fun k => (((![res_main_while0b_v298 V0, constantI S_ 32 0#32, constantI S_ 32 0#32, constantI S_ 32 0#32] : Fin 4 → (⟨S_, .i32⟩ : BufTy).Contents (Elt Ideal))) k (Shape.Idx.first h_S_)).toInt

section Steps
variable (V0 : Valuation τ sig (Elt Ideal))
theorem r299 : res_main_while0b_v299 V0 = cutv (V0 (Proc.devRef .tc main_v166_0)) (start V0) := rfl
theorem r300 : res_main_while0b_v300 V0 = cut (V0 (Proc.devRef .tc main_v166_1)) (start V0) := rfl
theorem r301 : res_main_while0b_v301 V0 = cut (V0 (Proc.devRef .tc main_v166_2)) (start V0) := rfl
theorem r302 : res_main_while0b_v302 V0 = cutv (V0 (Proc.devRef .tc main_v166_3)) (start V0) := rfl
theorem r303 : res_main_while0b_v303 V0 = cutv (V0 (Proc.devRef .tc main_v166_4)) (start V0) := rfl
theorem r305 : res_main_while0b_v305 V0 = sc (V0 (Proc.devRef .tc main_v166_1)) (V0 (Proc.devRef .tc main_v166_2)) (V0 (Proc.devRef .tc main_v166_5)) (start V0) := rfl
theorem r314 : res_main_while0b_v314 V0 = kz (V0 (Proc.devRef .tc main_v166_2)) (V0 (Proc.devRef .tc main_v166_8)) (start V0) := rfl
theorem r326 : res_main_while0b_v326 V0 = wx (V0 (Proc.devRef .tc main_v166_4)) (V0 (Proc.devRef .tc main_v166_6)) (start V0) := rfl
theorem r335 : res_main_while0b_v335 V0 = sd (V0 (Proc.devRef .tc main_v166_3)) (V0 (Proc.devRef .tc main_v166_4)) (V0 (Proc.devRef .tc main_v166_5)) (start V0) := rfl
theorem step10 : step_main_v166_10 V0 = newS (V0 (Proc.devRef .tc main_v166_4)) (V0 (Proc.devRef .tc main_v166_1)) (V0 (Proc.devRef .tc main_v166_6)) (V0 (Proc.devRef .tc main_v166_7)) (V0 (Proc.devRef .tc main_v166_10)) (start V0) := by
  unfold step_main_v166_10 newS
  rw [r326 V0, r300 V0]
  rfl
theorem step11 : step_main_v166_11 V0 = put (start V0) (V0 (Proc.devRef .tc main_v166_11)) (newQ (V0 (Proc.devRef .tc main_v166_0)) (V0 (Proc.devRef .tc main_v166_3)) (V0 (Proc.devRef .tc main_v166_4)) (V0 (Proc.devRef .tc main_v166_2)) (V0 (Proc.devRef .tc main_v166_5)) (V0 (Proc.devRef .tc main_v166_6)) (start V0)) := by
  unfold step_main_v166_11 put newQ
  rw [r326 V0, r299 V0, r335 V0, r301 V0]
  rfl
theorem step12 : step_main_v166_12 V0 = put (start V0) (V0 (Proc.devRef .tc main_v166_12)) (newK (V0 (Proc.devRef .tc main_v166_3)) (V0 (Proc.devRef .tc main_v166_4)) (V0 (Proc.devRef .tc main_v166_1)) (V0 (Proc.devRef .tc main_v166_5)) (V0 (Proc.devRef .tc main_v166_8)) (V0 (Proc.devRef .tc main_v166_10)) (start V0)) := by
  unfold step_main_v166_12 put newK
  rw [r302 V0, r335 V0, r300 V0]
  rfl
theorem step13 : step_main_v166_13 V0 = putv (start V0) (V0 (Proc.devRef .tc main_v166_13)) (newV (V0 (Proc.devRef .tc main_v166_4)) (V0 (Proc.devRef .tc main_v166_1)) (V0 (Proc.devRef .tc main_v166_2)) (V0 (Proc.devRef .tc main_v166_5)) (V0 (Proc.devRef .tc main_v166_8)) (V0 (Proc.devRef .tc main_v166_10)) (start V0)) := by
  unfold step_main_v166_13 putv newV
  rw [r314 V0, r303 V0, r305 V0]
  rfl
end Steps

section At
variable (n : Fin 34) (st : Fin 4 → Int) (e : ∀ a, st a = (((![n.val, 0, 0, 0] : Fin 4 → ℕ) a : ℕ) : Int))
variable (S V W : FVec Ideal S34x8x128x256 .f32) (Q K : FVec Ideal S34x8x128x128 .f32) (D : FVec Ideal S8x128x128 .f32)
variable (X Z : FVec Ideal S8x128x1 .f32) (G : FVec Ideal S8x1x1 .f32) (E : FVec Ideal S8x128x256 .f32)
variable (h : Fin 8) (i j l : Fin 128) (u : Fin 256)

theorem fits_sq : S34x8x128x128.Slices ![n.val, 0, 0, 0] S1x8x128x128 := by
  refine ⟨rfl, fun a => ?_⟩
  match a with
  | 0 => show n.val + 1 ≤ 34; omega
  | 1 => show 0 + 8 ≤ 8; omega
  | 2 => show 0 + 128 ≤ 128; omega
  | 3 => show 0 + 128 ≤ 128; omega
theorem fits_w : S34x8x128x256.Slices ![n.val, 0, 0, 0] S1x8x128x256 := by
  refine ⟨rfl, fun a => ?_⟩
  match a with
  | 0 => show n.val + 1 ≤ 34; omega
  | 1 => show 0 + 8 ≤ 8; omega
  | 2 => show 0 + 128 ≤ 128; omega
  | 3 => show 0 + 256 ≤ 256; omega

include e
theorem cut_at : cut Q st (ix3 h i l) = Q (ix4 n h i l) := by
  unfold cut
  rw [WordCmp.dynamicSlice_eq_extract _ _ _ _ _ (fits_sq n) e]
  pointwise
theorem cutv_at : cutv S st (ix3 h i u) = S (ix4 n h i u) := by
  unfold cutv
  rw [WordCmp.dynamicSlice_eq_extract _ _ _ _ _ (fits_w n) e]
  pointwise
theorem put_at (A : FVec Ideal S34x8x128x128 .f32) (N : FVec Ideal S8x128x128 .f32) (k : Fin 34) :
    put st A N (ix4 k h i l) = if k = n then N (ix3 h i l) else A (ix4 k h i l) := by
  unfold put
  rw [WordCmp.dynamicUpdateSlice_eq_update _ _ _ _ _ (fits_sq n) e]
  by_cases hk : k = n
  · rw [if_pos hk]; subst hk
    pointwise
    exact dif_pos ⟨le_refl _, Nat.lt_succ_self _⟩
  · rw [if_neg hk]
    pointwise
    exact dif_neg fun c => hk (Fin.ext (by omega))
theorem putv_at (A : FVec Ideal S34x8x128x256 .f32) (N : FVec Ideal S8x128x256 .f32) (k : Fin 34) :
    putv st A N (ix4 k h i u) = if k = n then N (ix3 h i u) else A (ix4 k h i u) := by
  unfold putv
  rw [WordCmp.dynamicUpdateSlice_eq_update _ _ _ _ _ (fits_w n) e]
  by_cases hk : k = n
  · rw [if_pos hk]; subst hk
    pointwise
    exact dif_pos ⟨le_refl _, Nat.lt_succ_self _⟩
  · rw [if_neg hk]
    pointwise
    exact dif_neg fun c => hk (Fin.ext (by omega))
omit e

theorem sc_at : sc Q K D st (ix3 h i j) = (∑ l, cut Q st (ix3 h i l) * cut K st (ix3 h j l)) * D (ix3 h i j) := by
  unfold sc
  pointwise
theorem kz_at : kz K Z st (ix3 h i l) = cut K st (ix3 h i l) * Z (ix3 h i 0) := by
  unfold kz
  pointwise
theorem wx_at : wx W X st (ix3 h i u) = cutv W st (ix3 h i u) * X (ix3 h i 0) := by
  unfold wx
  pointwise
theorem sd_at : sd V W D st (ix3 h i j) = (∑ u, cutv W st (ix3 h i u) * cutv V st (ix3 h j u)) * D (ix3 h i j) := by
  unfold sd
  pointwise
theorem newQ_at : newQ S V W K D X st (ix3 h i l) = ∑ u, wx W X st (ix3 h i u) * cutv S st (ix3 h l u) + ∑ j, sd V W D st (ix3 h i j) * cut K st (ix3 h j l) := by
  unfold newQ
  pointwise
theorem newK_at : newK V W Q D Z E st (ix3 h j l) = (∑ u, E (ix3 h l u) * cutv V st (ix3 h j u)) * Z (ix3 h j 0) + ∑ i, sd V W D st (ix3 h i j) * cut Q st (ix3 h i l) := by
  unfold newK
  pointwise
theorem newV_at : newV W Q K D Z E st (ix3 h j u) = ∑ l, E (ix3 h l u) * kz K Z st (ix3 h j l) + ∑ i, cutv W st (ix3 h i u) * sc Q K D st (ix3 h i j) := by
  unfold newV
  pointwise
theorem newS_at : newS W Q X G E st (ix3 h l u) = E (ix3 h l u) * G (ix3 h 0 0) + ∑ i, wx W X st (ix3 h i u) * cut Q st (ix3 h i l) := by
  unfold newS
  pointwise
end At

end Cert.ReferenceIdeal.RVal
-- ==== Proof.RefInv.lean ====
module

public import proofs.«01_k».proof.Proof.RefStep

@[expose] public section

set_option maxRecDepth 16384
set_option maxHeartbeats 400000

noncomputable section

/-! What a trip keeps true. -/
namespace Cert.ReferenceIdeal.RVal

open Idealize.ShloMosaic Idealize.ShloMosaic.TcCoe
open Cert.ReferenceIdeal Cert.ReferenceIdeal.Gen Cert.ReferenceIdeal.Value Cert.Ret

/-! The carried buffers before trip `n`, by the arrays `A`. -/
section Inv
variable (A : Arr) (n : ℕ)

def InvIn (S : FVec Ideal S34x8x128x256 .f32) (Q K : FVec Ideal S34x8x128x128 .f32) (V W : FVec Ideal S34x8x128x256 .f32) : Prop :=
  ∀ (k : Fin 34) (d : Fin 2) (h : Fin 4) (i : Fin 128),
    (∀ u, S (ix4 k (h8 d h) i u) = A.st d h (33 - k.val) i u) ∧ (∀ l, Q (ix4 k (h8 d h) i l) = A.q d h (33 - k.val) i l)
    ∧ (∀ l, K (ix4 k (h8 d h) i l) = A.k d h (33 - k.val) i l) ∧ (∀ u, V (ix4 k (h8 d h) i u) = A.v d h (33 - k.val) i u)
    ∧ (∀ u, W (ix4 k (h8 d h) i u) = A.ct d h (33 - k.val) i u)

def InvDec (D : FVec Ideal S8x128x128 .f32) (X : FVec Ideal S8x128x1 .f32) (G : FVec Ideal S8x1x1 .f32) (Z : FVec Ideal S8x128x1 .f32) : Prop :=
  ∀ (d : Fin 2) (h : Fin 4), (∀ i j, D (ix3 (h8 d h) i j) = dec (A.lg d h) i j) ∧ (∀ i, X (ix3 (h8 d h) i 0) = xiE (A.lg d h) i)
    ∧ G (ix3 (h8 d h) 0 0) = gE (A.lg d h) ∧ (∀ i, Z (ix3 (h8 d h) i 0) = zetaE (A.lg d h) i)

def InvDs (E : FVec Ideal S8x128x256 .f32) : Prop :=
  ∀ (d : Fin 2) (h : Fin 4) (l : Fin 128) (u : Fin 256), E (ix3 (h8 d h) l u) = A.ds d h n l u

def InvQ (Y : FVec Ideal S34x8x128x128 .f32) : Prop := ∀ (k : Fin 34) (_ : 33 - k.val < n) (d : Fin 2) (h : Fin 4) (i l : Fin 128),
  Y (ix4 k (h8 d h) i l) = GQ (A.lg d h) (A.k d h (33 - k.val)) (A.v d h (33 - k.val)) (A.ct d h (33 - k.val)) (A.st d h (33 - k.val)) i l
def InvK (Y : FVec Ideal S34x8x128x128 .f32) : Prop := ∀ (k : Fin 34) (_ : 33 - k.val < n) (d : Fin 2) (h : Fin 4) (i l : Fin 128),
  Y (ix4 k (h8 d h) i l) = GK (A.lg d h) (A.q d h (33 - k.val)) (A.v d h (33 - k.val)) (A.ct d h (33 - k.val)) (A.ds d h (33 - k.val)) i l
def InvV (Y : FVec Ideal S34x8x128x256 .f32) : Prop := ∀ (k : Fin 34) (_ : 33 - k.val < n) (d : Fin 2) (h : Fin 4) (i : Fin 128) (u : Fin 256),
  Y (ix4 k (h8 d h) i u) = GV (A.lg d h) (A.q d h (33 - k.val)) (A.k d h (33 - k.val)) (A.ct d h (33 - k.val)) (A.ds d h (33 - k.val)) i u
end Inv

section Trip
variable {A : Arr} {n : ℕ} {S V W : FVec Ideal S34x8x128x256 .f32} {Q K : FVec Ideal S34x8x128x128 .f32} {D : FVec Ideal S8x128x128 .f32}
variable {X Z : FVec Ideal S8x128x1 .f32} {G : FVec Ideal S8x1x1 .f32} {E : FVec Ideal S8x128x256 .f32} {st : Fin 4 → Int}
variable (m : Fin 34) (hm : 33 - m.val = n) (e : ∀ a, st a = (((![m.val, 0, 0, 0] : Fin 4 → ℕ) a : ℕ) : Int))
variable (hI : InvIn A S Q K V W) (hD : InvDec A D X G Z) (hE : InvDs A n E)
variable (d : Fin 2) (h : Fin 4) (i j l : Fin 128) (u : Fin 256)

include hm e hI
theorem st_in : cutv S st (ix3 (h8 d h) i u) = A.st d h n i u := by subst hm; exact (cutv_at m st e S _ i u).trans ((hI m d h i).1 u)
theorem q_in : cut Q st (ix3 (h8 d h) i l) = A.q d h n i l := by subst hm; exact (cut_at m st e Q _ i l).trans ((hI m d h i).2.1 l)
theorem k_in : cut K st (ix3 (h8 d h) i l) = A.k d h n i l := by subst hm; exact (cut_at m st e K _ i l).trans ((hI m d h i).2.2.1 l)
theorem v_in : cutv V st (ix3 (h8 d h) i u) = A.v d h n i u := by subst hm; exact (cutv_at m st e V _ i u).trans ((hI m d h i).2.2.2.1 u)
theorem w_in : cutv W st (ix3 (h8 d h) i u) = A.ct d h n i u := by subst hm; exact (cutv_at m st e W _ i u).trans ((hI m d h i).2.2.2.2 u)

include hD
theorem sd_in : sd V W D st (ix3 (h8 d h) i j) = dI (A.lg d h) (A.v d h n) (A.ct d h n) i j := by
  rw [sd_at, (hD d h).1 i j]
  exact congrArg (fun z => z * _) (Finset.sum_congr rfl fun u _ => by rw [w_in m hm e hI, v_in m hm e hI])
theorem newQ_in : newQ S V W K D X st (ix3 (h8 d h) i l) = GQ (A.lg d h) (A.k d h n) (A.v d h n) (A.ct d h n) (A.st d h n) i l := by
  rw [newQ_at]
  refine congrArg₂ (fun a b : EReal => a + b) (Finset.sum_congr rfl fun u _ => ?_) (Finset.sum_congr rfl fun j _ => ?_)
  · rw [wx_at, w_in m hm e hI, st_in m hm e hI, (hD d h).2.1 i]
  · rw [sd_in m hm e hI hD, k_in m hm e hI]
include hE
theorem newK_in : newK V W Q D Z E st (ix3 (h8 d h) i l) = GK (A.lg d h) (A.q d h n) (A.v d h n) (A.ct d h n) (A.ds d h n) i l := by
  rw [newK_at, (hD d h).2.2.2 i]
  refine congrArg₂ (fun a b : EReal => a + b) (congrArg (fun z : EReal => z * _) (Finset.sum_congr rfl fun u _ => ?_)) (Finset.sum_congr rfl fun j _ => ?_)
  · rw [hE d h l u, v_in m hm e hI]; exact mul_comm _ _
  · rw [sd_in m hm e hI hD, q_in m hm e hI]
theorem newV_in : newV W Q K D Z E st (ix3 (h8 d h) i u) = GV (A.lg d h) (A.q d h n) (A.k d h n) (A.ct d h n) (A.ds d h n) i u := by
  rw [newV_at]
  refine congrArg₂ (fun a b : EReal => a + b) (Finset.sum_congr rfl fun l _ => ?_) (Finset.sum_congr rfl fun j _ => ?_)
  · rw [hE d h l u, kz_at, k_in m hm e hI, (hD d h).2.2.2 i]; exact mul_comm _ _
  · rw [sc_at, w_in m hm e hI, (hD d h).1 j i]
    refine (mul_comm _ _).trans (congrArg (fun z : EReal => z * _ * _) (Finset.sum_congr rfl fun l _ => ?_))
    rw [q_in m hm e hI, k_in m hm e hI]
theorem newS_in : newS W Q X G E st (ix3 (h8 d h) l u) = A.ds d h (n + 1) l u := by
  rw [newS_at, hE d h l u, (hD d h).2.2.1]
  refine congrArg₂ (fun a b : EReal => a + b) rfl (Finset.sum_congr rfl fun i _ => ?_)
  rw [wx_at, w_in m hm e hI, q_in m hm e hI, (hD d h).2.1 i]; exact mul_comm _ _

theorem InvQ_put {Y : FVec Ideal S34x8x128x128 .f32} (hY : InvQ A n Y) : InvQ A (n + 1) (put st Y (newQ S V W K D X st)) := by
  intro k hk d h i l
  rw [put_at m st e]
  by_cases c : k = m
  · rw [if_pos c, c, hm]; exact newQ_in m hm e hI hD d h i l
  · rw [if_neg c]; exact hY k (by have := Fin.val_ne_of_ne c; omega) d h i l
theorem InvK_put {Y : FVec Ideal S34x8x128x128 .f32} (hY : InvK A n Y) : InvK A (n + 1) (put st Y (newK V W Q D Z E st)) := by
  intro k hk d h i l
  rw [put_at m st e]
  by_cases c : k = m
  · rw [if_pos c, c, hm]; exact newK_in m hm e hI hD hE d h i l
  · rw [if_neg c]; exact hY k (by have := Fin.val_ne_of_ne c; omega) d h i l
theorem InvV_put {Y : FVec Ideal S34x8x128x256 .f32} (hY : InvV A n Y) : InvV A (n + 1) (putv st Y (newV W Q K D Z E st)) := by
  intro k hk d h i u
  rw [putv_at m st e]
  by_cases c : k = m
  · rw [if_pos c, c, hm]; exact newV_in m hm e hI hD hE d h i u
  · rw [if_neg c]; exact hY k (by have := Fin.val_ne_of_ne c; omega) d h i u
end Trip

end Cert.ReferenceIdeal.RVal
-- ==== Proof.RefEntry.lean ====
module

public import proofs.«01_k».proof.Proof.RefIn

@[expose] public section

set_option maxRecDepth 16384
set_option maxHeartbeats 2000000

noncomputable section

/-! What the reference's loop starts from. -/
namespace Cert.ReferenceIdeal.RVal

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.Ret

variable (m : (ℓ : Loc nD τ sig) → Buf (Elt Ideal) ℓ) (c : Dev nD)

theorem entry0 : entryContents preI m c (Proc.devRef .tc main_v166_0) = chS (m ((c.tc : Thread nD τ).loc main_arg2)) := by
  simp only [entryContents, afterL_cons, afterL_nil]
  after_reads_simp
  rfl
theorem entry3 : entryContents preI m c (Proc.devRef .tc main_v166_3) = chV (extractStridedSlice S4352x1024 ![0, 1024] (m ((c.tc : Thread nD τ).loc main_arg0)) slices_S4352x2048_S4352x1024_0_1024) := by
  simp only [entryContents, afterL_cons, afterL_nil]
  after_reads_simp
  rfl
theorem entry4 : entryContents preI m c (Proc.devRef .tc main_v166_4) = chV (m ((c.tc : Thread nD τ).loc main_arg3)) := by
  simp only [entryContents, afterL_cons, afterL_nil]
  after_reads_simp
  rfl
theorem entry5 : entryContents preI m c (Proc.devRef .tc main_v166_5) = decF (lgF (m ((c.tc : Thread nD τ).loc main_arg1))) := by
  simp only [entryContents, afterL_cons, afterL_nil]
  after_reads_simp
  rfl
theorem entry6 : entryContents preI m c (Proc.devRef .tc main_v166_6) = xiF (lgF (m ((c.tc : Thread nD τ).loc main_arg1))) := by
  simp only [entryContents, afterL_cons, afterL_nil]
  after_reads_simp
  rfl
theorem entry7 : entryContents preI m c (Proc.devRef .tc main_v166_7) = gF (lgF (m ((c.tc : Thread nD τ).loc main_arg1))) := by
  simp only [entryContents, afterL_cons, afterL_nil]
  after_reads_simp
  rfl
theorem entry8 : entryContents preI m c (Proc.devRef .tc main_v166_8) = zetaF (lgF (m ((c.tc : Thread nD τ).loc main_arg1))) := by
  simp only [entryContents, afterL_cons, afterL_nil]
  after_reads_simp
  rfl

end Cert.ReferenceIdeal.RVal
-- ==== Proof.RefEntry2.lean ====
module

public import proofs.«01_k».proof.Proof.RefIn

@[expose] public section

set_option maxRecDepth 16384
set_option maxHeartbeats 2000000

noncomputable section

/-! What the queries and keys of the reference's loop starts from. -/
namespace Cert.ReferenceIdeal.RVal

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.Ret

variable (m : (ℓ : Loc nD τ sig) → Buf (Elt Ideal) ℓ) (c : Dev nD)

theorem entry47 : entryContents preI m c (Proc.devRef .tc main_v47) = catF (m ((c.tc : Thread nD τ).loc main_arg0)) := by
  simp only [entryContents, afterL_cons, afterL_nil]
  after_reads_simp
  rfl
theorem entry67 : entryContents preI m c (Proc.devRef .tc main_v67) = angR := by
  simp only [entryContents, afterL_cons, afterL_nil]
  after_reads_simp
  rfl
theorem entry90 : entryContents preI m c (Proc.devRef .tc main_v90) = angC := by
  simp only [entryContents, afterL_cons, afterL_nil]
  after_reads_simp
  rfl
theorem entry109 : entryContents preI m c (Proc.devRef .tc main_v109) = ropeF (entryContents preI m c (Proc.devRef .tc main_v47)) (entryContents preI m c (Proc.devRef .tc main_v67)) (entryContents preI m c (Proc.devRef .tc main_v90)) := by
  simp only [entryContents, afterL_cons, afterL_nil]
  after_reads_simp
  refine congrArg₂ (fun (a : FVec Ideal S256x16x128 .f32) (b : FVec Ideal S4096x16x128 .f32) => concatenate S4352x16x128 0 [⟨S256x16x128, a⟩, ⟨S4096x16x128, b⟩] concatenates_S256x16x128_S4096x16x128_S4352x16x128_d0) ?_ ?_
  · after_reads_simp
    try rfl
  · after_reads_simp
    refine congrArg₂ (fun (a : FVec Ideal S4096x16x64 .f32) (b : FVec Ideal S4096x16x64 .f32) => concatenate S4096x16x128 2 [⟨S4096x16x64, a⟩, ⟨S4096x16x64, b⟩] concatenates_S4096x16x64_S4096x16x64_S4096x16x128_d2) ?_ ?_
    · after_reads_simp
      refine congrArg₂ (fun (a : FVec Ideal S4096x16x32 .f32) (b : FVec Ideal S4096x16x32 .f32) => concatenate S4096x16x64 2 [⟨S4096x16x32, a⟩, ⟨S4096x16x32, b⟩] concatenates_S4096x16x32_S4096x16x32_S4096x16x64_d2) ?_ ?_
      · after_reads_simp
        try rfl
      · after_reads_simp
        try rfl
    · after_reads_simp
      refine congrArg₂ (fun (a : FVec Ideal S4096x16x32 .f32) (b : FVec Ideal S4096x16x32 .f32) => concatenate S4096x16x64 2 [⟨S4096x16x32, a⟩, ⟨S4096x16x32, b⟩] concatenates_S4096x16x32_S4096x16x32_S4096x16x64_d2) ?_ ?_
      · after_reads_simp
        try rfl
      · after_reads_simp
        try rfl
theorem entry1 : entryContents preI m c (Proc.devRef .tc main_v166_1) = chQ (entryContents preI m c (Proc.devRef .tc main_v109)) := by
  simp only [entryContents, afterL_cons, afterL_nil]
  after_reads_simp
  refine congrArg₂ (fun (a : FVec Ideal S34x4x128x128 .f32) (b : FVec Ideal S34x4x128x128 .f32) => mulf (concatenate S34x8x128x128 1 [⟨S34x4x128x128, a⟩, ⟨S34x4x128x128, b⟩] concatenates_S34x4x128x128_S34x4x128x128_S34x8x128x128_d1) (broadcastInDim S34x8x128x128 ![] bcast_S_S34x8x128x128 (constant (F := Ideal) S_ .f32 0x3DB504F3#32))) ?_ ?_
  · after_reads_simp
    try rfl
  · after_reads_simp
    refine congrArg₂ (fun (a : FVec Ideal S256x4x128 .f32) (b : FVec Ideal S4096x4x128 .f32) => transpose S34x4x128x128 [0, 2, 1, 3] (shapeCast S34x128x4x128 (concatenate S4352x4x128 0 [⟨S256x4x128, a⟩, ⟨S4096x4x128, b⟩] concatenates_S256x4x128_S4096x4x128_S4352x4x128_d0) shapeCasts_S4352x4x128_S34x128x4x128) transposes_S34x128x4x128_S34x4x128x128_0_2_1_3) ?_ ?_
    · after_reads_simp
      try rfl
    · after_reads_simp
      try rfl
theorem entry2 : entryContents preI m c (Proc.devRef .tc main_v166_2) = chK (entryContents preI m c (Proc.devRef .tc main_v109)) := by
  simp only [entryContents, afterL_cons, afterL_nil]
  after_reads_simp
  refine congrArg₂ (fun (a : FVec Ideal S34x4x128x128 .f32) (b : FVec Ideal S34x4x128x128 .f32) => concatenate S34x8x128x128 1 [⟨S34x4x128x128, a⟩, ⟨S34x4x128x128, b⟩] concatenates_S34x4x128x128_S34x4x128x128_S34x8x128x128_d1) ?_ ?_
  · after_reads_simp
    try rfl
  · after_reads_simp
    refine congrArg₂ (fun (a : FVec Ideal S256x4x128 .f32) (b : FVec Ideal S4096x4x128 .f32) => transpose S34x4x128x128 [0, 2, 1, 3] (shapeCast S34x128x4x128 (concatenate S4352x4x128 0 [⟨S256x4x128, a⟩, ⟨S4096x4x128, b⟩] concatenates_S256x4x128_S4096x4x128_S4352x4x128_d0) shapeCasts_S4352x4x128_S34x128x4x128) transposes_S34x128x4x128_S34x4x128x128_0_2_1_3) ?_ ?_
    · after_reads_simp
      try rfl
    · after_reads_simp
      try rfl

end Cert.ReferenceIdeal.RVal
-- ==== Proof.RefFin.lean ====
module

public import proofs.«01_k».proof.Proof.RefInv
public import proofs.«01_k».proof.Proof.RefEntry
public import proofs.«01_k».proof.Proof.RefEntry2

@[expose] public section

set_option maxRecDepth 16384
set_option maxHeartbeats 400000

noncomputable section

/-! The reference's results, by the gradient of its arrays. -/
namespace Cert.ReferenceIdeal.RVal

open Idealize.ShloMosaic Idealize.ShloMosaic.TcCoe Idealize.ShloMosaic.Tactic Idealize.ShloMosaic.StableHlo Idealize.SL.Sem
open Cert.ReferenceIdeal Cert.ReferenceIdeal.Gen Cert.ReferenceIdeal.Value Cert.Ret

/-- The carried buffers before trip `n`. -/
structure Inv (A : Arr) (n : ℕ) (V0 : Valuation τ sig (Elt Ideal)) : Prop where
  ins : InvIn A (V0 (Proc.devRef .tc main_v166_0)) (V0 (Proc.devRef .tc main_v166_1)) (V0 (Proc.devRef .tc main_v166_2)) (V0 (Proc.devRef .tc main_v166_3)) (V0 (Proc.devRef .tc main_v166_4))
  dec : InvDec A (V0 (Proc.devRef .tc main_v166_5)) (V0 (Proc.devRef .tc main_v166_6)) (V0 (Proc.devRef .tc main_v166_7)) (V0 (Proc.devRef .tc main_v166_8))
  ctr : V0 (Proc.devRef .tc main_v166_9) = fun _ => BitVec.ofNat 32 n
  dst : InvDs A n (V0 (Proc.devRef .tc main_v166_10))
  dq : InvQ A n (V0 (Proc.devRef .tc main_v166_11))
  dk : InvK A n (V0 (Proc.devRef .tc main_v166_12))
  dv : InvV A n (V0 (Proc.devRef .tc main_v166_13))

theorem word_start : ∀ n : Fin 34, ((34#32 - BitVec.ofNat 32 n.val) - 1#32).toInt = ((33 - n.val : ℕ) : Int) := by decide +kernel

theorem start_at (V0 : Valuation τ sig (Elt Ideal)) (n : ℕ) (hn : n < 34) (hc : V0 (Proc.devRef .tc main_v166_9) = fun _ => BitVec.ofNat 32 n) (a : Fin 4) :
    start V0 a = (((![(⟨33 - n, by omega⟩ : Fin 34).val, 0, 0, 0] : Fin 4 → ℕ) a : ℕ) : Int) := by
  unfold start res_main_while0b_v298
  rw [hc]
  match a with
  | 0 => exact word_start ⟨n, hn⟩
  | 1 => rfl
  | 2 => rfl
  | 3 => rfl

theorem Inv.trip {A : Arr} {n : ℕ} (hn : n < 34) {V0 : Valuation τ sig (Elt Ideal)} (I : Inv A n V0) : Inv A (n + 1) (STEP V0) := by
  have hm : 33 - (⟨33 - n, by omega⟩ : Fin 34).val = n := by show 33 - (33 - n) = n; omega
  have e := start_at V0 n hn I.ctr
  refine ⟨?_, ?_, ?_, ?_, ?_, ?_, ?_⟩
  · rw [STEP_main_v166_0, STEP_main_v166_1, STEP_main_v166_2, STEP_main_v166_3, STEP_main_v166_4]; exact I.ins
  · rw [STEP_main_v166_5, STEP_main_v166_6, STEP_main_v166_7, STEP_main_v166_8]; exact I.dec
  · rw [STEP_main_v166_9]; unfold step_main_v166_9; rw [I.ctr]
    exact funext fun _ => (BitVec.ofNat_add n 1).symm
  · rw [STEP_main_v166_10, step10]; intro d h l u; exact newS_in _ hm e I.ins I.dec I.dst d h l u
  · rw [STEP_main_v166_11, step11]; exact InvQ_put _ hm e I.ins I.dec I.dst I.dq
  · rw [STEP_main_v166_12, step12]; exact InvK_put _ hm e I.ins I.dec I.dst I.dk
  · rw [STEP_main_v166_13, step13]; exact InvV_put _ hm e I.ins I.dec I.dst I.dv

theorem Inv.iter {A : Arr} {V0 : Valuation τ sig (Elt Ideal)} (I : Inv A 0 V0) : ∀ n, n ≤ 34 → Inv A n (STEP^[n] V0)
  | 0, _ => I
  | n + 1, h => by rw [Function.iterate_succ_apply']; exact (Inv.iter I n (by omega)).trip (by omega)

section Entry
variable (m : (ℓ : Loc nD τ sig) → Buf (Elt Ideal) ℓ) (c : Dev nD)

theorem entry10 : entryContents preI m c (Proc.devRef .tc main_v166_10) = broadcastInDim S8x128x256 ![] bcast_S_S8x128x256 (constant (F := Ideal) S_ .f32 0x00000000#32) := by
  simp only [entryContents, afterL_cons, afterL_nil]
  after_reads_simp
  rfl
theorem zero_at (h : Fin 8) (l : Fin 128) (u : Fin 256) : (broadcastInDim S8x128x256 ![] bcast_S_S8x128x256 (constant (F := Ideal) S_ .f32 0x00000000#32) : FVec Ideal S8x128x256 .f32) (ix3 h l u) = 0 := by
  pointwise

/-- The arrays of a device. -/
def refArrs : Arr := refArr (m ((c.tc : Thread nD τ).loc main_arg0)) (m ((c.tc : Thread nD τ).loc main_arg1)) (m ((c.tc : Thread nD τ).loc main_arg2)) (m ((c.tc : Thread nD τ).loc main_arg3))

theorem inv_entry : Inv (refArrs m c) 0 (entryContents preI m c) := by
  refine ⟨?_, ?_, ctr_entry m c, ?_, ?_, ?_, ?_⟩
  · rw [entry0, entry1, entry2, entry3, entry4, entry109, entry47, entry67, entry90]
    intro k d h i
    exact ⟨fun u => in_st _ _ _ _ d h k i u, fun l => in_q _ _ _ _ d h k i l, fun l => in_k _ _ _ _ d h k i l, fun u => in_v _ _ _ _ d h k i u, fun u => in_ct _ _ _ _ d h k i u⟩
  · rw [entry5, entry6, entry7, entry8]
    intro d h
    have e : lgF (m ((c.tc : Thread nD τ).loc main_arg1)) (ix1 (h8 d h)) = (refArrs m c).lg d h := in_lg _ _ _ _ d h
    exact ⟨fun i j => (dec_at _ _ i j).trans (by rw [e]), fun i => (xi_at _ _ i 0).trans (by rw [e]), (g_at _ _ 0 0).trans (by rw [e]), fun i => (zeta_at _ _ i 0).trans (by rw [e])⟩
  · rw [entry10]; intro d h l u; exact zero_at _ l u
  · intro k hk; exact absurd hk (by omega)
  · intro k hk; exact absurd hk (by omega)
  · intro k hk; exact absurd hk (by omega)

theorem inv_fin : Inv (refArrs m c) 34 (STEP^[34] (entryContents preI m c)) := (inv_entry m c).iter 34 (le_refl _)

end Entry

/-! The results of a memory that satisfies the invariant after the last trip. -/
section Res
variable {A : Arr} (hco : A.co = coT) (hsi : A.si = siT) {V0 : Valuation τ sig (Elt Ideal)} (I : Inv A 34 V0) (r : Fin 4352) (x : Fin 512) (y : Fin 1024)

theorem chk_stp (d : Fin 2) : 33 - (chk d r).val = stp d r := by
  have := stp_lt d r
  show 33 - (33 - stp d r) = _; omega

theorem co_row (d : Fin 2) : row d (stp d r) (pos d r) = r := row_stp_pos d r

include I
theorem dq_fin (d : Fin 2) (h : Fin 4) (l : Fin 128) : A4 (V0 (Proc.devRef .tc main_v166_11)) (chk d r) (h8 d h) (pos d r) l =
    GQ (A.lg d h) (A.k d h (stp d r)) (A.v d h (stp d r)) (A.ct d h (stp d r)) (A.st d h (stp d r)) (pos d r) l := by
  rw [← chk_stp r d]; exact I.dq (chk d r) (by omega) d h (pos d r) l
theorem dk_fin (d : Fin 2) (h : Fin 4) (l : Fin 128) : A4 (V0 (Proc.devRef .tc main_v166_12)) (chk d r) (h8 d h) (pos d r) l =
    GK (A.lg d h) (A.q d h (stp d r)) (A.v d h (stp d r)) (A.ct d h (stp d r)) (A.ds d h (stp d r)) (pos d r) l := by
  rw [← chk_stp r d]; exact I.dk (chk d r) (by omega) d h (pos d r) l
theorem dv_fin (d : Fin 2) (h : Fin 4) (u : Fin 256) : A4v (V0 (Proc.devRef .tc main_v166_13)) (chk d r) (h8 d h) (pos d r) u = A.dv d h (stp d r) (pos d r) u := by
  unfold Arr.dv
  rw [← chk_stp r d]; exact I.dv (chk d r) (by omega) d h (pos d r) u

include hco hsi
theorem dQ_fin (d : Fin 2) : rotT (coT r) (siT r) (fun l => A4 (V0 (Proc.devRef .tc main_v166_11)) (chk d r) (h8 d (hd4 x)) (pos d r) l * scl) (ln4 x) = A.dQ d r x := by
  unfold Arr.dQ Arr.dq
  rw [row_stp_pos d r, hco, hsi]
  exact congrArg (fun f => rotT (coT r) (siT r) f (ln4 x)) (funext fun l => congrArg (fun z => z * scl) (dq_fin I r d (hd4 x) l))
theorem dK_fin (d : Fin 2) : rotT (coT r) (siT r) (fun l => A4 (V0 (Proc.devRef .tc main_v166_12)) (chk d r) (h8 d (hd4 x)) (pos d r) l) (ln4 x) = A.dK d r x := by
  unfold Arr.dK Arr.dk
  rw [row_stp_pos d r, hco, hsi]
  exact congrArg (fun f => rotT (coT r) (siT r) f (ln4 x)) (funext fun l => dk_fin I r d (hd4 x) l)

theorem res296 : out_main_v296 V0 (ix2 r x) = A.dQ 0 r x := (out296_at r x V0).trans (dQ_fin hco hsi I r x 0)
theorem res295 : out_main_v295 V0 (ix2 r x) = A.dQ 1 r x := (out295_at r x V0).trans (dQ_fin hco hsi I r x 1)
theorem res294 : out_main_v294 V0 (ix2 r x) = A.dK 0 r x := (out294_at r x V0).trans (dK_fin hco hsi I r x 0)
theorem res293 : out_main_v293 V0 (ix2 r x) = A.dK 1 r x := (out293_at r x V0).trans (dK_fin hco hsi I r x 1)
omit hco hsi
theorem res211 : out_main_v211 V0 (ix2 r y) = A.dV 0 r y := (out211_at r y V0).trans (dv_fin I r 0 (hdv y) (lnv y))
theorem res210 : out_main_v210 V0 (ix2 r y) = A.dV 1 r y := (out210_at r y V0).trans (dv_fin I r 1 (hdv y) (lnv y))
end Res

end Cert.ReferenceIdeal.RVal
-- ==== Proof.Join.lean ====
module

public import proofs.«01_k».proof.Defs
public import proofs.«01_k».proof.Proof.KVal
public import proofs.«01_k».proof.Proof.KRead
public import proofs.«01_k».proof.Proof.RefFin

@[expose] public section

set_option maxRecDepth 16384
set_option maxHeartbeats 400000

noncomputable section

/-! The kernel's results, and the reference's, are one gradient of the same arrays. -/
namespace Cert.Proof.Join

open Idealize.ShloMosaic Idealize.ShloMosaic.TcCoe Idealize.SL.Sem
open Cert.Ret

theorem arr_ext {A B : Arr} (hp : A.p = B.p) (hx : A.x = B.x) (hs : A.s = B.s) (hw : A.w = B.w) (hc : A.co = B.co) (hi : A.si = B.si) : A = B := by
  cases A; cases B
  cases hp; cases hx; cases hs; cases hw; cases hc; cases hi
  rfl

section Kernel
open Cert.KernelIdeal Cert.KernelIdeal.Gen Cert.KernelIdeal.Lap Cert.KernelIdeal.KVal
variable (m : (ℓ : Loc nD τ sig) → Buf (Elt Ideal) ℓ) (ρ : Dev nD → PrngReg)

theorem arr_co (c : Dev nD) : (arr m c).co = coT := by
  funext r x
  exact (congrFun (KTab.read34 m c) (ix2 r x)).trans (KTab.cosT_at r x)
theorem arr_si (c : Dev nD) : (arr m c).si = siT := by
  funext r x
  exact (congrFun (KTab.read36 m c) (ix2 r x)).trans (KTab.sinT_at r x)

theorem arr_of (c : Dev nD) (A0 : FVec Ideal ReferenceIdeal.S4352x2048 .f32) (A1 : FVec Ideal ReferenceIdeal.S2x4 .f32) (A2 : FVec Ideal ReferenceIdeal.S2x4x34x128x256 .f32) (A3 : FVec Ideal ReferenceIdeal.S4352x1024 .f32)
    (h0 : V m c main_arg0 = A0) (h1 : V m c main_arg1 = A1) (h2 : V m c main_arg2 = A2) (h3 : V m c main_arg3 = A3) : arr m c = ReferenceIdeal.RVal.refArr A0 A1 A2 A3 := by
  cases h0; cases h1; cases h2; cases h3
  exact arr_ext rfl rfl rfl rfl (arr_co m c) (arr_si m c)

/-- The arrays of a device, from the memory the kernel starts in. -/
theorem arr_eq (c : Dev nD) : arr m c = ReferenceIdeal.RVal.refArr (m ((c.tc : Thread nD τ).loc main_arg0)) (m ((c.tc : Thread nD τ).loc main_arg1)) (m ((c.tc : Thread nD τ).loc main_arg2)) (m ((c.tc : Thread nD τ).loc main_arg3)) :=
  arr_of m c _ _ _ _ (V_main_arg0 m c) (V_main_arg1 m c) (V_main_arg2 m c) (V_main_arg3 m c)

theorem kernel_run : θ_run (Cert.KernelIdeal.defs (F := Ideal)) (onTc (τ := τ) (Cert.KernelIdeal.main (F := Ideal))) ⟨m, fun _ => 0, ρ⟩ (fun r => ∀ c : Dev nD,
      r.2.mem ((c.tc : Thread nD τ).loc main_v37_0) = (fun j : (⟨2, ![4352, 512]⟩ : Shape).Idx => (arr m c).dQ 0 (j 0) (j 1))
      ∧ r.2.mem ((c.tc : Thread nD τ).loc main_v37_1) = (fun j : (⟨2, ![4352, 512]⟩ : Shape).Idx => (arr m c).dK 0 (j 0) (j 1))
      ∧ r.2.mem ((c.tc : Thread nD τ).loc main_v37_2) = (fun j : (⟨2, ![4352, 1024]⟩ : Shape).Idx => (arr m c).dV 0 (j 0) (j 1))
      ∧ r.2.mem ((c.tc : Thread nD τ).loc main_v37_3) = (fun j : (⟨2, ![4352, 512]⟩ : Shape).Idx => (arr m c).dQ 1 (j 0) (j 1))
      ∧ r.2.mem ((c.tc : Thread nD τ).loc main_v37_4) = (fun j : (⟨2, ![4352, 512]⟩ : Shape).Idx => (arr m c).dK 1 (j 0) (j 1))
      ∧ r.2.mem ((c.tc : Thread nD τ).loc main_v37_5) = (fun j : (⟨2, ![4352, 1024]⟩ : Shape).Idx => (arr m c).dV 1 (j 0) (j 1))) :=
  (θ_run _ _ _).mono (fun _ h c =>
    ⟨((h.1 c).1 14).trans (final14 m (Tab.ok m) c), ((h.1 c).1 15).trans (final15 m (Tab.ok m) c), ((h.1 c).1 16).trans (final16 m (Tab.ok m) c),
      ((h.1 c).1 17).trans (final17 m (Tab.ok m) c), ((h.1 c).1 18).trans (final18 m (Tab.ok m) c), ((h.1 c).1 19).trans (final19 m (Tab.ok m) c)⟩)
    (run_main_quiescent m ρ (Tab.ok m))

end Kernel

section Reference
open Cert.ReferenceIdeal Cert.ReferenceIdeal.Gen Cert.ReferenceIdeal.RVal
variable (m : (ℓ : Loc nD τ sig) → Buf (Elt Ideal) ℓ) (ρ : Dev nD → PrngReg)

theorem reference_run : θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v296) = (fun j : (⟨2, ![4352, 512]⟩ : Shape).Idx => (refArrs m c).dQ 0 (j 0) (j 1))
      ∧ r.2.mem ((c.tc : Thread nD τ).loc main_v294) = (fun j : (⟨2, ![4352, 512]⟩ : Shape).Idx => (refArrs m c).dK 0 (j 0) (j 1))
      ∧ r.2.mem ((c.tc : Thread nD τ).loc main_v211) = (fun j : (⟨2, ![4352, 1024]⟩ : Shape).Idx => (refArrs m c).dV 0 (j 0) (j 1))
      ∧ r.2.mem ((c.tc : Thread nD τ).loc main_v295) = (fun j : (⟨2, ![4352, 512]⟩ : Shape).Idx => (refArrs m c).dQ 1 (j 0) (j 1))
      ∧ r.2.mem ((c.tc : Thread nD τ).loc main_v293) = (fun j : (⟨2, ![4352, 512]⟩ : Shape).Idx => (refArrs m c).dK 1 (j 0) (j 1))
      ∧ r.2.mem ((c.tc : Thread nD τ).loc main_v210) = (fun j : (⟨2, ![4352, 1024]⟩ : Shape).Idx => (refArrs m c).dV 1 (j 0) (j 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun _ h c => ?_) (Cert.ReferenceIdeal.Value.run (F := Ideal) m ρ)
  obtain ⟨h0, h1, h2, h3, h4, h5, ha⟩ := h c
  have I := inv_fin m c
  refine ⟨h0.trans ?_, h1.trans ?_, h2.trans ?_, h3.trans ?_, h4.trans ?_, h5.trans ?_, ha⟩
  · exact funext fun j : (⟨2, ![4352, 512]⟩ : Shape).Idx => (congrArg _ (eq_ix2 j)).trans (res296 rfl rfl I (j 0) (j 1))
  · exact funext fun j : (⟨2, ![4352, 512]⟩ : Shape).Idx => (congrArg _ (eq_ix2 j)).trans (res294 rfl rfl I (j 0) (j 1))
  · exact funext fun j : (⟨2, ![4352, 1024]⟩ : Shape).Idx => (congrArg _ (eq_ix2 j)).trans (res211 I (j 0) (j 1))
  · exact funext fun j : (⟨2, ![4352, 512]⟩ : Shape).Idx => (congrArg _ (eq_ix2 j)).trans (res295 rfl rfl I (j 0) (j 1))
  · exact funext fun j : (⟨2, ![4352, 512]⟩ : Shape).Idx => (congrArg _ (eq_ix2 j)).trans (res293 rfl rfl I (j 0) (j 1))
  · exact funext fun j : (⟨2, ![4352, 1024]⟩ : Shape).Idx => (congrArg _ (eq_ix2 j)).trans (res210 I (j 0) (j 1))

theorem reference_frame : Cert.quiescent_ReferenceIdeal := fun m ρ _ =>
  (θ_run _ _ _).mono (fun r h => ⟨fun c => (h c).2.2.2.2.2.2, sem_eq_zero_of_no_sems (by decide) r.2⟩) (reference_run m ρ)

end Reference

theorem algebraic : Cert.algebraic_KernelIdeal_ReferenceIdeal := by
  intro m ρ m' ρ' _ hag
  have e : ∀ c : Dev KernelIdeal.nD, ReferenceIdeal.RVal.refArrs m' c = KernelIdeal.KVal.arr m c := fun c => by
    obtain ⟨a0, a1, a2, a3⟩ := hag c
    rw [arr_eq]
    unfold ReferenceIdeal.RVal.refArrs
    rw [a0, a1, a2, a3]
  refine ⟨fun c => (fun j : (⟨2, ![4352, 512]⟩ : Shape).Idx => (KernelIdeal.KVal.arr m c).dQ 0 (j 0) (j 1)), fun c => (fun j : (⟨2, ![4352, 512]⟩ : Shape).Idx => (KernelIdeal.KVal.arr m c).dK 0 (j 0) (j 1)), fun c => (fun j : (⟨2, ![4352, 1024]⟩ : Shape).Idx => (KernelIdeal.KVal.arr m c).dV 0 (j 0) (j 1)), fun c => (fun j : (⟨2, ![4352, 512]⟩ : Shape).Idx => (KernelIdeal.KVal.arr m c).dQ 1 (j 0) (j 1)), fun c => (fun j : (⟨2, ![4352, 512]⟩ : Shape).Idx => (KernelIdeal.KVal.arr m c).dK 1 (j 0) (j 1)), fun c => (fun j : (⟨2, ![4352, 1024]⟩ : Shape).Idx => (KernelIdeal.KVal.arr m c).dV 1 (j 0) (j 1)),
    (θ_run _ _ _).mono (fun _ h c => ?_) (θ_run_and (kernel_run m ρ) (KernelIdeal.Lap.unchanged m ρ (KernelIdeal.Tab.ok m))),
    (θ_run _ _ _).mono (fun _ h c => ?_) (reference_run m' ρ')⟩
  · obtain ⟨h0, h1, h2, h3, h4, h5⟩ := h.1 c
    exact ⟨h0, h1, h2, h3, h4, h5, h.2 c⟩
  · have k := h c
    rw [e c] at k
    exact k

end Cert.Proof.Join
-- ==== Proof.FfnDownVal.lean ====
module

public import proofs.«01_k».proof.Defs
public import proofs.«01_k».proof.Proof.Gen.FfnDown.Frame
public import proofs.«01_k».proof.Proof.Gen.FfnDownIdeal.Value
public import proofs.«01_k».proof.Proof.Gen.FfnDownRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_down`: the activations times the weight. -/
namespace Cert.FfnDownIdeal.Prod

open Idealize.ShloMosaic Idealize.ShloMosaic.TcCoe Idealize.SL.Sem
open Cert.FfnDownIdeal Cert.FfnDownIdeal.Gen

/-- The product of two whole arrays. -/
def prod (A : (⟨2, ![4352, 5632]⟩ : Shape).Idx → EReal) (B : (⟨2, ![5632, 2048]⟩ : Shape).Idx → EReal) : (⟨2, ![4352, 2048]⟩ : Shape).Idx → EReal :=
  fun y => ∑ k : Fin 5632, A (ix2 (y 0) k) * B (ix2 k (y 1))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 16 := t.isLt.trans_eq N_0

/-- Row `i` and column `j` of point `t`'s block. -/
def rowOf (t : Fin cfg0.N) (i : Fin 1088) : Fin 4352 := ⟨t.val / 4 * 1088 + i.val, by have := tlt t; omega⟩
def colOf (t : Fin cfg0.N) (j : Fin 512) : Fin 2048 := ⟨t.val % 4 * 512 + j.val, by omega⟩

theorem rd0 (X : (⟨2, ![4352, 5632]⟩ : Shape).Idx → EReal) (t : Fin cfg0.N) (i : Fin 1088) (k : Fin 5632) :
    (win0_0.blk t).view.read (Elt Ideal) X (ix2 i k) = X (ix2 (rowOf t i) k) := by
  have e := idx0 t
  blk_ext [e, rowOf]
theorem rd1 (X : (⟨2, ![5632, 2048]⟩ : Shape).Idx → EReal) (t : Fin cfg0.N) (j : Fin 512) (k : Fin 5632) :
    (win0_1.blk t).view.read (Elt Ideal) X (ix2 k j) = X (ix2 k (colOf t j)) := by
  have e := idx1 t
  blk_ext [e, colOf]
theorem rd2 (X : (⟨2, ![4352, 2048]⟩ : Shape).Idx → EReal) (t : Fin cfg0.N) (i : Fin 1088) (j : Fin 512) :
    (win0_2.blk t).view.read (Elt Ideal) X (ix2 i j) = X (ix2 (rowOf t i) (colOf t j)) := by
  have e := idx2 t
  blk_ext [e, rowOf, colOf]

/-- A block's product. -/
theorem pay_at (a : FVec Ideal S1088x5632 .bf16) (b : FVec Ideal S5632x512 .bf16) (i : Fin 1088) (j : Fin 512) :
    k0_pay1 (F := Ideal) a b (ix2 i j) = ∑ k : Fin 5632, a (ix2 i k) * b (ix2 k j) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 2048]⟩ : Shape).Idx → EReal := prod (m ((c.tc : Thread nD τ).loc main_arg0)) (m ((c.tc : Thread nD τ).loc main_arg1))

theorem point (t : Fin cfg0.N) (i : Fin 1088) (j : Fin 512) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 512] : Fin 2 → ℕ) a by decide) fun β => by
    have h0 : (β (0 : Fin 2)).val < 4 := (β (0 : Fin 2)).isLt.trans_eq (show (4352 + 1088 - 1) / 1088 = 4 from rfl)
    have h1 : (β (1 : Fin 2)).val < 4 := (β (1 : Fin 2)).isLt.trans_eq (show (2048 + 512 - 1) / 512 = 4 from rfl)
    have hs : (β (0 : Fin 2)).val * 4 + (β (1 : Fin 2)).val < cfg0.N := by rw [show cfg0.N = 16 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 512]⟩ : Shape).Idx) => ?_
  obtain ⟨i, j, rfl⟩ : ∃ (i : Fin 1088) (j : Fin 512), y = ix2 i j := ⟨y 0, y 1, eq_ix2 y⟩
  exact (congrFun (after0_2 m c t) (ix2 i j)).trans (point m c t i j)

end Cert.FfnDownIdeal.Prod

namespace Cert.FfnDownRefIdeal.Prod

open Idealize.ShloMosaic Idealize.ShloMosaic.TcCoe Idealize.SL.Sem
open Cert.FfnDownRefIdeal Cert.FfnDownRefIdeal.Gen

/-- The reference's term is the product. -/
theorem eq (A : FVec Ideal S4352x5632 .bf16) (B : FVec Ideal S5632x2048 .bf16) :
    Host.dotGeneral dot_S4352x5632_S5632x2048_S4352x2048_1_0_0_1_n_n none (extf .f32 A bitsLt_bf16_f32) (extf .f32 B bitsLt_bf16_f32)
      = (fun y : (⟨2, ![4352, 2048]⟩ : Shape).Idx => ∑ k : Fin 5632, A (ix2 (y 0) k) * B (ix2 k (y 1))) := by
  funext y
  obtain ⟨i, j, rfl⟩ : ∃ (i : Fin 4352) (j : Fin 2048), y = ix2 i j := ⟨y 0, y 1, eq_ix2 y⟩
  pointwise

end Cert.FfnDownRefIdeal.Prod

namespace Cert.Proof.FfnDown

open Idealize.ShloMosaic Idealize.ShloMosaic.TcCoe Idealize.SL.Sem

theorem frame : Cert.quiescent_FfnDown := fun m ρ _ => Cert.FfnDown.Gen.frame m ρ
theorem frame_ideal : Cert.quiescent_FfnDownIdeal := fun m ρ _ => Cert.FfnDownIdeal.Gen.frame m ρ
theorem frame_reference : Cert.quiescent_FfnDownRefIdeal := fun m ρ _ =>
  (θ_run _ _ _).mono (fun r h => ⟨fun c => (h c).2, sem_eq_zero_of_no_sems (by decide) r.2⟩) (Cert.FfnDownRefIdeal.Value.run (F := Ideal) m ρ)

theorem algebraic : Cert.algebraic_FfnDownIdeal_FfnDownRefIdeal := by
  intro m ρ m' ρ' _ hag
  refine ⟨fun c => FfnDownIdeal.Prod.res m c,
    (θ_run _ _ _).mono (fun _ h c => ⟨(h c).1.trans (FfnDownIdeal.Prod.final m c), (h c).2⟩) (FfnDownIdeal.Value.run_blocks (F := Ideal) m ρ),
    (θ_run _ _ _).mono (fun _ h c => ⟨(h c).1.trans ?_, (h c).2⟩) (FfnDownRefIdeal.Value.run (F := Ideal) m' ρ')⟩
  refine (FfnDownRefIdeal.Prod.eq _ _).trans ?_
  rw [(hag c).1, (hag c).2]
  rfl

end Cert.Proof.FfnDown

end
-- ==== Proof.FfnDownDxVal.lean ====
module

public import proofs.«01_k».proof.Defs
public import proofs.«01_k».proof.Proof.Gen.FfnDownDx.Frame
public import proofs.«01_k».proof.Proof.Gen.FfnDownDxIdeal.Value
public import proofs.«01_k».proof.Proof.Gen.FfnDownDxRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_down_dx`: the cotangent times the transposed weight. -/
namespace Cert.FfnDownDxIdeal.Prod

open Idealize.ShloMosaic Idealize.ShloMosaic.TcCoe Idealize.SL.Sem
open Cert.FfnDownDxIdeal Cert.FfnDownDxIdeal.Gen

/-- The product of two whole arrays. -/
def prod (A : (⟨2, ![4352, 2048]⟩ : Shape).Idx → EReal) (B : (⟨2, ![5632, 2048]⟩ : Shape).Idx → EReal) : (⟨2, ![4352, 5632]⟩ : Shape).Idx → EReal :=
  fun y => ∑ k : Fin 2048, A (ix2 (y 0) k) * B (ix2 (y 1) k)

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 16 := t.isLt.trans_eq N_0

/-- Row `i` and column `j` of point `t`'s block. -/
def rowOf (t : Fin cfg0.N) (i : Fin 1088) : Fin 4352 := ⟨t.val / 4 * 1088 + i.val, by have := tlt t; omega⟩
def colOf (t : Fin cfg0.N) (j : Fin 1408) : Fin 5632 := ⟨t.val % 4 * 1408 + j.val, by omega⟩

theorem rd0 (X : (⟨2, ![4352, 2048]⟩ : Shape).Idx → EReal) (t : Fin cfg0.N) (i : Fin 1088) (k : Fin 2048) :
    (win0_0.blk t).view.read (Elt Ideal) X (ix2 i k) = X (ix2 (rowOf t i) k) := by
  have e := idx0 t
  blk_ext [e, rowOf]
theorem rd1 (X : (⟨2, ![5632, 2048]⟩ : Shape).Idx → EReal) (t : Fin cfg0.N) (j : Fin 1408) (k : Fin 2048) :
    (win0_1.blk t).view.read (Elt Ideal) X (ix2 j k) = X (ix2 (colOf t j) k) := by
  have e := idx1 t
  blk_ext [e, colOf]
theorem rd2 (X : (⟨2, ![4352, 5632]⟩ : Shape).Idx → EReal) (t : Fin cfg0.N) (i : Fin 1088) (j : Fin 1408) :
    (win0_2.blk t).view.read (Elt Ideal) X (ix2 i j) = X (ix2 (rowOf t i) (colOf t j)) := by
  have e := idx2 t
  blk_ext [e, rowOf, colOf]

/-- A block's product. -/
theorem pay_at (a : FVec Ideal S1088x2048 .bf16) (b : FVec Ideal S1408x2048 .bf16) (i : Fin 1088) (j : Fin 1408) :
    k0_pay1 (F := Ideal) a b (ix2 i j) = ∑ k : Fin 2048, a (ix2 i k) * b (ix2 j k) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 5632]⟩ : Shape).Idx → EReal := prod (m ((c.tc : Thread nD τ).loc main_arg0)) (m ((c.tc : Thread nD τ).loc main_arg1))

theorem point (t : Fin cfg0.N) (i : Fin 1088) (j : Fin 1408) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 1408] : Fin 2 → ℕ) a by decide) fun β => by
    have h0 : (β (0 : Fin 2)).val < 4 := (β (0 : Fin 2)).isLt.trans_eq (show (4352 + 1088 - 1) / 1088 = 4 from rfl)
    have h1 : (β (1 : Fin 2)).val < 4 := (β (1 : Fin 2)).isLt.trans_eq (show (5632 + 1408 - 1) / 1408 = 4 from rfl)
    have hs : (β (0 : Fin 2)).val * 4 + (β (1 : Fin 2)).val < cfg0.N := by rw [show cfg0.N = 16 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 1408]⟩ : Shape).Idx) => ?_
  obtain ⟨i, j, rfl⟩ : ∃ (i : Fin 1088) (j : Fin 1408), y = ix2 i j := ⟨y 0, y 1, eq_ix2 y⟩
  exact (congrFun (after0_2 m c t) (ix2 i j)).trans (point m c t i j)

end Cert.FfnDownDxIdeal.Prod

namespace Cert.FfnDownDxRefIdeal.Prod

open Idealize.ShloMosaic Idealize.ShloMosaic.TcCoe Idealize.SL.Sem
open Cert.FfnDownDxRefIdeal Cert.FfnDownDxRefIdeal.Gen

/-- The reference's term is the product. -/
theorem eq (A : FVec Ideal S4352x2048 .bf16) (B : FVec Ideal S5632x2048 .bf16) :
    Host.dotGeneral dot_S4352x2048_S5632x2048_S4352x5632_1_1_0_0_n_n none (extf .f32 A bitsLt_bf16_f32) (extf .f32 B bitsLt_bf16_f32)
      = (fun y : (⟨2, ![4352, 5632]⟩ : Shape).Idx => ∑ k : Fin 2048, A (ix2 (y 0) k) * B (ix2 (y 1) k)) := by
  funext y
  obtain ⟨i, j, rfl⟩ : ∃ (i : Fin 4352) (j : Fin 5632), y = ix2 i j := ⟨y 0, y 1, eq_ix2 y⟩
  pointwise

end Cert.FfnDownDxRefIdeal.Prod

namespace Cert.Proof.FfnDownDx

open Idealize.ShloMosaic Idealize.ShloMosaic.TcCoe Idealize.SL.Sem

theorem frame : Cert.quiescent_FfnDownDx := fun m ρ _ => Cert.FfnDownDx.Gen.frame m ρ
theorem frame_ideal : Cert.quiescent_FfnDownDxIdeal := fun m ρ _ => Cert.FfnDownDxIdeal.Gen.frame m ρ
theorem frame_reference : Cert.quiescent_FfnDownDxRefIdeal := fun m ρ _ =>
  (θ_run _ _ _).mono (fun r h => ⟨fun c => (h c).2, sem_eq_zero_of_no_sems (by decide) r.2⟩) (Cert.FfnDownDxRefIdeal.Value.run (F := Ideal) m ρ)

theorem algebraic : Cert.algebraic_FfnDownDxIdeal_FfnDownDxRefIdeal := by
  intro m ρ m' ρ' _ hag
  refine ⟨fun c => FfnDownDxIdeal.Prod.res m c,
    (θ_run _ _ _).mono (fun _ h c => ⟨(h c).1.trans (FfnDownDxIdeal.Prod.final m c), (h c).2⟩) (FfnDownDxIdeal.Value.run_blocks (F := Ideal) m ρ),
    (θ_run _ _ _).mono (fun _ h c => ⟨(h c).1.trans ?_, (h c).2⟩) (FfnDownDxRefIdeal.Value.run (F := Ideal) m' ρ')⟩
  refine (FfnDownDxRefIdeal.Prod.eq _ _).trans ?_
  rw [(hag c).1, (hag c).2]
  rfl

end Cert.Proof.FfnDownDx

end
-- ==== Proof.FfnDownDwVal.lean ====
module

public import proofs.«01_k».proof.Defs
public import proofs.«01_k».proof.Proof.Gen.FfnDownDw.Frame
public import proofs.«01_k».proof.Proof.Gen.FfnDownDwIdeal.Value
public import proofs.«01_k».proof.Proof.Gen.FfnDownDwRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_down_dw`: the transposed activations times the cotangent. -/
namespace Cert.FfnDownDwIdeal.Prod

open Idealize.ShloMosaic Idealize.ShloMosaic.TcCoe Idealize.SL.Sem
open Cert.FfnDownDwIdeal Cert.FfnDownDwIdeal.Gen

/-- The product of two whole arrays. -/
def prod (A : (⟨2, ![5632, 4352]⟩ : Shape).Idx → EReal) (B : (⟨2, ![4352, 2048]⟩ : Shape).Idx → EReal) : (⟨2, ![5632, 2048]⟩ : Shape).Idx → EReal :=
  fun y => ∑ k : Fin 4352, A (ix2 (y 0) k) * B (ix2 k (y 1))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 44 := t.isLt.trans_eq N_0

/-- Row `i` and column `j` of point `t`'s block. -/
def rowOf (t : Fin cfg0.N) (i : Fin 512) : Fin 5632 := ⟨t.val / 4 * 512 + i.val, by have := tlt t; omega⟩
def colOf (t : Fin cfg0.N) (j : Fin 512) : Fin 2048 := ⟨t.val % 4 * 512 + j.val, by omega⟩

theorem rd0 (X : (⟨2, ![5632, 4352]⟩ : Shape).Idx → EReal) (t : Fin cfg0.N) (i : Fin 512) (k : Fin 4352) :
    (win0_0.blk t).view.read (Elt Ideal) X (ix2 i k) = X (ix2 (rowOf t i) k) := by
  have e := idx0 t
  blk_ext [e, rowOf]
theorem rd1 (X : (⟨2, ![4352, 2048]⟩ : Shape).Idx → EReal) (t : Fin cfg0.N) (j : Fin 512) (k : Fin 4352) :
    (win0_1.blk t).view.read (Elt Ideal) X (ix2 k j) = X (ix2 k (colOf t j)) := by
  have e := idx1 t
  blk_ext [e, colOf]
theorem rd2 (X : (⟨2, ![5632, 2048]⟩ : Shape).Idx → EReal) (t : Fin cfg0.N) (i : Fin 512) (j : Fin 512) :
    (win0_2.blk t).view.read (Elt Ideal) X (ix2 i j) = X (ix2 (rowOf t i) (colOf t j)) := by
  have e := idx2 t
  blk_ext [e, rowOf, colOf]

/-- A block's product. -/
theorem pay_at (a : FVec Ideal S512x4352 .bf16) (b : FVec Ideal S4352x512 .bf16) (i : Fin 512) (j : Fin 512) :
    k0_pay1 (F := Ideal) a b (ix2 i j) = ∑ k : Fin 4352, a (ix2 i k) * b (ix2 k j) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![5632, 2048]⟩ : Shape).Idx → EReal := prod (m ((c.tc : Thread nD τ).loc main_arg0)) (m ((c.tc : Thread nD τ).loc main_arg1))

theorem point (t : Fin cfg0.N) (i : Fin 512) (j : Fin 512) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![512, 512] : Fin 2 → ℕ) a by decide) fun β => by
    have h0 : (β (0 : Fin 2)).val < 11 := (β (0 : Fin 2)).isLt.trans_eq (show (5632 + 512 - 1) / 512 = 11 from rfl)
    have h1 : (β (1 : Fin 2)).val < 4 := (β (1 : Fin 2)).isLt.trans_eq (show (2048 + 512 - 1) / 512 = 4 from rfl)
    have hs : (β (0 : Fin 2)).val * 4 + (β (1 : Fin 2)).val < cfg0.N := by rw [show cfg0.N = 44 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![512, 512]⟩ : Shape).Idx) => ?_
  obtain ⟨i, j, rfl⟩ : ∃ (i : Fin 512) (j : Fin 512), y = ix2 i j := ⟨y 0, y 1, eq_ix2 y⟩
  exact (congrFun (after0_2 m c t) (ix2 i j)).trans (point m c t i j)

end Cert.FfnDownDwIdeal.Prod

namespace Cert.FfnDownDwRefIdeal.Prod

open Idealize.ShloMosaic Idealize.ShloMosaic.TcCoe Idealize.SL.Sem
open Cert.FfnDownDwRefIdeal Cert.FfnDownDwRefIdeal.Gen

/-- The reference's term is the product. -/
theorem eq (A : FVec Ideal S5632x4352 .bf16) (B : FVec Ideal S4352x2048 .bf16) :
    truncf .bf16 (transpose S5632x2048 [1, 0] (Host.dotGeneral dot_S4352x2048_S4352x5632_S2048x5632_0_0_1_1_n_n none (extf .f32 B bitsLt_bf16_f32) (transpose S4352x5632 [1, 0] (extf .f32 A bitsLt_bf16_f32) transposes_S5632x4352_S4352x5632_1_0)) transposes_S2048x5632_S5632x2048_1_0) bitsLt_bf16_f32
      = (fun y : (⟨2, ![5632, 2048]⟩ : Shape).Idx => ∑ k : Fin 4352, A (ix2 (y 0) k) * B (ix2 k (y 1))) := by
  funext y
  obtain ⟨i, j, rfl⟩ : ∃ (i : Fin 5632) (j : Fin 2048), y = ix2 i j := ⟨y 0, y 1, eq_ix2 y⟩
  pointwise
  exact Finset.sum_congr rfl fun _ _ => mul_comm _ _

end Cert.FfnDownDwRefIdeal.Prod

namespace Cert.Proof.FfnDownDw

open Idealize.ShloMosaic Idealize.ShloMosaic.TcCoe Idealize.SL.Sem

theorem frame : Cert.quiescent_FfnDownDw := fun m ρ _ => Cert.FfnDownDw.Gen.frame m ρ
theorem frame_ideal : Cert.quiescent_FfnDownDwIdeal := fun m ρ _ => Cert.FfnDownDwIdeal.Gen.frame m ρ
theorem frame_reference : Cert.quiescent_FfnDownDwRefIdeal := fun m ρ _ =>
  (θ_run _ _ _).mono (fun r h => ⟨fun c => (h c).2, sem_eq_zero_of_no_sems (by decide) r.2⟩) (Cert.FfnDownDwRefIdeal.Value.run (F := Ideal) m ρ)

theorem algebraic : Cert.algebraic_FfnDownDwIdeal_FfnDownDwRefIdeal := by
  intro m ρ m' ρ' _ hag
  refine ⟨fun c => FfnDownDwIdeal.Prod.res m c,
    (θ_run _ _ _).mono (fun _ h c => ⟨(h c).1.trans (FfnDownDwIdeal.Prod.final m c), (h c).2⟩) (FfnDownDwIdeal.Value.run_blocks (F := Ideal) m ρ),
    (θ_run _ _ _).mono (fun _ h c => ⟨(h c).1.trans ?_, (h c).2⟩) (FfnDownDwRefIdeal.Value.run (F := Ideal) m' ρ')⟩
  refine (FfnDownDwRefIdeal.Prod.eq _ _).trans ?_
  rw [(hag c).1, (hag c).2]
  rfl

end Cert.Proof.FfnDownDw

end
-- ==== Proof.FfnUpVal.lean ====
module

public import proofs.«01_k».proof.Defs
public import proofs.«01_k».proof.Proof.Gen.FfnUp.Frame
public import proofs.«01_k».proof.Proof.Gen.FfnUpIdeal.Value
public import proofs.«01_k».proof.Proof.Gen.FfnUpRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_up`: the normed rows times the weight, whose columns are kept in eight shards. -/
namespace Cert.FfnUpIdeal.Prod

open Idealize.ShloMosaic Idealize.ShloMosaic.TcCoe Idealize.SL.Sem
open Cert.FfnUpIdeal Cert.FfnUpIdeal.Gen

/-- Column `q`'s shard and its place there. -/
def sh (q : Fin 11264) : Fin 8 := ⟨q.val / 1408, by omega⟩
def pl (q : Fin 11264) : Fin 1408 := ⟨q.val % 1408, by omega⟩

/-- The product of two whole arrays. -/
def prod (A : (⟨2, ![4352, 2048]⟩ : Shape).Idx → EReal) (B : (⟨3, ![8, 2048, 1408]⟩ : Shape).Idx → EReal) : (⟨2, ![4352, 11264]⟩ : Shape).Idx → EReal :=
  fun y => ∑ k : Fin 2048, A (ix2 (y 0) k) * B (ix3 (sh (y 1)) k (pl (y 1)))

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![t.val % 8, 0, 0] := (by decide +kernel : ∀ t : Fin grid0.N, win0_1.index t = ![t.val % 8, 0, 0])
theorem idx2 : ∀ t : Fin cfg0.N, win0_2.index t = ![t.val / 8, t.val % 8] := (by decide +kernel : ∀ t : Fin grid0.N, win0_2.index t = ![t.val / 8, t.val % 8])

theorem tlt (t : Fin cfg0.N) : t.val < 32 := t.isLt.trans_eq N_0

/-- Row `i` and column `j` of point `t`'s block. -/
def rowOf (t : Fin cfg0.N) (i : Fin 1088) : Fin 4352 := ⟨t.val / 8 * 1088 + i.val, by have := tlt t; omega⟩
def colOf (t : Fin cfg0.N) (j : Fin 1408) : Fin 11264 := ⟨t.val % 8 * 1408 + j.val, by omega⟩

theorem rd0 (X : (⟨2, ![4352, 2048]⟩ : Shape).Idx → EReal) (t : Fin cfg0.N) (i : Fin 1088) (k : Fin 2048) :
    (win0_0.blk t).view.read (Elt Ideal) X (ix2 i k) = X (ix2 (rowOf t i) k) := by
  have e := idx0 t
  blk_ext [e, rowOf]
theorem rd1 (X : (⟨3, ![8, 2048, 1408]⟩ : Shape).Idx → EReal) (t : Fin cfg0.N) (j : Fin 1408) (k : Fin 2048) :
    (win0_1.blk t).view.read (Elt Ideal) X (ix3 (0 : Fin 1) k j) = X (ix3 (sh (colOf t j)) k (pl (colOf t j))) := by
  have e := idx1 t
  have h1 : sh (colOf t j) = ⟨t.val % 8, by omega⟩ := Fin.ext (by unfold sh colOf; dsimp only; omega)
  have h2 : pl (colOf t j) = j := Fin.ext (by unfold pl colOf; dsimp only; omega)
  rw [h1, h2]
  blk_ext [e]
theorem rd2 (X : (⟨2, ![4352, 11264]⟩ : Shape).Idx → EReal) (t : Fin cfg0.N) (i : Fin 1088) (j : Fin 1408) :
    (win0_2.blk t).view.read (Elt Ideal) X (ix2 i j) = X (ix2 (rowOf t i) (colOf t j)) := by
  have e := idx2 t
  blk_ext [e, rowOf, colOf]

/-- A block's product. -/
theorem pay_at (a : FVec Ideal S1088x2048 .bf16) (b : FVec Ideal S1x2048x1408 .bf16) (i : Fin 1088) (j : Fin 1408) :
    k0_pay1 (F := Ideal) a b (ix2 i j) = ∑ k : Fin 2048, a (ix2 i k) * b (ix3 (0 : Fin 1) k j) := by
  unfold k0_pay1
  pointwise

theorem hz3 : (![0, 0, 0] : Fin 3 → Nat) = fun _ => 0 := funext fun a => by fin_cases a <;> rfl
theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 11264]⟩ : Shape).Idx → EReal := prod (m ((c.tc : Thread nD τ).loc main_arg0)) (m ((c.tc : Thread nD τ).loc main_arg1))

theorem point (t : Fin cfg0.N) (i : Fin 1088) (j : Fin 1408) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz3]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 1408] : Fin 2 → ℕ) a by decide) fun β => by
    have h0 : (β (0 : Fin 2)).val < 4 := (β (0 : Fin 2)).isLt.trans_eq (show (4352 + 1088 - 1) / 1088 = 4 from rfl)
    have h1 : (β (1 : Fin 2)).val < 8 := (β (1 : Fin 2)).isLt.trans_eq (show (11264 + 1408 - 1) / 1408 = 8 from rfl)
    have hs : (β (0 : Fin 2)).val * 8 + (β (1 : Fin 2)).val < cfg0.N := by rw [show cfg0.N = 32 from N_0]; omega
    have k : ∀ a : Fin 2, (![((β (0 : Fin 2)).val * 8 + (β (1 : Fin 2)).val) / 8, ((β (0 : Fin 2)).val * 8 + (β (1 : Fin 2)).val) % 8] : Fin 2 → ℕ) a = (β a).val :=
      Fin.forall_fin_two.mpr ⟨show ((β (0 : Fin 2)).val * 8 + (β (1 : Fin 2)).val) / 8 = _ by omega, show ((β (0 : Fin 2)).val * 8 + (β (1 : Fin 2)).val) % 8 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 1408]⟩ : Shape).Idx) => ?_
  obtain ⟨i, j, rfl⟩ : ∃ (i : Fin 1088) (j : Fin 1408), y = ix2 i j := ⟨y 0, y 1, eq_ix2 y⟩
  exact (congrFun (after0_2 m c t) (ix2 i j)).trans (point m c t i j)

end Cert.FfnUpIdeal.Prod

namespace Cert.FfnUpRefIdeal.Prod

open Idealize.ShloMosaic Idealize.ShloMosaic.TcCoe Idealize.SL.Sem
open Cert.FfnUpRefIdeal Cert.FfnUpRefIdeal.Gen

/-- The reference's term is the product. -/
theorem eq (A : FVec Ideal S4352x2048 .bf16) (B : FVec Ideal S8x2048x1408 .bf16) :
    Host.dotGeneral dot_S4352x2048_S2048x11264_S4352x11264_1_0_0_1_n_n none (extf .f32 A bitsLt_bf16_f32) (shapeCast _ (transpose S2048x8x1408 [1, 0, 2] (extf .f32 B bitsLt_bf16_f32) transposes_S8x2048x1408_S2048x8x1408_1_0_2) shapeCasts_S2048x8x1408_S2048x11264)
      = (fun y : (⟨2, ![4352, 11264]⟩ : Shape).Idx => ∑ k : Fin 2048, A (ix2 (y 0) k) * B (ix3 (FfnUpIdeal.Prod.sh (y 1)) k (FfnUpIdeal.Prod.pl (y 1)))) := by
  funext y
  obtain ⟨i, j, rfl⟩ : ∃ (i : Fin 4352) (j : Fin 11264), y = ix2 i j := ⟨y 0, y 1, eq_ix2 y⟩
  pointwise
  exact Finset.sum_congr rfl fun _ _ => rfl

end Cert.FfnUpRefIdeal.Prod

namespace Cert.Proof.FfnUp

open Idealize.ShloMosaic Idealize.ShloMosaic.TcCoe Idealize.SL.Sem

theorem frame : Cert.quiescent_FfnUp := fun m ρ _ => Cert.FfnUp.Gen.frame m ρ
theorem frame_ideal : Cert.quiescent_FfnUpIdeal := fun m ρ _ => Cert.FfnUpIdeal.Gen.frame m ρ
theorem frame_reference : Cert.quiescent_FfnUpRefIdeal := fun m ρ _ =>
  (θ_run _ _ _).mono (fun r h => ⟨fun c => (h c).2, sem_eq_zero_of_no_sems (by decide) r.2⟩) (Cert.FfnUpRefIdeal.Value.run (F := Ideal) m ρ)

theorem algebraic : Cert.algebraic_FfnUpIdeal_FfnUpRefIdeal := by
  intro m ρ m' ρ' _ hag
  refine ⟨fun c => FfnUpIdeal.Prod.res m c,
    (θ_run _ _ _).mono (fun _ h c => ⟨(h c).1.trans (FfnUpIdeal.Prod.final m c), (h c).2⟩) (FfnUpIdeal.Value.run_blocks (F := Ideal) m ρ),
    (θ_run _ _ _).mono (fun _ h c => ⟨(h c).1.trans ?_, (h c).2⟩) (FfnUpRefIdeal.Value.run (F := Ideal) m' ρ')⟩
  refine (FfnUpRefIdeal.Prod.eq _ _).trans ?_
  rw [(hag c).1, (hag c).2]
  rfl

end Cert.Proof.FfnUp

end
-- ==== Proof.FfnUpDxVal.lean ====
module

public import proofs.«01_k».proof.Defs
public import proofs.«01_k».proof.Proof.Gen.FfnUpDx.Frame
public import proofs.«01_k».proof.Proof.Gen.FfnUpDxIdeal.Value
public import proofs.«01_k».proof.Proof.Gen.FfnUpDxRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_up_dx`: the cotangent times the transposed weight, whose columns are kept in eight shards. -/
namespace Cert.FfnUpDxIdeal.Prod

open Idealize.ShloMosaic Idealize.ShloMosaic.TcCoe Idealize.SL.Sem
open Cert.FfnUpDxIdeal Cert.FfnUpDxIdeal.Gen

/-- Column `q`'s shard and its place there. -/
def sh (q : Fin 11264) : Fin 8 := ⟨q.val / 1408, by omega⟩
def pl (q : Fin 11264) : Fin 1408 := ⟨q.val % 1408, by omega⟩

/-- The product of the left array and the sharded right one. -/
def prod (A : (⟨2, ![4352, 11264]⟩ : Shape).Idx → EReal) (B : (⟨3, ![8, 2048, 1408]⟩ : Shape).Idx → EReal) : (⟨2, ![4352, 2048]⟩ : Shape).Idx → EReal :=
  fun y => ∑ k : Fin 11264, A (ix2 (y 0) k) * B (ix3 (sh k) (y 1) (pl k))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4, 0] := (by decide +kernel : ∀ t : Fin grid0.N, win0_1.index t = ![0, t.val % 4, 0])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 32 := t.isLt.trans_eq N_0

/-- Row `i` and column `j` of point `t`'s block. -/
def rowOf (t : Fin cfg0.N) (i : Fin 544) : Fin 4352 := ⟨t.val / 4 * 544 + i.val, by have := tlt t; omega⟩
def colOf (t : Fin cfg0.N) (j : Fin 512) : Fin 2048 := ⟨t.val % 4 * 512 + j.val, by omega⟩

theorem rd0 (X : (⟨2, ![4352, 11264]⟩ : Shape).Idx → EReal) (t : Fin cfg0.N) (i : Fin 544) (k : Fin 11264) :
    (win0_0.blk t).view.read (Elt Ideal) X (ix2 i k) = X (ix2 (rowOf t i) k) := by
  have e := idx0 t
  blk_ext [e, rowOf]
theorem rd1 (X : (⟨3, ![8, 2048, 1408]⟩ : Shape).Idx → EReal) (t : Fin cfg0.N) (g : Fin 8) (j : Fin 512) (k : Fin 1408) :
    (win0_1.blk t).view.read (Elt Ideal) X (ix3 g j k) = X (ix3 g (colOf t j) k) := by
  have e := idx1 t
  blk_ext [e, colOf]
theorem rd2 (X : (⟨2, ![4352, 2048]⟩ : Shape).Idx → EReal) (t : Fin cfg0.N) (i : Fin 544) (j : Fin 512) :
    (win0_2.blk t).view.read (Elt Ideal) X (ix2 i j) = X (ix2 (rowOf t i) (colOf t j)) := by
  have e := idx2 t
  blk_ext [e, rowOf, colOf]

/-- The first five shards' products, and the last three's added to them. -/
theorem pay2_at (v0 : FVec Ideal S544x1408 .bf16) (v1 : FVec Ideal S1x512x1408 .bf16) (v4 : FVec Ideal S544x1408 .bf16) (v5 : FVec Ideal S1x512x1408 .bf16) (v9 : FVec Ideal S544x1408 .bf16) (v10 : FVec Ideal S1x512x1408 .bf16) (v14 : FVec Ideal S544x1408 .bf16) (v15 : FVec Ideal S1x512x1408 .bf16) (v19 : FVec Ideal S544x1408 .bf16) (v20 : FVec Ideal S1x512x1408 .bf16) (i : Fin 544) (j : Fin 512) :
    k0_pay2 (F := Ideal) v0 v1 v4 v5 v9 v10 v14 v15 v19 v20 (ix2 i j) = (∑ k : Fin 1408, v0 (ix2 i k) * v1 (ix3 (0 : Fin 1) j k)) + (∑ k : Fin 1408, v4 (ix2 i k) * v5 (ix3 (0 : Fin 1) j k)) + (∑ k : Fin 1408, v9 (ix2 i k) * v10 (ix3 (0 : Fin 1) j k)) + (∑ k : Fin 1408, v14 (ix2 i k) * v15 (ix3 (0 : Fin 1) j k)) + (∑ k : Fin 1408, v19 (ix2 i k) * v20 (ix3 (0 : Fin 1) j k)) := by
  unfold k0_pay2
  pointwise
theorem pay1_at (v23 : FVec Ideal S544x512 .f32) (v24 : FVec Ideal S544x1408 .bf16) (v25 : FVec Ideal S1x512x1408 .bf16) (v29 : FVec Ideal S544x1408 .bf16) (v30 : FVec Ideal S1x512x1408 .bf16) (v34 : FVec Ideal S544x1408 .bf16) (v35 : FVec Ideal S1x512x1408 .bf16) (i : Fin 544) (j : Fin 512) :
    k0_pay1 (F := Ideal) v23 v24 v25 v29 v30 v34 v35 (ix2 i j) = v23 (ix2 i j) + (∑ k : Fin 1408, v24 (ix2 i k) * v25 (ix3 (0 : Fin 1) j k)) + (∑ k : Fin 1408, v29 (ix2 i k) * v30 (ix3 (0 : Fin 1) j k)) + (∑ k : Fin 1408, v34 (ix2 i k) * v35 (ix3 (0 : Fin 1) j k)) := by
  unfold k0_pay1
  pointwise

/-- A slice of the left block, and a shard of the right one, read at an index. -/
theorem ldA (X : Vec Ideal S544x11264 .bf16) (g : Fin 8) (o : ℕ) (ho : o = g.val * 1408) (inb : ∀ a, (![0, o] : Fin 2 → ℕ) a + S544x1408.size a ≤ S544x11264.size a) (i : Fin 544) (k : Fin 1408) :
    View.ld X (Rect.unit (s := S544x11264) ![0, o] S544x1408.size inb) (ix2 i k) = X (ix2 i ⟨g.val * 1408 + k.val, by omega⟩) := by
  refine congrArg X (funext fun a => Fin.ext ((Rect.idx_unit_val _ _ _ _ a).trans ?_))
  match a with
  | ⟨0, _⟩ => show 0 + i.val = i.val; omega
  | ⟨1, _⟩ => show o + k.val = g.val * 1408 + k.val; omega
theorem ldB (X : Vec Ideal S8x512x1408 .bf16) (g : Fin 8) (o : ℕ) (ho : o = g.val) (inb : ∀ a, (![o, 0, 0] : Fin 3 → ℕ) a + S1x512x1408.size a ≤ S8x512x1408.size a) (j : Fin 512) (k : Fin 1408) :
    View.ld X (Rect.unit (s := S8x512x1408) ![o, 0, 0] S1x512x1408.size inb) (ix3 (0 : Fin 1) j k) = X (ix3 g j k) := by
  refine congrArg X (funext fun a => Fin.ext ((Rect.idx_unit_val _ _ _ _ a).trans ?_))
  match a with
  | ⟨0, _⟩ => show o + 0 = g.val; omega
  | ⟨1, _⟩ => show 0 + j.val = j.val; omega
  | ⟨2, _⟩ => show 0 + k.val = k.val; omega

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 2048]⟩ : Shape).Idx → EReal := prod (m ((c.tc : Thread nD τ).loc main_arg0)) (m ((c.tc : Thread nD τ).loc main_arg1))

/-- Shard `g`'s part of an entry. -/
theorem part (a : FVec Ideal S544x1408 .bf16) (b : FVec Ideal S1x512x1408 .bf16) (X : (⟨2, ![4352, 11264]⟩ : Shape).Idx → EReal) (Y : (⟨3, ![8, 2048, 1408]⟩ : Shape).Idx → EReal)
    (i : Fin 544) (j : Fin 512) (r : Fin 4352) (q : Fin 2048) (g : Fin 8)
    (ha : ∀ k : Fin 1408, a (ix2 i k) = X (ix2 r ⟨g.val * 1408 + k.val, by omega⟩)) (hb : ∀ k : Fin 1408, b (ix3 (0 : Fin 1) j k) = Y (ix3 g q k)) :
    (∑ k : Fin 1408, a (ix2 i k) * b (ix3 (0 : Fin 1) j k))
      = ∑ k : Fin 1408, (fun p : Fin 11264 => X (ix2 r p) * Y (ix3 (sh p) q (pl p))) ⟨g.val * 1408 + k.val, by omega⟩ := by
  refine Finset.sum_congr rfl fun k _ => ?_
  have e1 : sh ⟨g.val * 1408 + k.val, by omega⟩ = g := Fin.ext (show (g.val * 1408 + k.val) / 1408 = g.val by omega)
  have e2 : pl ⟨g.val * 1408 + k.val, by omega⟩ = k := Fin.ext (show (g.val * 1408 + k.val) % 1408 = k.val by omega)
  refine congrArg₂ (fun x y : EReal => x * y) (ha k) ?_
  rw [e1, e2]
  exact hb k

theorem lft (t : Fin cfg0.N) (i : Fin 544) (g : Fin 8) (o : ℕ) (ho : o = g.val * 1408) (inb : ∀ a, (![0, o] : Fin 2 → ℕ) a + S544x1408.size a ≤ S544x11264.size a) (k : Fin 1408) :
    View.ld (iblk m c 0 t) (Rect.unit (s := S544x11264) ![0, o] S544x1408.size inb) (ix2 i k) = m ((c.tc : Thread nD τ).loc main_arg0) (ix2 (rowOf t i) (⟨g.val * 1408 + k.val, by omega⟩ : Fin 11264)) :=
  (ldA (iblk m c 0 t) g o ho inb i k).trans (rd0 (m ((c.tc : Thread nD τ).loc main_arg0)) t i ⟨g.val * 1408 + k.val, by omega⟩)
theorem rgt (t : Fin cfg0.N) (j : Fin 512) (g : Fin 8) (o : ℕ) (ho : o = g.val) (inb : ∀ a, (![o, 0, 0] : Fin 3 → ℕ) a + S1x512x1408.size a ≤ S8x512x1408.size a) (k : Fin 1408) :
    View.ld (iblk m c 1 t) (Rect.unit (s := S8x512x1408) ![o, 0, 0] S1x512x1408.size inb) (ix3 (0 : Fin 1) j k) = m ((c.tc : Thread nD τ).loc main_arg1) (ix3 g (colOf t j) k) :=
  (ldB (iblk m c 1 t) g o ho inb j k).trans (rd1 (m ((c.tc : Thread nD τ).loc main_arg1)) t g j k)

theorem point (t : Fin cfg0.N) (i : Fin 544) (j : Fin 512) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz]
  refine (pay1_at _ _ _ _ _ _ _ i j).trans ?_
  rw [pay2_at]
  unfold res prod
  refine Eq.trans ?_ (Fin.sum_univ_tiles 8 1408 rfl _).symm
  rw [Fin.sum_univ_eight]
  exact (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (congrArg₂ (fun x y : EReal => x + y) (part _ _ _ _ i j _ _ 0 (lft m c t i 0 0 rfl _) (rgt m c t j 0 0 rfl _)) (part _ _ _ _ i j _ _ 1 (lft m c t i 1 1408 rfl _) (rgt m c t j 1 1 rfl _))) (part _ _ _ _ i j _ _ 2 (lft m c t i 2 2816 rfl _) (rgt m c t j 2 2 rfl _))) (part _ _ _ _ i j _ _ 3 (lft m c t i 3 4224 rfl _) (rgt m c t j 3 3 rfl _))) (part _ _ _ _ i j _ _ 4 (lft m c t i 4 5632 rfl _) (rgt m c t j 4 4 rfl _))) (part _ _ _ _ i j _ _ 5 (lft m c t i 5 7040 rfl _) (rgt m c t j 5 5 rfl _))) (part _ _ _ _ i j _ _ 6 (lft m c t i 6 8448 rfl _) (rgt m c t j 6 6 rfl _))) (part _ _ _ _ i j _ _ 7 (lft m c t i 7 9856 rfl _) (rgt m c t j 7 7 rfl _)))

theorem covers : (cfg0.win 2).Covers :=
  (cfg0.win 2).covers_of_index_surj rfl (show ∀ a : Fin 2, 0 < (![544, 512] : Fin 2 → ℕ) a by decide) fun β => by
    have h0 : (β (0 : Fin 2)).val < 8 := (β (0 : Fin 2)).isLt.trans_eq (show (4352 + 544 - 1) / 544 = 8 from rfl)
    have h1 : (β (1 : Fin 2)).val < 4 := (β (1 : Fin 2)).isLt.trans_eq (show (2048 + 512 - 1) / 512 = 4 from rfl)
    have hs : (β (0 : Fin 2)).val * 4 + (β (1 : Fin 2)).val < cfg0.N := by rw [show cfg0.N = 32 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![544, 512]⟩ : Shape).Idx) => ?_
  obtain ⟨i, j, rfl⟩ : ∃ (i : Fin 544) (j : Fin 512), y = ix2 i j := ⟨y 0, y 1, eq_ix2 y⟩
  exact (congrFun (after0_2 m c t) (ix2 i j)).trans (point m c t i j)

end Cert.FfnUpDxIdeal.Prod

namespace Cert.FfnUpDxRefIdeal.Prod

open Idealize.ShloMosaic Idealize.ShloMosaic.TcCoe Idealize.SL.Sem
open Cert.FfnUpDxRefIdeal Cert.FfnUpDxRefIdeal.Gen

/-- The reference's term is the product. -/
theorem eq (A : FVec Ideal S4352x11264 .bf16) (B : FVec Ideal S8x2048x1408 .bf16) :
    Host.dotGeneral dot_S4352x11264_S2048x11264_S4352x2048_1_1_0_0_n_n none (extf .f32 A bitsLt_bf16_f32) (shapeCast _ (transpose S2048x8x1408 [1, 0, 2] (extf .f32 B bitsLt_bf16_f32) transposes_S8x2048x1408_S2048x8x1408_1_0_2) shapeCasts_S2048x8x1408_S2048x11264)
      = (fun y : (⟨2, ![4352, 2048]⟩ : Shape).Idx => ∑ k : Fin 11264, A (ix2 (y 0) k) * B (ix3 (FfnUpDxIdeal.Prod.sh k) (y 1) (FfnUpDxIdeal.Prod.pl k))) := by
  funext y
  obtain ⟨i, j, rfl⟩ : ∃ (i : Fin 4352) (j : Fin 2048), y = ix2 i j := ⟨y 0, y 1, eq_ix2 y⟩
  pointwise
  exact Finset.sum_congr rfl fun _ _ => rfl

end Cert.FfnUpDxRefIdeal.Prod

namespace Cert.Proof.FfnUpDx

open Idealize.ShloMosaic Idealize.ShloMosaic.TcCoe Idealize.SL.Sem

theorem frame : Cert.quiescent_FfnUpDx := fun m ρ _ => Cert.FfnUpDx.Gen.frame m ρ
theorem frame_ideal : Cert.quiescent_FfnUpDxIdeal := fun m ρ _ => Cert.FfnUpDxIdeal.Gen.frame m ρ
theorem frame_reference : Cert.quiescent_FfnUpDxRefIdeal := fun m ρ _ =>
  (θ_run _ _ _).mono (fun r h => ⟨fun c => (h c).2, sem_eq_zero_of_no_sems (by decide) r.2⟩) (Cert.FfnUpDxRefIdeal.Value.run (F := Ideal) m ρ)

theorem algebraic : Cert.algebraic_FfnUpDxIdeal_FfnUpDxRefIdeal := by
  intro m ρ m' ρ' _ hag
  refine ⟨fun c => FfnUpDxIdeal.Prod.res m c,
    (θ_run _ _ _).mono (fun _ h c => ⟨(h c).1.trans (FfnUpDxIdeal.Prod.final m c), (h c).2⟩) (FfnUpDxIdeal.Value.run_blocks (F := Ideal) m ρ),
    (θ_run _ _ _).mono (fun _ h c => ⟨(h c).1.trans ?_, (h c).2⟩) (FfnUpDxRefIdeal.Value.run (F := Ideal) m' ρ')⟩
  refine (FfnUpDxRefIdeal.Prod.eq _ _).trans ?_
  rw [(hag c).1, (hag c).2]
  rfl

end Cert.Proof.FfnUpDx

end
-- ==== Proof.FfnUpDwVal.lean ====
module

public import proofs.«01_k».proof.Defs
public import proofs.«01_k».proof.Proof.Gen.FfnUpDw.Frame
public import proofs.«01_k».proof.Proof.Gen.FfnUpDwIdeal.Value
public import proofs.«01_k».proof.Proof.Gen.FfnUpDwRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `ffn_up_dw`: the transposed rows times the cotangent, its columns kept in eight shards. -/
namespace Cert.FfnUpDwIdeal.Prod

open Idealize.ShloMosaic Idealize.ShloMosaic.TcCoe Idealize.SL.Sem
open Cert.FfnUpDwIdeal Cert.FfnUpDwIdeal.Gen

/-- Column `j` of shard `g`. -/
def col (g : Fin 8) (j : Fin 1408) : Fin 11264 := ⟨g.val * 1408 + j.val, by omega⟩

/-- The product of two whole arrays, its columns in eight shards. -/
def prod (A : (⟨2, ![2048, 4352]⟩ : Shape).Idx → EReal) (B : (⟨2, ![4352, 11264]⟩ : Shape).Idx → EReal) : (⟨3, ![8, 2048, 1408]⟩ : Shape).Idx → EReal :=
  fun y => ∑ k : Fin 4352, A (ix2 (y 1) k) * B (ix2 k (col (y 0) (y 2)))

theorem idx0 : ∀ t : Fin cfg0.N, win0_0.index t = ![t.val / 8, 0] := (by decide +kernel : ∀ t : Fin grid0.N, win0_0.index t = ![t.val / 8, 0])
theorem idx1 : ∀ t : Fin cfg0.N, win0_1.index t = ![0, t.val % 8] := (by decide +kernel : ∀ t : Fin grid0.N, win0_1.index t = ![0, t.val % 8])
theorem idx2 : ∀ t : Fin cfg0.N, win0_2.index t = ![t.val % 8, t.val / 8, 0] := (by decide +kernel : ∀ t : Fin grid0.N, win0_2.index t = ![t.val % 8, t.val / 8, 0])

theorem tlt (t : Fin cfg0.N) : t.val < 32 := t.isLt.trans_eq N_0

/-- Row `i` and column `j` of point `t`'s block. -/
def rowOf (t : Fin cfg0.N) (i : Fin 512) : Fin 2048 := ⟨t.val / 8 * 512 + i.val, by have := tlt t; omega⟩
def colOf (t : Fin cfg0.N) (j : Fin 1408) : Fin 11264 := ⟨t.val % 8 * 1408 + j.val, by omega⟩

theorem rd0 (X : (⟨2, ![2048, 4352]⟩ : Shape).Idx → EReal) (t : Fin cfg0.N) (i : Fin 512) (k : Fin 4352) :
    (win0_0.blk t).view.read (Elt Ideal) X (ix2 i k) = X (ix2 (rowOf t i) k) := by
  have e := idx0 t
  blk_ext [e, rowOf]
theorem rd1 (X : (⟨2, ![4352, 11264]⟩ : Shape).Idx → EReal) (t : Fin cfg0.N) (j : Fin 1408) (k : Fin 4352) :
    (win0_1.blk t).view.read (Elt Ideal) X (ix2 k j) = X (ix2 k (colOf t j)) := by
  have e := idx1 t
  blk_ext [e, colOf]
theorem rd2 (X : (⟨3, ![8, 2048, 1408]⟩ : Shape).Idx → EReal) (t : Fin cfg0.N) (g : Fin 1) (i : Fin 512) (j : Fin 1408) :
    (win0_2.blk t).view.read (Elt Ideal) X (ix3 g i j) = X (ix3 (⟨t.val % 8 * 1 + g.val, by omega⟩ : Fin 8) (rowOf t i) j) := by
  have e := idx2 t
  blk_ext [e, rowOf]

/-- A block's product. -/
theorem pay_at (a : FVec Ideal S512x4352 .bf16) (b : FVec Ideal S4352x1408 .bf16) (i : Fin 512) (j : Fin 1408) :
    k0_pay1 (F := Ideal) a b (ix3 (0 : Fin 1) i j) = ∑ k : Fin 4352, a (ix2 i k) * b (ix2 k j) := by
  unfold k0_pay1
  pointwise

theorem hz3 : (![0, 0, 0] : Fin 3 → Nat) = fun _ => 0 := funext fun a => by fin_cases a <;> rfl
theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨3, ![8, 2048, 1408]⟩ : Shape).Idx → EReal := prod (m ((c.tc : Thread nD τ).loc main_arg0)) (m ((c.tc : Thread nD τ).loc main_arg1))

theorem point (t : Fin cfg0.N) (g : Fin 1) (i : Fin 512) (j : Fin 1408) :
    out0_2 (iblk m c 0 t) (iblk m c 1 t) (ix3 g i j) = (win0_2.blk t).view.read (Elt Ideal) (res m c) (ix3 g i j) := by
  refine Eq.trans ?_ (rd2 (res m c) t g i j).symm
  unfold out0_2
  rw [View.canon_unit_zero hz3, View.ld_unit_zero hz, View.ld_unit_zero hz]
  obtain rfl : g = 0 := Subsingleton.elim _ _
  refine (pay_at _ _ i j).trans ?_
  unfold res prod
  have e : colOf t j = col (⟨t.val % 8 * 1 + 0, by omega⟩ : Fin 8) j := Fin.ext (by show t.val % 8 * 1408 + j.val = (t.val % 8 * 1 + 0) * 1408 + j.val; omega)
  refine Finset.sum_congr rfl fun k _ => ?_
  exact congrArg₂ (fun x y : EReal => x * y) (rd0 (m ((c.tc : Thread nD τ).loc main_arg0)) t i k)
    ((rd1 (m ((c.tc : Thread nD τ).loc main_arg1)) t j k).trans (congrArg (fun q => m ((c.tc : Thread nD τ).loc main_arg1) (ix2 k q)) e))

theorem covers : (cfg0.win 2).Covers :=
  (cfg0.win 2).covers_of_index_surj rfl (show ∀ a : Fin 3, 0 < (![1, 512, 1408] : Fin 3 → ℕ) a by decide) fun β => by
    have h0 : (β (0 : Fin 3)).val < 8 := (β (0 : Fin 3)).isLt.trans_eq (show (8 + 1 - 1) / 1 = 8 from rfl)
    have h1 : (β (1 : Fin 3)).val < 4 := (β (1 : Fin 3)).isLt.trans_eq (show (2048 + 512 - 1) / 512 = 4 from rfl)
    have h2 : (β (2 : Fin 3)).val < 1 := (β (2 : Fin 3)).isLt.trans_eq (show (1408 + 1408 - 1) / 1408 = 1 from rfl)
    have hs : (β (1 : Fin 3)).val * 8 + (β (0 : Fin 3)).val < cfg0.N := by rw [show cfg0.N = 32 from N_0]; omega
    have k : ∀ a : Fin 3, (![((β (1 : Fin 3)).val * 8 + (β (0 : Fin 3)).val) % 8, ((β (1 : Fin 3)).val * 8 + (β (0 : Fin 3)).val) / 8, 0] : Fin 3 → ℕ) a = (β a).val := fun a => by
      match a with
      | ⟨0, _⟩ => show ((β (1 : Fin 3)).val * 8 + (β (0 : Fin 3)).val) % 8 = (β (0 : Fin 3)).val; omega
      | ⟨1, _⟩ => show ((β (1 : Fin 3)).val * 8 + (β (0 : Fin 3)).val) / 8 = (β (1 : Fin 3)).val; omega
      | ⟨2, _⟩ => show 0 = (β (2 : Fin 3)).val; omega
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨3, ![1, 512, 1408]⟩ : Shape).Idx) => ?_
  obtain ⟨g, i, j, rfl⟩ : ∃ (g : Fin 1) (i : Fin 512) (j : Fin 1408), y = ix3 g i j := ⟨y 0, y 1, y 2, eq_ix3 y⟩
  exact (congrFun (after0_2 m c t) (ix3 g i j)).trans (point m c t g i j)

end Cert.FfnUpDwIdeal.Prod

namespace Cert.FfnUpDwRefIdeal.Prod

open Idealize.ShloMosaic Idealize.ShloMosaic.TcCoe Idealize.SL.Sem
open Cert.FfnUpDwRefIdeal Cert.FfnUpDwRefIdeal.Gen

/-- The reference's term is the product. -/
theorem eq (A : FVec Ideal S2048x4352 .bf16) (B : FVec Ideal S4352x11264 .bf16) :
    truncf .bf16 (transpose S8x2048x1408 [1, 0, 2] (shapeCast _ (transpose S2048x11264 [1, 0] (Host.dotGeneral dot_S4352x11264_S4352x2048_S11264x2048_0_0_1_1_n_n none (extf .f32 B bitsLt_bf16_f32) (transpose S4352x2048 [1, 0] (extf .f32 A bitsLt_bf16_f32) transposes_S2048x4352_S4352x2048_1_0)) transposes_S11264x2048_S2048x11264_1_0) shapeCasts_S2048x11264_S2048x8x1408) transposes_S2048x8x1408_S8x2048x1408_1_0_2) bitsLt_bf16_f32
      = (fun y : (⟨3, ![8, 2048, 1408]⟩ : Shape).Idx => ∑ k : Fin 4352, A (ix2 (y 1) k) * B (ix2 k (FfnUpDwIdeal.Prod.col (y 0) (y 2)))) := by
  funext y
  obtain ⟨g, i, j, rfl⟩ : ∃ (g : Fin 8) (i : Fin 2048) (j : Fin 1408), y = ix3 g i j := ⟨y 0, y 1, y 2, eq_ix3 y⟩
  pointwise
  exact Finset.sum_congr rfl fun _ _ => mul_comm _ _

end Cert.FfnUpDwRefIdeal.Prod

namespace Cert.Proof.FfnUpDw

open Idealize.ShloMosaic Idealize.ShloMosaic.TcCoe Idealize.SL.Sem

theorem frame : Cert.quiescent_FfnUpDw := fun m ρ _ => Cert.FfnUpDw.Gen.frame m ρ
theorem frame_ideal : Cert.quiescent_FfnUpDwIdeal := fun m ρ _ => Cert.FfnUpDwIdeal.Gen.frame m ρ
theorem frame_reference : Cert.quiescent_FfnUpDwRefIdeal := fun m ρ _ =>
  (θ_run _ _ _).mono (fun r h => ⟨fun c => (h c).2, sem_eq_zero_of_no_sems (by decide) r.2⟩) (Cert.FfnUpDwRefIdeal.Value.run (F := Ideal) m ρ)

theorem algebraic : Cert.algebraic_FfnUpDwIdeal_FfnUpDwRefIdeal := by
  intro m ρ m' ρ' _ hag
  refine ⟨fun c => FfnUpDwIdeal.Prod.res m c,
    (θ_run _ _ _).mono (fun _ h c => ⟨(h c).1.trans (FfnUpDwIdeal.Prod.final m c), (h c).2⟩) (FfnUpDwIdeal.Value.run_blocks (F := Ideal) m ρ),
    (θ_run _ _ _).mono (fun _ h c => ⟨(h c).1.trans ?_, (h c).2⟩) (FfnUpDwRefIdeal.Value.run (F := Ideal) m' ρ')⟩
  refine (FfnUpDwRefIdeal.Prod.eq _ _).trans ?_
  rw [(hag c).1, (hag c).2]
  rfl

end Cert.Proof.FfnUpDw

end
-- ==== Proof.ProjInVal.lean ====
module

public import proofs.«01_k».proof.Defs
public import proofs.«01_k».proof.Proof.Gen.ProjIn.Frame
public import proofs.«01_k».proof.Proof.Gen.ProjInIdeal.Value
public import proofs.«01_k».proof.Proof.Gen.ProjInRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_in`: the normed rows times the weight. -/
namespace Cert.ProjInIdeal.Prod

open Idealize.ShloMosaic Idealize.ShloMosaic.TcCoe Idealize.SL.Sem
open Cert.ProjInIdeal Cert.ProjInIdeal.Gen

/-- The product of two whole arrays. -/
def prod (A : (⟨2, ![4352, 2048]⟩ : Shape).Idx → EReal) (B : (⟨2, ![2048, 5632]⟩ : Shape).Idx → EReal) : (⟨2, ![4352, 5632]⟩ : Shape).Idx → EReal :=
  fun y => ∑ k : Fin 2048, A (ix2 (y 0) k) * B (ix2 k (y 1))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 16 := t.isLt.trans_eq N_0

/-- Row `i` and column `j` of point `t`'s block. -/
def rowOf (t : Fin cfg0.N) (i : Fin 1088) : Fin 4352 := ⟨t.val / 4 * 1088 + i.val, by have := tlt t; omega⟩
def colOf (t : Fin cfg0.N) (j : Fin 1408) : Fin 5632 := ⟨t.val % 4 * 1408 + j.val, by omega⟩

theorem rd0 (X : (⟨2, ![4352, 2048]⟩ : Shape).Idx → EReal) (t : Fin cfg0.N) (i : Fin 1088) (k : Fin 2048) :
    (win0_0.blk t).view.read (Elt Ideal) X (ix2 i k) = X (ix2 (rowOf t i) k) := by
  have e := idx0 t
  blk_ext [e, rowOf]
theorem rd1 (X : (⟨2, ![2048, 5632]⟩ : Shape).Idx → EReal) (t : Fin cfg0.N) (j : Fin 1408) (k : Fin 2048) :
    (win0_1.blk t).view.read (Elt Ideal) X (ix2 k j) = X (ix2 k (colOf t j)) := by
  have e := idx1 t
  blk_ext [e, colOf]
theorem rd2 (X : (⟨2, ![4352, 5632]⟩ : Shape).Idx → EReal) (t : Fin cfg0.N) (i : Fin 1088) (j : Fin 1408) :
    (win0_2.blk t).view.read (Elt Ideal) X (ix2 i j) = X (ix2 (rowOf t i) (colOf t j)) := by
  have e := idx2 t
  blk_ext [e, rowOf, colOf]

/-- A block's product. -/
theorem pay_at (a : FVec Ideal S1088x2048 .bf16) (b : FVec Ideal S2048x1408 .bf16) (i : Fin 1088) (j : Fin 1408) :
    k0_pay1 (F := Ideal) a b (ix2 i j) = ∑ k : Fin 2048, a (ix2 i k) * b (ix2 k j) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 5632]⟩ : Shape).Idx → EReal := prod (m ((c.tc : Thread nD τ).loc main_arg0)) (m ((c.tc : Thread nD τ).loc main_arg1))

theorem point (t : Fin cfg0.N) (i : Fin 1088) (j : Fin 1408) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 1408] : Fin 2 → ℕ) a by decide) fun β => by
    have h0 : (β (0 : Fin 2)).val < 4 := (β (0 : Fin 2)).isLt.trans_eq (show (4352 + 1088 - 1) / 1088 = 4 from rfl)
    have h1 : (β (1 : Fin 2)).val < 4 := (β (1 : Fin 2)).isLt.trans_eq (show (5632 + 1408 - 1) / 1408 = 4 from rfl)
    have hs : (β (0 : Fin 2)).val * 4 + (β (1 : Fin 2)).val < cfg0.N := by rw [show cfg0.N = 16 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 1408]⟩ : Shape).Idx) => ?_
  obtain ⟨i, j, rfl⟩ : ∃ (i : Fin 1088) (j : Fin 1408), y = ix2 i j := ⟨y 0, y 1, eq_ix2 y⟩
  exact (congrFun (after0_2 m c t) (ix2 i j)).trans (point m c t i j)

end Cert.ProjInIdeal.Prod

namespace Cert.ProjInRefIdeal.Prod

open Idealize.ShloMosaic Idealize.ShloMosaic.TcCoe Idealize.SL.Sem
open Cert.ProjInRefIdeal Cert.ProjInRefIdeal.Gen

/-- The reference's term is the product. -/
theorem eq (A : FVec Ideal S4352x2048 .bf16) (B : FVec Ideal S2048x5632 .bf16) :
    Host.dotGeneral dot_S4352x2048_S2048x5632_S4352x5632_1_0_0_1_n_n none (extf .f32 A bitsLt_bf16_f32) (extf .f32 B bitsLt_bf16_f32)
      = (fun y : (⟨2, ![4352, 5632]⟩ : Shape).Idx => ∑ k : Fin 2048, A (ix2 (y 0) k) * B (ix2 k (y 1))) := by
  funext y
  obtain ⟨i, j, rfl⟩ : ∃ (i : Fin 4352) (j : Fin 5632), y = ix2 i j := ⟨y 0, y 1, eq_ix2 y⟩
  pointwise

end Cert.ProjInRefIdeal.Prod

namespace Cert.Proof.ProjIn

open Idealize.ShloMosaic Idealize.ShloMosaic.TcCoe Idealize.SL.Sem

theorem frame : Cert.quiescent_ProjIn := fun m ρ _ => Cert.ProjIn.Gen.frame m ρ
theorem frame_ideal : Cert.quiescent_ProjInIdeal := fun m ρ _ => Cert.ProjInIdeal.Gen.frame m ρ
theorem frame_reference : Cert.quiescent_ProjInRefIdeal := fun m ρ _ =>
  (θ_run _ _ _).mono (fun r h => ⟨fun c => (h c).2, sem_eq_zero_of_no_sems (by decide) r.2⟩) (Cert.ProjInRefIdeal.Value.run (F := Ideal) m ρ)

theorem algebraic : Cert.algebraic_ProjInIdeal_ProjInRefIdeal := by
  intro m ρ m' ρ' _ hag
  refine ⟨fun c => ProjInIdeal.Prod.res m c,
    (θ_run _ _ _).mono (fun _ h c => ⟨(h c).1.trans (ProjInIdeal.Prod.final m c), (h c).2⟩) (ProjInIdeal.Value.run_blocks (F := Ideal) m ρ),
    (θ_run _ _ _).mono (fun _ h c => ⟨(h c).1.trans ?_, (h c).2⟩) (ProjInRefIdeal.Value.run (F := Ideal) m' ρ')⟩
  refine (ProjInRefIdeal.Prod.eq _ _).trans ?_
  rw [(hag c).1, (hag c).2]
  rfl

end Cert.Proof.ProjIn

end
-- ==== Proof.ProjInDxVal.lean ====
module

public import proofs.«01_k».proof.Defs
public import proofs.«01_k».proof.Proof.Gen.ProjInDx.Frame
public import proofs.«01_k».proof.Proof.Gen.ProjInDxIdeal.Value
public import proofs.«01_k».proof.Proof.Gen.ProjInDxRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_in_dx`: the cotangent times the transposed weight. -/
namespace Cert.ProjInDxIdeal.Prod

open Idealize.ShloMosaic Idealize.ShloMosaic.TcCoe Idealize.SL.Sem
open Cert.ProjInDxIdeal Cert.ProjInDxIdeal.Gen

/-- The product of two whole arrays. -/
def prod (A : (⟨2, ![4352, 5632]⟩ : Shape).Idx → EReal) (B : (⟨2, ![2048, 5632]⟩ : Shape).Idx → EReal) : (⟨2, ![4352, 2048]⟩ : Shape).Idx → EReal :=
  fun y => ∑ k : Fin 5632, A (ix2 (y 0) k) * B (ix2 (y 1) k)

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![t.val % 4, 0] := (by decide +kernel : ∀ t : Fin grid0.N, win0_1.index t = ![t.val % 4, 0])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 16 := t.isLt.trans_eq N_0

/-- Row `i` and column `j` of point `t`'s block. -/
def rowOf (t : Fin cfg0.N) (i : Fin 1088) : Fin 4352 := ⟨t.val / 4 * 1088 + i.val, by have := tlt t; omega⟩
def colOf (t : Fin cfg0.N) (j : Fin 512) : Fin 2048 := ⟨t.val % 4 * 512 + j.val, by omega⟩

theorem rd0 (X : (⟨2, ![4352, 5632]⟩ : Shape).Idx → EReal) (t : Fin cfg0.N) (i : Fin 1088) (k : Fin 5632) :
    (win0_0.blk t).view.read (Elt Ideal) X (ix2 i k) = X (ix2 (rowOf t i) k) := by
  have e := idx0 t
  blk_ext [e, rowOf]
theorem rd1 (X : (⟨2, ![2048, 5632]⟩ : Shape).Idx → EReal) (t : Fin cfg0.N) (j : Fin 512) (k : Fin 5632) :
    (win0_1.blk t).view.read (Elt Ideal) X (ix2 j k) = X (ix2 (colOf t j) k) := by
  have e := idx1 t
  blk_ext [e, colOf]
theorem rd2 (X : (⟨2, ![4352, 2048]⟩ : Shape).Idx → EReal) (t : Fin cfg0.N) (i : Fin 1088) (j : Fin 512) :
    (win0_2.blk t).view.read (Elt Ideal) X (ix2 i j) = X (ix2 (rowOf t i) (colOf t j)) := by
  have e := idx2 t
  blk_ext [e, rowOf, colOf]

/-- A block's product. -/
theorem pay_at (a : FVec Ideal S1088x5632 .bf16) (b : FVec Ideal S512x5632 .bf16) (i : Fin 1088) (j : Fin 512) :
    k0_pay1 (F := Ideal) a b (ix2 i j) = ∑ k : Fin 5632, a (ix2 i k) * b (ix2 j k) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 2048]⟩ : Shape).Idx → EReal := prod (m ((c.tc : Thread nD τ).loc main_arg0)) (m ((c.tc : Thread nD τ).loc main_arg1))

theorem point (t : Fin cfg0.N) (i : Fin 1088) (j : Fin 512) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 512] : Fin 2 → ℕ) a by decide) fun β => by
    have h0 : (β (0 : Fin 2)).val < 4 := (β (0 : Fin 2)).isLt.trans_eq (show (4352 + 1088 - 1) / 1088 = 4 from rfl)
    have h1 : (β (1 : Fin 2)).val < 4 := (β (1 : Fin 2)).isLt.trans_eq (show (2048 + 512 - 1) / 512 = 4 from rfl)
    have hs : (β (0 : Fin 2)).val * 4 + (β (1 : Fin 2)).val < cfg0.N := by rw [show cfg0.N = 16 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 512]⟩ : Shape).Idx) => ?_
  obtain ⟨i, j, rfl⟩ : ∃ (i : Fin 1088) (j : Fin 512), y = ix2 i j := ⟨y 0, y 1, eq_ix2 y⟩
  exact (congrFun (after0_2 m c t) (ix2 i j)).trans (point m c t i j)

end Cert.ProjInDxIdeal.Prod

namespace Cert.ProjInDxRefIdeal.Prod

open Idealize.ShloMosaic Idealize.ShloMosaic.TcCoe Idealize.SL.Sem
open Cert.ProjInDxRefIdeal Cert.ProjInDxRefIdeal.Gen

/-- The reference's term is the product. -/
theorem eq (A : FVec Ideal S4352x5632 .bf16) (B : FVec Ideal S2048x5632 .bf16) :
    Host.dotGeneral dot_S4352x5632_S2048x5632_S4352x2048_1_1_0_0_n_n none (extf .f32 A bitsLt_bf16_f32) (extf .f32 B bitsLt_bf16_f32)
      = (fun y : (⟨2, ![4352, 2048]⟩ : Shape).Idx => ∑ k : Fin 5632, A (ix2 (y 0) k) * B (ix2 (y 1) k)) := by
  funext y
  obtain ⟨i, j, rfl⟩ : ∃ (i : Fin 4352) (j : Fin 2048), y = ix2 i j := ⟨y 0, y 1, eq_ix2 y⟩
  pointwise

end Cert.ProjInDxRefIdeal.Prod

namespace Cert.Proof.ProjInDx

open Idealize.ShloMosaic Idealize.ShloMosaic.TcCoe Idealize.SL.Sem

theorem frame : Cert.quiescent_ProjInDx := fun m ρ _ => Cert.ProjInDx.Gen.frame m ρ
theorem frame_ideal : Cert.quiescent_ProjInDxIdeal := fun m ρ _ => Cert.ProjInDxIdeal.Gen.frame m ρ
theorem frame_reference : Cert.quiescent_ProjInDxRefIdeal := fun m ρ _ =>
  (θ_run _ _ _).mono (fun r h => ⟨fun c => (h c).2, sem_eq_zero_of_no_sems (by decide) r.2⟩) (Cert.ProjInDxRefIdeal.Value.run (F := Ideal) m ρ)

theorem algebraic : Cert.algebraic_ProjInDxIdeal_ProjInDxRefIdeal := by
  intro m ρ m' ρ' _ hag
  refine ⟨fun c => ProjInDxIdeal.Prod.res m c,
    (θ_run _ _ _).mono (fun _ h c => ⟨(h c).1.trans (ProjInDxIdeal.Prod.final m c), (h c).2⟩) (ProjInDxIdeal.Value.run_blocks (F := Ideal) m ρ),
    (θ_run _ _ _).mono (fun _ h c => ⟨(h c).1.trans ?_, (h c).2⟩) (ProjInDxRefIdeal.Value.run (F := Ideal) m' ρ')⟩
  refine (ProjInDxRefIdeal.Prod.eq _ _).trans ?_
  rw [(hag c).1, (hag c).2]
  rfl

end Cert.Proof.ProjInDx

end
-- ==== Proof.ProjInDwVal.lean ====
module

public import proofs.«01_k».proof.Defs
public import proofs.«01_k».proof.Proof.Gen.ProjInDw.Frame
public import proofs.«01_k».proof.Proof.Gen.ProjInDwIdeal.Value
public import proofs.«01_k».proof.Proof.Gen.ProjInDwRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_in_dw`: half of the transposed rows times the cotangent, its columns kept in eight shards. -/
namespace Cert.ProjInDwIdeal.Prod

open Idealize.ShloMosaic Idealize.ShloMosaic.TcCoe Idealize.SL.Sem
open Cert.ProjInDwIdeal Cert.ProjInDwIdeal.Gen

/-- Column `j` of shard `g`. -/
def col (g : Fin 8) (j : Fin 704) : Fin 5632 := ⟨g.val * 704 + j.val, by omega⟩

/-- The product of two whole arrays, its columns in eight shards. -/
def prod (A : (⟨2, ![1024, 4352]⟩ : Shape).Idx → EReal) (B : (⟨2, ![4352, 5632]⟩ : Shape).Idx → EReal) : (⟨3, ![8, 1024, 704]⟩ : Shape).Idx → EReal :=
  fun y => ∑ k : Fin 4352, A (ix2 (y 1) k) * B (ix2 k (col (y 0) (y 2)))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val % 4, t.val / 4, 0] := (by decide +kernel : ∀ t : Fin grid0.N, win0_2.index t = ![t.val % 4, t.val / 4, 0])

theorem tlt (t : Fin cfg0.N) : t.val < 8 := t.isLt.trans_eq N_0

/-- Row `i` and column `j` of point `t`'s block. -/
def rowOf (t : Fin cfg0.N) (i : Fin 512) : Fin 1024 := ⟨t.val / 4 * 512 + i.val, by have := tlt t; omega⟩
def colOf (t : Fin cfg0.N) (j : Fin 1408) : Fin 5632 := ⟨t.val % 4 * 1408 + j.val, by omega⟩

theorem rd0 (X : (⟨2, ![1024, 4352]⟩ : Shape).Idx → EReal) (t : Fin cfg0.N) (i : Fin 512) (k : Fin 4352) :
    (win0_0.blk t).view.read (Elt Ideal) X (ix2 i k) = X (ix2 (rowOf t i) k) := by
  have e := idx0 t
  blk_ext [e, rowOf]
theorem rd1 (X : (⟨2, ![4352, 5632]⟩ : Shape).Idx → EReal) (t : Fin cfg0.N) (j : Fin 1408) (k : Fin 4352) :
    (win0_1.blk t).view.read (Elt Ideal) X (ix2 k j) = X (ix2 k (colOf t j)) := by
  have e := idx1 t
  blk_ext [e, colOf]
theorem rd2 (X : (⟨3, ![8, 1024, 704]⟩ : Shape).Idx → EReal) (t : Fin cfg0.N) (g : Fin 2) (i : Fin 512) (j : Fin 704) :
    (win0_2.blk t).view.read (Elt Ideal) X (ix3 g i j) = X (ix3 (⟨t.val % 4 * 2 + g.val, by omega⟩ : Fin 8) (rowOf t i) j) := by
  have e := idx2 t
  blk_ext [e, rowOf]

/-- A block's product. -/
theorem pay_at (a : FVec Ideal S512x4352 .bf16) (b : FVec Ideal S4352x1408 .bf16) (i : Fin 512) (j : Fin 1408) :
    k0_pay1 (F := Ideal) a b (ix2 i j) = ∑ k : Fin 4352, a (ix2 i k) * b (ix2 k j) := by
  unfold k0_pay1
  pointwise

theorem hz3 : (![0, 0, 0] : Fin 3 → Nat) = fun _ => 0 := funext fun a => by fin_cases a <;> rfl
theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨3, ![8, 1024, 704]⟩ : Shape).Idx → EReal := prod (m ((c.tc : Thread nD τ).loc main_arg0)) (m ((c.tc : Thread nD τ).loc main_arg1))

/-- The block's entry is the block product's. -/
theorem relaid (a : FVec Ideal S512x4352 .bf16) (b : FVec Ideal S4352x1408 .bf16) (g : Fin 2) (i : Fin 512) (j : Fin 704) :
    Value.E2 (F := Ideal) a b (ix3 g i j) = k0_pay1 (F := Ideal) a b (ix2 i (⟨g.val * 704 + j.val, by omega⟩ : Fin 1408)) := by
  have h : Value.ix2_0 (ix3 g i j) = ix2 i (⟨g.val * 704 + j.val, by omega⟩ : Fin 1408) := funext fun x => by
    match x with
    | ⟨0, _⟩ => rfl
    | ⟨1, _⟩ => rfl
  show FloatOps.truncf .bf16 bitsLt_bf16_f32 (k0_pay1 (F := Ideal) a b (Value.ix2_0 (ix3 g i j))) = _
  rw [h]
  generalize k0_pay1 (F := Ideal) a b (ix2 i (⟨g.val * 704 + j.val, by omega⟩ : Fin 1408)) = z
  rfl

theorem point (t : Fin cfg0.N) (g : Fin 2) (i : Fin 512) (j : Fin 704) :
    out0_2 (iblk m c 0 t) (iblk m c 1 t) (ix3 g i j) = (win0_2.blk t).view.read (Elt Ideal) (res m c) (ix3 g i j) := by
  refine Eq.trans ?_ (rd2 (res m c) t g i j).symm
  unfold out0_2
  rw [View.ld_unit_zero hz, View.ld_unit_zero hz]
  refine (Value.canon2_eq _ _ (ix3 g i j)).trans ?_
  refine (relaid _ _ g i j).trans ?_
  refine (pay_at _ _ i (⟨g.val * 704 + j.val, by omega⟩ : Fin 1408)).trans ?_
  unfold res prod
  have e : colOf t (⟨g.val * 704 + j.val, by omega⟩ : Fin 1408) = col (⟨t.val % 4 * 2 + g.val, by omega⟩ : Fin 8) j := Fin.ext (by show t.val % 4 * 1408 + (g.val * 704 + j.val) = (t.val % 4 * 2 + g.val) * 704 + j.val; omega)
  refine Finset.sum_congr rfl fun k _ => ?_
  exact congrArg₂ (fun x y : EReal => x * y) (rd0 (m ((c.tc : Thread nD τ).loc main_arg0)) t i k)
    ((rd1 (m ((c.tc : Thread nD τ).loc main_arg1)) t (⟨g.val * 704 + j.val, by omega⟩ : Fin 1408) k).trans (congrArg (fun q => m ((c.tc : Thread nD τ).loc main_arg1) (ix2 k q)) e))

theorem covers : (cfg0.win 2).Covers :=
  (cfg0.win 2).covers_of_index_surj rfl (show ∀ a : Fin 3, 0 < (![2, 512, 704] : Fin 3 → ℕ) a by decide) fun β => by
    have h0 : (β (0 : Fin 3)).val < 4 := (β (0 : Fin 3)).isLt.trans_eq (show (8 + 2 - 1) / 2 = 4 from rfl)
    have h1 : (β (1 : Fin 3)).val < 2 := (β (1 : Fin 3)).isLt.trans_eq (show (1024 + 512 - 1) / 512 = 2 from rfl)
    have h2 : (β (2 : Fin 3)).val < 1 := (β (2 : Fin 3)).isLt.trans_eq (show (704 + 704 - 1) / 704 = 1 from rfl)
    have hs : (β (1 : Fin 3)).val * 4 + (β (0 : Fin 3)).val < cfg0.N := by rw [show cfg0.N = 8 from N_0]; omega
    have k : ∀ a : Fin 3, (![((β (1 : Fin 3)).val * 4 + (β (0 : Fin 3)).val) % 4, ((β (1 : Fin 3)).val * 4 + (β (0 : Fin 3)).val) / 4, 0] : Fin 3 → ℕ) a = (β a).val := fun a => by
      match a with
      | ⟨0, _⟩ => show ((β (1 : Fin 3)).val * 4 + (β (0 : Fin 3)).val) % 4 = (β (0 : Fin 3)).val; omega
      | ⟨1, _⟩ => show ((β (1 : Fin 3)).val * 4 + (β (0 : Fin 3)).val) / 4 = (β (1 : Fin 3)).val; omega
      | ⟨2, _⟩ => show 0 = (β (2 : Fin 3)).val; omega
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨3, ![2, 512, 704]⟩ : Shape).Idx) => ?_
  obtain ⟨g, i, j, rfl⟩ : ∃ (g : Fin 2) (i : Fin 512) (j : Fin 704), y = ix3 g i j := ⟨y 0, y 1, y 2, eq_ix3 y⟩
  exact (congrFun (after0_2 m c t) (ix3 g i j)).trans (point m c t g i j)

end Cert.ProjInDwIdeal.Prod

namespace Cert.ProjInDwRefIdeal.Prod

open Idealize.ShloMosaic Idealize.ShloMosaic.TcCoe Idealize.SL.Sem
open Cert.ProjInDwRefIdeal Cert.ProjInDwRefIdeal.Gen

/-- The reference's term is the product. -/
theorem eq (A : FVec Ideal S1024x4352 .bf16) (B : FVec Ideal S4352x5632 .bf16) :
    truncf .bf16 (transpose S8x1024x704 [1, 0, 2] (shapeCast _ (transpose S1024x5632 [1, 0] (Host.dotGeneral dot_S4352x5632_S4352x1024_S5632x1024_0_0_1_1_n_n none (extf .f32 B bitsLt_bf16_f32) (transpose S4352x1024 [1, 0] (extf .f32 A bitsLt_bf16_f32) transposes_S1024x4352_S4352x1024_1_0)) transposes_S5632x1024_S1024x5632_1_0) shapeCasts_S1024x5632_S1024x8x704) transposes_S1024x8x704_S8x1024x704_1_0_2) bitsLt_bf16_f32
      = (fun y : (⟨3, ![8, 1024, 704]⟩ : Shape).Idx => ∑ k : Fin 4352, A (ix2 (y 1) k) * B (ix2 k (ProjInDwIdeal.Prod.col (y 0) (y 2)))) := by
  funext y
  obtain ⟨g, i, j, rfl⟩ : ∃ (g : Fin 8) (i : Fin 1024) (j : Fin 704), y = ix3 g i j := ⟨y 0, y 1, y 2, eq_ix3 y⟩
  pointwise
  exact Finset.sum_congr rfl fun _ _ => mul_comm _ _

end Cert.ProjInDwRefIdeal.Prod

namespace Cert.Proof.ProjInDw

open Idealize.ShloMosaic Idealize.ShloMosaic.TcCoe Idealize.SL.Sem

theorem frame : Cert.quiescent_ProjInDw := fun m ρ _ => Cert.ProjInDw.Gen.frame m ρ
theorem frame_ideal : Cert.quiescent_ProjInDwIdeal := fun m ρ _ => Cert.ProjInDwIdeal.Gen.frame m ρ
theorem frame_reference : Cert.quiescent_ProjInDwRefIdeal := fun m ρ _ =>
  (θ_run _ _ _).mono (fun r h => ⟨fun c => (h c).2, sem_eq_zero_of_no_sems (by decide) r.2⟩) (Cert.ProjInDwRefIdeal.Value.run (F := Ideal) m ρ)

theorem algebraic : Cert.algebraic_ProjInDwIdeal_ProjInDwRefIdeal := by
  intro m ρ m' ρ' _ hag
  refine ⟨fun c => ProjInDwIdeal.Prod.res m c,
    (θ_run _ _ _).mono (fun _ h c => ⟨(h c).1.trans (ProjInDwIdeal.Prod.final m c), (h c).2⟩) (ProjInDwIdeal.Value.run_blocks (F := Ideal) m ρ),
    (θ_run _ _ _).mono (fun _ h c => ⟨(h c).1.trans ?_, (h c).2⟩) (ProjInDwRefIdeal.Value.run (F := Ideal) m' ρ')⟩
  refine (ProjInDwRefIdeal.Prod.eq _ _).trans ?_
  rw [(hag c).1, (hag c).2]
  rfl

end Cert.Proof.ProjInDw

end
-- ==== Proof.ProjOutVal.lean ====
module

public import proofs.«01_k».proof.Defs
public import proofs.«01_k».proof.Proof.Gen.ProjOut.Frame
public import proofs.«01_k».proof.Proof.Gen.ProjOutIdeal.Value
public import proofs.«01_k».proof.Proof.Gen.ProjOutRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_out`: the mixture, kept as three column blocks, times the weight. -/
namespace Cert.ProjOutIdeal.Prod

open Idealize.ShloMosaic Idealize.ShloMosaic.TcCoe Idealize.SL.Sem
open Cert.ProjOutIdeal Cert.ProjOutIdeal.Gen

/-- The three blocks' products with their rows of the weight, added. -/
def prod (R : (⟨2, ![4352, 1024]⟩ : Shape).Idx → EReal) (C N : (⟨2, ![4352, 512]⟩ : Shape).Idx → EReal) (W : (⟨2, ![2048, 2048]⟩ : Shape).Idx → EReal) : (⟨2, ![4352, 2048]⟩ : Shape).Idx → EReal :=
  fun y => (∑ k : Fin 1024, R (ix2 (y 0) k) * W (ix2 ⟨k.val, by omega⟩ (y 1))) + (∑ k : Fin 512, C (ix2 (y 0) k) * W (ix2 ⟨1024 + k.val, by omega⟩ (y 1)))
      + ∑ k : Fin 512, N (ix2 (y 0) k) * W (ix2 ⟨1536 + k.val, by omega⟩ (y 1))

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![t.val / 2, 0] := (by decide +kernel : ∀ t : Fin grid0.N, win0_1.index t = ![t.val / 2, 0])
theorem idx2 : ∀ t : Fin cfg0.N, win0_2.index t = ![t.val / 2, 0] := (by decide +kernel : ∀ t : Fin grid0.N, win0_2.index t = ![t.val / 2, 0])
theorem idx3 : ∀ t : Fin cfg0.N, win0_3.index t = ![0, t.val % 2] := (by decide +kernel : ∀ t : Fin grid0.N, win0_3.index t = ![0, t.val % 2])
theorem idx4 : ∀ t : Fin cfg0.N, win0_4.index t = ![t.val / 2, t.val % 2] := (by decide +kernel : ∀ t : Fin grid0.N, win0_4.index t = ![t.val / 2, t.val % 2])

theorem tlt (t : Fin cfg0.N) : t.val < 8 := t.isLt.trans_eq N_0

/-- Row `i` and column `j` of point `t`'s block. -/
def rowOf (t : Fin cfg0.N) (i : Fin 1088) : Fin 4352 := ⟨t.val / 2 * 1088 + i.val, by have := tlt t; omega⟩
def colOf (t : Fin cfg0.N) (j : Fin 1024) : Fin 2048 := ⟨t.val % 2 * 1024 + j.val, by omega⟩

theorem rd0 (X : (⟨2, ![4352, 1024]⟩ : Shape).Idx → EReal) (t : Fin cfg0.N) (i : Fin 1088) (k : Fin 1024) :
    (win0_0.blk t).view.read (Elt Ideal) X (ix2 i k) = X (ix2 (rowOf t i) k) := by
  have e := idx0 t
  blk_ext [e, rowOf]
theorem rd1 (X : (⟨2, ![4352, 512]⟩ : Shape).Idx → EReal) (t : Fin cfg0.N) (i : Fin 1088) (k : Fin 512) :
    (win0_1.blk t).view.read (Elt Ideal) X (ix2 i k) = X (ix2 (rowOf t i) k) := by
  have e := idx1 t
  blk_ext [e, rowOf]
theorem rd2 (X : (⟨2, ![4352, 512]⟩ : Shape).Idx → EReal) (t : Fin cfg0.N) (i : Fin 1088) (k : Fin 512) :
    (win0_2.blk t).view.read (Elt Ideal) X (ix2 i k) = X (ix2 (rowOf t i) k) := by
  have e := idx2 t
  blk_ext [e, rowOf]
theorem rd3 (X : (⟨2, ![2048, 2048]⟩ : Shape).Idx → EReal) (t : Fin cfg0.N) (j : Fin 1024) (k : Fin 2048) :
    (win0_3.blk t).view.read (Elt Ideal) X (ix2 k j) = X (ix2 k (colOf t j)) := by
  have e := idx3 t
  blk_ext [e, colOf]
theorem rd4 (X : (⟨2, ![4352, 2048]⟩ : Shape).Idx → EReal) (t : Fin cfg0.N) (i : Fin 1088) (j : Fin 1024) :
    (win0_4.blk t).view.read (Elt Ideal) X (ix2 i j) = X (ix2 (rowOf t i) (colOf t j)) := by
  have e := idx4 t
  blk_ext [e, rowOf, colOf]

/-- A block's three products. -/
theorem pay_at (v0 : FVec Ideal S1088x1024 .bf16) (v1 : FVec Ideal S1024x1024 .bf16) (v3 : FVec Ideal S1088x512 .bf16) (v4 : FVec Ideal S512x1024 .bf16)
    (v7 : FVec Ideal S1088x512 .bf16) (v8 : FVec Ideal S512x1024 .bf16) (i : Fin 1088) (j : Fin 1024) :
    k0_pay1 (F := Ideal) v0 v1 v3 v4 v7 v8 (ix2 i j)
      = (∑ k : Fin 1024, v0 (ix2 i k) * v1 (ix2 k j)) + (∑ k : Fin 512, v3 (ix2 i k) * v4 (ix2 k j)) + ∑ k : Fin 512, v7 (ix2 i k) * v8 (ix2 k j) := by
  unfold k0_pay1
  pointwise

theorem hz : (![0, 0] : Fin 2 → Nat) = fun _ => 0 := funext fun a => by fin_cases a <;> rfl

/-- Rows of the weight's block read at an index. -/
theorem ldW0 (X : Vec Ideal S2048x1024 .bf16) (inb : ∀ a, (![0, 0] : Fin 2 → ℕ) a + S1024x1024.size a ≤ S2048x1024.size a) (k : Fin 1024) (j : Fin 1024) :
    View.ld X (Rect.unit (s := S2048x1024) ![0, 0] S1024x1024.size inb) (ix2 k j) = X (ix2 (⟨k.val, by omega⟩ : Fin 2048) j) := by
  refine congrArg X (funext fun a => Fin.ext ((Rect.idx_unit_val _ _ _ _ a).trans ?_))
  match a with
  | ⟨0, _⟩ => show 0 + k.val = k.val; omega
  | ⟨1, _⟩ => show 0 + j.val = j.val; omega
theorem ldW1 (X : Vec Ideal S2048x1024 .bf16) (inb : ∀ a, (![1024, 0] : Fin 2 → ℕ) a + S512x1024.size a ≤ S2048x1024.size a) (k : Fin 512) (j : Fin 1024) :
    View.ld X (Rect.unit (s := S2048x1024) ![1024, 0] S512x1024.size inb) (ix2 k j) = X (ix2 (⟨1024 + k.val, by omega⟩ : Fin 2048) j) := by
  refine congrArg X (funext fun a => Fin.ext ((Rect.idx_unit_val _ _ _ _ a).trans ?_))
  match a with
  | ⟨0, _⟩ => show 1024 + k.val = 1024 + k.val; omega
  | ⟨1, _⟩ => show 0 + j.val = j.val; omega
theorem ldW2 (X : Vec Ideal S2048x1024 .bf16) (inb : ∀ a, (![1536, 0] : Fin 2 → ℕ) a + S512x1024.size a ≤ S2048x1024.size a) (k : Fin 512) (j : Fin 1024) :
    View.ld X (Rect.unit (s := S2048x1024) ![1536, 0] S512x1024.size inb) (ix2 k j) = X (ix2 (⟨1536 + k.val, by omega⟩ : Fin 2048) j) := by
  refine congrArg X (funext fun a => Fin.ext ((Rect.idx_unit_val _ _ _ _ a).trans ?_))
  match a with
  | ⟨0, _⟩ => show 1536 + k.val = 1536 + k.val; omega
  | ⟨1, _⟩ => show 0 + j.val = j.val; omega

variable (m : (ℓ : Loc nD τ sig) → Buf (Elt Ideal) ℓ) (ρ : Dev nD → PrngReg) (c : Dev nD)

/-- The product of the arguments. -/
def res : (⟨2, ![4352, 2048]⟩ : Shape).Idx → EReal := prod (m ((c.tc : Thread nD τ).loc main_arg0)) (m ((c.tc : Thread nD τ).loc main_arg1)) (m ((c.tc : Thread nD τ).loc main_arg2)) (m ((c.tc : Thread nD τ).loc main_arg3))

theorem part0 (t : Fin cfg0.N) (i : Fin 1088) (j : Fin 1024) (inb : ∀ a, (![0, 0] : Fin 2 → ℕ) a + S1024x1024.size a ≤ S2048x1024.size a) (k : Fin 1024) :
    View.ld (iblk m c 3 t) (Rect.unit (s := S2048x1024) ![0, 0] S1024x1024.size inb) (ix2 k j) = m ((c.tc : Thread nD τ).loc main_arg3) (ix2 (⟨k.val, by omega⟩ : Fin 2048) (colOf t j)) :=
  (ldW0 (iblk m c 3 t) inb k j).trans (rd3 (m ((c.tc : Thread nD τ).loc main_arg3)) t j _)
theorem part1 (t : Fin cfg0.N) (i : Fin 1088) (j : Fin 1024) (inb : ∀ a, (![1024, 0] : Fin 2 → ℕ) a + S512x1024.size a ≤ S2048x1024.size a) (k : Fin 512) :
    View.ld (iblk m c 3 t) (Rect.unit (s := S2048x1024) ![1024, 0] S512x1024.size inb) (ix2 k j) = m ((c.tc : Thread nD τ).loc main_arg3) (ix2 (⟨1024 + k.val, by omega⟩ : Fin 2048) (colOf t j)) :=
  (ldW1 (iblk m c 3 t) inb k j).trans (rd3 (m ((c.tc : Thread nD τ).loc main_arg3)) t j _)
theorem part2 (t : Fin cfg0.N) (i : Fin 1088) (j : Fin 1024) (inb : ∀ a, (![1536, 0] : Fin 2 → ℕ) a + S512x1024.size a ≤ S2048x1024.size a) (k : Fin 512) :
    View.ld (iblk m c 3 t) (Rect.unit (s := S2048x1024) ![1536, 0] S512x1024.size inb) (ix2 k j) = m ((c.tc : Thread nD τ).loc main_arg3) (ix2 (⟨1536 + k.val, by omega⟩ : Fin 2048) (colOf t j)) :=
  (ldW2 (iblk m c 3 t) inb k j).trans (rd3 (m ((c.tc : Thread nD τ).loc main_arg3)) t j _)

theorem point (t : Fin cfg0.N) (i : Fin 1088) (j : Fin 1024) :
    out0_4 (iblk m c 0 t) (iblk m c 1 t) (iblk m c 2 t) (iblk m c 3 t) (ix2 i j) = (win0_4.blk t).view.read (Elt Ideal) (res m c) (ix2 i j) := by
  refine Eq.trans ?_ (rd4 (res m c) t i j).symm
  unfold out0_4
  rw [View.canon_unit_zero hz, View.ld_unit_zero hz, View.ld_unit_zero hz, View.ld_unit_zero hz]
  refine (pay_at _ _ _ _ _ _ i j).trans ?_
  unfold res prod
  exact congrArg₂ (fun x y : EReal => x + y) (congrArg₂ (fun x y : EReal => x + y)
    (Finset.sum_congr rfl fun k _ => congrArg₂ (fun x y : EReal => x * y) (rd0 (m ((c.tc : Thread nD τ).loc main_arg0)) t i k) (part0 m c t i j _ k))
    (Finset.sum_congr rfl fun k _ => congrArg₂ (fun x y : EReal => x * y) (rd1 (m ((c.tc : Thread nD τ).loc main_arg1)) t i k) (part1 m c t i j _ k)))
    (Finset.sum_congr rfl fun k _ => congrArg₂ (fun x y : EReal => x * y) (rd2 (m ((c.tc : Thread nD τ).loc main_arg2)) t i k) (part2 m c t i j _ k))

theorem covers : (cfg0.win 4).Covers :=
  (cfg0.win 4).covers_of_index_surj rfl (show ∀ a : Fin 2, 0 < (![1088, 1024] : Fin 2 → ℕ) a by decide) fun β => by
    have h0 : (β (0 : Fin 2)).val < 4 := (β (0 : Fin 2)).isLt.trans_eq (show (4352 + 1088 - 1) / 1088 = 4 from rfl)
    have h1 : (β (1 : Fin 2)).val < 2 := (β (1 : Fin 2)).isLt.trans_eq (show (2048 + 1024 - 1) / 1024 = 2 from rfl)
    have hs : (β (0 : Fin 2)).val * 2 + (β (1 : Fin 2)).val < cfg0.N := by rw [show cfg0.N = 8 from N_0]; omega
    have k : ∀ a : Fin 2, (![((β (0 : Fin 2)).val * 2 + (β (1 : Fin 2)).val) / 2, ((β (0 : Fin 2)).val * 2 + (β (1 : Fin 2)).val) % 2] : Fin 2 → ℕ) a = (β a).val :=
      Fin.forall_fin_two.mpr ⟨show ((β (0 : Fin 2)).val * 2 + (β (1 : Fin 2)).val) / 2 = _ by omega, show ((β (0 : Fin 2)).val * 2 + (β (1 : Fin 2)).val) % 2 = _ by omega⟩
    exact ⟨⟨_, hs⟩, fun a => (congrFun (idx4 ⟨_, hs⟩) a).trans (k a)⟩

theorem final : (dats m 0 c).arrAt 4 cfg0.N = res m c := by
  refine (dats m 0 c).arrAt_eq_of_covers 4 _ covers fun t hf (y : (⟨2, ![1088, 1024]⟩ : Shape).Idx) => ?_
  obtain ⟨i, j, rfl⟩ : ∃ (i : Fin 1088) (j : Fin 1024), y = ix2 i j := ⟨y 0, y 1, eq_ix2 y⟩
  exact (congrFun (after0_4 m c t) (ix2 i j)).trans (point m c t i j)

end Cert.ProjOutIdeal.Prod

namespace Cert.ProjOutRefIdeal.Prod

open Idealize.ShloMosaic Idealize.ShloMosaic.TcCoe Idealize.SL.Sem
open Cert.ProjOutRefIdeal Cert.ProjOutRefIdeal.Gen

/-- The reference's term is the product. -/
theorem eq (A : FVec Ideal S4352x1024 .bf16) (B C : FVec Ideal S4352x512 .bf16) (D : FVec Ideal S2048x2048 .bf16) :
    Host.dotGeneral dot_S4352x2048_S2048x2048_S4352x2048_1_0_0_1_n_n none (extf .f32 ((concatenate S4352x2048 1 [⟨S4352x1024, (A : (⟨S4352x1024, .bf16⟩ : BufTy).Contents (Elt Ideal))⟩, ⟨S4352x512, (B : (⟨S4352x512, .bf16⟩ : BufTy).Contents (Elt Ideal))⟩, ⟨S4352x512, (C : (⟨S4352x512, .bf16⟩ : BufTy).Contents (Elt Ideal))⟩] concatenates_S4352x1024_S4352x512_S4352x512_S4352x2048_d1 : (⟨S4352x2048, .bf16⟩ : BufTy).Contents (Elt Ideal))) bitsLt_bf16_f32) (extf .f32 D bitsLt_bf16_f32)
      = ProjOutIdeal.Prod.prod A B C D := by
  funext y
  obtain ⟨i, j, rfl⟩ : ∃ (i : Fin 4352) (j : Fin 2048), y = ix2 i j := ⟨y 0, y 1, eq_ix2 y⟩
  pointwise [sumSplitAll, ProjOutIdeal.Prod.prod]
  exact (add_assoc _ _ _).symm.trans (congrArg (fun z : EReal => _ + z) (Finset.sum_congr rfl fun x _ =>
    congrArg (fun r : Fin 2048 => C (ix2 i x) * D (ix2 r j)) (Fin.ext (show 1024 + (512 + x.val) = 1536 + x.val by omega))))

end Cert.ProjOutRefIdeal.Prod

namespace Cert.Proof.ProjOut

open Idealize.ShloMosaic Idealize.ShloMosaic.TcCoe Idealize.SL.Sem

theorem frame : Cert.quiescent_ProjOut := fun m ρ _ => Cert.ProjOut.Gen.frame m ρ
theorem frame_ideal : Cert.quiescent_ProjOutIdeal := fun m ρ _ => Cert.ProjOutIdeal.Gen.frame m ρ
theorem frame_reference : Cert.quiescent_ProjOutRefIdeal := fun m ρ _ =>
  (θ_run _ _ _).mono (fun r h => ⟨fun c => (h c).2, sem_eq_zero_of_no_sems (by decide) r.2⟩) (Cert.ProjOutRefIdeal.Value.run (F := Ideal) m ρ)

theorem algebraic : Cert.algebraic_ProjOutIdeal_ProjOutRefIdeal := by
  intro m ρ m' ρ' _ hag
  refine ⟨fun c => ProjOutIdeal.Prod.res m c,
    (θ_run _ _ _).mono (fun _ h c => ⟨(h c).1.trans (ProjOutIdeal.Prod.final m c), (h c).2⟩) (ProjOutIdeal.Value.run_blocks (F := Ideal) m ρ),
    (θ_run _ _ _).mono (fun _ h c => ⟨(h c).1.trans ?_, (h c).2⟩) (ProjOutRefIdeal.Value.run (F := Ideal) m' ρ')⟩
  refine (ProjOutRefIdeal.Prod.eq _ _ _ _).trans ?_
  rw [(hag c).1, (hag c).2.1, (hag c).2.2.1, (hag c).2.2.2]
  rfl

end Cert.Proof.ProjOut

end
-- ==== Proof.ProjOutDxVal.lean ====
module

public import proofs.«01_k».proof.Defs
public import proofs.«01_k».proof.Proof.Gen.ProjOutDx.Frame
public import proofs.«01_k».proof.Proof.Gen.ProjOutDxIdeal.Value
public import proofs.«01_k».proof.Proof.Gen.ProjOutDxRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_out_dx`: the cotangent times the transposed weight. -/
namespace Cert.ProjOutDxIdeal.Prod

open Idealize.ShloMosaic Idealize.ShloMosaic.TcCoe Idealize.SL.Sem
open Cert.ProjOutDxIdeal Cert.ProjOutDxIdeal.Gen

/-- The product of two whole arrays. -/
def prod (A : (⟨2, ![4352, 2048]⟩ : Shape).Idx → EReal) (B : (⟨2, ![2048, 2048]⟩ : Shape).Idx → EReal) : (⟨2, ![4352, 2048]⟩ : Shape).Idx → EReal :=
  fun y => ∑ k : Fin 2048, A (ix2 (y 0) k) * B (ix2 (y 1) k)

theorem idx0 : ∀ t : Fin cfg0.N, win0_0.index t = ![t.val / 2, 0] := (by decide +kernel : ∀ t : Fin grid0.N, win0_0.index t = ![t.val / 2, 0])
theorem idx1 : ∀ t : Fin cfg0.N, win0_1.index t = ![t.val % 2, 0] := (by decide +kernel : ∀ t : Fin grid0.N, win0_1.index t = ![t.val % 2, 0])
theorem idx2 : ∀ t : Fin cfg0.N, win0_2.index t = ![t.val / 2, t.val % 2] := (by decide +kernel : ∀ t : Fin grid0.N, win0_2.index t = ![t.val / 2, t.val % 2])

theorem tlt (t : Fin cfg0.N) : t.val < 8 := t.isLt.trans_eq N_0

/-- Row `i` and column `j` of point `t`'s block. -/
def rowOf (t : Fin cfg0.N) (i : Fin 1088) : Fin 4352 := ⟨t.val / 2 * 1088 + i.val, by have := tlt t; omega⟩
def colOf (t : Fin cfg0.N) (j : Fin 1024) : Fin 2048 := ⟨t.val % 2 * 1024 + j.val, by omega⟩

theorem rd0 (X : (⟨2, ![4352, 2048]⟩ : Shape).Idx → EReal) (t : Fin cfg0.N) (i : Fin 1088) (k : Fin 2048) :
    (win0_0.blk t).view.read (Elt Ideal) X (ix2 i k) = X (ix2 (rowOf t i) k) := by
  have e := idx0 t
  blk_ext [e, rowOf]
theorem rd1 (X : (⟨2, ![2048, 2048]⟩ : Shape).Idx → EReal) (t : Fin cfg0.N) (j : Fin 1024) (k : Fin 2048) :
    (win0_1.blk t).view.read (Elt Ideal) X (ix2 j k) = X (ix2 (colOf t j) k) := by
  have e := idx1 t
  blk_ext [e, colOf]
theorem rd2 (X : (⟨2, ![4352, 2048]⟩ : Shape).Idx → EReal) (t : Fin cfg0.N) (i : Fin 1088) (j : Fin 1024) :
    (win0_2.blk t).view.read (Elt Ideal) X (ix2 i j) = X (ix2 (rowOf t i) (colOf t j)) := by
  have e := idx2 t
  blk_ext [e, rowOf, colOf]

/-- A block's product. -/
theorem pay_at (a : FVec Ideal S1088x2048 .bf16) (b : FVec Ideal S1024x2048 .bf16) (i : Fin 1088) (j : Fin 1024) :
    k0_pay1 (F := Ideal) a b (ix2 i j) = ∑ k : Fin 2048, a (ix2 i k) * b (ix2 j k) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![4352, 2048]⟩ : Shape).Idx → EReal := prod (m ((c.tc : Thread nD τ).loc main_arg0)) (m ((c.tc : Thread nD τ).loc main_arg1))

theorem point (t : Fin cfg0.N) (i : Fin 1088) (j : Fin 1024) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![1088, 1024] : Fin 2 → ℕ) a by decide) fun β => by
    have h0 : (β (0 : Fin 2)).val < 4 := (β (0 : Fin 2)).isLt.trans_eq (show (4352 + 1088 - 1) / 1088 = 4 from rfl)
    have h1 : (β (1 : Fin 2)).val < 2 := (β (1 : Fin 2)).isLt.trans_eq (show (2048 + 1024 - 1) / 1024 = 2 from rfl)
    have hs : (β (0 : Fin 2)).val * 2 + (β (1 : Fin 2)).val < cfg0.N := by rw [show cfg0.N = 8 from N_0]; omega
    have k : ∀ a : Fin 2, (![((β (0 : Fin 2)).val * 2 + (β (1 : Fin 2)).val) / 2, ((β (0 : Fin 2)).val * 2 + (β (1 : Fin 2)).val) % 2] : Fin 2 → ℕ) a = (β a).val :=
      Fin.forall_fin_two.mpr ⟨show ((β (0 : Fin 2)).val * 2 + (β (1 : Fin 2)).val) / 2 = _ by omega, show ((β (0 : Fin 2)).val * 2 + (β (1 : Fin 2)).val) % 2 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![1088, 1024]⟩ : Shape).Idx) => ?_
  obtain ⟨i, j, rfl⟩ : ∃ (i : Fin 1088) (j : Fin 1024), y = ix2 i j := ⟨y 0, y 1, eq_ix2 y⟩
  exact (congrFun (after0_2 m c t) (ix2 i j)).trans (point m c t i j)

end Cert.ProjOutDxIdeal.Prod

namespace Cert.ProjOutDxRefIdeal.Prod

open Idealize.ShloMosaic Idealize.ShloMosaic.TcCoe Idealize.SL.Sem
open Cert.ProjOutDxRefIdeal Cert.ProjOutDxRefIdeal.Gen

/-- The reference's term is the product. -/
theorem eq (A : FVec Ideal S4352x2048 .bf16) (B : FVec Ideal S2048x2048 .bf16) :
    Host.dotGeneral dot_S4352x2048_S2048x2048_S4352x2048_1_1_0_0_n_n none (extf .f32 A bitsLt_bf16_f32) (extf .f32 B bitsLt_bf16_f32)
      = (fun y : (⟨2, ![4352, 2048]⟩ : Shape).Idx => ∑ k : Fin 2048, A (ix2 (y 0) k) * B (ix2 (y 1) k)) := by
  funext y
  obtain ⟨i, j, rfl⟩ : ∃ (i : Fin 4352) (j : Fin 2048), y = ix2 i j := ⟨y 0, y 1, eq_ix2 y⟩
  pointwise

end Cert.ProjOutDxRefIdeal.Prod

namespace Cert.Proof.ProjOutDx

open Idealize.ShloMosaic Idealize.ShloMosaic.TcCoe Idealize.SL.Sem

theorem frame : Cert.quiescent_ProjOutDx := fun m ρ _ => Cert.ProjOutDx.Gen.frame m ρ
theorem frame_ideal : Cert.quiescent_ProjOutDxIdeal := fun m ρ _ => Cert.ProjOutDxIdeal.Gen.frame m ρ
theorem frame_reference : Cert.quiescent_ProjOutDxRefIdeal := fun m ρ _ =>
  (θ_run _ _ _).mono (fun r h => ⟨fun c => (h c).2, sem_eq_zero_of_no_sems (by decide) r.2⟩) (Cert.ProjOutDxRefIdeal.Value.run (F := Ideal) m ρ)

theorem algebraic : Cert.algebraic_ProjOutDxIdeal_ProjOutDxRefIdeal := by
  intro m ρ m' ρ' _ hag
  refine ⟨fun c => ProjOutDxIdeal.Prod.res m c,
    (θ_run _ _ _).mono (fun _ h c => ⟨(h c).1.trans (ProjOutDxIdeal.Prod.final m c), (h c).2⟩) (ProjOutDxIdeal.Value.run_blocks (F := Ideal) m ρ),
    (θ_run _ _ _).mono (fun _ h c => ⟨(h c).1.trans ?_, (h c).2⟩) (ProjOutDxRefIdeal.Value.run (F := Ideal) m' ρ')⟩
  refine (ProjOutDxRefIdeal.Prod.eq _ _).trans ?_
  rw [(hag c).1, (hag c).2]
  rfl

end Cert.Proof.ProjOutDx

end
-- ==== Proof.ProjOutDwVal.lean ====
module

public import proofs.«01_k».proof.Defs
public import proofs.«01_k».proof.Proof.Gen.ProjOutDw.Frame
public import proofs.«01_k».proof.Proof.Gen.ProjOutDwIdeal.Value
public import proofs.«01_k».proof.Proof.Gen.ProjOutDwRefIdeal.Run
public import Idealize.ShloMosaic.Lib.Pipeline.Covers
public import Idealize.ShloMosaic.Lib.Pipeline.ValueKit
public import Idealize.ShloMosaic.Lib.Pointwise
public import Idealize.ShloMosaic.Lib.Quiescent

@[expose] public section

set_option maxRecDepth 16384

noncomputable section

/-! `proj_out_dw`: the transposed mixture times the cotangent. -/
namespace Cert.ProjOutDwIdeal.Prod

open Idealize.ShloMosaic Idealize.ShloMosaic.TcCoe Idealize.SL.Sem
open Cert.ProjOutDwIdeal Cert.ProjOutDwIdeal.Gen

/-- The product of two whole arrays. -/
def prod (A : (⟨2, ![2048, 4352]⟩ : Shape).Idx → EReal) (B : (⟨2, ![4352, 2048]⟩ : Shape).Idx → EReal) : (⟨2, ![2048, 2048]⟩ : Shape).Idx → EReal :=
  fun y => ∑ k : Fin 4352, A (ix2 (y 0) k) * B (ix2 k (y 1))

theorem idx0 : ∀ t : Fin cfg0.N, win0_0.index t = ![t.val / 4, 0] := (by decide +kernel : ∀ t : Fin grid0.N, win0_0.index t = ![t.val / 4, 0])
theorem idx1 : ∀ t : Fin cfg0.N, win0_1.index t = ![0, t.val % 4] := (by decide +kernel : ∀ t : Fin grid0.N, win0_1.index t = ![0, t.val % 4])
theorem idx2 : ∀ t : Fin cfg0.N, win0_2.index t = ![t.val / 4, t.val % 4] := (by decide +kernel : ∀ t : Fin grid0.N, win0_2.index t = ![t.val / 4, t.val % 4])

theorem tlt (t : Fin cfg0.N) : t.val < 16 := t.isLt.trans_eq N_0

/-- Row `i` and column `j` of point `t`'s block. -/
def rowOf (t : Fin cfg0.N) (i : Fin 512) : Fin 2048 := ⟨t.val / 4 * 512 + i.val, by have := tlt t; omega⟩
def colOf (t : Fin cfg0.N) (j : Fin 512) : Fin 2048 := ⟨t.val % 4 * 512 + j.val, by omega⟩

theorem rd0 (X : (⟨2, ![2048, 4352]⟩ : Shape).Idx → EReal) (t : Fin cfg0.N) (i : Fin 512) (k : Fin 4352) :
    (win0_0.blk t).view.read (Elt Ideal) X (ix2 i k) = X (ix2 (rowOf t i) k) := by
  have e := idx0 t
  blk_ext [e, rowOf]
theorem rd1 (X : (⟨2, ![4352, 2048]⟩ : Shape).Idx → EReal) (t : Fin cfg0.N) (j : Fin 512) (k : Fin 4352) :
    (win0_1.blk t).view.read (Elt Ideal) X (ix2 k j) = X (ix2 k (colOf t j)) := by
  have e := idx1 t
  blk_ext [e, colOf]
theorem rd2 (X : (⟨2, ![2048, 2048]⟩ : Shape).Idx → EReal) (t : Fin cfg0.N) (i : Fin 512) (j : Fin 512) :
    (win0_2.blk t).view.read (Elt Ideal) X (ix2 i j) = X (ix2 (rowOf t i) (colOf t j)) := by
  have e := idx2 t
  blk_ext [e, rowOf, colOf]

/-- A block's product. -/
theorem pay_at (a : FVec Ideal S512x4352 .bf16) (b : FVec Ideal S4352x512 .bf16) (i : Fin 512) (j : Fin 512) :
    k0_pay1 (F := Ideal) a b (ix2 i j) = ∑ k : Fin 4352, a (ix2 i k) * b (ix2 k j) := by
  unfold k0_pay1
  pointwise

theorem hz : (![0, 0] : Fin 2 → Nat) = fun _ => 0 := funext fun a => by fin_cases a <;> rfl

variable (m : (ℓ : Loc nD τ sig) → Buf (Elt Ideal) ℓ) (ρ : Dev nD → PrngReg) (c : Dev nD)

/-- The product of the arguments. -/
def res : (⟨2, ![2048, 2048]⟩ : Shape).Idx → EReal := prod (m ((c.tc : Thread nD τ).loc main_arg0)) (m ((c.tc : Thread nD τ).loc main_arg1))

theorem point (t : Fin cfg0.N) (i : Fin 512) (j : Fin 512) :
    out0_2 (iblk m c 0 t) (iblk m c 1 t) (ix2 i j) = (win0_2.blk t).view.read (Elt Ideal) (res m c) (ix2 i j) := by
  refine Eq.trans ?_ (rd2 (res m c) t i j).symm
  unfold out0_2
  rw [View.canon_unit_zero hz, View.ld_unit_zero hz, View.ld_unit_zero hz]
  refine (pay_at _ _ i j).trans ?_
  unfold res prod
  refine Finset.sum_congr rfl fun k _ => ?_
  exact congrArg₂ (fun x y : EReal => x * y) (rd0 (m ((c.tc : Thread nD τ).loc main_arg0)) t i k) (rd1 (m ((c.tc : Thread nD τ).loc main_arg1)) t j k)

theorem covers : (cfg0.win 2).Covers :=
  (cfg0.win 2).covers_of_index_surj rfl (show ∀ a : Fin 2, 0 < (![512, 512] : Fin 2 → ℕ) a by decide) fun β => by
    have h0 : (β (0 : Fin 2)).val < 4 := (β (0 : Fin 2)).isLt.trans_eq (show (2048 + 512 - 1) / 512 = 4 from rfl)
    have h1 : (β (1 : Fin 2)).val < 4 := (β (1 : Fin 2)).isLt.trans_eq (show (2048 + 512 - 1) / 512 = 4 from rfl)
    have hs : (β (0 : Fin 2)).val * 4 + (β (1 : Fin 2)).val < cfg0.N := by rw [show cfg0.N = 16 from N_0]; omega
    have k : ∀ a : Fin 2, (![((β (0 : Fin 2)).val * 4 + (β (1 : Fin 2)).val) / 4, ((β (0 : Fin 2)).val * 4 + (β (1 : Fin 2)).val) % 4] : Fin 2 → ℕ) a = (β a).val :=
      Fin.forall_fin_two.mpr ⟨show ((β (0 : Fin 2)).val * 4 + (β (1 : Fin 2)).val) / 4 = _ by omega, show ((β (0 : Fin 2)).val * 4 + (β (1 : Fin 2)).val) % 4 = _ by omega⟩
    exact ⟨⟨_, hs⟩, fun a => (congrFun (idx2 ⟨_, hs⟩) a).trans (k a)⟩

theorem final : (dats m 0 c).arrAt 2 cfg0.N = res m c := by
  refine (dats m 0 c).arrAt_eq_of_covers 2 _ covers fun t hf (y : (⟨2, ![512, 512]⟩ : Shape).Idx) => ?_
  obtain ⟨i, j, rfl⟩ : ∃ (i : Fin 512) (j : Fin 512), y = ix2 i j := ⟨y 0, y 1, eq_ix2 y⟩
  exact (congrFun (after0_2 m c t) (ix2 i j)).trans (point m c t i j)

end Cert.ProjOutDwIdeal.Prod

namespace Cert.ProjOutDwRefIdeal.Prod

open Idealize.ShloMosaic Idealize.ShloMosaic.TcCoe Idealize.SL.Sem
open Cert.ProjOutDwRefIdeal Cert.ProjOutDwRefIdeal.Gen

/-- The reference's term is the product. -/
theorem eq (A : FVec Ideal S2048x4352 .bf16) (B : FVec Ideal S4352x2048 .bf16) :
    truncf .bf16 (transpose S2048x2048 [1, 0] (Host.dotGeneral dot_S4352x2048_S4352x2048_S2048x2048_0_0_1_1_n_n none (extf .f32 B bitsLt_bf16_f32) (transpose S4352x2048 [1, 0] (extf .f32 A bitsLt_bf16_f32) transposes_S2048x4352_S4352x2048_1_0)) transposes_S2048x2048_S2048x2048_1_0) bitsLt_bf16_f32
      = (fun y : (⟨2, ![2048, 2048]⟩ : Shape).Idx => ∑ k : Fin 4352, A (ix2 (y 0) k) * B (ix2 k (y 1))) := by
  funext y
  obtain ⟨i, j, rfl⟩ : ∃ (i : Fin 2048) (j : Fin 2048), y = ix2 i j := ⟨y 0, y 1, eq_ix2 y⟩
  pointwise
  exact Finset.sum_congr rfl fun _ _ => mul_comm _ _

end Cert.ProjOutDwRefIdeal.Prod

namespace Cert.Proof.ProjOutDw

open Idealize.ShloMosaic Idealize.ShloMosaic.TcCoe Idealize.SL.Sem

theorem frame : Cert.quiescent_ProjOutDw := fun m ρ _ => Cert.ProjOutDw.Gen.frame m ρ
theorem frame_ideal : Cert.quiescent_ProjOutDwIdeal := fun m ρ _ => Cert.ProjOutDwIdeal.Gen.frame m ρ
theorem frame_reference : Cert.quiescent_ProjOutDwRefIdeal := fun m ρ _ =>
  (θ_run _ _ _).mono (fun r h => ⟨fun c => (h c).2, sem_eq_zero_of_no_sems (by decide) r.2⟩) (Cert.ProjOutDwRefIdeal.Value.run (F := Ideal) m ρ)

theorem algebraic : Cert.algebraic_ProjOutDwIdeal_ProjOutDwRefIdeal := by
  intro m ρ m' ρ' _ hag
  refine ⟨fun c => ProjOutDwIdeal.Prod.res m c,
    (θ_run _ _ _).mono (fun _ h c => ⟨(h c).1.trans (ProjOutDwIdeal.Prod.final m c), (h c).2⟩) (ProjOutDwIdeal.Value.run_blocks (F := Ideal) m ρ),
    (θ_run _ _ _).mono (fun _ h c => ⟨(h c).1.trans ?_, (h c).2⟩) (ProjOutDwRefIdeal.Value.run (F := Ideal) m' ρ')⟩
  refine (ProjOutDwRefIdeal.Prod.eq _ _).trans ?_
  rw [(hag c).1, (hag c).2]
  rfl

end Cert.Proof.ProjOutDw

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.LapK
public import proofs.«01_k».proof.Proof.OkK
public import proofs.«01_k».proof.Proof.Join
public import proofs.«01_k».proof.Proof.FfnDownVal
public import proofs.«01_k».proof.Proof.FfnDownDxVal
public import proofs.«01_k».proof.Proof.FfnDownDwVal
public import proofs.«01_k».proof.Proof.FfnUpVal
public import proofs.«01_k».proof.Proof.FfnUpDxVal
public import proofs.«01_k».proof.Proof.FfnUpDwVal
public import proofs.«01_k».proof.Proof.ProjInVal
public import proofs.«01_k».proof.Proof.ProjInDxVal
public import proofs.«01_k».proof.Proof.ProjInDwVal
public import proofs.«01_k».proof.Proof.ProjOutVal
public import proofs.«01_k».proof.Proof.ProjOutDxVal
public import proofs.«01_k».proof.Proof.ProjOutDwVal

@[expose] public section

noncomputable section

namespace Cert.Proof

open Idealize.ShloMosaic Idealize.SL.Sem

theorem frame_word : Cert.quiescent_Kernel := fun m ρ _ => Cert.Kernel.Lap.frame m ρ (Cert.Kernel.Tab.ok m)

theorem frame_ideal : Cert.quiescent_KernelIdeal := fun m ρ _ => Cert.KernelIdeal.Lap.frame m ρ (Cert.KernelIdeal.Tab.ok m)

theorem claim : Cert.Claim := ⟨Cert.Kernel.Gen.facts, Cert.KernelIdeal.Gen.facts, Cert.ReferenceIdeal.Gen.facts,
  Cert.FfnDown.Gen.facts, Cert.FfnDownIdeal.Gen.facts, Cert.FfnDownRefIdeal.Gen.facts,
  Cert.FfnDownDx.Gen.facts, Cert.FfnDownDxIdeal.Gen.facts, Cert.FfnDownDxRefIdeal.Gen.facts,
  Cert.FfnDownDw.Gen.facts, Cert.FfnDownDwIdeal.Gen.facts, Cert.FfnDownDwRefIdeal.Gen.facts,
  Cert.FfnUp.Gen.facts, Cert.FfnUpIdeal.Gen.facts, Cert.FfnUpRefIdeal.Gen.facts,
  Cert.FfnUpDx.Gen.facts, Cert.FfnUpDxIdeal.Gen.facts, Cert.FfnUpDxRefIdeal.Gen.facts,
  Cert.FfnUpDw.Gen.facts, Cert.FfnUpDwIdeal.Gen.facts, Cert.FfnUpDwRefIdeal.Gen.facts,
  Cert.ProjIn.Gen.facts, Cert.ProjInIdeal.Gen.facts, Cert.ProjInRefIdeal.Gen.facts,
  Cert.ProjInDx.Gen.facts, Cert.ProjInDxIdeal.Gen.facts, Cert.ProjInDxRefIdeal.Gen.facts,
  Cert.ProjInDw.Gen.facts, Cert.ProjInDwIdeal.Gen.facts, Cert.ProjInDwRefIdeal.Gen.facts,
  Cert.ProjOut.Gen.facts, Cert.ProjOutIdeal.Gen.facts, Cert.ProjOutRefIdeal.Gen.facts,
  Cert.ProjOutDx.Gen.facts, Cert.ProjOutDxIdeal.Gen.facts, Cert.ProjOutDxRefIdeal.Gen.facts,
  Cert.ProjOutDw.Gen.facts, Cert.ProjOutDwIdeal.Gen.facts, Cert.ProjOutDwRefIdeal.Gen.facts,
  frame_word, frame_ideal, Join.reference_frame,
  FfnDown.frame, FfnDown.frame_ideal, FfnDown.frame_reference,
  FfnDownDx.frame, FfnDownDx.frame_ideal, FfnDownDx.frame_reference,
  FfnDownDw.frame, FfnDownDw.frame_ideal, FfnDownDw.frame_reference,
  FfnUp.frame, FfnUp.frame_ideal, FfnUp.frame_reference,
  FfnUpDx.frame, FfnUpDx.frame_ideal, FfnUpDx.frame_reference,
  FfnUpDw.frame, FfnUpDw.frame_ideal, FfnUpDw.frame_reference,
  ProjIn.frame, ProjIn.frame_ideal, ProjIn.frame_reference,
  ProjInDx.frame, ProjInDx.frame_ideal, ProjInDx.frame_reference,
  ProjInDw.frame, ProjInDw.frame_ideal, ProjInDw.frame_reference,
  ProjOut.frame, ProjOut.frame_ideal, ProjOut.frame_reference,
  ProjOutDx.frame, ProjOutDx.frame_ideal, ProjOutDx.frame_reference,
  ProjOutDw.frame, ProjOutDw.frame_ideal, ProjOutDw.frame_reference,
  trivial, Join.algebraic,
  trivial, FfnDown.algebraic,
  trivial, FfnDownDx.algebraic,
  trivial, FfnDownDw.algebraic,
  trivial, FfnUp.algebraic,
  trivial, FfnUpDx.algebraic,
  trivial, FfnUpDw.algebraic,
  trivial, ProjIn.algebraic,
  trivial, ProjInDx.algebraic,
  trivial, ProjInDw.algebraic,
  trivial, ProjOut.algebraic,
  trivial, ProjOutDx.algebraic,
  trivial, ProjOutDw.algebraic⟩

end Cert.Proof

end
